-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_range [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Sampling (m : (ℓ : Loc Cert.Sampling.nD Cert.Sampling.τ Cert.Sampling.sig) → Buf (Elt Bits) ℓ) : Prop :=
  True

def Pre_SamplingIdeal (m : (ℓ : Loc Cert.SamplingIdeal.nD Cert.SamplingIdeal.τ Cert.SamplingIdeal.sig) → Buf (Elt Ideal) ℓ) : Prop :=
  True

def Pre_SamplingReferenceIdeal (m : (ℓ : Loc Cert.SamplingReferenceIdeal.nD Cert.SamplingReferenceIdeal.τ Cert.SamplingReferenceIdeal.sig) → Buf (Elt Ideal) ℓ) : Prop :=
  True

def Pre_Transformer (m : (ℓ : Loc Cert.Transformer.nD Cert.Transformer.τ Cert.Transformer.sig) → Buf (Elt Bits) ℓ) : Prop :=
  True

def Pre_TransformerIdeal (m : (ℓ : Loc Cert.TransformerIdeal.nD Cert.TransformerIdeal.τ Cert.TransformerIdeal.sig) → Buf (Elt Ideal) ℓ) : Prop :=
  True

def Pre_TransformerIdeal_logits_finite [hPre_logits_finite : Cert.Pre_logits_finite.Facts] (m : (ℓ : Loc Cert.TransformerIdeal.nD Cert.TransformerIdeal.τ Cert.TransformerIdeal.sig) → Buf (Elt Ideal) ℓ) : Prop :=
  ∀ c : Dev Cert.TransformerIdeal.nD,
    (Cert.Pre_logits_finite.fn (F := Ideal) (m ((c.tc : Thread Cert.TransformerIdeal.nD Cert.TransformerIdeal.τ).loc Cert.TransformerIdeal.main_arg0)) (m ((c.tc : Thread Cert.TransformerIdeal.nD Cert.TransformerIdeal.τ).loc Cert.TransformerIdeal.main_arg1)) (m ((c.tc : Thread Cert.TransformerIdeal.nD Cert.TransformerIdeal.τ).loc Cert.TransformerIdeal.main_arg2)) (m ((c.tc : Thread Cert.TransformerIdeal.nD Cert.TransformerIdeal.τ).loc Cert.TransformerIdeal.main_arg3)) (m ((c.tc : Thread Cert.TransformerIdeal.nD Cert.TransformerIdeal.τ).loc Cert.TransformerIdeal.main_arg4)) (m ((c.tc : Thread Cert.TransformerIdeal.nD Cert.TransformerIdeal.τ).loc Cert.TransformerIdeal.main_arg5)) (m ((c.tc : Thread Cert.TransformerIdeal.nD Cert.TransformerIdeal.τ).loc Cert.TransformerIdeal.main_arg6)) (m ((c.tc : Thread Cert.TransformerIdeal.nD Cert.TransformerIdeal.τ).loc Cert.TransformerIdeal.main_arg7)) (m ((c.tc : Thread Cert.TransformerIdeal.nD Cert.TransformerIdeal.τ).loc Cert.TransformerIdeal.main_arg8))) = (fun _ => 1#1)

def Pre_TransformerReferenceIdeal (m : (ℓ : Loc Cert.TransformerReferenceIdeal.nD Cert.TransformerReferenceIdeal.τ Cert.TransformerReferenceIdeal.sig) → Buf (Elt Ideal) ℓ) : Prop :=
  True

def Pre_TransformerReferenceIdeal_logits_finite [hPre_logits_finite : Cert.Pre_logits_finite.Facts] (m : (ℓ : Loc Cert.TransformerReferenceIdeal.nD Cert.TransformerReferenceIdeal.τ Cert.TransformerReferenceIdeal.sig) → Buf (Elt Ideal) ℓ) : Prop :=
  ∀ c : Dev Cert.TransformerReferenceIdeal.nD,
    (Cert.Pre_logits_finite.fn (F := Ideal) (m ((c.tc : Thread Cert.TransformerReferenceIdeal.nD Cert.TransformerReferenceIdeal.τ).loc Cert.TransformerReferenceIdeal.main_arg0)) (m ((c.tc : Thread Cert.TransformerReferenceIdeal.nD Cert.TransformerReferenceIdeal.τ).loc Cert.TransformerReferenceIdeal.main_arg1)) (m ((c.tc : Thread Cert.TransformerReferenceIdeal.nD Cert.TransformerReferenceIdeal.τ).loc Cert.TransformerReferenceIdeal.main_arg2)) (m ((c.tc : Thread Cert.TransformerReferenceIdeal.nD Cert.TransformerReferenceIdeal.τ).loc Cert.TransformerReferenceIdeal.main_arg3)) (m ((c.tc : Thread Cert.TransformerReferenceIdeal.nD Cert.TransformerReferenceIdeal.τ).loc Cert.TransformerReferenceIdeal.main_arg4)) (m ((c.tc : Thread Cert.TransformerReferenceIdeal.nD Cert.TransformerReferenceIdeal.τ).loc Cert.TransformerReferenceIdeal.main_arg5)) (m ((c.tc : Thread Cert.TransformerReferenceIdeal.nD Cert.TransformerReferenceIdeal.τ).loc Cert.TransformerReferenceIdeal.main_arg6)) (m ((c.tc : Thread Cert.TransformerReferenceIdeal.nD Cert.TransformerReferenceIdeal.τ).loc Cert.TransformerReferenceIdeal.main_arg7)) (m ((c.tc : Thread Cert.TransformerReferenceIdeal.nD Cert.TransformerReferenceIdeal.τ).loc Cert.TransformerReferenceIdeal.main_arg8))) = (fun _ => 1#1)

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_idx_in_range [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Sampling [hSampling : Cert.Sampling.Facts] : Prop :=
  ∀ (m : (ℓ : Loc Cert.Sampling.nD Cert.Sampling.τ Cert.Sampling.sig) → Buf (Elt Bits) ℓ) (g : Dev Cert.Sampling.nD → PrngReg), Pre_Sampling m →
    θ_run (Cert.Sampling.defs (F := Bits)) (onTc (τ := Cert.Sampling.τ) (Cert.Sampling.main (F := Bits))) ⟨m, fun _ => 0, g⟩ (fun r => (∀ c : Dev Cert.Sampling.nD,
      r.2.mem ((c.tc : Thread Cert.Sampling.nD Cert.Sampling.τ).loc Cert.Sampling.main_arg0) = m ((c.tc : Thread Cert.Sampling.nD Cert.Sampling.τ).loc Cert.Sampling.main_arg0)
      ∧ r.2.mem ((c.tc : Thread Cert.Sampling.nD Cert.Sampling.τ).loc Cert.Sampling.main_arg1) = m ((c.tc : Thread Cert.Sampling.nD Cert.Sampling.τ).loc Cert.Sampling.main_arg1))
      ∧ r.2.sem = fun _ => 0)

def quiescent_SamplingIdeal [hSamplingIdeal : Cert.SamplingIdeal.Facts] : Prop :=
  ∀ (m : (ℓ : Loc Cert.SamplingIdeal.nD Cert.SamplingIdeal.τ Cert.SamplingIdeal.sig) → Buf (Elt Ideal) ℓ) (g : Dev Cert.SamplingIdeal.nD → PrngReg), Pre_SamplingIdeal m →
    θ_run (Cert.SamplingIdeal.defs (F := Ideal)) (onTc (τ := Cert.SamplingIdeal.τ) (Cert.SamplingIdeal.main (F := Ideal))) ⟨m, fun _ => 0, g⟩ (fun r => (∀ c : Dev Cert.SamplingIdeal.nD,
      r.2.mem ((c.tc : Thread Cert.SamplingIdeal.nD Cert.SamplingIdeal.τ).loc Cert.SamplingIdeal.main_arg0) = m ((c.tc : Thread Cert.SamplingIdeal.nD Cert.SamplingIdeal.τ).loc Cert.SamplingIdeal.main_arg0)
      ∧ r.2.mem ((c.tc : Thread Cert.SamplingIdeal.nD Cert.SamplingIdeal.τ).loc Cert.SamplingIdeal.main_arg1) = m ((c.tc : Thread Cert.SamplingIdeal.nD Cert.SamplingIdeal.τ).loc Cert.SamplingIdeal.main_arg1))
      ∧ r.2.sem = fun _ => 0)

def quiescent_SamplingReferenceIdeal [hSamplingReferenceIdeal : Cert.SamplingReferenceIdeal.Facts] : Prop :=
  ∀ (m : (ℓ : Loc Cert.SamplingReferenceIdeal.nD Cert.SamplingReferenceIdeal.τ Cert.SamplingReferenceIdeal.sig) → Buf (Elt Ideal) ℓ) (g : Dev Cert.SamplingReferenceIdeal.nD → PrngReg), Pre_SamplingReferenceIdeal m →
    θ_run (Cert.SamplingReferenceIdeal.defs (F := Ideal)) (onTc (τ := Cert.SamplingReferenceIdeal.τ) (Cert.SamplingReferenceIdeal.main (F := Ideal))) ⟨m, fun _ => 0, g⟩ (fun r => (∀ c : Dev Cert.SamplingReferenceIdeal.nD,
      r.2.mem ((c.tc : Thread Cert.SamplingReferenceIdeal.nD Cert.SamplingReferenceIdeal.τ).loc Cert.SamplingReferenceIdeal.main_arg0) = m ((c.tc : Thread Cert.SamplingReferenceIdeal.nD Cert.SamplingReferenceIdeal.τ).loc Cert.SamplingReferenceIdeal.main_arg0)
      ∧ r.2.mem ((c.tc : Thread Cert.SamplingReferenceIdeal.nD Cert.SamplingReferenceIdeal.τ).loc Cert.SamplingReferenceIdeal.main_arg1) = m ((c.tc : Thread Cert.SamplingReferenceIdeal.nD Cert.SamplingReferenceIdeal.τ).loc Cert.SamplingReferenceIdeal.main_arg1))
      ∧ r.2.sem = fun _ => 0)

def quiescent_Transformer [hTransformer : Cert.Transformer.Facts] : Prop :=
  ∀ (m : (ℓ : Loc Cert.Transformer.nD Cert.Transformer.τ Cert.Transformer.sig) → Buf (Elt Bits) ℓ) (g : Dev Cert.Transformer.nD → PrngReg), Pre_Transformer m →
    θ_run (Cert.Transformer.defs (F := Bits)) (onTc (τ := Cert.Transformer.τ) (Cert.Transformer.main (F := Bits))) ⟨m, fun _ => 0, g⟩ (fun r => (∀ c : Dev Cert.Transformer.nD,
      r.2.mem ((c.tc : Thread Cert.Transformer.nD Cert.Transformer.τ).loc Cert.Transformer.main_arg0) = m ((c.tc : Thread Cert.Transformer.nD Cert.Transformer.τ).loc Cert.Transformer.main_arg0)
      ∧ r.2.mem ((c.tc : Thread Cert.Transformer.nD Cert.Transformer.τ).loc Cert.Transformer.main_arg1) = m ((c.tc : Thread Cert.Transformer.nD Cert.Transformer.τ).loc Cert.Transformer.main_arg1)
      ∧ r.2.mem ((c.tc : Thread Cert.Transformer.nD Cert.Transformer.τ).loc Cert.Transformer.main_arg2) = m ((c.tc : Thread Cert.Transformer.nD Cert.Transformer.τ).loc Cert.Transformer.main_arg2)
      ∧ r.2.mem ((c.tc : Thread Cert.Transformer.nD Cert.Transformer.τ).loc Cert.Transformer.main_arg3) = m ((c.tc : Thread Cert.Transformer.nD Cert.Transformer.τ).loc Cert.Transformer.main_arg3)
      ∧ r.2.mem ((c.tc : Thread Cert.Transformer.nD Cert.Transformer.τ).loc Cert.Transformer.main_arg4) = m ((c.tc : Thread Cert.Transformer.nD Cert.Transformer.τ).loc Cert.Transformer.main_arg4)
      ∧ r.2.mem ((c.tc : Thread Cert.Transformer.nD Cert.Transformer.τ).loc Cert.Transformer.main_arg5) = m ((c.tc : Thread Cert.Transformer.nD Cert.Transformer.τ).loc Cert.Transformer.main_arg5)
      ∧ r.2.mem ((c.tc : Thread Cert.Transformer.nD Cert.Transformer.τ).loc Cert.Transformer.main_arg6) = m ((c.tc : Thread Cert.Transformer.nD Cert.Transformer.τ).loc Cert.Transformer.main_arg6)
      ∧ r.2.mem ((c.tc : Thread Cert.Transformer.nD Cert.Transformer.τ).loc Cert.Transformer.main_arg7) = m ((c.tc : Thread Cert.Transformer.nD Cert.Transformer.τ).loc Cert.Transformer.main_arg7)
      ∧ r.2.mem ((c.tc : Thread Cert.Transformer.nD Cert.Transformer.τ).loc Cert.Transformer.main_arg8) = m ((c.tc : Thread Cert.Transformer.nD Cert.Transformer.τ).loc Cert.Transformer.main_arg8))
      ∧ r.2.sem = fun _ => 0)

def quiescent_TransformerIdeal [hTransformerIdeal : Cert.TransformerIdeal.Facts] : Prop :=
  ∀ (m : (ℓ : Loc Cert.TransformerIdeal.nD Cert.TransformerIdeal.τ Cert.TransformerIdeal.sig) → Buf (Elt Ideal) ℓ) (g : Dev Cert.TransformerIdeal.nD → PrngReg), Pre_TransformerIdeal m →
    θ_run (Cert.TransformerIdeal.defs (F := Ideal)) (onTc (τ := Cert.TransformerIdeal.τ) (Cert.TransformerIdeal.main (F := Ideal))) ⟨m, fun _ => 0, g⟩ (fun r => (∀ c : Dev Cert.TransformerIdeal.nD,
      r.2.mem ((c.tc : Thread Cert.TransformerIdeal.nD Cert.TransformerIdeal.τ).loc Cert.TransformerIdeal.main_arg0) = m ((c.tc : Thread Cert.TransformerIdeal.nD Cert.TransformerIdeal.τ).loc Cert.TransformerIdeal.main_arg0)
      ∧ r.2.mem ((c.tc : Thread Cert.TransformerIdeal.nD Cert.TransformerIdeal.τ).loc Cert.TransformerIdeal.main_arg1) = m ((c.tc : Thread Cert.TransformerIdeal.nD Cert.TransformerIdeal.τ).loc Cert.TransformerIdeal.main_arg1)
      ∧ r.2.mem ((c.tc : Thread Cert.TransformerIdeal.nD Cert.TransformerIdeal.τ).loc Cert.TransformerIdeal.main_arg2) = m ((c.tc : Thread Cert.TransformerIdeal.nD Cert.TransformerIdeal.τ).loc Cert.TransformerIdeal.main_arg2)
      ∧ r.2.mem ((c.tc : Thread Cert.TransformerIdeal.nD Cert.TransformerIdeal.τ).loc Cert.TransformerIdeal.main_arg3) = m ((c.tc : Thread Cert.TransformerIdeal.nD Cert.TransformerIdeal.τ).loc Cert.TransformerIdeal.main_arg3)
      ∧ r.2.mem ((c.tc : Thread Cert.TransformerIdeal.nD Cert.TransformerIdeal.τ).loc Cert.TransformerIdeal.main_arg4) = m ((c.tc : Thread Cert.TransformerIdeal.nD Cert.TransformerIdeal.τ).loc Cert.TransformerIdeal.main_arg4)
      ∧ r.2.mem ((c.tc : Thread Cert.TransformerIdeal.nD Cert.TransformerIdeal.τ).loc Cert.TransformerIdeal.main_arg5) = m ((c.tc : Thread Cert.TransformerIdeal.nD Cert.TransformerIdeal.τ).loc Cert.TransformerIdeal.main_arg5)
      ∧ r.2.mem ((c.tc : Thread Cert.TransformerIdeal.nD Cert.TransformerIdeal.τ).loc Cert.TransformerIdeal.main_arg6) = m ((c.tc : Thread Cert.TransformerIdeal.nD Cert.TransformerIdeal.τ).loc Cert.TransformerIdeal.main_arg6)
      ∧ r.2.mem ((c.tc : Thread Cert.TransformerIdeal.nD Cert.TransformerIdeal.τ).loc Cert.TransformerIdeal.main_arg7) = m ((c.tc : Thread Cert.TransformerIdeal.nD Cert.TransformerIdeal.τ).loc Cert.TransformerIdeal.main_arg7)
      ∧ r.2.mem ((c.tc : Thread Cert.TransformerIdeal.nD Cert.TransformerIdeal.τ).loc Cert.TransformerIdeal.main_arg8) = m ((c.tc : Thread Cert.TransformerIdeal.nD Cert.TransformerIdeal.τ).loc Cert.TransformerIdeal.main_arg8))
      ∧ r.2.sem = fun _ => 0)

def quiescent_TransformerIdeal_pre_logits_finite [hTransformerIdeal : Cert.TransformerIdeal.Facts] [hPre_logits_finite : Cert.Pre_logits_finite.Facts] : Prop :=
  ∀ (m : (ℓ : Loc Cert.TransformerIdeal.nD Cert.TransformerIdeal.τ Cert.TransformerIdeal.sig) → Buf (Elt Ideal) ℓ) (g : Dev Cert.TransformerIdeal.nD → PrngReg), Pre_TransformerIdeal_logits_finite m →
    θ_run (Cert.TransformerIdeal.defs (F := Ideal)) (onTc (τ := Cert.TransformerIdeal.τ) (Cert.TransformerIdeal.main (F := Ideal))) ⟨m, fun _ => 0, g⟩ (fun r => (∀ c : Dev Cert.TransformerIdeal.nD,
      r.2.mem ((c.tc : Thread Cert.TransformerIdeal.nD Cert.TransformerIdeal.τ).loc Cert.TransformerIdeal.main_arg0) = m ((c.tc : Thread Cert.TransformerIdeal.nD Cert.TransformerIdeal.τ).loc Cert.TransformerIdeal.main_arg0)
      ∧ r.2.mem ((c.tc : Thread Cert.TransformerIdeal.nD Cert.TransformerIdeal.τ).loc Cert.TransformerIdeal.main_arg1) = m ((c.tc : Thread Cert.TransformerIdeal.nD Cert.TransformerIdeal.τ).loc Cert.TransformerIdeal.main_arg1)
      ∧ r.2.mem ((c.tc : Thread Cert.TransformerIdeal.nD Cert.TransformerIdeal.τ).loc Cert.TransformerIdeal.main_arg2) = m ((c.tc : Thread Cert.TransformerIdeal.nD Cert.TransformerIdeal.τ).loc Cert.TransformerIdeal.main_arg2)
      ∧ r.2.mem ((c.tc : Thread Cert.TransformerIdeal.nD Cert.TransformerIdeal.τ).loc Cert.TransformerIdeal.main_arg3) = m ((c.tc : Thread Cert.TransformerIdeal.nD Cert.TransformerIdeal.τ).loc Cert.TransformerIdeal.main_arg3)
      ∧ r.2.mem ((c.tc : Thread Cert.TransformerIdeal.nD Cert.TransformerIdeal.τ).loc Cert.TransformerIdeal.main_arg4) = m ((c.tc : Thread Cert.TransformerIdeal.nD Cert.TransformerIdeal.τ).loc Cert.TransformerIdeal.main_arg4)
      ∧ r.2.mem ((c.tc : Thread Cert.TransformerIdeal.nD Cert.TransformerIdeal.τ).loc Cert.TransformerIdeal.main_arg5) = m ((c.tc : Thread Cert.TransformerIdeal.nD Cert.TransformerIdeal.τ).loc Cert.TransformerIdeal.main_arg5)
      ∧ r.2.mem ((c.tc : Thread Cert.TransformerIdeal.nD Cert.TransformerIdeal.τ).loc Cert.TransformerIdeal.main_arg6) = m ((c.tc : Thread Cert.TransformerIdeal.nD Cert.TransformerIdeal.τ).loc Cert.TransformerIdeal.main_arg6)
      ∧ r.2.mem ((c.tc : Thread Cert.TransformerIdeal.nD Cert.TransformerIdeal.τ).loc Cert.TransformerIdeal.main_arg7) = m ((c.tc : Thread Cert.TransformerIdeal.nD Cert.TransformerIdeal.τ).loc Cert.TransformerIdeal.main_arg7)
      ∧ r.2.mem ((c.tc : Thread Cert.TransformerIdeal.nD Cert.TransformerIdeal.τ).loc Cert.TransformerIdeal.main_arg8) = m ((c.tc : Thread Cert.TransformerIdeal.nD Cert.TransformerIdeal.τ).loc Cert.TransformerIdeal.main_arg8))
      ∧ r.2.sem = fun _ => 0)

def quiescent_TransformerReferenceIdeal [hTransformerReferenceIdeal : Cert.TransformerReferenceIdeal.Facts] : Prop :=
  ∀ (m : (ℓ : Loc Cert.TransformerReferenceIdeal.nD Cert.TransformerReferenceIdeal.τ Cert.TransformerReferenceIdeal.sig) → Buf (Elt Ideal) ℓ) (g : Dev Cert.TransformerReferenceIdeal.nD → PrngReg), Pre_TransformerReferenceIdeal m →
    θ_run (Cert.TransformerReferenceIdeal.defs (F := Ideal)) (onTc (τ := Cert.TransformerReferenceIdeal.τ) (Cert.TransformerReferenceIdeal.main (F := Ideal))) ⟨m, fun _ => 0, g⟩ (fun r => (∀ c : Dev Cert.TransformerReferenceIdeal.nD,
      r.2.mem ((c.tc : Thread Cert.TransformerReferenceIdeal.nD Cert.TransformerReferenceIdeal.τ).loc Cert.TransformerReferenceIdeal.main_arg0) = m ((c.tc : Thread Cert.TransformerReferenceIdeal.nD Cert.TransformerReferenceIdeal.τ).loc Cert.TransformerReferenceIdeal.main_arg0)
      ∧ r.2.mem ((c.tc : Thread Cert.TransformerReferenceIdeal.nD Cert.TransformerReferenceIdeal.τ).loc Cert.TransformerReferenceIdeal.main_arg1) = m ((c.tc : Thread Cert.TransformerReferenceIdeal.nD Cert.TransformerReferenceIdeal.τ).loc Cert.TransformerReferenceIdeal.main_arg1)
      ∧ r.2.mem ((c.tc : Thread Cert.TransformerReferenceIdeal.nD Cert.TransformerReferenceIdeal.τ).loc Cert.TransformerReferenceIdeal.main_arg2) = m ((c.tc : Thread Cert.TransformerReferenceIdeal.nD Cert.TransformerReferenceIdeal.τ).loc Cert.TransformerReferenceIdeal.main_arg2)
      ∧ r.2.mem ((c.tc : Thread Cert.TransformerReferenceIdeal.nD Cert.TransformerReferenceIdeal.τ).loc Cert.TransformerReferenceIdeal.main_arg3) = m ((c.tc : Thread Cert.TransformerReferenceIdeal.nD Cert.TransformerReferenceIdeal.τ).loc Cert.TransformerReferenceIdeal.main_arg3)
      ∧ r.2.mem ((c.tc : Thread Cert.TransformerReferenceIdeal.nD Cert.TransformerReferenceIdeal.τ).loc Cert.TransformerReferenceIdeal.main_arg4) = m ((c.tc : Thread Cert.TransformerReferenceIdeal.nD Cert.TransformerReferenceIdeal.τ).loc Cert.TransformerReferenceIdeal.main_arg4)
      ∧ r.2.mem ((c.tc : Thread Cert.TransformerReferenceIdeal.nD Cert.TransformerReferenceIdeal.τ).loc Cert.TransformerReferenceIdeal.main_arg5) = m ((c.tc : Thread Cert.TransformerReferenceIdeal.nD Cert.TransformerReferenceIdeal.τ).loc Cert.TransformerReferenceIdeal.main_arg5)
      ∧ r.2.mem ((c.tc : Thread Cert.TransformerReferenceIdeal.nD Cert.TransformerReferenceIdeal.τ).loc Cert.TransformerReferenceIdeal.main_arg6) = m ((c.tc : Thread Cert.TransformerReferenceIdeal.nD Cert.TransformerReferenceIdeal.τ).loc Cert.TransformerReferenceIdeal.main_arg6)
      ∧ r.2.mem ((c.tc : Thread Cert.TransformerReferenceIdeal.nD Cert.TransformerReferenceIdeal.τ).loc Cert.TransformerReferenceIdeal.main_arg7) = m ((c.tc : Thread Cert.TransformerReferenceIdeal.nD Cert.TransformerReferenceIdeal.τ).loc Cert.TransformerReferenceIdeal.main_arg7)
      ∧ r.2.mem ((c.tc : Thread Cert.TransformerReferenceIdeal.nD Cert.TransformerReferenceIdeal.τ).loc Cert.TransformerReferenceIdeal.main_arg8) = m ((c.tc : Thread Cert.TransformerReferenceIdeal.nD Cert.TransformerReferenceIdeal.τ).loc Cert.TransformerReferenceIdeal.main_arg8))
      ∧ r.2.sem = fun _ => 0)

def quiescent_TransformerReferenceIdeal_pre_logits_finite [hTransformerReferenceIdeal : Cert.TransformerReferenceIdeal.Facts] [hPre_logits_finite : Cert.Pre_logits_finite.Facts] : Prop :=
  ∀ (m : (ℓ : Loc Cert.TransformerReferenceIdeal.nD Cert.TransformerReferenceIdeal.τ Cert.TransformerReferenceIdeal.sig) → Buf (Elt Ideal) ℓ) (g : Dev Cert.TransformerReferenceIdeal.nD → PrngReg), Pre_TransformerReferenceIdeal_logits_finite m →
    θ_run (Cert.TransformerReferenceIdeal.defs (F := Ideal)) (onTc (τ := Cert.TransformerReferenceIdeal.τ) (Cert.TransformerReferenceIdeal.main (F := Ideal))) ⟨m, fun _ => 0, g⟩ (fun r => (∀ c : Dev Cert.TransformerReferenceIdeal.nD,
      r.2.mem ((c.tc : Thread Cert.TransformerReferenceIdeal.nD Cert.TransformerReferenceIdeal.τ).loc Cert.TransformerReferenceIdeal.main_arg0) = m ((c.tc : Thread Cert.TransformerReferenceIdeal.nD Cert.TransformerReferenceIdeal.τ).loc Cert.TransformerReferenceIdeal.main_arg0)
      ∧ r.2.mem ((c.tc : Thread Cert.TransformerReferenceIdeal.nD Cert.TransformerReferenceIdeal.τ).loc Cert.TransformerReferenceIdeal.main_arg1) = m ((c.tc : Thread Cert.TransformerReferenceIdeal.nD Cert.TransformerReferenceIdeal.τ).loc Cert.TransformerReferenceIdeal.main_arg1)
      ∧ r.2.mem ((c.tc : Thread Cert.TransformerReferenceIdeal.nD Cert.TransformerReferenceIdeal.τ).loc Cert.TransformerReferenceIdeal.main_arg2) = m ((c.tc : Thread Cert.TransformerReferenceIdeal.nD Cert.TransformerReferenceIdeal.τ).loc Cert.TransformerReferenceIdeal.main_arg2)
      ∧ r.2.mem ((c.tc : Thread Cert.TransformerReferenceIdeal.nD Cert.TransformerReferenceIdeal.τ).loc Cert.TransformerReferenceIdeal.main_arg3) = m ((c.tc : Thread Cert.TransformerReferenceIdeal.nD Cert.TransformerReferenceIdeal.τ).loc Cert.TransformerReferenceIdeal.main_arg3)
      ∧ r.2.mem ((c.tc : Thread Cert.TransformerReferenceIdeal.nD Cert.TransformerReferenceIdeal.τ).loc Cert.TransformerReferenceIdeal.main_arg4) = m ((c.tc : Thread Cert.TransformerReferenceIdeal.nD Cert.TransformerReferenceIdeal.τ).loc Cert.TransformerReferenceIdeal.main_arg4)
      ∧ r.2.mem ((c.tc : Thread Cert.TransformerReferenceIdeal.nD Cert.TransformerReferenceIdeal.τ).loc Cert.TransformerReferenceIdeal.main_arg5) = m ((c.tc : Thread Cert.TransformerReferenceIdeal.nD Cert.TransformerReferenceIdeal.τ).loc Cert.TransformerReferenceIdeal.main_arg5)
      ∧ r.2.mem ((c.tc : Thread Cert.TransformerReferenceIdeal.nD Cert.TransformerReferenceIdeal.τ).loc Cert.TransformerReferenceIdeal.main_arg6) = m ((c.tc : Thread Cert.TransformerReferenceIdeal.nD Cert.TransformerReferenceIdeal.τ).loc Cert.TransformerReferenceIdeal.main_arg6)
      ∧ r.2.mem ((c.tc : Thread Cert.TransformerReferenceIdeal.nD Cert.TransformerReferenceIdeal.τ).loc Cert.TransformerReferenceIdeal.main_arg7) = m ((c.tc : Thread Cert.TransformerReferenceIdeal.nD Cert.TransformerReferenceIdeal.τ).loc Cert.TransformerReferenceIdeal.main_arg7)
      ∧ r.2.mem ((c.tc : Thread Cert.TransformerReferenceIdeal.nD Cert.TransformerReferenceIdeal.τ).loc Cert.TransformerReferenceIdeal.main_arg8) = m ((c.tc : Thread Cert.TransformerReferenceIdeal.nD Cert.TransformerReferenceIdeal.τ).loc Cert.TransformerReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Sampling_SamplingIdeal : Prop :=
  True

def algebraic_SamplingIdeal_SamplingReferenceIdeal [hSamplingIdeal : Cert.SamplingIdeal.Facts] [hSamplingReferenceIdeal : Cert.SamplingReferenceIdeal.Facts] : Prop :=
  ∀ (m : (ℓ : Loc Cert.SamplingIdeal.nD Cert.SamplingIdeal.τ Cert.SamplingIdeal.sig) → Buf (Elt Ideal) ℓ) (g : Dev Cert.SamplingIdeal.nD → PrngReg)
    (m' : (ℓ : Loc Cert.SamplingReferenceIdeal.nD Cert.SamplingReferenceIdeal.τ Cert.SamplingReferenceIdeal.sig) → Buf (Elt Ideal) ℓ) (g' : Dev Cert.SamplingReferenceIdeal.nD → PrngReg), Pre_SamplingIdeal m →
    (∀ c : Dev Cert.SamplingIdeal.nD,
      m' ((c.tc : Thread Cert.SamplingReferenceIdeal.nD Cert.SamplingReferenceIdeal.τ).loc Cert.SamplingReferenceIdeal.main_arg0) = m ((c.tc : Thread Cert.SamplingIdeal.nD Cert.SamplingIdeal.τ).loc Cert.SamplingIdeal.main_arg0)
      ∧ m' ((c.tc : Thread Cert.SamplingReferenceIdeal.nD Cert.SamplingReferenceIdeal.τ).loc Cert.SamplingReferenceIdeal.main_arg1) = m ((c.tc : Thread Cert.SamplingIdeal.nD Cert.SamplingIdeal.τ).loc Cert.SamplingIdeal.main_arg1)) →
    ∃ (v0 : (c : Dev Cert.SamplingIdeal.nD) → Buf (Elt Ideal) ((c.tc : Thread Cert.SamplingIdeal.nD Cert.SamplingIdeal.τ).loc Cert.SamplingIdeal.main_v27)),
      θ_run (Cert.SamplingIdeal.defs (F := Ideal)) (onTc (τ := Cert.SamplingIdeal.τ) (Cert.SamplingIdeal.main (F := Ideal))) ⟨m, fun _ => 0, g⟩ (fun r => ∀ c : Dev Cert.SamplingIdeal.nD,
          r.2.mem ((c.tc : Thread Cert.SamplingIdeal.nD Cert.SamplingIdeal.τ).loc Cert.SamplingIdeal.main_v27) = v0 c
          ∧ r.2.mem ((c.tc : Thread Cert.SamplingIdeal.nD Cert.SamplingIdeal.τ).loc Cert.SamplingIdeal.main_arg0) = m ((c.tc : Thread Cert.SamplingIdeal.nD Cert.SamplingIdeal.τ).loc Cert.SamplingIdeal.main_arg0)
          ∧ r.2.mem ((c.tc : Thread Cert.SamplingIdeal.nD Cert.SamplingIdeal.τ).loc Cert.SamplingIdeal.main_arg1) = m ((c.tc : Thread Cert.SamplingIdeal.nD Cert.SamplingIdeal.τ).loc Cert.SamplingIdeal.main_arg1))
      ∧ θ_run (Cert.SamplingReferenceIdeal.defs (F := Ideal)) (onTc (τ := Cert.SamplingReferenceIdeal.τ) (Cert.SamplingReferenceIdeal.main (F := Ideal))) ⟨m', fun _ => 0, g'⟩ (fun r => ∀ c : Dev Cert.SamplingReferenceIdeal.nD,
          r.2.mem ((c.tc : Thread Cert.SamplingReferenceIdeal.nD Cert.SamplingReferenceIdeal.τ).loc Cert.SamplingReferenceIdeal.main_v11) = v0 c
          ∧ r.2.mem ((c.tc : Thread Cert.SamplingReferenceIdeal.nD Cert.SamplingReferenceIdeal.τ).loc Cert.SamplingReferenceIdeal.main_arg0) = m' ((c.tc : Thread Cert.SamplingReferenceIdeal.nD Cert.SamplingReferenceIdeal.τ).loc Cert.SamplingReferenceIdeal.main_arg0)
          ∧ r.2.mem ((c.tc : Thread Cert.SamplingReferenceIdeal.nD Cert.SamplingReferenceIdeal.τ).loc Cert.SamplingReferenceIdeal.main_arg1) = m' ((c.tc : Thread Cert.SamplingReferenceIdeal.nD Cert.SamplingReferenceIdeal.τ).loc Cert.SamplingReferenceIdeal.main_arg1))

def preserves_Transformer_TransformerIdeal : Prop :=
  True

def algebraic_TransformerIdeal_TransformerReferenceIdeal_pre_logits_finite [hTransformerIdeal : Cert.TransformerIdeal.Facts] [hTransformerReferenceIdeal : Cert.TransformerReferenceIdeal.Facts] [hPre_logits_finite : Cert.Pre_logits_finite.Facts] : Prop :=
  ∀ (m : (ℓ : Loc Cert.TransformerIdeal.nD Cert.TransformerIdeal.τ Cert.TransformerIdeal.sig) → Buf (Elt Ideal) ℓ) (g : Dev Cert.TransformerIdeal.nD → PrngReg)
    (m' : (ℓ : Loc Cert.TransformerReferenceIdeal.nD Cert.TransformerReferenceIdeal.τ Cert.TransformerReferenceIdeal.sig) → Buf (Elt Ideal) ℓ) (g' : Dev Cert.TransformerReferenceIdeal.nD → PrngReg), Pre_TransformerIdeal_logits_finite m →
    (∀ c : Dev Cert.TransformerIdeal.nD,
      m' ((c.tc : Thread Cert.TransformerReferenceIdeal.nD Cert.TransformerReferenceIdeal.τ).loc Cert.TransformerReferenceIdeal.main_arg0) = m ((c.tc : Thread Cert.TransformerIdeal.nD Cert.TransformerIdeal.τ).loc Cert.TransformerIdeal.main_arg0)
      ∧ m' ((c.tc : Thread Cert.TransformerReferenceIdeal.nD Cert.TransformerReferenceIdeal.τ).loc Cert.TransformerReferenceIdeal.main_arg1) = m ((c.tc : Thread Cert.TransformerIdeal.nD Cert.TransformerIdeal.τ).loc Cert.TransformerIdeal.main_arg1)
      ∧ m' ((c.tc : Thread Cert.TransformerReferenceIdeal.nD Cert.TransformerReferenceIdeal.τ).loc Cert.TransformerReferenceIdeal.main_arg2) = m ((c.tc : Thread Cert.TransformerIdeal.nD Cert.TransformerIdeal.τ).loc Cert.TransformerIdeal.main_arg2)
      ∧ m' ((c.tc : Thread Cert.TransformerReferenceIdeal.nD Cert.TransformerReferenceIdeal.τ).loc Cert.TransformerReferenceIdeal.main_arg3) = m ((c.tc : Thread Cert.TransformerIdeal.nD Cert.TransformerIdeal.τ).loc Cert.TransformerIdeal.main_arg3)
      ∧ m' ((c.tc : Thread Cert.TransformerReferenceIdeal.nD Cert.TransformerReferenceIdeal.τ).loc Cert.TransformerReferenceIdeal.main_arg4) = m ((c.tc : Thread Cert.TransformerIdeal.nD Cert.TransformerIdeal.τ).loc Cert.TransformerIdeal.main_arg4)
      ∧ m' ((c.tc : Thread Cert.TransformerReferenceIdeal.nD Cert.TransformerReferenceIdeal.τ).loc Cert.TransformerReferenceIdeal.main_arg5) = m ((c.tc : Thread Cert.TransformerIdeal.nD Cert.TransformerIdeal.τ).loc Cert.TransformerIdeal.main_arg5)
      ∧ m' ((c.tc : Thread Cert.TransformerReferenceIdeal.nD Cert.TransformerReferenceIdeal.τ).loc Cert.TransformerReferenceIdeal.main_arg6) = m ((c.tc : Thread Cert.TransformerIdeal.nD Cert.TransformerIdeal.τ).loc Cert.TransformerIdeal.main_arg6)
      ∧ m' ((c.tc : Thread Cert.TransformerReferenceIdeal.nD Cert.TransformerReferenceIdeal.τ).loc Cert.TransformerReferenceIdeal.main_arg7) = m ((c.tc : Thread Cert.TransformerIdeal.nD Cert.TransformerIdeal.τ).loc Cert.TransformerIdeal.main_arg7)
      ∧ m' ((c.tc : Thread Cert.TransformerReferenceIdeal.nD Cert.TransformerReferenceIdeal.τ).loc Cert.TransformerReferenceIdeal.main_arg8) = m ((c.tc : Thread Cert.TransformerIdeal.nD Cert.TransformerIdeal.τ).loc Cert.TransformerIdeal.main_arg8)) →
    ∃ (v0 : (c : Dev Cert.TransformerIdeal.nD) → Buf (Elt Ideal) ((c.tc : Thread Cert.TransformerIdeal.nD Cert.TransformerIdeal.τ).loc Cert.TransformerIdeal.main_v14)),
      θ_run (Cert.TransformerIdeal.defs (F := Ideal)) (onTc (τ := Cert.TransformerIdeal.τ) (Cert.TransformerIdeal.main (F := Ideal))) ⟨m, fun _ => 0, g⟩ (fun r => ∀ c : Dev Cert.TransformerIdeal.nD,
          r.2.mem ((c.tc : Thread Cert.TransformerIdeal.nD Cert.TransformerIdeal.τ).loc Cert.TransformerIdeal.main_v14) = v0 c
          ∧ r.2.mem ((c.tc : Thread Cert.TransformerIdeal.nD Cert.TransformerIdeal.τ).loc Cert.TransformerIdeal.main_arg0) = m ((c.tc : Thread Cert.TransformerIdeal.nD Cert.TransformerIdeal.τ).loc Cert.TransformerIdeal.main_arg0)
          ∧ r.2.mem ((c.tc : Thread Cert.TransformerIdeal.nD Cert.TransformerIdeal.τ).loc Cert.TransformerIdeal.main_arg1) = m ((c.tc : Thread Cert.TransformerIdeal.nD Cert.TransformerIdeal.τ).loc Cert.TransformerIdeal.main_arg1)
          ∧ r.2.mem ((c.tc : Thread Cert.TransformerIdeal.nD Cert.TransformerIdeal.τ).loc Cert.TransformerIdeal.main_arg2) = m ((c.tc : Thread Cert.TransformerIdeal.nD Cert.TransformerIdeal.τ).loc Cert.TransformerIdeal.main_arg2)
          ∧ r.2.mem ((c.tc : Thread Cert.TransformerIdeal.nD Cert.TransformerIdeal.τ).loc Cert.TransformerIdeal.main_arg3) = m ((c.tc : Thread Cert.TransformerIdeal.nD Cert.TransformerIdeal.τ).loc Cert.TransformerIdeal.main_arg3)
          ∧ r.2.mem ((c.tc : Thread Cert.TransformerIdeal.nD Cert.TransformerIdeal.τ).loc Cert.TransformerIdeal.main_arg4) = m ((c.tc : Thread Cert.TransformerIdeal.nD Cert.TransformerIdeal.τ).loc Cert.TransformerIdeal.main_arg4)
          ∧ r.2.mem ((c.tc : Thread Cert.TransformerIdeal.nD Cert.TransformerIdeal.τ).loc Cert.TransformerIdeal.main_arg5) = m ((c.tc : Thread Cert.TransformerIdeal.nD Cert.TransformerIdeal.τ).loc Cert.TransformerIdeal.main_arg5)
          ∧ r.2.mem ((c.tc : Thread Cert.TransformerIdeal.nD Cert.TransformerIdeal.τ).loc Cert.TransformerIdeal.main_arg6) = m ((c.tc : Thread Cert.TransformerIdeal.nD Cert.TransformerIdeal.τ).loc Cert.TransformerIdeal.main_arg6)
          ∧ r.2.mem ((c.tc : Thread Cert.TransformerIdeal.nD Cert.TransformerIdeal.τ).loc Cert.TransformerIdeal.main_arg7) = m ((c.tc : Thread Cert.TransformerIdeal.nD Cert.TransformerIdeal.τ).loc Cert.TransformerIdeal.main_arg7)
          ∧ r.2.mem ((c.tc : Thread Cert.TransformerIdeal.nD Cert.TransformerIdeal.τ).loc Cert.TransformerIdeal.main_arg8) = m ((c.tc : Thread Cert.TransformerIdeal.nD Cert.TransformerIdeal.τ).loc Cert.TransformerIdeal.main_arg8))
      ∧ θ_run (Cert.TransformerReferenceIdeal.defs (F := Ideal)) (onTc (τ := Cert.TransformerReferenceIdeal.τ) (Cert.TransformerReferenceIdeal.main (F := Ideal))) ⟨m', fun _ => 0, g'⟩ (fun r => ∀ c : Dev Cert.TransformerReferenceIdeal.nD,
          r.2.mem ((c.tc : Thread Cert.TransformerReferenceIdeal.nD Cert.TransformerReferenceIdeal.τ).loc Cert.TransformerReferenceIdeal.main_v201) = v0 c
          ∧ r.2.mem ((c.tc : Thread Cert.TransformerReferenceIdeal.nD Cert.TransformerReferenceIdeal.τ).loc Cert.TransformerReferenceIdeal.main_arg0) = m' ((c.tc : Thread Cert.TransformerReferenceIdeal.nD Cert.TransformerReferenceIdeal.τ).loc Cert.TransformerReferenceIdeal.main_arg0)
          ∧ r.2.mem ((c.tc : Thread Cert.TransformerReferenceIdeal.nD Cert.TransformerReferenceIdeal.τ).loc Cert.TransformerReferenceIdeal.main_arg1) = m' ((c.tc : Thread Cert.TransformerReferenceIdeal.nD Cert.TransformerReferenceIdeal.τ).loc Cert.TransformerReferenceIdeal.main_arg1)
          ∧ r.2.mem ((c.tc : Thread Cert.TransformerReferenceIdeal.nD Cert.TransformerReferenceIdeal.τ).loc Cert.TransformerReferenceIdeal.main_arg2) = m' ((c.tc : Thread Cert.TransformerReferenceIdeal.nD Cert.TransformerReferenceIdeal.τ).loc Cert.TransformerReferenceIdeal.main_arg2)
          ∧ r.2.mem ((c.tc : Thread Cert.TransformerReferenceIdeal.nD Cert.TransformerReferenceIdeal.τ).loc Cert.TransformerReferenceIdeal.main_arg3) = m' ((c.tc : Thread Cert.TransformerReferenceIdeal.nD Cert.TransformerReferenceIdeal.τ).loc Cert.TransformerReferenceIdeal.main_arg3)
          ∧ r.2.mem ((c.tc : Thread Cert.TransformerReferenceIdeal.nD Cert.TransformerReferenceIdeal.τ).loc Cert.TransformerReferenceIdeal.main_arg4) = m' ((c.tc : Thread Cert.TransformerReferenceIdeal.nD Cert.TransformerReferenceIdeal.τ).loc Cert.TransformerReferenceIdeal.main_arg4)
          ∧ r.2.mem ((c.tc : Thread Cert.TransformerReferenceIdeal.nD Cert.TransformerReferenceIdeal.τ).loc Cert.TransformerReferenceIdeal.main_arg5) = m' ((c.tc : Thread Cert.TransformerReferenceIdeal.nD Cert.TransformerReferenceIdeal.τ).loc Cert.TransformerReferenceIdeal.main_arg5)
          ∧ r.2.mem ((c.tc : Thread Cert.TransformerReferenceIdeal.nD Cert.TransformerReferenceIdeal.τ).loc Cert.TransformerReferenceIdeal.main_arg6) = m' ((c.tc : Thread Cert.TransformerReferenceIdeal.nD Cert.TransformerReferenceIdeal.τ).loc Cert.TransformerReferenceIdeal.main_arg6)
          ∧ r.2.mem ((c.tc : Thread Cert.TransformerReferenceIdeal.nD Cert.TransformerReferenceIdeal.τ).loc Cert.TransformerReferenceIdeal.main_arg7) = m' ((c.tc : Thread Cert.TransformerReferenceIdeal.nD Cert.TransformerReferenceIdeal.τ).loc Cert.TransformerReferenceIdeal.main_arg7)
          ∧ r.2.mem ((c.tc : Thread Cert.TransformerReferenceIdeal.nD Cert.TransformerReferenceIdeal.τ).loc Cert.TransformerReferenceIdeal.main_arg8) = m' ((c.tc : Thread Cert.TransformerReferenceIdeal.nD Cert.TransformerReferenceIdeal.τ).loc Cert.TransformerReferenceIdeal.main_arg8))

def Claim : Prop :=
  ∃ (hKernel : Cert.Kernel.Facts) (hKernelIdeal : Cert.KernelIdeal.Facts) (hReferenceIdeal : Cert.ReferenceIdeal.Facts) (hSampling : Cert.Sampling.Facts) (hSamplingIdeal : Cert.SamplingIdeal.Facts) (hSamplingReferenceIdeal : Cert.SamplingReferenceIdeal.Facts) (hTransformer : Cert.Transformer.Facts) (hTransformerIdeal : Cert.TransformerIdeal.Facts) (hTransformerReferenceIdeal : Cert.TransformerReferenceIdeal.Facts) (hPre_idx_in_range : Cert.Pre_idx_in_range.Facts) (hPre_logits_finite : Cert.Pre_logits_finite.Facts),
    quiescent_Kernel (hKernel := hKernel) (hPre_idx_in_range := hPre_idx_in_range)
    ∧ quiescent_KernelIdeal (hKernelIdeal := hKernelIdeal) (hPre_idx_in_range := hPre_idx_in_range)
    ∧ quiescent_ReferenceIdeal (hReferenceIdeal := hReferenceIdeal)
    ∧ quiescent_ReferenceIdeal_pre_idx_in_range (hReferenceIdeal := hReferenceIdeal) (hPre_idx_in_range := hPre_idx_in_range)
    ∧ quiescent_Sampling (hSampling := hSampling)
    ∧ quiescent_SamplingIdeal (hSamplingIdeal := hSamplingIdeal)
    ∧ quiescent_SamplingReferenceIdeal (hSamplingReferenceIdeal := hSamplingReferenceIdeal)
    ∧ quiescent_Transformer (hTransformer := hTransformer)
    ∧ quiescent_TransformerIdeal (hTransformerIdeal := hTransformerIdeal)
    ∧ quiescent_TransformerIdeal_pre_logits_finite (hTransformerIdeal := hTransformerIdeal) (hPre_logits_finite := hPre_logits_finite)
    ∧ quiescent_TransformerReferenceIdeal (hTransformerReferenceIdeal := hTransformerReferenceIdeal)
    ∧ quiescent_TransformerReferenceIdeal_pre_logits_finite (hTransformerReferenceIdeal := hTransformerReferenceIdeal) (hPre_logits_finite := hPre_logits_finite)
    ∧ preserves_Kernel_KernelIdeal
    ∧ algebraic_KernelIdeal_ReferenceIdeal (hKernelIdeal := hKernelIdeal) (hReferenceIdeal := hReferenceIdeal) (hPre_idx_in_range := hPre_idx_in_range)
    ∧ preserves_Sampling_SamplingIdeal
    ∧ algebraic_SamplingIdeal_SamplingReferenceIdeal (hSamplingIdeal := hSamplingIdeal) (hSamplingReferenceIdeal := hSamplingReferenceIdeal)
    ∧ preserves_Transformer_TransformerIdeal
    ∧ algebraic_TransformerIdeal_TransformerReferenceIdeal_pre_logits_finite (hTransformerIdeal := hTransformerIdeal) (hTransformerReferenceIdeal := hTransformerReferenceIdeal) (hPre_logits_finite := hPre_logits_finite)
-- ==== Pre_idx_in_range.lean ====
abbrev S8x20000x3 : Shape := ⟨3, ![8, 20000, 3]⟩
abbrev S8x1024 : Shape := ⟨2, ![8, 1024]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel

variable [Facts]

def fn {F : FTy → Type} [FloatOps F] (main_arg0 : FVec F S8x20000x3 .f32) (main_arg1 : FVec F S8x20000x3 .f32) (main_arg2 : IVec S8x1024 32) : IVec S_ 1 :=
  let main_c : IVec S_ 32 := constantI S_ 32 0#32
  let main_v0 : IVec S8x1024 32 := broadcastInDim S8x1024 ![] bcast_S_S8x1024 main_c
  let main_v1 : IVec S8x1024 1 := cmpi .sge main_arg2 main_v0
  let main_c_0 : IVec S_ 32 := constantI S_ 32 20000#32
  let main_v2 : IVec S8x1024 32 := broadcastInDim S8x1024 ![] bcast_S_S8x1024 main_c_0
  let main_v3 : IVec S8x1024 1 := cmpi .slt main_arg2 main_v2
  let main_v4 : IVec S8x1024 1 := andi main_v1 main_v3
  let main_c_1 : IVec S_ 1 := constantI S_ 1 1#1
  let main_v5 : IVec S_ 1 := (fun x v => Host.reduce IntOp.andi x v reducesTo_S8x1024_S_d0_1 h_S_) main_v4 main_c_1
  main_v5
-- ==== Pre_logits_finite.lean ====
abbrev S8192x16 : Shape := ⟨2, ![8192, 16]⟩
abbrev S6x96 : Shape := ⟨2, ![6, 96]⟩
abbrev S2x96x96 : Shape := ⟨3, ![2, 96, 96]⟩
abbrev S2x96x384 : Shape := ⟨3, ![2, 96, 384]⟩
abbrev S2x384x96 : Shape := ⟨3, ![2, 384, 96]⟩
abbrev S96x288 : Shape := ⟨2, ![96, 288]⟩
abbrev S_ : Shape := ⟨0, ![]⟩

class Facts : Prop where
  bcast_S_S2x96x96 : S_.BroadcastsInDim S2x96x96 (![] : Fin 0 → Fin S2x96x96.rank)
  reducesTo_S2x96x96_S_d0_1_2 : S2x96x96.ReducesTo [0, 1, 2] S_
  h_S_ : 0 < S_.numel

variable [Facts]

def fn {F : FTy → Type} [FloatOps F] (main_arg0 : FVec F S8192x16 .f32) (main_arg1 : FVec F S6x96 .f32) (main_arg2 : FVec F S2x96x96 .f32) (main_arg3 : FVec F S2x96x96 .f32) (main_arg4 : FVec F S2x96x96 .f32) (main_arg5 : FVec F S2x96x96 .f32) (main_arg6 : FVec F S2x96x384 .f32) (main_arg7 : FVec F S2x384x96 .f32) (main_arg8 : FVec F S96x288 .f32) : IVec S_ 1 :=
  let main_v0 : FVec F S2x96x96 .f32 := Host.absf main_arg2
  let main_cst : FVec F S_ .f32 := constant S_ .f32 0x7F800000#32
  let main_v1 : FVec F S2x96x96 .f32 := broadcastInDim S2x96x96 ![] bcast_S_S2x96x96 main_cst
  let main_v2 : IVec S2x96x96 1 := cmpf .olt main_v0 main_v1
  let main_c : IVec S_ 1 := constantI S_ 1 1#1
  let main_v3 : IVec S_ 1 := (fun x v => Host.reduce IntOp.andi x v reducesTo_S2x96x96_S_d0_1_2 h_S_) main_v2 main_c
  let main_v4 : FVec F S2x96x96 .f32 := Host.absf main_arg3
  let main_cst_0 : FVec F S_ .f32 := constant S_ .f32 0x7F800000#32
  let main_v5 : FVec F S2x96x96 .f32 := broadcastInDim S2x96x96 ![] bcast_S_S2x96x96 main_cst_0
  let main_v6 : IVec S2x96x96 1 := cmpf .olt main_v4 main_v5
  let main_c_1 : IVec S_ 1 := constantI S_ 1 1#1
  let main_v7 : IVec S_ 1 := (fun x v => Host.reduce IntOp.andi x v reducesTo_S2x96x96_S_d0_1_2 h_S_) main_v6 main_c_1
  let main_v8 : IVec S_ 1 := andi main_v3 main_v7
  main_v8
-- ==== Kernel.lean ====
abbrev S8x20000x3 : Shape := ⟨3, ![8, 20000, 3]⟩
abbrev S8x1024 : Shape := ⟨2, ![8, 1024]⟩
abbrev S8 : Shape := ⟨1, ![8]⟩
abbrev S_ : Shape := ⟨0, ![]⟩
abbrev S8x1 : Shape := ⟨2, ![8, 1]⟩
abbrev S8192 : Shape := ⟨1, ![8192]⟩
abbrev S8x20000x6 : Shape := ⟨3, ![8, 20000, 6]⟩
abbrev S8x20000x16 : Shape := ⟨3, ![8, 20000, 16]⟩
abbrev S160000x16 : Shape := ⟨2, ![160000, 16]⟩
abbrev S8192x16 : Shape := ⟨2, ![8192, 16]⟩
abbrev S128 : Shape := ⟨1, ![128]⟩
abbrev S128x16 : Shape := ⟨2, ![128, 16]⟩
abbrev S8192x8 : Shape := ⟨2, ![8192, 8]⟩
abbrev S8x1024x8 : Shape := ⟨3, ![8, 1024, 8]⟩
abbrev S8192x3 : Shape := ⟨2, ![8192, 3]⟩
abbrev S8x1024x3 : Shape := ⟨3, ![8, 1024, 3]⟩

abbrev nBuf : Table → Nat
  | .hbm => 21
  | .local .scVector .vmem => 2
  | _ => 0

abbrev bufTy : (tb : Table) → Fin (nBuf tb) → BufTy
  | .hbm, ⟨0, _⟩ => ⟨S8x20000x3, .f32⟩
  | .hbm, ⟨1, _⟩ => ⟨S8x20000x3, .f32⟩
  | .hbm, ⟨2, _⟩ => ⟨S8x1024, .i32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S8x1, .i32⟩
  | .hbm, ⟨8, _⟩ => ⟨S8x1024, .i32⟩
  | .hbm, ⟨9, _⟩ => ⟨S8x1024, .i32⟩
  | .hbm, ⟨10, _⟩ => ⟨S8192, .i32⟩
  | .hbm, ⟨11, _⟩ => ⟨S8x20000x6, .f32⟩
  | .hbm, ⟨12, _⟩ => ⟨S_, .i32⟩
  | .hbm, ⟨13, _⟩ => ⟨S_, .f32⟩
  | .hbm, ⟨14, _⟩ => ⟨S8x20000x16, .f32⟩
  | .hbm, ⟨15, _⟩ => ⟨S160000x16, .f32⟩
  | .hbm, ⟨16, _⟩ => ⟨S8192x16, .f32⟩
  | .hbm, ⟨17, _⟩ => ⟨S8192x8, .f32⟩
  | .hbm, ⟨18, _⟩ => ⟨S8x1024x8, .f32⟩
  | .hbm, ⟨19, _⟩ => ⟨S8192x3, .f32⟩
  | .hbm, ⟨20, _⟩ => ⟨S8x1024x3, .f32⟩
  | .local .scVector .vmem, ⟨0, _⟩ => ⟨S128, .i32⟩
  | .local .scVector .vmem, ⟨1, _⟩ => ⟨S128x16, .f32⟩
  | _, _ => ⟨S8x20000x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v9_scv : Ref sig .scVector := ⟨.hbm, 15, rfl⟩
abbrev main_v6_scv : Ref sig .scVector := ⟨.hbm, 10, rfl⟩
abbrev main_v10_scv : Ref sig .scVector := ⟨.hbm, 16, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  ![v3.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c0_i32_8_r1 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x20000x3 : Shape := ⟨3, ![8, 20000, 3]⟩
abbrev S8x1024 : Shape := ⟨2, ![8, 1024]⟩
abbrev S8x1024x1 : Shape := ⟨3, ![8, 1024, 1]⟩
abbrev S_ : Shape := ⟨0, ![]⟩
abbrev S1 : Shape := ⟨1, ![1]⟩
abbrev S1x1x1 : Shape := ⟨3, ![1, 1, 1]⟩
abbrev S8x1024x3 : Shape := ⟨3, ![8, 1024, 3]⟩
abbrev S8x1024x2 : Shape := ⟨3, ![8, 1024, 2]⟩
abbrev S8x1024x8 : Shape := ⟨3, ![8, 1024, 8]⟩

abbrev nBuf : Space → Nat
  | .hbm => 52
  | .vmem => 0
  | .smem => 0
  | _ => 0

abbrev bufTy : (tb : Table) → Fin (tcTables nBuf tb) → BufTy
  | .hbm, ⟨0, _⟩ => ⟨S8x20000x3, .f32⟩
  | .hbm, ⟨1, _⟩ => ⟨S8x20000x3, .f32⟩
  | .hbm, ⟨2, _⟩ => ⟨S8x1024, .i32⟩
  | .hbm, ⟨3, _⟩ => ⟨S8x1024x1, .i32⟩
  | .hbm, ⟨4, _⟩ => ⟨S_, .i32⟩
  | .hbm, ⟨5, _⟩ => ⟨S8x1024x1, .i32⟩
  | .hbm, ⟨6, _⟩ => ⟨S8x1024x1, .i1⟩
  | .hbm, ⟨7, _⟩ => ⟨S_, .i32⟩
  | .hbm, ⟨8, _⟩ => ⟨S8x1024x1, .i32⟩
  | .hbm, ⟨9, _⟩ => ⟨S8x1024x1, .i32⟩
  | .hbm, ⟨10, _⟩ => ⟨S8x1024x1, .i32⟩
  | .hbm, ⟨11, _⟩ => ⟨S1, .i32⟩
  | .hbm, ⟨12, _⟩ => ⟨S_, .i32⟩
  | .hbm, ⟨13, _⟩ => ⟨S8x1024x1, .i32⟩
  | .hbm, ⟨14, _⟩ => ⟨S8x1024x1, .i1⟩
  | .hbm, ⟨15, _⟩ => ⟨S1x1x1, .i32⟩
  | .hbm, ⟨16, _⟩ => ⟨S8x1024x1, .i32⟩
  | .hbm, ⟨17, _⟩ => ⟨S8x1024x1, .i1⟩
  | .hbm, ⟨18, _⟩ => ⟨S8x1024x1, .i1⟩
  | .hbm, ⟨19, _⟩ => ⟨S_, .i1⟩
  | .hbm, ⟨20, _⟩ => ⟨S8x1024, .i1⟩
  | .hbm, ⟨21, _⟩ => ⟨S8x1024x3, .f32⟩
  | .hbm, ⟨22, _⟩ => ⟨S8x1024x3, .i1⟩
  | .hbm, ⟨23, _⟩ => ⟨S_, .f32⟩
  | .hbm, ⟨24, _⟩ => ⟨S8x1024x3, .f32⟩
  | .hbm, ⟨25, _⟩ => ⟨S8x1024x3, .f32⟩
  | .hbm, ⟨26, _⟩ => ⟨S8x1024x1, .i32⟩
  | .hbm, ⟨27, _⟩ => ⟨S_, .i32⟩
  | .hbm, ⟨28, _⟩ => ⟨S8x1024x1, .i32⟩
  | .hbm, ⟨29, _⟩ => ⟨S8x1024x1, .i1⟩
  | .hbm, ⟨30, _⟩ => ⟨S_, .i32⟩
  | .hbm, ⟨31, _⟩ => ⟨S8x1024x1, .i32⟩
  | .hbm, ⟨32, _⟩ => ⟨S8x1024x1, .i32⟩
  | .hbm, ⟨33, _⟩ => ⟨S8x1024x1, .i32⟩
  | .hbm, ⟨34, _⟩ => ⟨S1, .i32⟩
  | .hbm, ⟨35, _⟩ => ⟨S_, .i32⟩
  | .hbm, ⟨36, _⟩ => ⟨S8x1024x1, .i32⟩
  | .hbm, ⟨37, _⟩ => ⟨S8x1024x1, .i1⟩
  | .hbm, ⟨38, _⟩ => ⟨S1x1x1, .i32⟩
  | .hbm, ⟨39, _⟩ => ⟨S8x1024x1, .i32⟩
  | .hbm, ⟨40, _⟩ => ⟨S8x1024x1, .i1⟩
  | .hbm, ⟨41, _⟩ => ⟨S8x1024x1, .i1⟩
  | .hbm, ⟨42, _⟩ => ⟨S_, .i1⟩
  | .hbm, ⟨43, _⟩ => ⟨S8x1024, .i1⟩
  | .hbm, ⟨44, _⟩ => ⟨S8x1024x3, .f32⟩
  | .hbm, ⟨45, _⟩ => ⟨S8x1024x3, .i1⟩
  | .hbm, ⟨46, _⟩ => ⟨S_, .f32⟩
  | .hbm, ⟨47, _⟩ => ⟨S8x1024x3, .f32⟩
  | .hbm, ⟨48, _⟩ => ⟨S8x1024x3, .f32⟩
  | .hbm, ⟨49, _⟩ => ⟨S_, .f32⟩
  | .hbm, ⟨50, _⟩ => ⟨S8x1024x2, .f32⟩
  | .hbm, ⟨51, _⟩ => ⟨S8x1024x8, .f32⟩
  | _, _ => ⟨S8x20000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_c_2 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c_3 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_c_2 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_c_3 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v3 : Ref sig .tc := ⟨.hbm, 48, rfl⟩
abbrev main_cst : Ref sig .tc := ⟨.hbm, 49, rfl⟩
abbrev main_v4 : Ref sig .tc := ⟨.hbm, 50, rfl⟩
abbrev main_v5 : Ref sig .tc := ⟨.hbm, 51, rfl⟩

abbrev nD : Nat := 1
abbrev τ : Topo := Topo.v7x

variable {F : FTy → Type} [FloatOps F]
-- ==== Sampling.lean ====
abbrev S8x20000x3 : Shape := ⟨3, ![8, 20000, 3]⟩
abbrev S1024 : Shape := ⟨1, ![1024]⟩
abbrev S3x8x20000 : Shape := ⟨3, ![3, 8, 20000]⟩
abbrev S_ : Shape := ⟨0, ![]⟩
abbrev S3x8x20096 : Shape := ⟨3, ![3, 8, 20096]⟩
abbrev S3x8x157x128 : Shape := ⟨4, ![3, 8, 157, 128]⟩
abbrev S3x157x8x128 : Shape := ⟨4, ![3, 157, 8, 128]⟩
abbrev S157 : Shape := ⟨1, ![157]⟩
abbrev S157x1x1 : Shape := ⟨3, ![157, 1, 1]⟩
abbrev S128 : Shape := ⟨1, ![128]⟩
abbrev S1x1x128 : Shape := ⟨3, ![1, 1, 128]⟩
abbrev S157x1x128 : Shape := ⟨3, ![157, 1, 128]⟩
abbrev S1x8x1 : Shape := ⟨3, ![1, 8, 1]⟩
abbrev S157x8x128 : Shape := ⟨3, ![157, 8, 128]⟩
abbrev S1200x8 : Shape := ⟨2, ![1200, 8]⟩
abbrev S1x1x8x1 : Shape := ⟨4, ![1, 1, 8, 1]⟩
abbrev S8x1 : Shape := ⟨2, ![8, 1]⟩
abbrev S1x8 : Shape := ⟨2, ![1, 8]⟩
abbrev S1x1x8x128 : Shape := ⟨4, ![1, 1, 8, 128]⟩
abbrev S8x128 : Shape := ⟨2, ![8, 128]⟩
abbrev S1x8x128 : Shape := ⟨3, ![1, 8, 128]⟩
abbrev S8 : Shape := ⟨1, ![8]⟩
abbrev S1024x1 : Shape := ⟨2, ![1024, 1]⟩
abbrev S1024x8 : Shape := ⟨2, ![1024, 8]⟩
abbrev S8x1024 : Shape := ⟨2, ![8, 1024]⟩

abbrev nBuf : Space → Nat
  | .hbm => 36
  | .vmem => 4
  | .smem => 0
  | _ => 0

abbrev bufTy : (tb : Table) → Fin (tcTables nBuf tb) → BufTy
  | .hbm, ⟨0, _⟩ => ⟨S8x20000x3, .f32⟩
  | .hbm, ⟨1, _⟩ => ⟨S1024, .i32⟩
  | .hbm, ⟨2, _⟩ => ⟨S3x8x20000, .f32⟩
  | .hbm, ⟨3, _⟩ => ⟨S_, .i32⟩
  | .hbm, ⟨4, _⟩ => ⟨S_, .f32⟩
  | .hbm, ⟨5, _⟩ => ⟨S3x8x20096, .f32⟩
  | .hbm, ⟨6, _⟩ => ⟨S3x8x157x128, .f32⟩
  | .hbm, ⟨7, _⟩ => ⟨S3x157x8x128, .f32⟩
  | .hbm, ⟨8, _⟩ => ⟨S157, .i32⟩
  | .hbm, ⟨9, _⟩ => ⟨S157x1x1, .i32⟩
  | .hbm, ⟨10, _⟩ => ⟨S_, .i32⟩
  | .hbm, ⟨11, _⟩ => ⟨S157x1x1, .i32⟩
  | .hbm, ⟨12, _⟩ => ⟨S157x1x1, .i32⟩
  | .hbm, ⟨13, _⟩ => ⟨S128, .i32⟩
  | .hbm, ⟨14, _⟩ => ⟨S1x1x128, .i32⟩
  | .hbm, ⟨15, _⟩ => ⟨S157x1x128, .i32⟩
  | .hbm, ⟨16, _⟩ => ⟨S157x1x128, .i32⟩
  | .hbm, ⟨17, _⟩ => ⟨S157x1x128, .i32⟩
  | .hbm, ⟨18, _⟩ => ⟨S_, .i32⟩
  | .hbm, ⟨19, _⟩ => ⟨S1x8x1, .i32⟩
  | .hbm, ⟨20, _⟩ => ⟨S157x8x128, .i32⟩
  | .hbm, ⟨21, _⟩ => ⟨S157x8x128, .i32⟩
  | .hbm, ⟨22, _⟩ => ⟨S157x8x128, .i32⟩
  | .hbm, ⟨23, _⟩ => ⟨S157x8x128, .f32⟩
  | .hbm, ⟨24, _⟩ => ⟨S1200x8, .f32⟩
  | .hbm, ⟨25, _⟩ => ⟨S1200x8, .i32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S1024x1, .i32⟩
  | .hbm, ⟨34, _⟩ => ⟨S1024x8, .i32⟩
  | .hbm, ⟨35, _⟩ => ⟨S8x1024, .i32⟩
  | .local _ .vmem, ⟨0, _⟩ => ⟨S3x157x8x128, .f32⟩
  | .local _ .vmem, ⟨1, _⟩ => ⟨S157x8x128, .f32⟩
  | .local _ .vmem, ⟨2, _⟩ => ⟨S1200x8, .f32⟩
  | .local _ .vmem, ⟨3, _⟩ => ⟨S157x8x128, .f32⟩
  | _, _ => ⟨S8x20000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c1200_i32 : BitVec 32 := 1200#32
  let v21 : BitVec 32 := Scalar.addi c0_i32 c1200_i32
  let c1_i32 : BitVec 32 := 1#32
  ⟨c0_i32, v21, c1_i32⟩
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let v24 : Index := Scalar.indexCast arg4
  let c0_16 : Index := 0#32
  ![v24.toNat, 0]
abbrev stage0_0 : Fin 1 → Memref sig .tc .vmem S3x157x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S157x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1200x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== SamplingReferenceIdeal.lean ====
abbrev S8x20000x3 : Shape := ⟨3, ![8, 20000, 3]⟩
abbrev S1024 : Shape := ⟨1, ![1024]⟩
abbrev S_ : Shape := ⟨0, ![]⟩
abbrev S8x20000 : Shape := ⟨2, ![8, 20000]⟩
abbrev S8 : Shape := ⟨1, ![8]⟩
abbrev S1200x8 : Shape := ⟨2, ![1200, 8]⟩
abbrev S1x8 : Shape := ⟨2, ![1, 8]⟩
abbrev S8x1x1 : Shape := ⟨3, ![8, 1, 1]⟩
abbrev S8x1x3 : Shape := ⟨3, ![8, 1, 3]⟩
abbrev S8x1200 : Shape := ⟨2, ![8, 1200]⟩
abbrev S1024x1 : Shape := ⟨2, ![1024, 1]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x20000x3, .f32⟩
  | .hbm, ⟨1, _⟩ => ⟨S1024, .i32⟩
  | .hbm, ⟨2, _⟩ => ⟨S_, .f32⟩
  | .hbm, ⟨3, _⟩ => ⟨S8x20000, .f32⟩
  | .hbm, ⟨4, _⟩ => ⟨S_, .i32⟩
  | .hbm, ⟨5, _⟩ => ⟨S8, .i32⟩
  | .hbm, ⟨6, _⟩ => ⟨S_, .i32⟩
  | .hbm, ⟨7, _⟩ => ⟨S1200x8, .i32⟩
  | .hbm, ⟨8, _⟩ => ⟨S_, .i32⟩
  | .hbm, ⟨9, _⟩ => ⟨S_, .i32⟩
  | .hbm, ⟨10, _⟩ => ⟨S8x20000x3, .f32⟩
  | .hbm, ⟨11, _⟩ => ⟨S_, .i32⟩
  | .hbm, ⟨12, _⟩ => ⟨S_, .i32⟩
  | .hbm, ⟨13, _⟩ => ⟨S8x20000, .f32⟩
  | .hbm, ⟨14, _⟩ => ⟨S8, .i32⟩
  | .hbm, ⟨15, _⟩ => ⟨S1200x8, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S1x8, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1200x8, .i32⟩
  | .hbm, ⟨29, _⟩ => ⟨S8x1x1, .i32⟩
  | .hbm, ⟨30, _⟩ => ⟨S_, .i32⟩
  | .hbm, ⟨31, _⟩ => ⟨S8x1x1, .i32⟩
  | .hbm, ⟨32, _⟩ => ⟨S8x1x1, .i1⟩
  | .hbm, ⟨33, _⟩ => ⟨S_, .i32⟩
  | .hbm, ⟨34, _⟩ => ⟨S8x1x1, .i32⟩
  | .hbm, ⟨35, _⟩ => ⟨S8x1x1, .i32⟩
  | .hbm, ⟨36, _⟩ => ⟨S8x1x1, .i32⟩
  | .hbm, ⟨37, _⟩ => ⟨S8x1x3, .f32⟩
  | .hbm, ⟨38, _⟩ => ⟨S8x20000x3, .f32⟩
  | .hbm, ⟨39, _⟩ => ⟨S8x20000x3, .f32⟩
  | .hbm, ⟨40, _⟩ => ⟨S8x20000x3, .f32⟩
  | .hbm, ⟨41, _⟩ => ⟨S_, .f32⟩
  | .hbm, ⟨42, _⟩ => ⟨S8x20000, .f32⟩
  | .hbm, ⟨43, _⟩ => ⟨S8x20000, .f32⟩
  | .hbm, ⟨44, _⟩ => ⟨S8x20000, .i32⟩
  | .hbm, ⟨45, _⟩ => ⟨S_, .f32⟩
  | .hbm, ⟨46, _⟩ => ⟨S_, .i32⟩
  | .hbm, ⟨47, _⟩ => ⟨S8, .f32⟩
  | .hbm, ⟨48, _⟩ => ⟨S8, .i32⟩
  | .hbm, ⟨49, _⟩ => ⟨S_, .i32⟩
  | .hbm, ⟨50, _⟩ => ⟨S_, .i32⟩
  | .hbm, ⟨51, _⟩ => ⟨S8x1200, .i32⟩
  | .hbm, ⟨52, _⟩ => ⟨S_, .i32⟩
  | .hbm, ⟨53, _⟩ => ⟨S1024, .i32⟩
  | .hbm, ⟨54, _⟩ => ⟨S1024, .i1⟩
  | .hbm, ⟨55, _⟩ => ⟨S_, .i32⟩
  | .hbm, ⟨56, _⟩ => ⟨S1024, .i32⟩
  | .hbm, ⟨57, _⟩ => ⟨S1024, .i32⟩
  | .hbm, ⟨58, _⟩ => ⟨S1024, .i32⟩
  | .hbm, ⟨59, _⟩ => ⟨S1024x1, .i32⟩
  | .hbm, ⟨60, _⟩ => ⟨S8x1024, .i32⟩
  | _, _ => ⟨S8x20000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_c_1 : Ref sig .tc := ⟨.hbm, 8, rfl⟩
abbrev main_c_2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_while0c_c_10 : Ref sig .tc := ⟨.hbm, 16, rfl⟩
abbrev main_while0c_v12 : Ref sig .tc := ⟨.hbm, 17, rfl⟩
abbrev main_while0b_c_10 : Ref sig .tc := ⟨.hbm, 18, rfl⟩
abbrev main_while0b_v12 : Ref sig .tc := ⟨.hbm, 19, rfl⟩
abbrev main_while0b_call0_v0 : Ref sig .tc := ⟨.hbm, 20, rfl⟩
abbrev main_while0b_call0_c : Ref sig .tc := ⟨.hbm, 21, rfl⟩
abbrev main_while0b_call0_v1 : Ref sig .tc := ⟨.hbm, 22, rfl⟩
abbrev main_while0b_call0_v2 : Ref sig .tc := ⟨.hbm, 23, rfl⟩
abbrev main_while0b_call0_c_0 : Ref sig .tc := ⟨.hbm, 24, rfl⟩
abbrev main_while0b_call0_v3 : Ref sig .tc := ⟨.hbm, 25, rfl⟩
abbrev main_while0b_call0_v4 : Ref sig .tc := ⟨.hbm, 26, rfl⟩
abbrev main_while0b_call0_c_1 : Ref sig .tc := ⟨.hbm, 27, rfl⟩
abbrev main_while0b_v13 : Ref sig .tc := ⟨.hbm, 28, rfl⟩
abbrev main_while0b_v14 : Ref sig .tc := ⟨.hbm, 29, rfl⟩
abbrev main_while0b_call1_c : Ref sig .tc := ⟨.hbm, 30, rfl⟩
abbrev main_while0b_call1_v0 : Ref sig .tc := ⟨.hbm, 31, rfl⟩
abbrev main_while0b_call1_v1 : Ref sig .tc := ⟨.hbm, 32, rfl⟩
abbrev main_while0b_call1_c_0 : Ref sig .tc := ⟨.hbm, 33, rfl⟩
abbrev main_while0b_call1_v2 : Ref sig .tc := ⟨.hbm, 34, rfl⟩
abbrev main_while0b_call1_v3 : Ref sig .tc := ⟨.hbm, 35, rfl⟩
abbrev main_while0b_call1_v4 : Ref sig .tc := ⟨.hbm, 36, rfl⟩
abbrev main_while0b_v15 : Ref sig .tc := ⟨.hbm, 37, rfl⟩
abbrev main_while0b_v16 : Ref sig .tc := ⟨.hbm, 38, rfl⟩
abbrev main_while0b_v17 : Ref sig .tc := ⟨.hbm, 39, rfl⟩
abbrev main_while0b_v18 : Ref sig .tc := ⟨.hbm, 40, rfl⟩
abbrev main_while0b_cst_11 : Ref sig .tc := ⟨.hbm, 41, rfl⟩
abbrev main_while0b_v19 : Ref sig .tc := ⟨.hbm, 42, rfl⟩
abbrev main_while0b_v20 : Ref sig .tc := ⟨.hbm, 43, rfl⟩
abbrev main_while0b_call2_v0 : Ref sig .tc := ⟨.hbm, 44, rfl⟩
abbrev main_while0b_call2_cst : Ref sig .tc := ⟨.hbm, 45, rfl⟩
abbrev main_while0b_call2_c : Ref sig .tc := ⟨.hbm, 46, rfl⟩
abbrev main_while0b_call2_v1_0 : Ref sig .tc := ⟨.hbm, 47, rfl⟩
abbrev main_while0b_v21 : Ref sig .tc := ⟨.hbm, 48, rfl⟩
abbrev main_while0b_c_12 : Ref sig .tc := ⟨.hbm, 49, rfl⟩
abbrev main_while0b_v22 : Ref sig .tc := ⟨.hbm, 50, rfl⟩
abbrev main_v4 : Ref sig .tc := ⟨.hbm, 51, rfl⟩
abbrev main_c_3 : Ref sig .tc := ⟨.hbm, 52, rfl⟩
abbrev main_v5 : Ref sig .tc := ⟨.hbm, 53, rfl⟩
abbrev main_v6 : Ref sig .tc := ⟨.hbm, 54, rfl⟩
abbrev main_c_4 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩

abbrev nD : Nat := 1
abbrev τ : Topo := Topo.v7x

variable {F : FTy → Type} [FloatOps F]

abbrev main_while0_count : Scf.Loop 32 := ⟨0#32, 1200#32, 1#32⟩
-- ==== Transformer.lean ====
abbrev S8192x16 : Shape := ⟨2, ![8192, 16]⟩
abbrev S6x96 : Shape := ⟨2, ![6, 96]⟩
abbrev S2x96x96 : Shape := ⟨3, ![2, 96, 96]⟩
abbrev S2x96x384 : Shape := ⟨3, ![2, 96, 384]⟩
abbrev S2x384x96 : Shape := ⟨3, ![2, 384, 96]⟩
abbrev S96x288 : Shape := ⟨2, ![96, 288]⟩
abbrev S8192x8 : Shape := ⟨2, ![8192, 8]⟩
abbrev S8x1024x8 : Shape := ⟨3, ![8, 1024, 8]⟩
abbrev S8192x3 : Shape := ⟨2, ![8192, 3]⟩
abbrev S8x1024x3 : Shape := ⟨3, ![8, 1024, 3]⟩
abbrev S8x3x1024 : Shape := ⟨3, ![8, 3, 1024]⟩
abbrev S_ : Shape := ⟨0, ![]⟩
abbrev S8x96 : Shape := ⟨2, ![8, 96]⟩
abbrev S2x96x6x16 : Shape := ⟨4, ![2, 96, 6, 16]⟩
abbrev S2x6x96x16 : Shape := ⟨4, ![2, 6, 96, 16]⟩
abbrev S2x6x96x48 : Shape := ⟨4, ![2, 6, 96, 48]⟩
abbrev S8x1024x288 : Shape := ⟨3, ![8, 1024, 288]⟩
abbrev S1x1024x8 : Shape := ⟨3, ![1, 1024, 8]⟩
abbrev S1x3x1024 : Shape := ⟨3, ![1, 3, 1024]⟩
abbrev S1x1024x288 : Shape := ⟨3, ![1, 1024, 288]⟩
abbrev S1024x1024 : Shape := ⟨2, ![1024, 1024]⟩
abbrev S1024x8 : Shape := ⟨2, ![1024, 8]⟩
abbrev S1024x1 : Shape := ⟨2, ![1024, 1]⟩
abbrev S1x1x1024 : Shape := ⟨3, ![1, 1, 1024]⟩
abbrev S1x1024 : Shape := ⟨2, ![1, 1024]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩
abbrev S1024x96 : Shape := ⟨2, ![1024, 96]⟩
abbrev S1x1x96x48 : Shape := ⟨4, ![1, 1, 96, 48]⟩
abbrev S96x48 : Shape := ⟨2, ![96, 48]⟩
abbrev S1024x48 : Shape := ⟨2, ![1024, 48]⟩
abbrev S1024x16 : Shape := ⟨2, ![1024, 16]⟩
abbrev S1024x17 : Shape := ⟨2, ![1024, 17]⟩
abbrev S1x96x96 : Shape := ⟨3, ![1, 96, 96]⟩
abbrev S96x96 : Shape := ⟨2, ![96, 96]⟩
abbrev S1x96x384 : Shape := ⟨3, ![1, 96, 384]⟩
abbrev S96x384 : Shape := ⟨2, ![96, 384]⟩
abbrev S1024x384 : Shape := ⟨2, ![1024, 384]⟩
abbrev S1x384x96 : Shape := ⟨3, ![1, 384, 96]⟩
abbrev S384x96 : Shape := ⟨2, ![384, 96]⟩
abbrev S1024x288 : Shape := ⟨2, ![1024, 288]⟩
abbrev S8x288x1024 : Shape := ⟨3, ![8, 288, 1024]⟩

abbrev nBuf : Space → Nat
  | .hbm => 26
  | .vmem => 14
  | .smem => 0
  | _ => 0

abbrev bufTy : (tb : Table) → Fin (tcTables nBuf tb) → BufTy
  | .hbm, ⟨0, _⟩ => ⟨S8192x16, .f32⟩
  | .hbm, ⟨1, _⟩ => ⟨S6x96, .f32⟩
  | .hbm, ⟨2, _⟩ => ⟨S2x96x96, .f32⟩
  | .hbm, ⟨3, _⟩ => ⟨S2x96x96, .f32⟩
  | .hbm, ⟨4, _⟩ => ⟨S2x96x96, .f32⟩
  | .hbm, ⟨5, _⟩ => ⟨S2x96x96, .f32⟩
  | .hbm, ⟨6, _⟩ => ⟨S2x96x384, .f32⟩
  | .hbm, ⟨7, _⟩ => ⟨S2x384x96, .f32⟩
  | .hbm, ⟨8, _⟩ => ⟨S96x288, .f32⟩
  | .hbm, ⟨9, _⟩ => ⟨S8192x8, .f32⟩
  | .hbm, ⟨10, _⟩ => ⟨S8x1024x8, .f32⟩
  | .hbm, ⟨11, _⟩ => ⟨S8192x3, .f32⟩
  | .hbm, ⟨12, _⟩ => ⟨S8x1024x3, .f32⟩
  | .hbm, ⟨13, _⟩ => ⟨S8x3x1024, .f32⟩
  | .hbm, ⟨14, _⟩ => ⟨S_, .i32⟩
  | .hbm, ⟨15, _⟩ => ⟨S_, .f32⟩
  | .hbm, ⟨16, _⟩ => ⟨S8x96, .f32⟩
  | .hbm, ⟨17, _⟩ => ⟨S2x96x6x16, .f32⟩
  | .hbm, ⟨18, _⟩ => ⟨S2x6x96x16, .f32⟩
  | .hbm, ⟨19, _⟩ => ⟨S2x96x6x16, .f32⟩
  | .hbm, ⟨20, _⟩ => ⟨S2x6x96x16, .f32⟩
  | .hbm, ⟨21, _⟩ => ⟨S2x96x6x16, .f32⟩
  | .hbm, ⟨22, _⟩ => ⟨S2x6x96x16, .f32⟩
  | .hbm, ⟨23, _⟩ => ⟨S2x6x96x48, .f32⟩
  | .hbm, ⟨24, _⟩ => ⟨S8x1024x288, .f32⟩
  | .hbm, ⟨25, _⟩ => ⟨S8x288x1024, .f32⟩
  | .local _ .vmem, ⟨0, _⟩ => ⟨S1x1024x8, .f32⟩
  | .local _ .vmem, ⟨1, _⟩ => ⟨S1x1024x8, .f32⟩
  | .local _ .vmem, ⟨2, _⟩ => ⟨S1x3x1024, .f32⟩
  | .local _ .vmem, ⟨3, _⟩ => ⟨S1x3x1024, .f32⟩
  | .local _ .vmem, ⟨4, _⟩ => ⟨S8x96, .f32⟩
  | .local _ .vmem, ⟨5, _⟩ => ⟨S2x6x96x48, .f32⟩
  | .local _ .vmem, ⟨6, _⟩ => ⟨S2x96x96, .f32⟩
  | .local _ .vmem, ⟨7, _⟩ => ⟨S2x96x384, .f32⟩
  | .local _ .vmem, ⟨8, _⟩ => ⟨S2x384x96, .f32⟩
  | .local _ .vmem, ⟨9, _⟩ => ⟨S96x288, .f32⟩
  | .local _ .vmem, ⟨10, _⟩ => ⟨S1x1024x288, .f32⟩
  | .local _ .vmem, ⟨11, _⟩ => ⟨S1x1024x288, .f32⟩
  | .local _ .vmem, ⟨12, _⟩ => ⟨S1024x1024, .f32⟩
  | .local _ .vmem, ⟨13, _⟩ => ⟨S1024x1024, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_201 : BitVec 32 := 0#32
  let c34_i32 : BitVec 32 := 34#32
  let v445 : BitVec 32 := Scalar.addi c0_i32_201 c34_i32
  let c1_i32 : BitVec 32 := 1#32
  ⟨c0_i32_201, v445, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x6x96x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x96x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x384x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x288 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== TransformerReferenceIdeal.lean ====
abbrev S8192x16 : Shape := ⟨2, ![8192, 16]⟩
abbrev S6x96 : Shape := ⟨2, ![6, 96]⟩
abbrev S2x96x96 : Shape := ⟨3, ![2, 96, 96]⟩
abbrev S2x96x384 : Shape := ⟨3, ![2, 96, 384]⟩
abbrev S2x384x96 : Shape := ⟨3, ![2, 384, 96]⟩
abbrev S96x288 : Shape := ⟨2, ![96, 288]⟩
abbrev S8192x3 : Shape := ⟨2, ![8192, 3]⟩
abbrev S8x1024x3 : Shape := ⟨3, ![8, 1024, 3]⟩
abbrev S8x1024x1x3 : Shape := ⟨4, ![8, 1024, 1, 3]⟩
abbrev S8x1x1024x3 : Shape := ⟨4, ![8, 1, 1024, 3]⟩
abbrev S8x1024x1024x3 : Shape := ⟨4, ![8, 1024, 1024, 3]⟩
abbrev S_ : Shape := ⟨0, ![]⟩
abbrev S8x1024x1024 : Shape := ⟨3, ![8, 1024, 1024]⟩
abbrev S8x1024x34 : Shape := ⟨3, ![8, 1024, 34]⟩
abbrev S1024 : Shape := ⟨1, ![1024]⟩
abbrev S1x1024x1 : Shape := ⟨3, ![1, 1024, 1]⟩
abbrev S8 : Shape := ⟨1, ![8]⟩
abbrev S8x1x1 : Shape := ⟨3, ![8, 1, 1]⟩
abbrev S8192x34 : Shape := ⟨2, ![8192, 34]⟩
abbrev S8192x6 : Shape := ⟨2, ![8192, 6]⟩
abbrev S8192x96 : Shape := ⟨2, ![8192, 96]⟩
abbrev S8192 : Shape := ⟨1, ![8192]⟩
abbrev S8192x1 : Shape := ⟨2, ![8192, 1]⟩
abbrev S1x96x96 : Shape := ⟨3, ![1, 96, 96]⟩
abbrev S96x96 : Shape := ⟨2, ![96, 96]⟩
abbrev S8192x6x16 : Shape := ⟨3, ![8192, 6, 16]⟩
abbrev S8192x34x1 : Shape := ⟨3, ![8192, 34, 1]⟩
abbrev S8192x34x6x16 : Shape := ⟨4, ![8192, 34, 6, 16]⟩
abbrev S8192x6x34 : Shape := ⟨3, ![8192, 6, 34]⟩
abbrev S8192x34x6 : Shape := ⟨3, ![8192, 34, 6]⟩
abbrev S8192x1x6 : Shape := ⟨3, ![8192, 1, 6]⟩
abbrev S1x96x384 : Shape := ⟨3, ![1, 96, 384]⟩
abbrev S96x384 : Shape := ⟨2, ![96, 384]⟩
abbrev S8192x384 : Shape := ⟨2, ![8192, 384]⟩
abbrev S1x384x96 : Shape := ⟨3, ![1, 384, 96]⟩
abbrev S384x96 : Shape := ⟨2, ![384, 96]⟩
abbrev S8192x288 : Shape := ⟨2, ![8192, 288]⟩
abbrev S8x1024x288 : Shape := ⟨3, ![8, 1024, 288]⟩
abbrev S8x288x1024 : Shape := ⟨3, ![8, 288, 1024]⟩

abbrev nBuf : Space → Nat
  | .hbm => 370
  | .vmem => 0
  | .smem => 0
  | _ => 0

abbrev hbmTy0_0 (i : Nat) : BufTy := match i % 128 with
  | 0 => ⟨S8192x16, .f32⟩
  | 1 => ⟨S6x96, .f32⟩
  | 2 => ⟨S2x96x96, .f32⟩
  | 3 => ⟨S2x96x96, .f32⟩
  | 4 => ⟨S2x96x96, .f32⟩
  | 5 => ⟨S2x96x96, .f32⟩
  | 6 => ⟨S2x96x384, .f32⟩
  | 7 => ⟨S2x384x96, .f32⟩
  | 8 => ⟨S96x288, .f32⟩
  | 9 => ⟨S8192x3, .f32⟩
  | 10 => ⟨S8x1024x3, .f32⟩
  | 11 => ⟨S8x1024x1x3, .f32⟩
  | 12 => ⟨S8x1x1024x3, .f32⟩
  | 13 => ⟨S8x1024x1024x3, .f32⟩
  | 14 => ⟨S8x1024x1024x3, .f32⟩
  | 15 => ⟨S8x1024x1024x3, .f32⟩
  | 16 => ⟨S8x1024x1024x3, .f32⟩
  | 17 => ⟨S_, .f32⟩
  | 18 => ⟨S8x1024x1024, .f32⟩
  | 19 => ⟨S_, .f32⟩
  | 20 => ⟨S8x1024x1024, .f32⟩
  | 21 => ⟨S8x1024x1024, .i1⟩
  | 22 => ⟨S_, .f32⟩
  | 23 => ⟨S_, .f32⟩
  | 24 => ⟨S8x1024x1024, .f32⟩
  | 25 => ⟨S8x1024x1024, .f32⟩
  | 26 => ⟨S8x1024x1024, .f32⟩
  | 27 => ⟨S8x1024x34, .f32⟩
  | 28 => ⟨S8x1024x34, .i32⟩
  | 29 => ⟨S1024, .i32⟩
  | 30 => ⟨S1x1024x1, .i32⟩
  | 31 => ⟨S8x1024x34, .i32⟩
  | 32 => ⟨S8x1024x34, .f32⟩
  | 33 => ⟨S_, .f32⟩
  | 34 => ⟨S8x1024x34, .f32⟩
  | 35 => ⟨S8x1024x34, .i1⟩
  | 36 => ⟨S8x1024x34, .i32⟩
  | 37 => ⟨S8, .i32⟩
  | 38 => ⟨S_, .i32⟩
  | 39 => ⟨S8, .i32⟩
  | 40 => ⟨S8, .i32⟩
  | 41 => ⟨S8x1x1, .i32⟩
  | 42 => ⟨S8x1024x34, .i32⟩
  | 43 => ⟨S8x1024x34, .i32⟩
  | 44 => ⟨S8192x34, .i32⟩
  | 45 => ⟨S8192x6, .f32⟩
  | 46 => ⟨S8192x96, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S_, .i32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S8192x96, .f32⟩
  | 61 => ⟨S8192x96, .f32⟩
  | 62 => ⟨S8192x96, .f32⟩
  | 63 => ⟨S_, .f32⟩
  | 64 => ⟨S_, .f32⟩
  | 65 => ⟨S_, .f32⟩
  | 66 => ⟨S_, .f32⟩
  | 67 => ⟨S8192, .f32⟩
  | 68 => ⟨S8192x1, .f32⟩
  | 69 => ⟨S8192x1, .f32⟩
  | 70 => ⟨S8192x1, .f32⟩
  | 71 => ⟨S_, .f32⟩
  | 72 => ⟨S_, .i1⟩
  | 73 => ⟨S_, .f32⟩
  | 74 => ⟨S_, .f32⟩
  | 75 => ⟨S8192x1, .f32⟩
  | 76 => ⟨S8192x1, .f32⟩
  | 77 => ⟨S8192x96, .f32⟩
  | 78 => ⟨S8192x96, .f32⟩
  | 79 => ⟨S_, .f32⟩
  | 80 => ⟨S8192x1, .f32⟩
  | 81 => ⟨S8192x1, .f32⟩
  | 82 => ⟨S8192x1, .f32⟩
  | 83 => ⟨S8192x96, .f32⟩
  | 84 => ⟨S8192x96, .f32⟩
  | 85 => ⟨S1x96x96, .f32⟩
  | 86 => ⟨S96x96, .f32⟩
  | 87 => ⟨S8192x96, .f32⟩
  | 88 => ⟨S8192x6x16, .f32⟩
  | 89 => ⟨S1x96x96, .f32⟩
  | 90 => ⟨S96x96, .f32⟩
  | 91 => ⟨S8192x96, .f32⟩
  | 92 => ⟨S8192x6x16, .f32⟩
  | 93 => ⟨S1x96x96, .f32⟩
  | 94 => ⟨S96x96, .f32⟩
  | 95 => ⟨S8192x96, .f32⟩
  | 96 => ⟨S8192x6x16, .f32⟩
  | 97 => ⟨S_, .i32⟩
  | 98 => ⟨S8192x34, .i32⟩
  | 99 => ⟨S8192x34, .i1⟩
  | 100 => ⟨S_, .i32⟩
  | 101 => ⟨S8192x34, .i32⟩
  | 102 => ⟨S8192x34, .i32⟩
  | 103 => ⟨S8192x34, .i32⟩
  | 104 => ⟨S8192x34x1, .i32⟩
  | 105 => ⟨S8192x34x6x16, .f32⟩
  | 106 => ⟨S_, .i32⟩
  | 107 => ⟨S8192x34, .i32⟩
  | 108 => ⟨S8192x34, .i1⟩
  | 109 => ⟨S_, .i32⟩
  | 110 => ⟨S8192x34, .i32⟩
  | 111 => ⟨S8192x34, .i32⟩
  | 112 => ⟨S8192x34, .i32⟩
  | 113 => ⟨S8192x34x1, .i32⟩
  | 114 => ⟨S8192x34x6x16, .f32⟩
  | 115 => ⟨S8192x6x34, .f32⟩
  | 116 => ⟨S8192x34x6, .f32⟩
  | 117 => ⟨S_, .f32⟩
  | 118 => ⟨S8192x34x6, .f32⟩
  | 119 => ⟨S8192x34x6, .f32⟩
  | 120 => ⟨S_, .f32⟩
  | 121 => ⟨S8192x6, .f32⟩
  | 122 => ⟨S_, .f32⟩
  | 123 => ⟨S8192x6, .f32⟩
  | 124 => ⟨S8192x6, .f32⟩
  | 125 => ⟨S8192x1x6, .f32⟩
  | 126 => ⟨S8192x34x6, .f32⟩
  | 127 => ⟨S8192x34x6, .f32⟩
  | _ => ⟨S8192x16, .f32⟩

abbrev hbmTy0_1 (i : Nat) : BufTy := match i % 128 with
  | 0 => ⟨S8192x34x6, .f32⟩
  | 1 => ⟨S_, .f32⟩
  | 2 => ⟨S8192x6, .f32⟩
  | 3 => ⟨S8192x1x6, .f32⟩
  | 4 => ⟨S8192x34x6, .f32⟩
  | 5 => ⟨S8192x34x6, .f32⟩
  | 6 => ⟨S8192x6x16, .f32⟩
  | 7 => ⟨S8192x96, .f32⟩
  | 8 => ⟨S1x96x96, .f32⟩
  | 9 => ⟨S96x96, .f32⟩
  | 10 => ⟨S8192x96, .f32⟩
  | 11 => ⟨S8192x96, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .i32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S8192x96, .f32⟩
  | 26 => ⟨S8192x96, .f32⟩
  | 27 => ⟨S8192x96, .f32⟩
  | 28 => ⟨S_, .f32⟩
  | 29 => ⟨S_, .f32⟩
  | 30 => ⟨S_, .f32⟩
  | 31 => ⟨S_, .f32⟩
  | 32 => ⟨S8192, .f32⟩
  | 33 => ⟨S8192x1, .f32⟩
  | 34 => ⟨S8192x1, .f32⟩
  | 35 => ⟨S8192x1, .f32⟩
  | 36 => ⟨S_, .f32⟩
  | 37 => ⟨S_, .i1⟩
  | 38 => ⟨S_, .f32⟩
  | 39 => ⟨S_, .f32⟩
  | 40 => ⟨S8192x1, .f32⟩
  | 41 => ⟨S8192x1, .f32⟩
  | 42 => ⟨S8192x96, .f32⟩
  | 43 => ⟨S8192x96, .f32⟩
  | 44 => ⟨S_, .f32⟩
  | 45 => ⟨S8192x1, .f32⟩
  | 46 => ⟨S8192x1, .f32⟩
  | 47 => ⟨S8192x1, .f32⟩
  | 48 => ⟨S8192x96, .f32⟩
  | 49 => ⟨S8192x96, .f32⟩
  | 50 => ⟨S1x96x384, .f32⟩
  | 51 => ⟨S96x384, .f32⟩
  | 52 => ⟨S8192x384, .f32⟩
  | 53 => ⟨S_, .f32⟩
  | 54 => ⟨S8192x384, .f32⟩
  | 55 => ⟨S8192x384, .f32⟩
  | 56 => ⟨S1x384x96, .f32⟩
  | 57 => ⟨S384x96, .f32⟩
  | 58 => ⟨S8192x96, .f32⟩
  | 59 => ⟨S8192x96, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S_, .i32⟩
  | 67 => ⟨S_, .f32⟩
  | 68 => ⟨S8192, .f32⟩
  | 69 => ⟨S8192x1, .f32⟩
  | 70 => ⟨S_, .f32⟩
  | 71 => ⟨S8192x1, .f32⟩
  | 72 => ⟨S8192x1, .f32⟩
  | 73 => ⟨S8192x96, .f32⟩
  | 74 => ⟨S8192x96, .f32⟩
  | 75 => ⟨S8192x96, .f32⟩
  | 76 => ⟨S_, .f32⟩
  | 77 => ⟨S_, .f32⟩
  | 78 => ⟨S_, .f32⟩
  | 79 => ⟨S_, .f32⟩
  | 80 => ⟨S8192, .f32⟩
  | 81 => ⟨S8192x1, .f32⟩
  | 82 => ⟨S8192x1, .f32⟩
  | 83 => ⟨S8192x1, .f32⟩
  | 84 => ⟨S_, .f32⟩
  | 85 => ⟨S_, .i1⟩
  | 86 => ⟨S_, .f32⟩
  | 87 => ⟨S_, .f32⟩
  | 88 => ⟨S8192x1, .f32⟩
  | 89 => ⟨S8192x1, .f32⟩
  | 90 => ⟨S8192x96, .f32⟩
  | 91 => ⟨S8192x96, .f32⟩
  | 92 => ⟨S_, .f32⟩
  | 93 => ⟨S8192x1, .f32⟩
  | 94 => ⟨S8192x1, .f32⟩
  | 95 => ⟨S8192x1, .f32⟩
  | 96 => ⟨S8192x96, .f32⟩
  | 97 => ⟨S8192x96, .f32⟩
  | 98 => ⟨S1x96x96, .f32⟩
  | 99 => ⟨S96x96, .f32⟩
  | 100 => ⟨S8192x96, .f32⟩
  | 101 => ⟨S8192x6x16, .f32⟩
  | 102 => ⟨S1x96x96, .f32⟩
  | 103 => ⟨S96x96, .f32⟩
  | 104 => ⟨S8192x96, .f32⟩
  | 105 => ⟨S8192x6x16, .f32⟩
  | 106 => ⟨S1x96x96, .f32⟩
  | 107 => ⟨S96x96, .f32⟩
  | 108 => ⟨S8192x96, .f32⟩
  | 109 => ⟨S8192x6x16, .f32⟩
  | 110 => ⟨S_, .i32⟩
  | 111 => ⟨S8192x34, .i32⟩
  | 112 => ⟨S8192x34, .i1⟩
  | 113 => ⟨S_, .i32⟩
  | 114 => ⟨S8192x34, .i32⟩
  | 115 => ⟨S8192x34, .i32⟩
  | 116 => ⟨S8192x34, .i32⟩
  | 117 => ⟨S8192x34x1, .i32⟩
  | 118 => ⟨S8192x34x6x16, .f32⟩
  | 119 => ⟨S_, .i32⟩
  | 120 => ⟨S8192x34, .i32⟩
  | 121 => ⟨S8192x34, .i1⟩
  | 122 => ⟨S_, .i32⟩
  | 123 => ⟨S8192x34, .i32⟩
  | 124 => ⟨S8192x34, .i32⟩
  | 125 => ⟨S8192x34, .i32⟩
  | 126 => ⟨S8192x34x1, .i32⟩
  | 127 => ⟨S8192x34x6x16, .f32⟩
  | _ => ⟨S8192x16, .f32⟩

abbrev hbmTy0_2 (i : Nat) : BufTy := match i % 128 with
  | 0 => ⟨S8192x6x34, .f32⟩
  | 1 => ⟨S8192x34x6, .f32⟩
  | 2 => ⟨S_, .f32⟩
  | 3 => ⟨S8192x34x6, .f32⟩
  | 4 => ⟨S8192x34x6, .f32⟩
  | 5 => ⟨S_, .f32⟩
  | 6 => ⟨S8192x6, .f32⟩
  | 7 => ⟨S_, .f32⟩
  | 8 => ⟨S8192x6, .f32⟩
  | 9 => ⟨S8192x6, .f32⟩
  | 10 => ⟨S8192x1x6, .f32⟩
  | 11 => ⟨S8192x34x6, .f32⟩
  | 12 => ⟨S8192x34x6, .f32⟩
  | 13 => ⟨S8192x34x6, .f32⟩
  | 14 => ⟨S_, .f32⟩
  | 15 => ⟨S8192x6, .f32⟩
  | 16 => ⟨S8192x1x6, .f32⟩
  | 17 => ⟨S8192x34x6, .f32⟩
  | 18 => ⟨S8192x34x6, .f32⟩
  | 19 => ⟨S8192x6x16, .f32⟩
  | 20 => ⟨S8192x96, .f32⟩
  | 21 => ⟨S1x96x96, .f32⟩
  | 22 => ⟨S96x96, .f32⟩
  | 23 => ⟨S8192x96, .f32⟩
  | 24 => ⟨S8192x96, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S_, .i32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S8192x96, .f32⟩
  | 39 => ⟨S8192x96, .f32⟩
  | 40 => ⟨S8192x96, .f32⟩
  | 41 => ⟨S_, .f32⟩
  | 42 => ⟨S_, .f32⟩
  | 43 => ⟨S_, .f32⟩
  | 44 => ⟨S_, .f32⟩
  | 45 => ⟨S8192, .f32⟩
  | 46 => ⟨S8192x1, .f32⟩
  | 47 => ⟨S8192x1, .f32⟩
  | 48 => ⟨S8192x1, .f32⟩
  | 49 => ⟨S_, .f32⟩
  | 50 => ⟨S_, .i1⟩
  | 51 => ⟨S_, .f32⟩
  | 52 => ⟨S_, .f32⟩
  | 53 => ⟨S8192x1, .f32⟩
  | 54 => ⟨S8192x1, .f32⟩
  | 55 => ⟨S8192x96, .f32⟩
  | 56 => ⟨S8192x96, .f32⟩
  | 57 => ⟨S_, .f32⟩
  | 58 => ⟨S8192x1, .f32⟩
  | 59 => ⟨S8192x1, .f32⟩
  | 60 => ⟨S8192x1, .f32⟩
  | 61 => ⟨S8192x96, .f32⟩
  | 62 => ⟨S8192x96, .f32⟩
  | 63 => ⟨S1x96x384, .f32⟩
  | 64 => ⟨S96x384, .f32⟩
  | 65 => ⟨S8192x384, .f32⟩
  | 66 => ⟨S_, .f32⟩
  | 67 => ⟨S8192x384, .f32⟩
  | 68 => ⟨S8192x384, .f32⟩
  | 69 => ⟨S1x384x96, .f32⟩
  | 70 => ⟨S384x96, .f32⟩
  | 71 => ⟨S8192x96, .f32⟩
  | 72 => ⟨S8192x96, .f32⟩
  | 73 => ⟨S_, .f32⟩
  | 74 => ⟨S8192, .f32⟩
  | 75 => ⟨S8192x1, .f32⟩
  | 76 => ⟨S_, .f32⟩
  | 77 => ⟨S8192x1, .f32⟩
  | 78 => ⟨S8192x1, .f32⟩
  | 79 => ⟨S_, .i32⟩
  | 80 => ⟨S_, .f32⟩
  | 81 => ⟨S8192, .f32⟩
  | 82 => ⟨S8192x1, .f32⟩
  | 83 => ⟨S_, .f32⟩
  | 84 => ⟨S8192x1, .f32⟩
  | 85 => ⟨S8192x1, .f32⟩
  | 86 => ⟨S8192x96, .f32⟩
  | 87 => ⟨S8192x96, .f32⟩
  | 88 => ⟨S8192x96, .f32⟩
  | 89 => ⟨S_, .f32⟩
  | 90 => ⟨S_, .f32⟩
  | 91 => ⟨S_, .f32⟩
  | 92 => ⟨S_, .f32⟩
  | 93 => ⟨S8192, .f32⟩
  | 94 => ⟨S8192x1, .f32⟩
  | 95 => ⟨S8192x1, .f32⟩
  | 96 => ⟨S8192x1, .f32⟩
  | 97 => ⟨S_, .f32⟩
  | 98 => ⟨S_, .i1⟩
  | 99 => ⟨S_, .f32⟩
  | 100 => ⟨S_, .f32⟩
  | 101 => ⟨S8192x1, .f32⟩
  | 102 => ⟨S8192x1, .f32⟩
  | 103 => ⟨S8192x96, .f32⟩
  | 104 => ⟨S8192x96, .f32⟩
  | 105 => ⟨S_, .f32⟩
  | 106 => ⟨S8192x1, .f32⟩
  | 107 => ⟨S8192x1, .f32⟩
  | 108 => ⟨S8192x1, .f32⟩
  | 109 => ⟨S8192x96, .f32⟩
  | 110 => ⟨S8192x96, .f32⟩
  | 111 => ⟨S8192x288, .f32⟩
  | 112 => ⟨S8x1024x288, .f32⟩
  | 113 => ⟨S8x288x1024, .f32⟩
  | _ => ⟨S8192x16, .f32⟩

abbrev hbmTy (i : Nat) : BufTy := match i / 128 with
  | 0 => hbmTy0_0 i
  | 1 => hbmTy0_1 i
  | 2 => hbmTy0_2 i
  | _ => ⟨S8192x16, .f32⟩

abbrev bufTy : (tb : Table) → Fin (tcTables nBuf tb) → BufTy
  | .hbm, ⟨i, _⟩ => hbmTy i
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v11 : Ref sig .tc := ⟨.hbm, 25, rfl⟩
abbrev main_v12 : Ref sig .tc := ⟨.hbm, 26, rfl⟩
abbrev main_values : Ref sig .tc := ⟨.hbm, 27, rfl⟩
abbrev main_indices : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_call2_cst : Ref sig .tc := ⟨.hbm, 54, rfl⟩
abbrev main_call2_v0 : Ref sig .tc := ⟨.hbm, 55, rfl⟩
abbrev main_call2_v1 : Ref sig .tc := ⟨.hbm, 56, rfl⟩
abbrev main_call2_cst_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_cst_1 : Ref sig .tc := ⟨.hbm, 64, rfl⟩
abbrev main_call2_v8 : Ref sig .tc := ⟨.hbm, 65, rfl⟩
abbrev main_call2_cst_2 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_cst_3 : Ref sig .tc := ⟨.hbm, 71, rfl⟩
abbrev main_call2_v13 : Ref sig .tc := ⟨.hbm, 72, rfl⟩
abbrev main_call2_cst_4 : Ref sig .tc := ⟨.hbm, 73, rfl⟩
abbrev main_call2_call0_v0 : Ref sig .tc := ⟨.hbm, 74, rfl⟩
abbrev main_call2_call0_v1 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_6 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_c_7 : Ref sig .tc := ⟨.hbm, 97, rfl⟩
abbrev main_v53 : Ref sig .tc := ⟨.hbm, 98, rfl⟩
abbrev main_v54 : Ref sig .tc := ⟨.hbm, 99, rfl⟩
abbrev main_c_8 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_9 : Ref sig .tc := ⟨.hbm, 106, rfl⟩
abbrev main_v60 : Ref sig .tc := ⟨.hbm, 107, rfl⟩
abbrev main_v61 : Ref sig .tc := ⟨.hbm, 108, rfl⟩
abbrev main_c_10 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_cst_11 : Ref sig .tc := ⟨.hbm, 117, rfl⟩
abbrev main_v69 : Ref sig .tc := ⟨.hbm, 118, rfl⟩
abbrev main_v70 : Ref sig .tc := ⟨.hbm, 119, rfl⟩
abbrev main_cst_12 : Ref sig .tc := ⟨.hbm, 120, rfl⟩
abbrev main_v71 : Ref sig .tc := ⟨.hbm, 121, rfl⟩
abbrev main_cst_13 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_14 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_15 : Ref sig .tc := ⟨.hbm, 140, rfl⟩
abbrev main_v88 : Ref sig .tc := ⟨.hbm, 141, rfl⟩
abbrev main_v89 : Ref sig .tc := ⟨.hbm, 142, rfl⟩
abbrev main_cst_16 : Ref sig .tc := ⟨.hbm, 143, rfl⟩
abbrev main_v90 : Ref sig .tc := ⟨.hbm, 144, rfl⟩
abbrev main_v91 : Ref sig .tc := ⟨.hbm, 145, rfl⟩
abbrev main_c_17 : Ref sig .tc := ⟨.hbm, 146, rfl⟩
abbrev main_call3_cst : Ref sig .tc := ⟨.hbm, 147, rfl⟩
abbrev main_call3_v0 : Ref sig .tc := ⟨.hbm, 148, rfl⟩
abbrev main_call3_v1 : Ref sig .tc := ⟨.hbm, 149, rfl⟩
abbrev main_call3_cst_0 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_call3_v5 : Ref sig .tc := ⟨.hbm, 154, rfl⟩
abbrev main_call3_v6 : Ref sig .tc := ⟨.hbm, 155, rfl⟩
abbrev main_call3_v7 : Ref sig .tc := ⟨.hbm, 156, rfl⟩
abbrev main_call3_cst_1 : Ref sig .tc := ⟨.hbm, 157, rfl⟩
abbrev main_call3_v8 : Ref sig .tc := ⟨.hbm, 158, rfl⟩
abbrev main_call3_cst_2 : Ref sig .tc := ⟨.hbm, 159, rfl⟩
abbrev main_call3_v9 : Ref sig .tc := ⟨.hbm, 160, rfl⟩
abbrev main_call3_v10 : Ref sig .tc := ⟨.hbm, 161, rfl⟩
abbrev main_call3_v11 : Ref sig .tc := ⟨.hbm, 162, rfl⟩
abbrev main_call3_v12 : Ref sig .tc := ⟨.hbm, 163, rfl⟩
abbrev main_call3_cst_3 : Ref sig .tc := ⟨.hbm, 164, rfl⟩
abbrev main_call3_v13 : Ref sig .tc := ⟨.hbm, 165, rfl⟩
abbrev main_call3_cst_4 : Ref sig .tc := ⟨.hbm, 166, rfl⟩
abbrev main_call3_call0_v0 : Ref sig .tc := ⟨.hbm, 167, rfl⟩
abbrev main_call3_call0_v1 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_cst_18 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_call4_cst : Ref sig .tc := ⟨.hbm, 181, rfl⟩
abbrev main_call4_v0 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_cst_19 : Ref sig .tc := ⟨.hbm, 188, rfl⟩
abbrev main_v108 : Ref sig .tc := ⟨.hbm, 189, rfl⟩
abbrev main_v109 : Ref sig .tc := ⟨.hbm, 190, rfl⟩
abbrev main_cst_20 : Ref sig .tc := ⟨.hbm, 191, rfl⟩
abbrev main_v110 : Ref sig .tc := ⟨.hbm, 192, rfl⟩
abbrev main_v111 : Ref sig .tc := ⟨.hbm, 193, rfl⟩
abbrev main_c_21 : Ref sig .tc := ⟨.hbm, 194, rfl⟩
abbrev main_call5_cst : Ref sig .tc := ⟨.hbm, 195, rfl⟩
abbrev main_call5_v0 : Ref sig .tc := ⟨.hbm, 196, rfl⟩
abbrev main_call5_v1 : Ref sig .tc := ⟨.hbm, 197, rfl⟩
abbrev main_call5_cst_0 : Ref sig .tc := ⟨.hbm, 198, rfl⟩
abbrev main_call5_v2 : Ref sig .tc := ⟨.hbm, 199, rfl⟩
abbrev main_call5_v3 : Ref sig .tc := ⟨.hbm, 200, rfl⟩
abbrev main_call5_v4 : Ref sig .tc := ⟨.hbm, 201, rfl⟩
abbrev main_call5_v5 : Ref sig .tc := ⟨.hbm, 202, rfl⟩
abbrev main_call5_v6 : Ref sig .tc := ⟨.hbm, 203, rfl⟩
abbrev main_call5_v7 : Ref sig .tc := ⟨.hbm, 204, rfl⟩
abbrev main_call5_cst_1 : Ref sig .tc := ⟨.hbm, 205, rfl⟩
abbrev main_call5_v8 : Ref sig .tc := ⟨.hbm, 206, rfl⟩
abbrev main_call5_cst_2 : Ref sig .tc := ⟨.hbm, 207, rfl⟩
abbrev main_call5_v9 : Ref sig .tc := ⟨.hbm, 208, rfl⟩
abbrev main_call5_v10 : Ref sig .tc := ⟨.hbm, 209, rfl⟩
abbrev main_call5_v11 : Ref sig .tc := ⟨.hbm, 210, rfl⟩
abbrev main_call5_v12 : Ref sig .tc := ⟨.hbm, 211, rfl⟩
abbrev main_call5_cst_3 : Ref sig .tc := ⟨.hbm, 212, rfl⟩
abbrev main_call5_v13 : Ref sig .tc := ⟨.hbm, 213, rfl⟩
abbrev main_call5_cst_4 : Ref sig .tc := ⟨.hbm, 214, rfl⟩
abbrev main_call5_call0_v0 : Ref sig .tc := ⟨.hbm, 215, rfl⟩
abbrev main_call5_call0_v1 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_cst_22 : Ref sig .tc := ⟨.hbm, 220, rfl⟩
abbrev main_v115 : Ref sig .tc := ⟨.hbm, 221, rfl⟩
abbrev main_v116 : Ref sig .tc := ⟨.hbm, 222, rfl⟩
abbrev main_v117 : Ref sig .tc := ⟨.hbm, 223, rfl⟩
abbrev main_v118 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_v122 : Ref sig .tc := ⟨.hbm, 228, rfl⟩
abbrev main_v123 : Ref sig .tc := ⟨.hbm, 229, rfl⟩
abbrev main_v124 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_v129 : Ref sig .tc := ⟨.hbm, 235, rfl⟩
abbrev main_v130 : Ref sig .tc := ⟨.hbm, 236, rfl⟩
abbrev main_v131 : Ref sig .tc := ⟨.hbm, 237, rfl⟩
abbrev main_c_23 : Ref sig .tc := ⟨.hbm, 238, rfl⟩
abbrev main_v132 : Ref sig .tc := ⟨.hbm, 239, rfl⟩
abbrev main_v133 : Ref sig .tc := ⟨.hbm, 240, rfl⟩
abbrev main_c_24 : Ref sig .tc := ⟨.hbm, 241, rfl⟩
abbrev main_v134 : Ref sig .tc := ⟨.hbm, 242, rfl⟩
abbrev main_v135 : Ref sig .tc := ⟨.hbm, 243, rfl⟩
abbrev main_v136 : Ref sig .tc := ⟨.hbm, 244, rfl⟩
abbrev main_v137 : Ref sig .tc := ⟨.hbm, 245, rfl⟩
abbrev main_v138 : Ref sig .tc := ⟨.hbm, 246, rfl⟩
abbrev main_c_25 : Ref sig .tc := ⟨.hbm, 247, rfl⟩
abbrev main_v139 : Ref sig .tc := ⟨.hbm, 248, rfl⟩
abbrev main_v140 : Ref sig .tc := ⟨.hbm, 249, rfl⟩
abbrev main_c_26 : Ref sig .tc := ⟨.hbm, 250, rfl⟩
abbrev main_v141 : Ref sig .tc := ⟨.hbm, 251, rfl⟩
abbrev main_v142 : Ref sig .tc := ⟨.hbm, 252, rfl⟩
abbrev main_v143 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev main_cst_27 : Ref sig .tc := ⟨.hbm, 258, rfl⟩
abbrev main_v148 : Ref sig .tc := ⟨.hbm, 259, rfl⟩
abbrev main_v149 : Ref sig .tc := ⟨.hbm, 260, rfl⟩
abbrev main_cst_28 : Ref sig .tc := ⟨.hbm, 261, rfl⟩
abbrev main_v150 : Ref sig .tc := ⟨.hbm, 262, rfl⟩
abbrev main_cst_29 : Ref sig .tc := ⟨.hbm, 263, rfl⟩
abbrev main_v151 : Ref sig .tc := ⟨.hbm, 264, rfl⟩
abbrev main_v152 : Ref sig .tc := ⟨.hbm, 265, rfl⟩
abbrev main_v153 : Ref sig .tc := ⟨.hbm, 266, rfl⟩
abbrev main_v154 : Ref sig .tc := ⟨.hbm, 267, rfl⟩
abbrev main_v155 : Ref sig .tc := ⟨.hbm, 268, rfl⟩
abbrev main_v156 : Ref sig .tc := ⟨.hbm, 269, rfl⟩
abbrev main_cst_30 : Ref sig .tc := ⟨.hbm, 270, rfl⟩
abbrev main_v157 : Ref sig .tc := ⟨.hbm, 271, rfl⟩
abbrev main_v158 : Ref sig .tc := ⟨.hbm, 272, rfl⟩
abbrev main_v159 : Ref sig .tc := ⟨.hbm, 273, rfl⟩
abbrev main_v160 : Ref sig .tc := ⟨.hbm, 274, rfl⟩
abbrev main_v161 : Ref sig .tc := ⟨.hbm, 275, rfl⟩
abbrev main_v162 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_cst_31 : Ref sig .tc := ⟨.hbm, 281, rfl⟩
abbrev main_v167 : Ref sig .tc := ⟨.hbm, 282, rfl⟩
abbrev main_v168 : Ref sig .tc := ⟨.hbm, 283, rfl⟩
abbrev main_cst_32 : Ref sig .tc := ⟨.hbm, 284, rfl⟩
abbrev main_v169 : Ref sig .tc := ⟨.hbm, 285, rfl⟩
abbrev main_v170 : Ref sig .tc := ⟨.hbm, 286, rfl⟩
abbrev main_c_33 : Ref sig .tc := ⟨.hbm, 287, rfl⟩
abbrev main_call6_cst : Ref sig .tc := ⟨.hbm, 288, rfl⟩
abbrev main_call6_v0 : Ref sig .tc := ⟨.hbm, 289, rfl⟩
abbrev main_call6_v1 : Ref sig .tc := ⟨.hbm, 290, rfl⟩
abbrev main_call6_cst_0 : Ref sig .tc := ⟨.hbm, 291, rfl⟩
abbrev main_call6_v2 : Ref sig .tc := ⟨.hbm, 292, rfl⟩
abbrev main_call6_v3 : Ref sig .tc := ⟨.hbm, 293, rfl⟩
abbrev main_call6_v4 : Ref sig .tc := ⟨.hbm, 294, rfl⟩
abbrev main_call6_v5 : Ref sig .tc := ⟨.hbm, 295, rfl⟩
abbrev main_call6_v6 : Ref sig .tc := ⟨.hbm, 296, rfl⟩
abbrev main_call6_v7 : Ref sig .tc := ⟨.hbm, 297, rfl⟩
abbrev main_call6_cst_1 : Ref sig .tc := ⟨.hbm, 298, rfl⟩
abbrev main_call6_v8 : Ref sig .tc := ⟨.hbm, 299, rfl⟩
abbrev main_call6_cst_2 : Ref sig .tc := ⟨.hbm, 300, rfl⟩
abbrev main_call6_v9 : Ref sig .tc := ⟨.hbm, 301, rfl⟩
abbrev main_call6_v10 : Ref sig .tc := ⟨.hbm, 302, rfl⟩
abbrev main_call6_v11 : Ref sig .tc := ⟨.hbm, 303, rfl⟩
abbrev main_call6_v12 : Ref sig .tc := ⟨.hbm, 304, rfl⟩
abbrev main_call6_cst_3 : Ref sig .tc := ⟨.hbm, 305, rfl⟩
abbrev main_call6_v13 : Ref sig .tc := ⟨.hbm, 306, rfl⟩
abbrev main_call6_cst_4 : Ref sig .tc := ⟨.hbm, 307, rfl⟩
abbrev main_call6_call0_v0 : Ref sig .tc := ⟨.hbm, 308, rfl⟩
abbrev main_call6_call0_v1 : Ref sig .tc := ⟨.hbm, 309, rfl⟩
abbrev main_v171 : Ref sig .tc := ⟨.hbm, 310, rfl⟩
abbrev main_v172 : Ref sig .tc := ⟨.hbm, 311, rfl⟩
abbrev main_v173 : Ref sig .tc := ⟨.hbm, 312, rfl⟩
abbrev main_cst_34 : Ref sig .tc := ⟨.hbm, 313, rfl⟩
abbrev main_v174 : Ref sig .tc := ⟨.hbm, 314, rfl⟩
abbrev main_v175 : Ref sig .tc := ⟨.hbm, 315, rfl⟩
abbrev main_v176 : Ref sig .tc := ⟨.hbm, 316, rfl⟩
abbrev main_v177 : Ref sig .tc := ⟨.hbm, 317, rfl⟩
abbrev main_v178 : Ref sig .tc := ⟨.hbm, 318, rfl⟩
abbrev main_v179 : Ref sig .tc := ⟨.hbm, 319, rfl⟩
abbrev main_v180 : Ref sig .tc := ⟨.hbm, 320, rfl⟩
abbrev main_v181 : Ref sig .tc := ⟨.hbm, 321, rfl⟩
abbrev main_call7_cst : Ref sig .tc := ⟨.hbm, 322, rfl⟩
abbrev main_call7_v0 : Ref sig .tc := ⟨.hbm, 323, rfl⟩
abbrev main_v182 : Ref sig .tc := ⟨.hbm, 324, rfl⟩
abbrev main_v183 : Ref sig .tc := ⟨.hbm, 325, rfl⟩
abbrev main_v184 : Ref sig .tc := ⟨.hbm, 326, rfl⟩
abbrev main_v185 : Ref sig .tc := ⟨.hbm, 327, rfl⟩
abbrev main_v186 : Ref sig .tc := ⟨.hbm, 328, rfl⟩
abbrev main_cst_35 : Ref sig .tc := ⟨.hbm, 329, rfl⟩
abbrev main_v187 : Ref sig .tc := ⟨.hbm, 330, rfl⟩
abbrev main_v188 : Ref sig .tc := ⟨.hbm, 331, rfl⟩
abbrev main_cst_36 : Ref sig .tc := ⟨.hbm, 332, rfl⟩
abbrev main_v189 : Ref sig .tc := ⟨.hbm, 333, rfl⟩
abbrev main_v190 : Ref sig .tc := ⟨.hbm, 334, rfl⟩
abbrev main_c_37 : Ref sig .tc := ⟨.hbm, 335, rfl⟩
abbrev main_call8_cst : Ref sig .tc := ⟨.hbm, 336, rfl⟩
abbrev main_call8_v0 : Ref sig .tc := ⟨.hbm, 337, rfl⟩
abbrev main_call8_v1 : Ref sig .tc := ⟨.hbm, 338, rfl⟩
abbrev main_call8_cst_0 : Ref sig .tc := ⟨.hbm, 339, rfl⟩
abbrev main_call8_v2 : Ref sig .tc := ⟨.hbm, 340, rfl⟩
abbrev main_call8_v3 : Ref sig .tc := ⟨.hbm, 341, rfl⟩
abbrev main_call8_v4 : Ref sig .tc := ⟨.hbm, 342, rfl⟩
abbrev main_call8_v5 : Ref sig .tc := ⟨.hbm, 343, rfl⟩
abbrev main_call8_v6 : Ref sig .tc := ⟨.hbm, 344, rfl⟩
abbrev main_call8_v7 : Ref sig .tc := ⟨.hbm, 345, rfl⟩
abbrev main_call8_cst_1 : Ref sig .tc := ⟨.hbm, 346, rfl⟩
abbrev main_call8_v8 : Ref sig .tc := ⟨.hbm, 347, rfl⟩
abbrev main_call8_cst_2 : Ref sig .tc := ⟨.hbm, 348, rfl⟩
abbrev main_call8_v9 : Ref sig .tc := ⟨.hbm, 349, rfl⟩
abbrev main_call8_v10 : Ref sig .tc := ⟨.hbm, 350, rfl⟩
abbrev main_call8_v11 : Ref sig .tc := ⟨.hbm, 351, rfl⟩
abbrev main_call8_v12 : Ref sig .tc := ⟨.hbm, 352, rfl⟩
abbrev main_call8_cst_3 : Ref sig .tc := ⟨.hbm, 353, rfl⟩
abbrev main_call8_v13 : Ref sig .tc := ⟨.hbm, 354, rfl⟩
abbrev main_call8_cst_4 : Ref sig .tc := ⟨.hbm, 355, rfl⟩
abbrev main_call8_call0_v0 : Ref sig .tc := ⟨.hbm, 356, rfl⟩
abbrev main_call8_call0_v1 : Ref sig .tc := ⟨.hbm, 357, rfl⟩
abbrev main_v191 : Ref sig .tc := ⟨.hbm, 358, rfl⟩
abbrev main_v192 : Ref sig .tc := ⟨.hbm, 359, rfl⟩
abbrev main_v193 : Ref sig .tc := ⟨.hbm, 360, rfl⟩
abbrev main_cst_38 : Ref sig .tc := ⟨.hbm, 361, rfl⟩
abbrev main_v194 : Ref sig .tc := ⟨.hbm, 362, rfl⟩
abbrev main_v195 : Ref sig .tc := ⟨.hbm, 363, rfl⟩
abbrev main_v196 : Ref sig .tc := ⟨.hbm, 364, rfl⟩
abbrev main_v197 : Ref sig .tc := ⟨.hbm, 365, rfl⟩
abbrev main_v198 : Ref sig .tc := ⟨.hbm, 366, rfl⟩
abbrev main_v199 : Ref sig .tc := ⟨.hbm, 367, rfl⟩
abbrev main_v200 : Ref sig .tc := ⟨.hbm, 368, rfl⟩
abbrev main_v201 : Ref sig .tc := ⟨.hbm, 369, rfl⟩

abbrev nD : Nat := 1
abbrev τ : Topo := Topo.v7x

variable {F : FTy → Type} [FloatOps F]
-- ==== Proof.Common.Owned.lean ====
module

public import Idealize.ShloMosaic.Rules.Step
public import Idealize.ShloMosaic.Lib.Memref
public import Idealize.ShloMosaic.Lib.Tactic

/-! A load and a store through a rectangle of a memref held at known contents. -/

@[expose] public section

namespace Cert.Owned

open Idealize.ShloMosaic Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- What a memref reads after a store through one of its rectangles. -/
theorem read_store {κ : Kind} {sp : Space} (v : View sig κ sp s e) (r : Rect s) (f : v.ty.Contents Val) (w : r.shape.Idx → Val e) :
    v.read Val ((v.slice r).write Val f w Finset.univ) = r.overlay (v.read Val f) w := by
  funext j
  by_cases hj : j ∈ Finset.univ.map r.emb
  · obtain ⟨i, -, rfl⟩ := Finset.mem_map.mp hj
    rw [View.read_slice_write_emb r f w (Finset.mem_univ i), Rect.overlay_emb]
  · rw [View.read_slice_write_of_not_mem r f w _ hj, Rect.overlay_of_not_mem _ _ _ (by rwa [← Rect.map_emb_univ])]

/-- A load gives the contents under the rectangle. -/
theorem wp_load {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k fun i => X (r.emb i)) Q)
        -∗ wp frame (wpE defs 𝒱 c bd) E (.op (.load m r hl) k) Q) := by
  unfold owns
  iintro ⟨%f, %hf, H⟩ HK
  have h : (m.view.loc c ↦[m.view.set]{q} f : sProp (MT nD τ sig Ix Val Name U Lvl))
      ⊢ iprop(((m.view.loc c ↦[m.view.set]{q} f) -∗ wp frame (wpE defs 𝒱 c bd) E (k fun i => m.view.read Val f (r.emb i)) Q)
        -∗ wp frame (wpE defs 𝒱 c bd) E (.op (.load m r hl) k) Q) :=
    Idealize.ShloMosaic.wp_load_rect 𝒱 c bd E (k := k) (f := f) (m := m) (r := r) (hl := hl) (S := m.view.set) (View.set_slice_subset _ r)
  iapply h $$ H
  iintro H
  subst hf
  iapply HK
  iexists f
  isplitr
  · ipureintro; rfl
  iexact H

/-- A store replaces the contents under the rectangle. -/
theorem wp_store {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp (MT nD τ sig Ix Val Name U Lvl))
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ HK
  have h : (m.view.loc c ↦[m.view.set]{fullShare} f : sProp (MT nD τ sig Ix Val Name U Lvl))
      ⊢ iprop(((m.view.loc c ↦[m.view.set]{fullShare} (m.view.slice r).write Val f w Finset.univ) -∗ wp frame (wpE defs 𝒱 c bd) E (k ⟨⟩) Q)
        -∗ wp frame (wpE defs 𝒱 c bd) E (.op (.store m r w Finset.univ hx hm) k) Q) :=
    Idealize.ShloMosaic.wp_store 𝒱 c bd E (w := w) (hx := hx) (hm := hm) (k := k) (Mk := Finset.univ) (f := f) (m := m) (r := r)
      (S := m.view.set) (View.set_slice_subset _ r)
  iapply h $$ H
  iintro H
  iapply HK
  iexists _
  isplitr
  swap
  · iexact H
  ipureintro
  rw [← hf]
  exact read_store m.view r f w

end Cert.Owned
-- ==== Proof.TransformerIdeal.Program.lean ====
module

public import proofs.«01_k».proof.TransformerIdeal

/-! The transformer kernel's body with its layers and heads as definitions. The printed body is written out head by head
    and cut into windows. -/

@[expose] public section

noncomputable section

namespace Cert.TransformerIdeal

open Idealize.ShloMosaic Idealize.SL.Sem
open Facts₀ Facts

variable {F : FTy → Type} [FloatOps F] [Facts]

/-- A number for each pair of points. -/
abbrev Pair (F : FTy → Type) : Type := FVec F S1024x1024 .f32

/-- A row of activations for each point. -/
abbrev Act (F : FTy → Type) : Type := FVec F S1024x96 .f32

/-- One square of a difference of coordinates. -/
abbrev gap (col : FVec F S1024x1 .f32) (row : Vec F S1x1x1024 .f32) : Pair F :=
  mulf (subf (broadcastTo S1024x1024 col broadcasts_S1024x1_S1024x1024)
      (broadcastTo S1024x1024 (shapeCast S1x1024 row shapeCasts_S1x1x1024_S1x1024 : FVec F S1x1024 .f32) broadcasts_S1x1024_S1024x1024))
    (subf (broadcastTo S1024x1024 col broadcasts_S1024x1_S1024x1024)
      (broadcastTo S1024x1024 (shapeCast S1x1024 row shapeCasts_S1x1x1024_S1x1024 : FVec F S1x1024 .f32) broadcasts_S1x1024_S1024x1024))

/-- The squared distances between the points. -/
def sqDist (x : FVec F S1024x8 .f32) (p q r : Vec F S1x1x1024 .f32) : Pair F :=
  addf (addf (gap (extractStridedSlice S1024x1 ![0, 3] x slices_S1024x8_o0_3_S1024x1) p)
    (gap (extractStridedSlice S1024x1 ![0, 4] x slices_S1024x8_o0_4_S1024x1) q))
    (gap (extractStridedSlice S1024x1 ![0, 5] x slices_S1024x8_o0_5_S1024x1) r)

/-- Whether two points are within the radius, -/
def near (d : Pair F) : IVec S1024x1024 1 := cmpf .ole d (broadcast S1024x1024 (Scalar.ofBits .f32 0x3C23D70A#32 : F .f32))

/-- as a number. -/
def nearOne (d : Pair F) : Pair F := sitofp .f32 (extui 32 (near d) natLt_1_32)

/-- How many points are within the radius of each. -/
def count (d : Pair F) : FVec F S1024x1 .f32 :=
  shapeCast S1024x1 (multiReduction .add [1] S1024 (nearOne d) 0x00000000#32 reduces_S1024x1024_S1024 (.inl rfl) rfl) shapeCasts_S1024_S1024x1

/-- The greatest of these counts. -/
def most (d : Pair F) : F .f32 :=
  extractAt ![0, 0, 0] (shapeCast S1x1x1 (multiReduction .maximumf [1, 2] S1 (shapeCast S1x1024x1 (count d) shapeCasts_S1024x1_S1x1024x1)
    0xFF800000#32 reduces_S1x1024x1_S1 (.inl rfl) rfl : FVec F S1 .f32) shapeCasts_S1_S1x1x1) inpos_S1x1x1_p0_0_0

/-- The column of each pair, as a number. -/
def colNo : Pair F := sitofp .f32 (iota .tc S1024x1024 32 [1] iota_S1024x1024_d1_w32)

/-- The multiplicities when no point has more than 34 near ones: each near one once, the rest of the 34 the point itself. -/
def weightFew (d : Pair F) : Pair F :=
  addf (nearOne d) (select (cmpi .eq (iota .tc S1024x1024 32 [1] iota_S1024x1024_d1_w32) (iota .tc S1024x1024 32 [0] iota_S1024x1024_d0_w32))
    (broadcastTo S1024x1024 (shapeCast S1024x1 (subf (broadcast S1024x1 (Scalar.ofBits .f32 0x42080000#32 : F .f32)) (count d)) shapeCasts_S1024x1_S1024x1)
      broadcasts_S1024x1_S1024x1024) (broadcast S1024x1024 (Scalar.ofBits .f32 0x00000000#32 : F .f32)))

/-- Whether some point has more than 34. -/
abbrev many (mx : F .f32) : Prop :=
  Scalar.cmpi .ne (Scalar.extui (Scalar.cmpf .ogt mx (Scalar.ofBits .f32 0x42080000#32 : F .f32)) : BitVec 32) 0#32 = 1#1

/-- The distances that are searched for the 34 nearest. -/
def search₀ (d : Pair F) : Pair F := select (near d) d (broadcast S1024x1024 (Scalar.ofBits .f32 0x7F800000#32 : F .f32))

/-- Each row's least distance, -/
def least (w : Pair F) : FVec F S1024x1 .f32 :=
  shapeCast S1024x1 (multiReduction .minimumf [1] S1024 w 0x7F800000#32 reduces_S1024x1024_S1024 (.inl rfl) rfl) shapeCasts_S1024_S1024x1

/-- the first column where it is, -/
def leastAt (w : Pair F) : FVec F S1024x1 .f32 :=
  shapeCast S1024x1 (multiReduction .minimumf [1] S1024
    (select (cmpf .oeq w (broadcastTo S1024x1024 (least w) broadcasts_S1024x1_S1024x1024)) (colNo : Pair F)
      (broadcast S1024x1024 (Scalar.ofBits .f32 0x4EEE6B28#32 : F .f32))) 0x7F800000#32 reduces_S1024x1024_S1024 (.inl rfl) rfl) shapeCasts_S1024_S1024x1

/-- and whether it is not infinite. -/
def leastIn (w : Pair F) : IVec S1024x1 1 := cmpf .one (least w) (broadcast S1024x1 (Scalar.ofBits .f32 0x7F800000#32 : F .f32))

/-- A round's multiplicities: one more for the nearest left, or for the point itself when none is left, -/
def weightNext (w c : Pair F) : Pair F :=
  addf c (sitofp .f32 (extui 32 (cmpf .oeq (colNo : Pair F) (broadcastTo S1024x1024
    (select (leastIn w) (leastAt w) (sitofp .f32 (iota .tc S1024x1 32 [0] iota_S1024x1_d0_w32) : FVec F S1024x1 .f32))
    broadcasts_S1024x1_S1024x1024)) natLt_1_32))

/-- and the distances left. -/
def searchNext (w : Pair F) : Pair F :=
  select (andi (cmpf .oeq (colNo : Pair F) (broadcastTo S1024x1024 (leastAt w) broadcasts_S1024x1_S1024x1024))
      (broadcastTo S1024x1024 (leastIn w) broadcasts_S1024x1_S1024x1024))
    (broadcast S1024x1024 (Scalar.ofBits .f32 0x7F800000#32 : F .f32)) w

/-- A row's mean. -/
def mean (x : Act F) : FVec F S1024x1 .f32 :=
  divf (shapeCast S1024x1 (multiReduction .add [1] S1024 x 0x00000000#32 reduces_S1024x96_S1024 (.inl rfl) rfl) shapeCasts_S1024_S1024x1)
    (broadcast S1024x1 (Scalar.ofBits .f32 0x42C00000#32 : F .f32))

/-- The activations less their rows' means. -/
def centred (x : Act F) : Act F := subf x (broadcastTo S1024x96 (mean x) broadcasts_S1024x1_S1024x96)

/-- The normalized activations. -/
def layerNorm (x : Act F) : Act F :=
  mulf (centred x) (broadcastTo S1024x96 (rsqrt (addf (mean (mulf (centred x) (centred x)))
    (broadcast S1024x1 (Scalar.ofBits .f32 0x3727C5AC#32 : F .f32)))) broadcasts_S1024x1_S1024x96)

/-- The queries, keys and values of a head, side by side. -/
def proj (xn : Act F) (w : Vec F S1x1x96x48 .f32) : FVec F S1024x48 .f32 :=
  matmul dot_S1024x96_S96x48_S1024x48_1_0_0_1_n_n none xn (shapeCast S96x48 w shapeCasts_S1x1x96x48_S96x48 : FVec F S96x48 .f32)
    (constant S1024x48 .f32 0x00000000#32)

/-- The logits of a head, the logarithm of the multiplicity added. -/
def logit (lc : Pair F) (y : FVec F S1024x48 .f32) : Pair F :=
  addf (mulf (matmul dot_S1024x16_S1024x16_S1024x1024_1_1_0_0_n_n none
      (extractStridedSlice S1024x16 ![0, 0] y slices_S1024x48_o0_0_S1024x16 : FVec F S1024x16 .f32)
      (extractStridedSlice S1024x16 ![0, 16] y slices_S1024x48_o0_16_S1024x16 : FVec F S1024x16 .f32) (constant S1024x1024 .f32 0x00000000#32))
    (broadcast S1024x1024 (Scalar.ofBits .f32 0x3E800000#32 : F .f32))) lc

/-- Their exponentials. -/
def expo (z : Pair F) : Pair F :=
  exp (subf z (broadcastTo S1024x1024 (shapeCast S1024x1 (multiReduction .maximumf [1] S1024 z 0xFF800000#32 reduces_S1024x1024_S1024 (.inl rfl) rfl)
    shapeCasts_S1024_S1024x1 : FVec F S1024x1 .f32) broadcasts_S1024x1_S1024x1024))

/-- The values with a column of ones, summed with the exponentials as weights. -/
def summed (e : Pair F) (y : FVec F S1024x48 .f32) : FVec F S1024x17 .f32 :=
  matmul dot_S1024x1024_S1024x17_S1024x17_1_0_0_1_n_n none e
    (concatenate S1024x17 1 [⟨S1024x16, (extractStridedSlice S1024x16 ![0, 32] y slices_S1024x48_o0_32_S1024x16 : FVec F S1024x16 .f32)⟩,
      ⟨S1024x1, (broadcast S1024x1 (Scalar.ofBits .f32 0x3F800000#32 : F .f32) : FVec F S1024x1 .f32)⟩] concatenates_S1024x16_S1024x1_S1024x17_d1 : FVec F S1024x17 .f32)
    (constant S1024x17 .f32 0x00000000#32)

/-- One head. -/
def head (lc : Pair F) (xn : Act F) (w : Vec F S1x1x96x48 .f32) : FVec F S1024x16 .f32 :=
  divf (extractStridedSlice S1024x16 ![0, 0] (summed (expo (logit lc (proj xn w))) (proj xn w)) slices_S1024x17_o0_0_S1024x16)
    (broadcastTo S1024x16 (extractStridedSlice S1024x1 ![0, 16] (summed (expo (logit lc (proj xn w))) (proj xn w)) slices_S1024x17_o0_16_S1024x1 : FVec F S1024x1 .f32)
      broadcasts_S1024x1_S1024x16)

/-- The heads side by side. -/
def heads (lc : Pair F) (xn : Act F) (w0 w1 w2 w3 w4 w5 : Vec F S1x1x96x48 .f32) : Act F :=
  concatenate S1024x96 1 [⟨S1024x16, head lc xn w0⟩, ⟨S1024x16, head lc xn w1⟩, ⟨S1024x16, head lc xn w2⟩, ⟨S1024x16, head lc xn w3⟩,
    ⟨S1024x16, head lc xn w4⟩, ⟨S1024x16, head lc xn w5⟩]
    concatenates_S1024x16_S1024x16_S1024x16_S1024x16_S1024x16_S1024x16_S1024x96_d1

/-- The activations after attention. -/
def attend (x o : Act F) (wo : Vec F S1x96x96 .f32) : Act F :=
  addf x (matmul dot_S1024x96_S96x96_S1024x96_1_0_0_1_n_n none o (shapeCast S96x96 wo shapeCasts_S1x96x96_S96x96 : FVec F S96x96 .f32)
    (constant S1024x96 .f32 0x00000000#32))

/-- The hidden layer. -/
def hidden (x : Act F) (w1 : Vec F S1x96x384 .f32) : FVec F S1024x384 .f32 :=
  maximumf (matmul dot_S1024x96_S96x384_S1024x384_1_0_0_1_n_n none (layerNorm x) (shapeCast S96x384 w1 shapeCasts_S1x96x384_S96x384 : FVec F S96x384 .f32)
    (constant S1024x384 .f32 0x00000000#32)) (broadcast S1024x384 (Scalar.ofBits .f32 0x00000000#32 : F .f32))

/-- The activations after the two dense layers. -/
def dense (x : Act F) (h : FVec F S1024x384 .f32) (w2 : Vec F S1x384x96 .f32) : Act F :=
  addf x (matmul dot_S1024x384_S384x96_S1024x96_1_0_0_1_n_n none h (shapeCast S384x96 w2 shapeCasts_S1x384x96_S384x96 : FVec F S384x96 .f32)
    (constant S1024x96 .f32 0x00000000#32))

/-- The first activations. -/
def embed (x : FVec F S1024x8 .f32) (w : Vec F S8x96 .f32) : Act F :=
  matmul dot_S1024x8_S8x96_S1024x96_1_0_0_1_n_n none x (shapeCast S8x96 w shapeCasts_S8x96_S8x96 : FVec F S8x96 .f32) (constant S1024x96 .f32 0x00000000#32)

/-- The block of the result. -/
def project (x : Act F) (w : Vec F S96x288 .f32) : Vec F S1x1024x288 .f32 :=
  shapeCast S1x1024x288 (matmul dot_S1024x96_S96x288_S1024x288_1_0_0_1_n_n none (layerNorm x) w (constant S1024x288 .f32 0x00000000#32) : FVec F S1024x288 .f32)
    shapeCasts_S1024x288_S1x1024x288

theorem head_inb (l h : Nat) (hl : l < 2) (hh : h < 6) :
    ∀ i, (![l, h, 0, 0] : Fin 4 → Nat) i + S1x1x96x48.size i ≤ S2x6x96x48.size i := by
  intro i
  fin_cases i
  · show l + 1 ≤ 2; omega
  · show h + 1 ≤ 6; omega
  · show 0 + 96 ≤ 96; omega
  · show 0 + 48 ≤ 48; omega

/-- Where a head's projection lies. -/
abbrev headRect (l h : Nat) (hl : l < 2) (hh : h < 6) : Rect S2x6x96x48 :=
  Rect.unit (s := S2x6x96x48) ![l, h, 0, 0] S1x1x96x48.size (head_inb l h hl hh)

theorem wo_inb (l : Nat) (hl : l < 2) : ∀ i, (![l, 0, 0] : Fin 3 → Nat) i + S1x96x96.size i ≤ S2x96x96.size i := by
  intro i
  fin_cases i
  · show l + 1 ≤ 2; omega
  · show 0 + 96 ≤ 96; omega
  · show 0 + 96 ≤ 96; omega
theorem w1_inb (l : Nat) (hl : l < 2) : ∀ i, (![l, 0, 0] : Fin 3 → Nat) i + S1x96x384.size i ≤ S2x96x384.size i := by
  intro i
  fin_cases i
  · show l + 1 ≤ 2; omega
  · show 0 + 96 ≤ 96; omega
  · show 0 + 384 ≤ 384; omega
theorem w2_inb (l : Nat) (hl : l < 2) : ∀ i, (![l, 0, 0] : Fin 3 → Nat) i + S1x384x96.size i ≤ S2x384x96.size i := by
  intro i
  fin_cases i
  · show l + 1 ≤ 2; omega
  · show 0 + 384 ≤ 384; omega
  · show 0 + 96 ≤ 96; omega

/-- Where a layer's weights lie. -/
abbrev woRect (l : Nat) (hl : l < 2) : Rect S2x96x96 := Rect.unit (s := S2x96x96) ![l, 0, 0] S1x96x96.size (wo_inb l hl)
abbrev w1Rect (l : Nat) (hl : l < 2) : Rect S2x96x384 := Rect.unit (s := S2x96x384) ![l, 0, 0] S1x96x384.size (w1_inb l hl)
abbrev w2Rect (l : Nat) (hl : l < 2) : Rect S2x384x96 := Rect.unit (s := S2x384x96) ![l, 0, 0] S1x384x96.size (w2_inb l hl)

/-- The whole of a scratch buffer. -/
abbrev allRect : Rect S1024x1024 := Rect.unit (s := S1024x1024) ![0, 0] S1024x1024.size inb_S1024x1024_S1024x1024_0_0

variable (arg1 : Memref sig .tc .vmem S1x1024x8 .f32) (arg2 : Memref sig .tc .vmem S1x3x1024 .f32) (arg3 : Memref sig .tc .vmem S8x96 .f32)
  (arg4 : Memref sig .tc .vmem S2x6x96x48 .f32) (arg5 : Memref sig .tc .vmem S2x96x96 .f32) (arg6 : Memref sig .tc .vmem S2x96x384 .f32)
  (arg7 : Memref sig .tc .vmem S2x384x96 .f32) (arg8 : Memref sig .tc .vmem S96x288 .f32) (arg9 : Memref sig .tc .vmem S1x1024x288 .f32)
  (arg10 arg11 : Memref sig .tc .vmem S1024x1024 .f32)

/-- One layer. -/
def layer {β : Type} (l : Nat) (hl : l < 2) (lc : Pair F) (x : Act F) (k : Act F → Prog (TpuEff nD τ sig (Elt F) Λ₀ .tc) β) :
    Prog (TpuEff nD τ sig (Elt F) Λ₀ .tc) β :=
  .op (.load arg4 (headRect l 0 hl (by decide)).toLoadRect (View.loadsAt_vmem h_S1x1x96x48)) fun a =>
  .op (.load arg4 (headRect l 1 hl (by decide)).toLoadRect (View.loadsAt_vmem h_S1x1x96x48)) fun b =>
  .op (.load arg4 (headRect l 2 hl (by decide)).toLoadRect (View.loadsAt_vmem h_S1x1x96x48)) fun c =>
  .op (.load arg4 (headRect l 3 hl (by decide)).toLoadRect (View.loadsAt_vmem h_S1x1x96x48)) fun d =>
  .op (.load arg4 (headRect l 4 hl (by decide)).toLoadRect (View.loadsAt_vmem h_S1x1x96x48)) fun e =>
  .op (.load arg4 (headRect l 5 hl (by decide)).toLoadRect (View.loadsAt_vmem h_S1x1x96x48)) fun f =>
  .op (.load arg5 (woRect l hl).toLoadRect (View.loadsAt_vmem h_S1x96x96)) fun wo =>
  .op (.load arg6 (w1Rect l hl).toLoadRect (View.loadsAt_vmem h_S1x96x384)) fun w1 =>
  .op (.load arg7 (w2Rect l hl).toLoadRect (View.loadsAt_vmem h_S1x384x96)) fun w2 =>
  k (dense (attend x (heads lc (layerNorm x) a b c d e f) wo) (hidden (attend x (heads lc (layerNorm x) a b c d e f) wo) w1) w2)

/-- One round of the search. -/
def searchTrip : Prog (TpuEff nD τ sig (Elt F) Λ₀ .tc) PUnit :=
  .op (.load arg11 allRect.toLoadRect (View.loadsAt_vmem h_S1024x1024)) fun (w : Vec F S1024x1024 .f32) =>
  .op (.load arg10 allRect.toLoadRect (View.loadsAt_vmem h_S1024x1024)) fun (c : Vec F S1024x1024 .f32) =>
  .op (.load arg10 allRect.toLoadRect (View.loadsAt_vmem h_S1024x1024)) fun _ =>
  .op (.store arg10 allRect (shapeCast S1024x1024 (weightNext w c) shapeCasts_S1024x1024_S1024x1024) Finset.univ
    (View.stores_vmem_bits_univ h_S1024x1024 rfl) (.inl rfl)) fun _ =>
  .op (.load arg11 allRect.toLoadRect (View.loadsAt_vmem h_S1024x1024)) fun _ =>
  .op (.store arg11 allRect (shapeCast S1024x1024 (searchNext w) shapeCasts_S1024x1024_S1024x1024) Finset.univ
    (View.stores_vmem_bits_univ h_S1024x1024 rfl) (.inl rfl)) fun _ => .ret ⟨⟩

/-- The search for the 34 nearest. -/
def searching (d : Pair F) : Prog (TpuEff nD τ sig (Elt F) Λ₀ .tc) PUnit :=
  .op (.load arg11 allRect.toLoadRect (View.loadsAt_vmem h_S1024x1024)) fun _ =>
  .op (.store arg11 allRect (shapeCast S1024x1024 (search₀ d) shapeCasts_S1024x1024_S1024x1024) Finset.univ
    (View.stores_vmem_bits_univ h_S1024x1024 rfl) (.inl rfl)) fun _ =>
  .op (.load arg10 allRect.toLoadRect (View.loadsAt_vmem h_S1024x1024)) fun _ =>
  .op (.store arg10 allRect (shapeCast S1024x1024 (broadcast S1024x1024 (Scalar.ofBits .f32 0x00000000#32 : F .f32) : Pair F) shapeCasts_S1024x1024_S1024x1024) Finset.univ
    (View.stores_vmem_bits_univ h_S1024x1024 rfl) (.inl rfl)) fun _ =>
  Scf.Loop.for k0_t1_loop k0_t1_ok ⟨⟩ (fun _ _ => searchTrip arg10 arg11) >>= fun _ => .ret ⟨⟩

/-- What follows the search. -/
def rest (x : FVec F S1024x8 .f32) : Prog (TpuEff nD τ sig (Elt F) Λ₀ .tc) PUnit :=
  .op (.load arg3 (Rect.unit (s := S8x96) ![0, 0] S8x96.size inb_S8x96_S8x96_0_0).toLoadRect (View.loadsAt_vmem h_S8x96)) fun w =>
  .op (.load arg10 allRect.toLoadRect (View.loadsAt_vmem h_S1024x1024)) fun (c : Vec F S1024x1024 .f32) =>
  layer arg4 arg5 arg6 arg7 0 (by decide) (log (c : Pair F)) (embed x w) fun y =>
  layer arg4 arg5 arg6 arg7 1 (by decide) (log (c : Pair F)) y fun z =>
  .op (.load arg8 (Rect.unit (s := S96x288) ![0, 0] S96x288.size inb_S96x288_S96x288_0_0).toLoadRect (View.loadsAt_vmem h_S96x288)) fun w =>
  .op (.load arg9 (Rect.unit (s := S1x1024x288) ![0, 0, 0] S1x1024x288.size inb_S1x1024x288_S1x1024x288_0_0_0).toLoadRect (View.loadsAt_vmem h_S1x1024x288)) fun _ =>
  .op (.store arg9 (Rect.unit (s := S1x1024x288) ![0, 0, 0] S1x1024x288.size inb_S1x1024x288_S1x1024x288_0_0_0) (project z w) Finset.univ
    (View.stores_vmem_bits_univ h_S1x1024x288 rfl) (.inl rfl)) fun _ => .ret ⟨⟩

/-- The kernel's body. -/
def body : Prog (TpuEff nD τ sig (Elt F) Λ₀ .tc) PUnit :=
  .op (.load arg1 (Rect.unit (s := S1x1024x8) ![0, 0, 0] S1x1024x8.size inb_S1x1024x8_S1x1024x8_0_0_0).toLoadRect (View.loadsAt_vmem h_S1x1024x8)) fun (x : Vec F S1x1024x8 .f32) =>
  .op (.load arg2 (Rect.unit (s := S1x3x1024) ![0, 0, 0] S1x1x1024.size inb_S1x3x1024_S1x1x1024_0_0_0).toLoadRect (View.loadsAt_vmem h_S1x1x1024)) fun (p : Vec F S1x1x1024 .f32) =>
  .op (.load arg2 (Rect.unit (s := S1x3x1024) ![0, 1, 0] S1x1x1024.size inb_S1x3x1024_S1x1x1024_0_1_0).toLoadRect (View.loadsAt_vmem h_S1x1x1024)) fun (q : Vec F S1x1x1024 .f32) =>
  .op (.load arg2 (Rect.unit (s := S1x3x1024) ![0, 2, 0] S1x1x1024.size inb_S1x3x1024_S1x1x1024_0_2_0).toLoadRect (View.loadsAt_vmem h_S1x1x1024)) fun (r : Vec F S1x1x1024 .f32) =>
  .op (.load arg10 allRect.toLoadRect (View.loadsAt_vmem h_S1024x1024)) fun _ =>
  .op (.store arg10 allRect (shapeCast S1024x1024 (weightFew (sqDist (shapeCast S1024x8 x shapeCasts_S1x1024x8_S1024x8) p q r)) shapeCasts_S1024x1024_S1024x1024) Finset.univ
    (View.stores_vmem_bits_univ h_S1024x1024 rfl) (.inl rfl)) fun _ =>
  (if many (most (sqDist (shapeCast S1024x8 x shapeCasts_S1x1024x8_S1024x8) p q r)) then
      searching arg10 arg11 (sqDist (shapeCast S1024x8 x shapeCasts_S1x1024x8_S1024x8) p q r)
    else .ret ⟨⟩) >>= fun _ =>
  rest arg3 arg4 arg5 arg6 arg7 arg8 arg9 arg10 (shapeCast S1024x8 x shapeCasts_S1x1024x8_S1024x8)

set_option maxRecDepth 100000 in
set_option maxHeartbeats 0 in
/-- The printed body is this one. -/
theorem cc0_eq (i : grid0.Coords) (h1 : arg1.IsWhole) (h2 : arg2.IsWhole) (h3 : arg3.IsWhole) (h4 : arg4.IsWhole) (h5 : arg5.IsWhole)
    (h6 : arg6.IsWhole) (h7 : arg7.IsWhole) (h8 : arg8.IsWhole) (h9 : arg9.IsWhole) (h10 : arg10.IsWhole) (h11 : arg11.IsWhole) :
    cc0__tf_body (F := F) i arg1 h1 arg2 h2 arg3 h3 arg4 h4 arg5 h5 arg6 h6 arg7 h7 arg8 h8 arg9 h9 arg10 h10 arg11 h11
      = body arg1 arg2 arg3 arg4 arg5 arg6 arg7 arg8 arg9 arg10 arg11 := by
  refine congrArg (Prog.op _) (funext fun x => ?_)
  refine congrArg (Prog.op _) (funext fun p => ?_)
  refine congrArg (Prog.op _) (funext fun q => ?_)
  refine congrArg (Prog.op _) (funext fun r => ?_)
  refine congrArg (Prog.op _) (funext fun _ => ?_)
  refine congrArg (Prog.op _) (funext fun _ => ?_)
  by_cases h : many (most (sqDist (shapeCast S1024x8 x shapeCasts_S1x1024x8_S1024x8 : FVec F S1024x8 .f32) p q r))
  · refine (congrArg (fun p => Prog.bind p _) (if_pos h)).trans (Eq.trans ?_ (congrArg (fun p => Prog.bind p _) (if_pos h)).symm)
    refine congrArg (Prog.op _) (funext fun _ => ?_)
    refine congrArg (Prog.op _) (funext fun _ => ?_)
    refine congrArg (Prog.op _) (funext fun _ => ?_)
    refine congrArg (Prog.op _) (funext fun _ => ?_)
    refine (Prog.bind_assoc (Scf.Loop.for k0_t1_loop k0_t1_ok ⟨⟩ (fun _ _ => searchTrip (F := F) arg10 arg11)) _ _).trans
      (Eq.trans ?_ (Prog.bind_assoc (Scf.Loop.for k0_t1_loop k0_t1_ok ⟨⟩ (fun _ _ => searchTrip (F := F) arg10 arg11)) _ _).symm)
    refine congrArg (Prog.bind _) (funext fun _ => ?_)
    rfl
  · refine (congrArg (fun p => Prog.bind p _) (if_neg h)).trans (Eq.trans ?_ (congrArg (fun p => Prog.bind p _) (if_neg h)).symm)
    rfl

end Cert.TransformerIdeal

end
-- ==== Proof.TransformerIdeal.Sweep.lean ====
module

public import proofs.«01_k».proof.Proof.TransformerIdeal.Program
public import proofs.«01_k».proof.Proof.Common.Owned
public import Idealize.ShloMosaic.Lib.Pipeline.Kit
public import Idealize.ShloMosaic.Lib.Scf
public import Idealize.ShloMosaic.Lib.Pipeline.Value

/-! What the transformer kernel's body computes, as a function of its eight inputs, and its run. -/

@[expose] public section

noncomputable section

namespace Cert.TransformerIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig Unit (Elt F) ℕ (UR sig nD τ) ℕ

theorem row_inb (a : Nat) (ha : a < 3) : ∀ i, (![0, a, 0] : Fin 3 → Nat) i + S1x1x1024.size i ≤ S1x3x1024.size i := by
  intro i
  fin_cases i
  · show 0 + 1 ≤ 1; omega
  · show a + 1 ≤ 3; omega
  · show 0 + 1024 ≤ 1024; omega

/-- Coordinate `a` of the points, as a row. -/
def coordRow (P : Vec F S1x3x1024 .f32) (a : Nat) (ha : a < 3) : Vec F S1x1x1024 .f32 :=
  fun i => P ((Rect.unit (s := S1x3x1024) ![0, a, 0] S1x1x1024.size (row_inb a ha)).emb i)

/-- A head's projection, -/
def projOf (Q : Vec F S2x6x96x48 .f32) (l h : Nat) (hl : l < 2) (hh : h < 6) : Vec F S1x1x96x48 .f32 := fun i => Q ((headRect l h hl hh).emb i)

/-- and a layer's weights. -/
def woOf (W : Vec F S2x96x96 .f32) (l : Nat) (hl : l < 2) : Vec F S1x96x96 .f32 := fun i => W ((woRect l hl).emb i)
def w1Of (W : Vec F S2x96x384 .f32) (l : Nat) (hl : l < 2) : Vec F S1x96x384 .f32 := fun i => W ((w1Rect l hl).emb i)
def w2Of (W : Vec F S2x384x96 .f32) (l : Nat) (hl : l < 2) : Vec F S1x384x96 .f32 := fun i => W ((w2Rect l hl).emb i)

/-- The points' features. -/
abbrev featMat (X : Vec F S1x1024x8 .f32) : FVec F S1024x8 .f32 := shapeCast S1024x8 X shapeCasts_S1x1024x8_S1024x8

/-- Their squared distances. -/
def dist (X : Vec F S1x1024x8 .f32) (P : Vec F S1x3x1024 .f32) : Pair F :=
  sqDist (featMat X) (coordRow P 0 (by decide)) (coordRow P 1 (by decide)) (coordRow P 2 (by decide))

/-- The distances left and the multiplicities after `n` rounds of the search. -/
def searchAt (d : Pair F) : Nat → Pair F × Pair F
  | 0 => (search₀ d, broadcast S1024x1024 (Scalar.ofBits .f32 0x00000000#32 : F .f32))
  | n + 1 => (searchNext (searchAt d n).1, weightNext (searchAt d n).1 (searchAt d n).2)

/-- The multiplicities. -/
def weights (d : Pair F) : Pair F := if many (most d) then (searchAt d 34).2 else weightFew d

/-- A layer's activations. -/
def layerOf (lc : Pair F) (x : Act F) (Q : Vec F S2x6x96x48 .f32) (O : Vec F S2x96x96 .f32) (W1 : Vec F S2x96x384 .f32) (W2 : Vec F S2x384x96 .f32)
    (l : Nat) (hl : l < 2) : Act F :=
  dense (attend x (heads lc (layerNorm x) (projOf Q l 0 hl (by decide)) (projOf Q l 1 hl (by decide)) (projOf Q l 2 hl (by decide))
      (projOf Q l 3 hl (by decide)) (projOf Q l 4 hl (by decide)) (projOf Q l 5 hl (by decide))) (woOf O l hl))
    (hidden (attend x (heads lc (layerNorm x) (projOf Q l 0 hl (by decide)) (projOf Q l 1 hl (by decide)) (projOf Q l 2 hl (by decide))
      (projOf Q l 3 hl (by decide)) (projOf Q l 4 hl (by decide)) (projOf Q l 5 hl (by decide))) (woOf O l hl)) (w1Of W1 l hl)) (w2Of W2 l hl)

/-- The block of the result. -/
def blockOf (X : Vec F S1x1024x8 .f32) (P : Vec F S1x3x1024 .f32) (Wi : Vec F S8x96 .f32) (Q : Vec F S2x6x96x48 .f32) (O : Vec F S2x96x96 .f32)
    (W1 : Vec F S2x96x384 .f32) (W2 : Vec F S2x384x96 .f32) (Wo : Vec F S96x288 .f32) : Vec F S1x1024x288 .f32 :=
  project (layerOf (log (weights (dist X P))) (layerOf (log (weights (dist X P))) (embed (featMat X) Wi) Q O W1 W2 0 (by decide)) Q O W1 W2 1 (by decide)) Wo

theorem all_emb (j : S1024x1024.Idx) : allRect.emb j = j := by
  funext a
  apply Fin.ext
  rw [Rect.emb_apply]
  fin_cases a <;> simp

theorem load_all (X : Vec F S1024x1024 .f32) : (fun i => X (allRect.emb i)) = X := funext fun j => congrArg X (all_emb j)

theorem store_all (X w : Vec F S1024x1024 .f32) :
    allRect.overlay X (shapeCast S1024x1024 w shapeCasts_S1024x1024_S1024x1024) = w := by
  rw [shapeCast_self]
  funext j
  exact (congrArg _ (all_emb j).symm).trans (Rect.overlay_emb _ _ _ _)

theorem load_x (X : Vec F S1x1024x8 .f32) :
    (fun i => X ((Rect.unit (s := S1x1024x8) ![0, 0, 0] S1x1024x8.size inb_S1x1024x8_S1x1024x8_0_0_0).emb i)) = X :=
  funext fun j => congrArg X (funext fun a => Fin.ext (by rw [Rect.emb_apply]; fin_cases a <;> simp))
theorem load_win (X : Vec F S8x96 .f32) :
    (fun i => X ((Rect.unit (s := S8x96) ![0, 0] S8x96.size inb_S8x96_S8x96_0_0).emb i)) = X :=
  funext fun j => congrArg X (funext fun a => Fin.ext (by rw [Rect.emb_apply]; fin_cases a <;> simp))
theorem load_wout (X : Vec F S96x288 .f32) :
    (fun i => X ((Rect.unit (s := S96x288) ![0, 0] S96x288.size inb_S96x288_S96x288_0_0).emb i)) = X :=
  funext fun j => congrArg X (funext fun a => Fin.ext (by rw [Rect.emb_apply]; fin_cases a <;> simp))
theorem store_out (X w : Vec F S1x1024x288 .f32) :
    (Rect.unit (s := S1x1024x288) ![0, 0, 0] S1x1024x288.size inb_S1x1024x288_S1x1024x288_0_0_0).overlay X w = w := by
  funext j
  have hj : (Rect.unit (s := S1x1024x288) ![0, 0, 0] S1x1024x288.size inb_S1x1024x288_S1x1024x288_0_0_0).emb j = j :=
    funext fun a => Fin.ext (by rw [Rect.emb_apply]; fin_cases a <;> simp)
  exact (congrArg _ hj.symm).trans (Rect.overlay_emb _ _ _ _)

variable (defs : Defs nD τ sig (Elt F) Λ₀) (c : Dev nD) (bd : Option Variants.none.V) (E : Set ℕ)
variable (X : Vec F S1x1024x8 .f32) (P : Vec F S1x3x1024 .f32) (Wi : Vec F S8x96 .f32) (Q : Vec F S2x6x96x48 .f32) (O : Vec F S2x96x96 .f32)
  (W1 : Vec F S2x96x384 .f32) (W2 : Vec F S2x384x96 .f32) (Wo : Vec F S96x288 .f32)
variable (arg1 : Memref sig .tc .vmem S1x1024x8 .f32) (arg2 : Memref sig .tc .vmem S1x3x1024 .f32) (arg3 : Memref sig .tc .vmem S8x96 .f32)
  (arg4 : Memref sig .tc .vmem S2x6x96x48 .f32) (arg5 : Memref sig .tc .vmem S2x96x96 .f32) (arg6 : Memref sig .tc .vmem S2x96x384 .f32)
  (arg7 : Memref sig .tc .vmem S2x384x96 .f32) (arg8 : Memref sig .tc .vmem S96x288 .f32) (arg9 : Memref sig .tc .vmem S1x1024x288 .f32)
  (arg10 arg11 : Memref sig .tc .vmem S1024x1024 .f32)

/-- The layers' weights. -/
abbrev weightsHeld : sProp 𝕄 :=
  iprop(owns (c : Thread nD τ) arg4 fullShare Q ∗ owns (c : Thread nD τ) arg5 fullShare O ∗ owns (c : Thread nD τ) arg6 fullShare W1
    ∗ owns (c : Thread nD τ) arg7 fullShare W2)

seal dense attend hidden heads layerNorm in
/-- The run of a layer. -/
theorem wp_layer {β : Type} (l : Nat) (hl : l < 2) (lc : Pair F) (x : Act F) (k : Act F → Prog (TpuEff nD τ sig (Elt F) Λ₀ .tc) β) (K : β → sProp 𝕄) :
    weightsHeld c Q O W1 W2 arg4 arg5 arg6 arg7
      ⊢ iprop((weightsHeld c Q O W1 W2 arg4 arg5 arg6 arg7
            -∗ wp frame (wpE defs Variants.none c bd) E (k (layerOf lc x Q O W1 W2 l hl)) K)
        -∗ wp frame (wpE defs Variants.none c bd) E (layer arg4 arg5 arg6 arg7 l hl lc x k) K) := by
  unfold layer weightsHeld
  iintro ⟨H4, H5, H6, H7⟩ HK
  iapply (Owned.wp_load Variants.none c bd E) $$ H4; iintro H4
  iapply (Owned.wp_load Variants.none c bd E) $$ H4; iintro H4
  iapply (Owned.wp_load Variants.none c bd E) $$ H4; iintro H4
  iapply (Owned.wp_load Variants.none c bd E) $$ H4; iintro H4
  iapply (Owned.wp_load Variants.none c bd E) $$ H4; iintro H4
  iapply (Owned.wp_load Variants.none c bd E) $$ H4; iintro H4
  iapply (Owned.wp_load Variants.none c bd E) $$ H5; iintro H5
  iapply (Owned.wp_load Variants.none c bd E) $$ H6; iintro H6
  iapply (Owned.wp_load Variants.none c bd E) $$ H7; iintro H7
  iapply HK
  isplitl [H4]; · iexact H4
  isplitl [H5]; · iexact H5
  isplitl [H6]; · iexact H6
  iexact H7

seal searchNext weightNext in
/-- The run of a round of the search. -/
theorem wp_searchTrip (W C : Pair F) (K : PUnit → sProp 𝕄) :
    iprop(owns (c : Thread nD τ) arg11 fullShare (W : Vec F S1024x1024 .f32) ∗ owns (c : Thread nD τ) arg10 fullShare (C : Vec F S1024x1024 .f32))
      ⊢ iprop((iprop(owns (c : Thread nD τ) arg11 fullShare (searchNext W : Vec F S1024x1024 .f32)
              ∗ owns (c : Thread nD τ) arg10 fullShare (weightNext W C : Vec F S1024x1024 .f32)) -∗ K ⟨⟩)
        -∗ wp frame (wpE defs Variants.none c bd) E (searchTrip arg10 arg11) K) := by
  unfold searchTrip
  iintro ⟨HW, HC⟩ HK
  iapply (Owned.wp_load Variants.none c bd E) $$ HW; iintro HW
  iapply (Owned.wp_load Variants.none c bd E) $$ HC; iintro HC
  iapply (Owned.wp_load Variants.none c bd E) $$ HC; iintro HC
  iapply (Owned.wp_store Variants.none c bd E) $$ HC; iintro HC
  iapply (Owned.wp_load Variants.none c bd E) $$ HW; iintro HW
  iapply (Owned.wp_store Variants.none c bd E) $$ HW; iintro HW
  rw [wp_ret]
  imodintro
  rw [store_all, store_all, load_all, load_all]
  iapply HK
  isplitl [HW]; · iexact HW
  iexact HC

theorem trips_eq : k0_t1_loop.trips = 34 := by decide +kernel

/-- What the loop holds before round `t`. -/
def inv (d : Pair F) (t : Nat) (_ : PUnit) : sProp 𝕄 :=
  iprop(owns (c : Thread nD τ) arg11 fullShare ((searchAt d t).1 : Vec F S1024x1024 .f32)
    ∗ owns (c : Thread nD τ) arg10 fullShare ((searchAt d t).2 : Vec F S1024x1024 .f32))

/-- The run of the search. -/
theorem wp_searching (d : Pair F) (W C : Vec F S1024x1024 .f32) (K : PUnit → sProp 𝕄) :
    iprop(owns (c : Thread nD τ) arg11 fullShare W ∗ owns (c : Thread nD τ) arg10 fullShare C)
      ⊢ iprop((iprop((∃ W, owns (c : Thread nD τ) arg11 fullShare W)
              ∗ owns (c : Thread nD τ) arg10 fullShare ((searchAt d 34).2 : Vec F S1024x1024 .f32)) -∗ K ⟨⟩)
        -∗ wp frame (wpE defs Variants.none c bd) E (searching arg10 arg11 d) K) := by
  unfold searching
  iintro ⟨HW, HC⟩ HK
  iapply (Owned.wp_load Variants.none c bd E) $$ HW; iintro HW
  iapply (Owned.wp_store Variants.none c bd E) $$ HW; iintro HW
  iapply (Owned.wp_load Variants.none c bd E) $$ HC; iintro HC
  iapply (Owned.wp_store Variants.none c bd E) $$ HC; iintro HC
  rw [store_all, store_all]
  iapply (Scf.wp_for_bind frame (wpE defs Variants.none c bd) E _ _ _ _ _ _ (inv c arg10 arg11 d) ?hstep) $$ [HW HC]
  case hstep =>
    intro t cur
    unfold inv
    iintro H
    iapply (wp_searchTrip defs c bd E arg10 arg11 (searchAt d t.val).1 (searchAt d t.val).2) $$ H
    iintro ⟨HW, HC⟩
    isplitl [HW]; · iexact HW
    iexact HC
  · unfold inv
    isplitl [HW]; · iexact HW
    iexact HC
  iintro %cur
  unfold inv
  rw [show Scf.trips k0_t1_loop.lb k0_t1_loop.ub k0_t1_loop.st = 34 from trips_eq]
  iintro ⟨HW, HC⟩
  rw [wp_ret]
  imodintro
  iapply HK
  isplitl [HW]
  · iexists _
    iexact HW
  iexact HC

seal layerOf project embed in
/-- The run of what follows the search. -/
theorem wp_rest (x : FVec F S1024x8 .f32) (C : Pair F) (K : PUnit → sProp 𝕄) :
    iprop(owns (c : Thread nD τ) arg3 fullShare Wi ∗ weightsHeld c Q O W1 W2 arg4 arg5 arg6 arg7 ∗ owns (c : Thread nD τ) arg8 fullShare Wo
        ∗ (∃ d, owns (c : Thread nD τ) arg9 fullShare d) ∗ owns (c : Thread nD τ) arg10 fullShare (C : Vec F S1024x1024 .f32))
      ⊢ iprop((iprop(owns (c : Thread nD τ) arg3 fullShare Wi ∗ weightsHeld c Q O W1 W2 arg4 arg5 arg6 arg7 ∗ owns (c : Thread nD τ) arg8 fullShare Wo
            ∗ owns (c : Thread nD τ) arg9 fullShare (project (layerOf (log C) (layerOf (log C) (embed x Wi) Q O W1 W2 0 (by decide)) Q O W1 W2 1 (by decide)) Wo)
            ∗ owns (c : Thread nD τ) arg10 fullShare (C : Vec F S1024x1024 .f32)) -∗ K ⟨⟩)
        -∗ wp frame (wpE defs Variants.none c bd) E (rest arg3 arg4 arg5 arg6 arg7 arg8 arg9 arg10 x) K) := by
  unfold rest
  iintro ⟨H3, HL, H8, ⟨%Z, H9⟩, HC⟩ HK
  iapply (Owned.wp_load Variants.none c bd E) $$ H3; iintro H3
  iapply (Owned.wp_load Variants.none c bd E) $$ HC; iintro HC
  rw [load_all, load_win]
  iapply (wp_layer defs c bd E Q O W1 W2 arg4 arg5 arg6 arg7) $$ HL; iintro HL
  iapply (wp_layer defs c bd E Q O W1 W2 arg4 arg5 arg6 arg7) $$ HL; iintro HL
  iapply (Owned.wp_load Variants.none c bd E) $$ H8; iintro H8
  iapply (Owned.wp_load Variants.none c bd E) $$ H9; iintro H9
  iapply (Owned.wp_store Variants.none c bd E) $$ H9; iintro H9
  rw [load_wout, store_out]
  rw [wp_ret]
  imodintro
  iapply HK
  isplitl [H3]; · iexact H3
  isplitl [HL]; · iexact HL
  isplitl [H8]; · iexact H8
  isplitl [H9]; · iexact H9
  iexact HC

seal layerOf project embed weightFew most searchAt in
/-- The run of the search where it is made, and of what follows. -/
theorem wp_tail (d : Pair F) (x : FVec F S1024x8 .f32) (W : Vec F S1024x1024 .f32) (K : PUnit → sProp 𝕄) :
    iprop(owns (c : Thread nD τ) arg3 fullShare Wi ∗ weightsHeld c Q O W1 W2 arg4 arg5 arg6 arg7 ∗ owns (c : Thread nD τ) arg8 fullShare Wo
        ∗ (∃ d, owns (c : Thread nD τ) arg9 fullShare d) ∗ owns (c : Thread nD τ) arg10 fullShare (weightFew d : Vec F S1024x1024 .f32)
        ∗ owns (c : Thread nD τ) arg11 fullShare W)
      ⊢ iprop((iprop(owns (c : Thread nD τ) arg3 fullShare Wi ∗ weightsHeld c Q O W1 W2 arg4 arg5 arg6 arg7 ∗ owns (c : Thread nD τ) arg8 fullShare Wo
          ∗ owns (c : Thread nD τ) arg9 fullShare
            (project (layerOf (log (weights d)) (layerOf (log (weights d)) (embed x Wi) Q O W1 W2 0 (by decide)) Q O W1 W2 1 (by decide)) Wo)
          ∗ (∃ d, owns (c : Thread nD τ) arg10 fullShare d) ∗ (∃ d, owns (c : Thread nD τ) arg11 fullShare d)) -∗ K ⟨⟩)
        -∗ wp frame (wpE defs Variants.none c bd) E ((if many (most d) then searching arg10 arg11 d else .ret ⟨⟩) >>= fun _ =>
          rest arg3 arg4 arg5 arg6 arg7 arg8 arg9 arg10 x) K) := by
  unfold weights
  iintro ⟨H3, HL, H8, H9, HC, HW⟩ HK
  by_cases h : many (most d)
  · rw [if_pos h, if_pos h, wp_bind]
    iapply (wp_searching defs c bd E arg10 arg11 d W _) $$ [HW HC]
    · isplitl [HW]; · iexact HW
      iexact HC
    iintro ⟨HW, HC⟩
    iapply (wp_rest defs c bd E Wi Q O W1 W2 Wo arg3 arg4 arg5 arg6 arg7 arg8 arg9 arg10 x (searchAt d 34).2) $$ [H3 HL H8 H9 HC]
    · isplitl [H3]; · iexact H3
      isplitl [HL]; · iexact HL
      isplitl [H8]; · iexact H8
      isplitl [H9]; · iexact H9
      iexact HC
    iintro ⟨H3, HL, H8, H9, HC⟩
    iapply HK
    isplitl [H3]; · iexact H3
    isplitl [HL]; · iexact HL
    isplitl [H8]; · iexact H8
    isplitl [H9]; · iexact H9
    isplitl [HC]
    · iexists _
      iexact HC
    iexact HW
  · rw [if_neg h, if_neg h]
    iapply (wp_rest defs c bd E Wi Q O W1 W2 Wo arg3 arg4 arg5 arg6 arg7 arg8 arg9 arg10 x (weightFew d)) $$ [H3 HL H8 H9 HC]
    · isplitl [H3]; · iexact H3
      isplitl [HL]; · iexact HL
      isplitl [H8]; · iexact H8
      isplitl [H9]; · iexact H9
      iexact HC
    iintro ⟨H3, HL, H8, H9, HC⟩
    iapply HK
    isplitl [H3]; · iexact H3
    isplitl [HL]; · iexact HL
    isplitl [H8]; · iexact H8
    isplitl [H9]; · iexact H9
    isplitl [HC]
    · iexists _
      iexact HC
    iexists _
    iexact HW

seal layerOf project embed sqDist weightFew most searchAt in
/-- The run of the body: from any contents of the result and of the two scratch buffers, the result holds the block. -/
theorem wp_body (K : PUnit → sProp 𝕄) :
    iprop(owns (c : Thread nD τ) arg1 fullShare X ∗ owns (c : Thread nD τ) arg2 fullShare P ∗ owns (c : Thread nD τ) arg3 fullShare Wi ∗ weightsHeld c Q O W1 W2 arg4 arg5 arg6 arg7 ∗ owns (c : Thread nD τ) arg8 fullShare Wo
        ∗ (∃ d, owns (c : Thread nD τ) arg9 fullShare d) ∗ (∃ d, owns (c : Thread nD τ) arg10 fullShare d) ∗ (∃ d, owns (c : Thread nD τ) arg11 fullShare d))
      ⊢ iprop((iprop(owns (c : Thread nD τ) arg1 fullShare X ∗ owns (c : Thread nD τ) arg2 fullShare P ∗ owns (c : Thread nD τ) arg3 fullShare Wi ∗ weightsHeld c Q O W1 W2 arg4 arg5 arg6 arg7 ∗ owns (c : Thread nD τ) arg8 fullShare Wo
          ∗ owns (c : Thread nD τ) arg9 fullShare (blockOf X P Wi Q O W1 W2 Wo)
          ∗ (∃ d, owns (c : Thread nD τ) arg10 fullShare d) ∗ (∃ d, owns (c : Thread nD τ) arg11 fullShare d)) -∗ K ⟨⟩)
        -∗ wp frame (wpE defs Variants.none c bd) E (body arg1 arg2 arg3 arg4 arg5 arg6 arg7 arg8 arg9 arg10 arg11) K) := by
  unfold body
  iintro ⟨H1, H2, H3, HL, H8, H9, ⟨%C, HC⟩, ⟨%W, HW⟩⟩ HK
  iapply (Owned.wp_load Variants.none c bd E) $$ H1; iintro H1
  iapply (Owned.wp_load Variants.none c bd E) $$ H2; iintro H2
  iapply (Owned.wp_load Variants.none c bd E) $$ H2; iintro H2
  iapply (Owned.wp_load Variants.none c bd E) $$ H2; iintro H2
  iapply (Owned.wp_load Variants.none c bd E) $$ HC; iintro HC
  iapply (Owned.wp_store Variants.none c bd E) $$ HC; iintro HC
  rw [load_x, store_all]
  iapply (wp_tail defs c bd E Wi Q O W1 W2 Wo arg3 arg4 arg5 arg6 arg7 arg8 arg9 arg10 arg11 (dist X P) (featMat X) W) $$ [H3 HL H8 H9 HC HW]
  · isplitl [H3]; · iexact H3
    isplitl [HL]; · iexact HL
    isplitl [H8]; · iexact H8
    isplitl [H9]; · iexact H9
    isplitl [HC]; · iexact HC
    iexact HW
  iintro ⟨H3, HL, H8, H9, HC, HW⟩
  iapply HK
  isplitl [H1]; · iexact H1
  isplitl [H2]; · iexact H2
  isplitl [H3]; · iexact H3
  isplitl [HL]; · iexact HL
  isplitl [H8]; · iexact H8
  isplitl [H9]; · iexact H9
  isplitl [HC]; · iexact HC
  iexact HW

end Cert.TransformerIdeal

end
-- ==== Proof.TransformerIdeal.Launch.lean ====
module

public import proofs.«01_k».proof.Proof.Gen.TransformerIdeal.Launch
public import proofs.«01_k».proof.Proof.Gen.TransformerIdeal.Points
public import proofs.«01_k».proof.Proof.Gen.TransformerIdeal.Frame
public import proofs.«01_k».proof.Proof.TransformerIdeal.Sweep
public import Idealize.ShloMosaic.Lib.Pipeline.FrameBody
public import Idealize.ShloMosaic.Lib.Pipeline.FrameSuffix
public import Idealize.ShloMosaic.Lib.Pipeline.ValueKit.Geometry
public import Idealize.ShloMosaic.Lib.Pipeline.ValueKit
public import Idealize.ShloMosaic.Lib.Claim

/-! The transformer program's launch: the host operations, the region over the eight clouds, and what its result array holds. -/

@[expose] public section

set_option maxRecDepth 16384

noncomputable section

namespace Cert.TransformerIdeal.Run

open Cert.TransformerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of the result at point `t`. -/
def blockAt (c : Dev nD) (t : Fin cfg0.N) : Vec F S1x1024x288 .f32 :=
  blockOf (iblk m c 0 t) (iblk m c 1 t) (iblk m c 2 t) (iblk m c 3 t) (iblk m c 4 t) (iblk m c 5 t) (iblk m c 6 t) (iblk m c 7 t)

/-- The pipeline's data: the inputs stay, the result's buffer ends at the block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blockAt m c t
  Φ _ := Pipeline.ΦA spec0 c
  q _ := fullShare
  owed _ := 0

theorem dats_A (c : Dev nD) (w : Fin cfg0.W) : (dats m 0 c).A w = V m c (Pipeline.arrRef spec0 w) := by dsimp only [dats]
theorem dats_after_0 (c : Dev nD) (t : Fin cfg0.N) : (dats m 0 c).after 0 t = iblk m c 0 t := by dsimp only [dats]
theorem dats_after_1 (c : Dev nD) (t : Fin cfg0.N) : (dats m 0 c).after 1 t = iblk m c 1 t := by dsimp only [dats]
theorem dats_after_2 (c : Dev nD) (t : Fin cfg0.N) : (dats m 0 c).after 2 t = iblk m c 2 t := by dsimp only [dats]
theorem dats_after_3 (c : Dev nD) (t : Fin cfg0.N) : (dats m 0 c).after 3 t = iblk m c 3 t := by dsimp only [dats]
theorem dats_after_4 (c : Dev nD) (t : Fin cfg0.N) : (dats m 0 c).after 4 t = iblk m c 4 t := by dsimp only [dats]
theorem dats_after_5 (c : Dev nD) (t : Fin cfg0.N) : (dats m 0 c).after 5 t = iblk m c 5 t := by dsimp only [dats]
theorem dats_after_6 (c : Dev nD) (t : Fin cfg0.N) : (dats m 0 c).after 6 t = iblk m c 6 t := by dsimp only [dats]
theorem dats_after_7 (c : Dev nD) (t : Fin cfg0.N) : (dats m 0 c).after 7 t = iblk m c 7 t := by dsimp only [dats]
theorem dats_after_8 (c : Dev nD) (t : Fin cfg0.N) : (dats m 0 c).after 8 t = blockAt m c t := by dsimp only [dats]

/-- The inputs' staging buffers hold the blocks. -/
theorem dats_before_0 (c : Dev nD) (t : Fin cfg0.N) (d) : (dats m 0 c).before 0 t d = iblk m c 0 t :=
  before0_0_of m (dats m 0 c) (dats_A m c 0) (dats_after_0 m c) t d
theorem dats_before_1 (c : Dev nD) (t : Fin cfg0.N) (d) : (dats m 0 c).before 1 t d = iblk m c 1 t :=
  before0_1_of m (dats m 0 c) (dats_A m c 1) (dats_after_1 m c) t d
theorem dats_before_2 (c : Dev nD) (t : Fin cfg0.N) (d) : (dats m 0 c).before 2 t d = iblk m c 2 t :=
  before0_2_of m (dats m 0 c) (dats_A m c 2) (dats_after_2 m c) t d
theorem dats_before_3 (c : Dev nD) (t : Fin cfg0.N) (d) : (dats m 0 c).before 3 t d = iblk m c 3 t :=
  before0_3_of m (dats m 0 c) (dats_A m c 3) (dats_after_3 m c) t d
theorem dats_before_4 (c : Dev nD) (t : Fin cfg0.N) (d) : (dats m 0 c).before 4 t d = iblk m c 4 t :=
  before0_4_of m (dats m 0 c) (dats_A m c 4) (dats_after_4 m c) t d
theorem dats_before_5 (c : Dev nD) (t : Fin cfg0.N) (d) : (dats m 0 c).before 5 t d = iblk m c 5 t :=
  before0_5_of m (dats m 0 c) (dats_A m c 5) (dats_after_5 m c) t d
theorem dats_before_6 (c : Dev nD) (t : Fin cfg0.N) (d) : (dats m 0 c).before 6 t d = iblk m c 6 t :=
  before0_6_of m (dats m 0 c) (dats_A m c 6) (dats_after_6 m c) t d
theorem dats_before_7 (c : Dev nD) (t : Fin cfg0.N) (d) : (dats m 0 c).before 7 t d = iblk m c 7 t :=
  before0_7_of m (dats m 0 c) (dats_A m c 7) (dats_after_7 m c) t d

/-- The scratch buffers. -/
abbrev scratchC : Memref sig .tc .vmem S1024x1024 .f32 := Memref.whole cc0_scratch0
abbrev scratchW : Memref sig .tc .vmem S1024x1024 .f32 := Memref.whole cc0_scratch1

/-- The invariant: the scratch buffers at some contents, and the generator's register. -/
theorem inv_eq (c : Dev nD) :
    (Pipeline.ΦA spec0 c : sProp 𝕄) = iprop(iprop((∃ d, owns (c : Thread nD τ) scratchC fullShare d) ∗ (∃ d, owns (c : Thread nD τ) scratchW fullShare d))
      ∗ (∃ r, prngReg c r)) := by
  unfold Pipeline.ΦA
  rw [scopedRest0_eq]
  simp only [scratchC, scratchW, owns_whole]
  try rfl

/-- What the body is called with, -/
def given (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it returns. -/
def returned (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

seal blockOf in
/-- The body's run at a point. -/
theorem body_run (c : Dev nD) (t : Fin cfg0.N) :
    given m c t ⊢ wp frame (wpE (defs₀ (F := F)) Variants.none c none) Set.univ (bodyAt0 t) (fun _ => returned m c t) := by
  unfold given returned bodyAt0
  simp only [dats_before_0, dats_before_1, dats_before_2, dats_before_3, dats_before_4, dats_before_5, dats_before_6, dats_before_7]
  rw [show (dats m 0 c).Φ t.succ = (dats m 0 c).Φ t.castSucc from rfl,
    show (dats m 0 c).owesAt () t.succ = (dats m 0 c).owesAt () t.castSucc from rfl,
    dats_after_0, dats_after_1, dats_after_2, dats_after_3, dats_after_4, dats_after_5, dats_after_6, dats_after_7, dats_after_8]
  rw [show (dats m 0 c).Φ t.castSucc = Pipeline.ΦA spec0 c from rfl, inv_eq, cc0_eq]
  iintro ⟨⟨⟨HC, HW⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_body defs₀ c none Set.univ (iblk m c 0 t) (iblk m c 1 t) (iblk m c 2 t) (iblk m c 3 t) (iblk m c 4 t) (iblk m c 5 t) (iblk m c 6 t)
    (iblk m c 7 t)) $$ [H0 H1 H2 H3 H4 H5 H6 H7 H8 HC HW]
  · isplitl [H0]; · iexact H0
    isplitl [H1]; · iexact H1
    isplitl [H2]; · iexact H2
    isplitl [H3 H4 H5 H6]
    · isplitl [H3]; · iexact H3
      isplitl [H4]; · iexact H4
      isplitl [H5]; · iexact H5
      iexact H6
    isplitl [H7]; · iexact H7
    isplitl [H8]; · iexists _; iexact H8
    isplitl [HC]; · iexact HC
    iexact HW
  iintro ⟨H0, H1, H2, ⟨H3, H4, H5, H6⟩, H7, H8, HC, HW⟩
  isplitl [HC HW Hg]
  · isplitl [HC HW]
    · isplitl [HC]; · iexact HC
      iexact HW
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_run m c t) rfl .rfl fun _ => .rfl

set_option backward.isDefEq.respectTransparency.types false in
/-- The program's run. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-- What the core's buffers hold when the region is left. -/
abbrev left (c : Dev nD) : Valuation τ sig (Elt F) :=
  Pipeline.withArrays (cfgs 0).spec c (V0 m c) fun w => (dats m 0 c).arrAt w (cfgs 0).N

/-- The program's result: the blocks of the eight clouds, features before points. -/
abbrev result (c : Dev nD) : Vec F S8x288x1024 .f32 :=
  transpose S8x288x1024 [0, 2, 1] ((dats m 0 c).arrAt 8 cfg0.N : Vec F S8x1024x288 .f32) transposes_S8x1024x288_S8x288x1024_0_2_1

theorem suffix_result (U : Valuation τ sig (Elt F)) : (StableHlo.after hostOps1 U main_v14 : Vec F S8x288x1024 .f32)
    = transpose S8x288x1024 [0, 2, 1] (U main_v13 : Vec F S8x1024x288 .f32) transposes_S8x1024x288_S8x288x1024_0_2_1 := by
  unfold hostOps1
  after_results_simp

theorem left_result (c : Dev nD) : (left m c main_v13 : Vec F S8x1024x288 .f32) = (dats m 0 c).arrAt 8 cfg0.N :=
  Pipeline.withArrays_arr (cfgs 0).spec launch0.win.arr_inj c (V0 m c) _ 8

/-- The run, read at the result and at the arguments. -/
theorem run (g : Dev nD → PrngReg) : θ_run defs (onTc (τ := τ) (main (F := F))) ⟨m, fun _ => 0, g⟩ (fun r =>
    (∀ c : Dev nD, r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) := by
  refine (θ_run defs _ _).mono (fun r h => ⟨fun c => ⟨?_, ?_⟩, h.2⟩) (run_main m g)
  · refine ((h.1 c).2 main_v14 (Pipeline.mem_restRefs_of main_v14 (by decide) (by decide))).trans ((suffix_result (left m c)).trans ?_)
    rw [left_result]
  · refine ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).1 4).trans (((dats m 0 c).arrAt_in 4 rfl _).trans ((dats_A m c 4).trans (V_main_arg5 m c))),
      ((h.1 c).1 5).trans (((dats m 0 c).arrAt_in 5 rfl _).trans ((dats_A m c 5).trans (V_main_arg6 m c))),
      ((h.1 c).1 6).trans (((dats m 0 c).arrAt_in 6 rfl _).trans ((dats_A m c 6).trans (V_main_arg7 m c))),
      ((h.1 c).1 7).trans (((dats m 0 c).arrAt_in 7 rfl _).trans ((dats_A m c 7).trans (V_main_arg8 m c)))⟩

end Cert.TransformerIdeal.Run

end
-- ==== Proof.Common.Softmax.lean ====
module

public import Idealize.ShloMosaic.PureOps.Ideal
public import Mathlib.Data.EReal.Operations
public import Mathlib.Algebra.BigOperators.Fin

/-! Two ways to attend to chosen points: a sum over the list of them, each weight divided by the sum of the weights, and a
    sum over all points with the logarithm of the multiplicity added to the logit, divided at the end. And that a
    normalized row is finite. -/

@[expose] public section

noncomputable section

namespace Cert.Proof

open Idealize.ShloMosaic

/-- A value that is a real number. -/
abbrev Real' (x : EReal) : Prop := ∃ r : ℝ, x = (r : EReal)

theorem real_of {x : EReal} (h : x ≠ ⊤) (h' : x ≠ ⊥) : Real' x := ⟨x.toReal, (EReal.coe_toReal h h').symm⟩

theorem real_sum {ι : Type} (s : Finset ι) (f : ι → EReal) (h : ∀ i ∈ s, Real' (f i)) : Real' (∑ i ∈ s, f i) := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

theorem real_mul {x y : EReal} (hx : Real' x) (hy : Real' y) : Real' (x * y) := by
  obtain ⟨a, rfl⟩ := hx
  obtain ⟨b, rfl⟩ := hy
  exact ⟨a * b, (EReal.coe_mul a b).symm⟩

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem mul_sum {ι : Type} (s : Finset ι) (f : ι → EReal) (k : ℝ) (hk : 0 ≤ k) :
    (k : EReal) * ∑ i ∈ s, f i = ∑ i ∈ s, (k : EReal) * f i := by
  classical
  induction s using Finset.induction_on with
  | empty => simp
  | insert a s ha ih =>
    rw [Finset.sum_insert ha, Finset.sum_insert ha,
      EReal.left_distrib_of_nonneg_of_ne_top (by exact_mod_cast hk) (EReal.coe_ne_top k), ih]

/-- The exponential of a logit with the logarithm of a multiplicity, less a number. -/
theorem exp_weight (r M : ℝ) (k : ℕ) :
    Ideal.exp ((r : EReal) + Ideal.log ((k : ℝ) : EReal) - (M : EReal)) = ((Real.exp (-M) * (k * Real.exp r) : ℝ) : EReal) := by
  rcases Nat.eq_zero_or_pos k with rfl | hk
  · have e : Ideal.log (((0 : ℕ) : ℝ) : EReal) = ⊥ := by
      show (if ((0 : ℕ) : ℝ) ≤ 0 then (⊥ : EReal) else _) = ⊥
      simp
    rw [e, EReal.add_bot, EReal.bot_sub]
    show (0 : EReal) = _
    rw [Nat.cast_zero, zero_mul, mul_zero, EReal.coe_zero]
  · have hk' : (0 : ℝ) < k := by exact_mod_cast hk
    have e : Ideal.log ((k : ℝ) : EReal) = ((Real.log k : ℝ) : EReal) := by
      show (if (k : ℝ) ≤ 0 then (⊥ : EReal) else _) = _
      rw [if_neg (not_le.2 hk')]
    rw [e, ← EReal.coe_add, ← EReal.coe_sub]
    show ((Real.exp (r + Real.log k - M) : ℝ) : EReal) = _
    rw [sub_eq_add_neg, Real.exp_add, Real.exp_add, Real.exp_log hk']
    congr 1
    ring

section Attend
variable {K N : Nat} (nb : Fin K → Fin N)

/-- How often a point is listed. -/
abbrev listed (m : Fin N) : ℕ := (Finset.univ.filter fun s : Fin K => nb s = m).card

/-- A sum over all points with their multiplicities is a sum over the list. -/
theorem sum_listed (g : Fin N → EReal) : ∑ m, ((listed nb m : ℝ) : EReal) * g m = ∑ s, g (nb s) := by
  rw [← Finset.sum_fiberwise (Finset.univ : Finset (Fin K)) nb fun s => g (nb s)]
  refine Finset.sum_congr rfl fun m _ => ?_
  rw [Finset.sum_congr rfl fun s hs => by rw [(Finset.mem_filter.1 hs).2], Finset.sum_const, EReal.nsmul_eq_mul]
  rfl

theorem sum_listed_real (g : Fin N → ℝ) : ∑ m, (listed nb m : ℝ) * g m = ∑ s, g (nb s) := by
  rw [← Finset.sum_fiberwise (Finset.univ : Finset (Fin K)) nb fun s => g (nb s)]
  refine Finset.sum_congr rfl fun m _ => ?_
  rw [Finset.sum_congr rfl fun s hs => by rw [(Finset.mem_filter.1 hs).2], Finset.sum_const, nsmul_eq_mul]

variable (r : Fin N → ℝ) (v : Fin N → EReal)

/-- The sum over all points, divided at the end. -/
theorem attend_all (hK : 0 < K) (M : ℝ) :
    Ideal.div (∑ m, Ideal.exp ((r m : EReal) + Ideal.log ((listed nb m : ℝ) : EReal) - (M : EReal)) * v m)
        (∑ m, Ideal.exp ((r m : EReal) + Ideal.log ((listed nb m : ℝ) : EReal) - (M : EReal)))
      = (∑ s, (Real.exp (r (nb s)) : EReal) * v (nb s)) * (((∑ s, Real.exp (r (nb s)))⁻¹ : ℝ) : EReal) := by
  have hQ : 0 < ∑ s, Real.exp (r (nb s)) := Finset.sum_pos (fun _ _ => Real.exp_pos _) ⟨⟨0, hK⟩, Finset.mem_univ _⟩
  have hk := Real.exp_pos (-M)
  have e1 : ∑ m, Ideal.exp ((r m : EReal) + Ideal.log ((listed nb m : ℝ) : EReal) - (M : EReal)) * v m
      = (Real.exp (-M) : EReal) * ∑ s, (Real.exp (r (nb s)) : EReal) * v (nb s) := by
    rw [← sum_listed nb fun m => (Real.exp (r m) : EReal) * v m, mul_sum _ _ _ hk.le]
    refine Finset.sum_congr rfl fun m _ => ?_
    rw [exp_weight, EReal.coe_mul, EReal.coe_mul, mul_assoc, mul_assoc]
  have e2 : ∑ m, Ideal.exp ((r m : EReal) + Ideal.log ((listed nb m : ℝ) : EReal) - (M : EReal))
      = ((Real.exp (-M) * ∑ s, Real.exp (r (nb s)) : ℝ) : EReal) := by
    rw [← sum_listed_real nb fun m => Real.exp (r m), Finset.mul_sum, ← sum_coe]
    exact Finset.sum_congr rfl fun m _ => exp_weight _ _ _
  rw [e1, e2, Ideal.div_coe (mul_pos hk hQ).ne', mul_comm (Real.exp (-M) : EReal), mul_assoc, ← EReal.coe_mul]
  congr 2
  field_simp

/-- The sum over the list, each weight divided. -/
theorem attend_list (hK : 0 < K) (M : ℝ) :
    ∑ s, Ideal.div (Ideal.exp ((r (nb s) : EReal) - (M : EReal))) (∑ s, Ideal.exp ((r (nb s) : EReal) - (M : EReal))) * v (nb s)
      = (∑ s, (Real.exp (r (nb s)) : EReal) * v (nb s)) * (((∑ s, Real.exp (r (nb s)))⁻¹ : ℝ) : EReal) := by
  have hQ : 0 < ∑ s, Real.exp (r (nb s)) := Finset.sum_pos (fun _ _ => Real.exp_pos _) ⟨⟨0, hK⟩, Finset.mem_univ _⟩
  have hk := Real.exp_pos (-M)
  have e0 : ∀ s, Ideal.exp ((r (nb s) : EReal) - (M : EReal)) = ((Real.exp (-M) * Real.exp (r (nb s)) : ℝ) : EReal) := fun s => by
    rw [← EReal.coe_sub]
    show ((Real.exp (r (nb s) - M) : ℝ) : EReal) = _
    rw [sub_eq_add_neg, Real.exp_add, mul_comm]
  have e2 : ∑ s, Ideal.exp ((r (nb s) : EReal) - (M : EReal)) = ((Real.exp (-M) * ∑ s, Real.exp (r (nb s)) : ℝ) : EReal) := by
    rw [Finset.mul_sum, ← sum_coe]
    exact Finset.sum_congr rfl fun s _ => e0 s
  rw [e2, mul_comm (∑ s, _), mul_sum _ _ _ (inv_nonneg.2 hQ.le)]
  refine Finset.sum_congr rfl fun s _ => ?_
  rw [e0, Ideal.div_coe (mul_pos hk hQ).ne', ← EReal.coe_mul, ← mul_assoc, ← EReal.coe_mul]
  congr 2
  field_simp

theorem fold_max_real {ι : Type} (s : Finset ι) (f : ι → EReal) (h : ∀ i ∈ s, f i ≠ ⊤) (h' : ∃ i ∈ s, f i ≠ ⊥) :
    Real' (s.fold max ⊥ f) := by
  classical
  have e : s.fold max ⊥ f = s.sup f := rfl
  rw [e]
  refine real_of (fun c => ?_) (fun c => ?_)
  · have := (Finset.sup_lt_iff (bot_lt_top : (⊥ : EReal) < ⊤)).2 fun i hi => lt_top_iff_ne_top.2 (h i hi)
    exact this.ne c
  · obtain ⟨i, hi, hne⟩ := h'
    exact hne (le_bot_iff.1 (c ▸ Finset.le_sup hi))

/-- The two ways agree, each with its own greatest logit taken off. -/
theorem attend_eq (hK : 0 < K) (l : Fin N → EReal) (hl : ∀ m, Real' (l m)) :
    Ideal.div (∑ m, Ideal.exp (l m + Ideal.log ((listed nb m : ℝ) : EReal)
          - Finset.univ.fold max ⊥ fun m => l m + Ideal.log ((listed nb m : ℝ) : EReal)) * v m)
        (∑ m, Ideal.exp (l m + Ideal.log ((listed nb m : ℝ) : EReal)
          - Finset.univ.fold max ⊥ fun m => l m + Ideal.log ((listed nb m : ℝ) : EReal)))
      = ∑ s, Ideal.div (Ideal.exp (l (nb s) - max ⊥ (Finset.univ.fold max ⊥ fun s => l (nb s))))
          (∑ s, Ideal.exp (l (nb s) - max ⊥ (Finset.univ.fold max ⊥ fun s => l (nb s)))) * v (nb s) := by
  choose r hr using hl
  obtain rfl : l = fun m => (r m : EReal) := funext hr
  have hlog : ∀ k : ℕ, Ideal.log ((k : ℝ) : EReal) ≠ ⊤ := fun k => by
    show (if (k : ℝ) ≤ 0 then (⊥ : EReal) else ((Real.log k : ℝ) : EReal)) ≠ ⊤
    split
    · exact bot_ne_top
    · exact EReal.coe_ne_top _
  obtain ⟨M, hM⟩ := fold_max_real (Finset.univ : Finset (Fin N)) (fun m => (r m : EReal) + Ideal.log ((listed nb m : ℝ) : EReal))
    (fun m _ => EReal.add_ne_top (EReal.coe_ne_top _) (hlog _)) ⟨nb ⟨0, hK⟩, Finset.mem_univ _, by
      have hp : (0 : ℝ) < (listed nb (nb ⟨0, hK⟩) : ℝ) := by
        exact_mod_cast Finset.card_pos.2 (⟨⟨0, hK⟩, Finset.mem_filter.2 ⟨Finset.mem_univ _, rfl⟩⟩ : (Finset.univ.filter fun s : Fin K => nb s = nb ⟨0, hK⟩).Nonempty)
      have e : Ideal.log ((listed nb (nb ⟨0, hK⟩) : ℝ) : EReal) = ((Real.log (listed nb (nb ⟨0, hK⟩)) : ℝ) : EReal) := by
        show (if (listed nb (nb ⟨0, hK⟩) : ℝ) ≤ 0 then (⊥ : EReal) else _) = _
        rw [if_neg (not_le.2 hp)]
      rw [e, ← EReal.coe_add]
      exact EReal.coe_ne_bot _⟩
  obtain ⟨M', hM'⟩ := fold_max_real (Finset.univ : Finset (Fin K)) (fun s => (r (nb s) : EReal))
    (fun s _ => EReal.coe_ne_top _) ⟨⟨0, hK⟩, Finset.mem_univ _, EReal.coe_ne_bot _⟩
  have hM'' : max ⊥ ((Finset.univ : Finset (Fin K)).fold max ⊥ fun s => (r (nb s) : EReal)) = (M' : EReal) := by
    rw [hM', max_eq_right bot_le]
  simp only [hM, hM'']
  rw [attend_all nb r v hK M, attend_list nb r v hK M']

end Attend

section Norm
variable {n : Nat}

/-- A row's mean, -/
def rowMean (c : EReal) (x : Fin n → EReal) : EReal := Ideal.div (∑ k, x k) c

/-- and the row normalized. -/
def rowNorm (c e : EReal) (x : Fin n → EReal) (j : Fin n) : EReal :=
  (x j - rowMean c x) * Ideal.rsqrt (rowMean c (fun k => (x k - rowMean c x) * (x k - rowMean c x)) + e)

theorem sum_infinite {ι : Type} (s : Finset ι) (f : ι → EReal) (h : ∃ i ∈ s, f i = ⊤ ∨ f i = ⊥) :
    (∑ i ∈ s, f i) = ⊤ ∨ (∑ i ∈ s, f i) = ⊥ := by
  classical
  induction s using Finset.induction_on with
  | empty => obtain ⟨i, hi, _⟩ := h; exact absurd hi (Finset.notMem_empty i)
  | insert a s ha ih =>
    rw [Finset.sum_insert ha]
    by_cases c : ∃ i ∈ s, f i = ⊤ ∨ f i = ⊥
    · rcases ih c with e | e
      · rw [e]
        by_cases b : f a = ⊥
        · rw [b]; exact .inr (EReal.bot_add _)
        · exact .inl (EReal.add_top_of_ne_bot b)
      · rw [e]; exact .inr (EReal.add_bot _)
    · have hs : Real' (∑ i ∈ s, f i) := real_sum s f fun i hi => real_of (fun e => c ⟨i, hi, .inl e⟩) (fun e => c ⟨i, hi, .inr e⟩)
      obtain ⟨y, hy⟩ := hs
      obtain ⟨i, hi, e⟩ := h
      rcases Finset.mem_insert.1 hi with rfl | hi
      · rw [hy]
        rcases e with e | e
        · rw [e]; exact .inl (EReal.top_add_coe y)
        · rw [e]; exact .inr (EReal.bot_add _)
      · exact absurd ⟨i, hi, e⟩ c

/-- A normalized row is finite, whatever the row. -/
theorem rowNorm_real (N e : ℝ) (hN : 0 < N) (he : 0 < e) (x : Fin n → EReal) (j : Fin n) :
    Real' (rowNorm (N : EReal) (e : EReal) x j) := by
  by_cases c : ∃ i ∈ (Finset.univ : Finset (Fin n)), x i = ⊤ ∨ x i = ⊥
  · have hm : rowMean (N : EReal) x = ⊤ ∨ rowMean (N : EReal) x = ⊥ := by
      unfold rowMean
      rw [Ideal.div_coe hN.ne']
      have hp : (0 : ℝ) < 1 / N := by positivity
      rcases sum_infinite _ x c with h | h
      · rw [h]; exact .inl (EReal.top_mul_coe_of_pos hp)
      · rw [h]; exact .inr (EReal.bot_mul_coe_of_pos hp)
    have hc : ∀ k, x k - rowMean (N : EReal) x = ⊤ ∨ x k - rowMean (N : EReal) x = ⊥ := by
      intro k
      rcases hm with h | h
      · rw [h, sub_eq_add_neg, EReal.neg_top]; exact .inr (EReal.add_bot _)
      · rw [h, sub_eq_add_neg, EReal.neg_bot]
        by_cases b : x k = ⊥
        · rw [b]; exact .inr (EReal.bot_add _)
        · exact .inl (EReal.add_top_of_ne_bot b)
    have hq : ∀ k, (x k - rowMean (N : EReal) x) * (x k - rowMean (N : EReal) x) = ⊤ := by
      intro k
      rcases hc k with h | h
      · rw [h]; exact EReal.top_mul_top
      · rw [h]; exact EReal.bot_mul_bot
    have hv : rowMean (N : EReal) (fun k => (x k - rowMean (N : EReal) x) * (x k - rowMean (N : EReal) x)) = ⊤ := by
      have hs : (∑ k : Fin n, (x k - rowMean (N : EReal) x) * (x k - rowMean (N : EReal) x)) = ⊤ := by
        have : Nonempty (Fin n) := ⟨j⟩
        rw [Finset.sum_congr rfl fun k _ => hq k, Finset.sum_const, EReal.nsmul_eq_mul]
        have hcard : 0 < (Finset.univ : Finset (Fin n)).card := Finset.card_pos.2 ⟨j, Finset.mem_univ _⟩
        exact EReal.coe_mul_top_of_pos (x := ((Finset.univ : Finset (Fin n)).card : ℝ)) (by exact_mod_cast hcard)
      unfold rowMean at hs ⊢
      rw [hs, Ideal.div_coe hN.ne']
      exact EReal.top_mul_coe_of_pos (by positivity)
    refine ⟨0, ?_⟩
    unfold rowNorm
    rw [hv, EReal.top_add_coe]
    show _ * (0 : EReal) = _
    rw [mul_zero, EReal.coe_zero]
  · have hx : ∀ k, Real' (x k) := fun k => real_of (fun h => c ⟨k, Finset.mem_univ _, .inl h⟩) (fun h => c ⟨k, Finset.mem_univ _, .inr h⟩)
    choose r hr using hx
    obtain rfl : x = fun k => (r k : EReal) := funext hr
    have hm : rowMean (N : EReal) (fun k => (r k : EReal)) = (((∑ k, r k) * (1 / N) : ℝ) : EReal) := by
      unfold rowMean
      rw [Ideal.div_coe hN.ne', sum_coe, ← EReal.coe_mul]
    have hd : ∀ k, (r k : EReal) - rowMean (N : EReal) (fun k => (r k : EReal)) = ((r k - (∑ k, r k) * (1 / N) : ℝ) : EReal) := fun k => by
      rw [hm, ← EReal.coe_sub]
    unfold rowNorm
    simp only [hd]
    have hv : rowMean (N : EReal) (fun k => ((r k - (∑ k, r k) * (1 / N) : ℝ) : EReal) * ((r k - (∑ k, r k) * (1 / N) : ℝ) : EReal))
        = (((∑ k, (r k - (∑ k, r k) * (1 / N)) * (r k - (∑ k, r k) * (1 / N))) * (1 / N) : ℝ) : EReal) := by
      unfold rowMean
      simp only [← EReal.coe_mul]
      rw [Ideal.div_coe hN.ne', sum_coe, ← EReal.coe_mul]
    rw [hv, ← EReal.coe_add]
    have hp : 0 < (∑ k, (r k - (∑ k, r k) * (1 / N)) * (r k - (∑ k, r k) * (1 / N))) * (1 / N) + e :=
      add_pos_of_nonneg_of_pos (mul_nonneg (Finset.sum_nonneg fun k _ => mul_self_nonneg _) (by positivity)) he
    refine real_mul ⟨_, rfl⟩ ?_
    show Real' (if _ < (0 : ℝ) then (⊥ : EReal) else if _ = (0 : ℝ) then ⊤ else _)
    rw [if_neg (not_lt.2 hp.le), if_neg hp.ne']
    exact ⟨_, rfl⟩

end Norm

end Cert.Proof

end
-- ==== Proof.Common.Attention.lean ====
module

public import proofs.«01_k».proof.Proof.Common.Softmax

/-! The transformer's layers on rows of activations, as functions of the row's neighbours. -/

@[expose] public section

noncomputable section

namespace Cert.Proof

open Idealize.ShloMosaic

/-- The width of a row, and what is added to the variance. -/
abbrev width : EReal := Ideal.ofBits .f32 0x42C00000#32
abbrev little : EReal := Ideal.ofBits .f32 0x3727C5AC#32
/-- The logits' divisor. -/
abbrev four : EReal := Ideal.ofBits .f32 0x40800000#32

theorem width_eq : width = ((96 : ℝ) : EReal) := by simp [width, Ideal.ofBits, Ideal.ieee, -EReal.coe_mul]; norm_num
theorem four_eq : four = ((4 : ℝ) : EReal) := by simp [four, Ideal.ofBits, Ideal.ieee, -EReal.coe_mul]; norm_num
theorem little_eq : ∃ e : ℝ, 0 < e ∧ little = (e : EReal) :=
  ⟨10995116 / 2 ^ 40, by norm_num, by simp [little, Ideal.ofBits, Ideal.ieee, -EReal.coe_mul]; norm_num⟩
theorem quarter_eq : Ideal.ofBits .f32 0x3E800000#32 = ((1 / 4 : ℝ) : EReal) := by simp [Ideal.ofBits, Ideal.ieee, -EReal.coe_mul]; norm_num
theorem one_eq : Ideal.ofBits .f32 0x3F800000#32 = 1 := by
  simp [Ideal.ofBits, Ideal.ieee, -EReal.coe_mul]; norm_num
theorem thirtyFour_eq : Ideal.ofBits .f32 0x42080000#32 = ((34 : ℝ) : EReal) := by simp [Ideal.ofBits, Ideal.ieee, -EReal.coe_mul]; norm_num
theorem radius_eq : Real' (Ideal.ofBits .f32 0x3C23D70A#32) := ⟨_, by simp only [Ideal.ofBits, Ideal.ieee]; simp [-EReal.coe_mul]; rfl⟩
theorem infinity_eq : Ideal.ofBits .f32 0x7F800000#32 = ⊤ := by simp [Ideal.ofBits, Ideal.ieee]
theorem bottom_eq : Ideal.ofBits .f32 0xFF800000#32 = ⊥ := by simp [Ideal.ofBits, Ideal.ieee]
theorem far_eq : Ideal.ofBits .f32 0x4EEE6B28#32 = ((2000000000 : ℝ) : EReal) := by
  simp [Ideal.ofBits, Ideal.ieee, -EReal.coe_mul]; norm_num

/-- A row times a matrix. -/
def rowMul {a b : Nat} (W : Fin a → Fin b → EReal) (x : Fin a → EReal) (j : Fin b) : EReal := ∑ k, x k * W k j

/-- A row normalized. -/
abbrev norm (x : Fin 96 → EReal) : Fin 96 → EReal := rowNorm width little x

theorem norm_real (x : Fin 96 → EReal) (j : Fin 96) : Real' (norm x j) := by
  obtain ⟨e, he, h⟩ := little_eq
  unfold norm
  rw [width_eq, h]
  exact rowNorm_real 96 e (by norm_num) he x j

/-- A layer's weights. -/
structure Weights where
  q : Fin 96 → Fin 96 → EReal
  k : Fin 96 → Fin 96 → EReal
  v : Fin 96 → Fin 96 → EReal
  o : Fin 96 → Fin 96 → EReal
  w1 : Fin 96 → Fin 384 → EReal
  w2 : Fin 384 → Fin 96 → EReal

/-- Entry `d` of head `h`. -/
abbrev entry (h : Fin 6) (d : Fin 16) : Fin 96 := ⟨16 * h.val + d.val, by omega⟩

theorem entry_of (j : Fin 96) : ∃ (h : Fin 6) (d : Fin 16), j = entry h d :=
  ⟨⟨j.val / 16, by omega⟩, ⟨j.val % 16, by omega⟩, Fin.ext (by show j.val = 16 * (j.val / 16) + j.val % 16; omega)⟩

theorem at_entry (f : Fin 6 → Fin 16 → EReal) (h : Fin 6) (d : Fin 16) (p : (entry h d).val / 16 < 6) (q : (entry h d).val % 16 < 16) :
    f ⟨(entry h d).val / 16, p⟩ ⟨(entry h d).val % 16, q⟩ = f h d := by
  rw [show (⟨(entry h d).val / 16, p⟩ : Fin 6) = h from Fin.ext (by show (16 * h.val + d.val) / 16 = h.val; omega),
    show (⟨(entry h d).val % 16, q⟩ : Fin 16) = d from Fin.ext (by show (16 * h.val + d.val) % 16 = d.val; omega)]

section Rows
variable {ι : Type} (W : Weights) (x : ι → Fin 96 → EReal)

/-- The logit of head `h` between two points. -/
def logitRow (h : Fin 6) (n m : ι) : EReal :=
  Ideal.div (∑ d, rowMul W.q (norm (x n)) (entry h d) * rowMul W.k (norm (x m)) (entry h d)) four

/-- What head `h` takes from the neighbours of `n`. -/
def headRow (nb : Fin 34 → ι) (n : ι) (h : Fin 6) (d : Fin 16) : EReal :=
  ∑ s, Ideal.div (Ideal.exp (logitRow W x h n (nb s) - max ⊥ (Finset.univ.fold max ⊥ fun s => logitRow W x h n (nb s))))
    (∑ s, Ideal.exp (logitRow W x h n (nb s) - max ⊥ (Finset.univ.fold max ⊥ fun s => logitRow W x h n (nb s))))
    * rowMul W.v (norm (x (nb s))) (entry h d)

/-- The row after attention, -/
def attendRow (nb : Fin 34 → ι) (n : ι) (j : Fin 96) : EReal :=
  x n j + rowMul W.o (fun i => headRow W x nb n ⟨i.val / 16, by omega⟩ ⟨i.val % 16, by omega⟩) j

/-- and after the dense layers. -/
def layerRow (nb : Fin 34 → ι) (n : ι) (j : Fin 96) : EReal :=
  attendRow W x nb n j + rowMul W.w2 (fun i => max (rowMul W.w1 (norm (attendRow W x nb n)) i) 0) j

/-- The queries and the keys have finite weights. -/
structure Weights.Finite (W : Weights) : Prop where
  q : ∀ i j, Real' (W.q i j)
  k : ∀ i j, Real' (W.k i j)

theorem logitRow_real {W : Weights} (hW : W.Finite) (h : Fin 6) (n m : ι) : Real' (logitRow W x h n m) := by
  have hs : Real' (∑ d, rowMul W.q (norm (x n)) (entry h d) * rowMul W.k (norm (x m)) (entry h d)) :=
    real_sum _ _ fun d _ => real_mul (real_sum _ _ fun i _ => real_mul (norm_real _ _) (hW.q _ _))
      (real_sum _ _ fun i _ => real_mul (norm_real _ _) (hW.k _ _))
  unfold logitRow
  rw [four_eq, Ideal.div_coe (by norm_num)]
  exact real_mul hs ⟨_, rfl⟩

end Rows

/-- The rows that leave the transformer: two layers and the last product. -/
def rowsOut {ι : Type} (A B : Weights) (o : Fin 96 → Fin 288 → EReal) (x : ι → Fin 96 → EReal) (nb : ι → Fin 34 → ι) (n : ι) (j : Fin 288) : EReal :=
  rowMul o (norm fun k => layerRow B (fun n k => layerRow A x (nb n) n k) (nb n) n k) j

end Cert.Proof

end
-- ==== Proof.TransformerIdeal.Values.lean ====
module

public import proofs.«01_k».proof.Proof.TransformerIdeal.Sweep
public import proofs.«01_k».proof.Proof.Common.Attention
public import Idealize.ShloMosaic.Lib.Pointwise

/-! The kernel's activations, entry by entry, on the extended reals. -/

@[expose] public section

noncomputable section

namespace Cert.TransformerIdeal

open Idealize.ShloMosaic Cert.Proof
open Facts₀ Facts

variable [Facts]

theorem mean_apply (x : Act Ideal) (n : Fin 1024) : mean x (ix2 n 0) = rowMean width fun k => x (ix2 n k) := by
  pointwise [mean, rowMean]

theorem layerNorm_apply (x : Act Ideal) (n : Fin 1024) (j : Fin 96) : layerNorm x (ix2 n j) = norm (fun k => x (ix2 n k)) j := by
  pointwise [layerNorm, centred]
  simp only [mean_apply]
  pointwise
  simp only [mean_apply]
  rfl

theorem proj_apply (x : Act Ideal) (w : Vec Ideal S1x1x96x48 .f32) (n : Fin 1024) (j : Fin 48) :
    proj x w (ix2 n j) = rowMul (fun k j => w (ix4 0 0 k j)) (fun k => x (ix2 n k)) j := by
  pointwise [proj]
  rfl

theorem logit_apply (lc : Pair Ideal) (y : FVec Ideal S1024x48 .f32) (n m : Fin 1024) :
    logit lc y (ix2 n m) = (∑ d : Fin 16, y (ix2 n ⟨0 + d.val, by omega⟩) * y (ix2 m ⟨16 + d.val, by omega⟩)) * Ideal.ofBits .f32 0x3E800000#32
      + lc (ix2 n m) := by
  pointwise [logit]

theorem expo_apply (z : Pair Ideal) (n m : Fin 1024) :
    expo z (ix2 n m) = Ideal.exp (z (ix2 n m) - Finset.univ.fold max ⊥ fun m => z (ix2 n m)) := by
  pointwise [expo]
  rw [bottom_eq]

theorem summed_apply (e : Pair Ideal) (y : FVec Ideal S1024x48 .f32) (n : Fin 1024) (j : Fin 16) :
    summed e y (ix2 n ⟨j.val, by omega⟩) = ∑ m : Fin 1024, e (ix2 n m) * y (ix2 m ⟨32 + j.val, by omega⟩) := by
  pointwise [summed]

theorem summed_one (e : Pair Ideal) (y : FVec Ideal S1024x48 .f32) (n : Fin 1024) :
    summed e y (ix2 n 16) = ∑ m : Fin 1024, e (ix2 n m) := by
  pointwise [summed]

theorem head_apply (lc : Pair Ideal) (x : Act Ideal) (w : Vec Ideal S1x1x96x48 .f32) (n : Fin 1024) (j : Fin 16) :
    head lc x w (ix2 n j) = Ideal.div (summed (expo (logit lc (proj x w))) (proj x w) (ix2 n ⟨j.val, by omega⟩))
      (summed (expo (logit lc (proj x w))) (proj x w) (ix2 n 16)) := by
  pointwise [head]

theorem embed_apply (x : FVec Ideal S1024x8 .f32) (w : Vec Ideal S8x96 .f32) (n : Fin 1024) (j : Fin 96) :
    embed x w (ix2 n j) = rowMul (fun k j => w (ix2 k j)) (fun k => x (ix2 n k)) j := by
  pointwise [embed]
  rfl

theorem project_apply (x : Act Ideal) (w : Vec Ideal S96x288 .f32) (n : Fin 1024) (j : Fin 288) :
    project x w (ix3 0 n j) = rowMul (fun k j => w (ix2 k j)) (norm fun k => x (ix2 n k)) j := by
  pointwise [project]
  simp only [layerNorm_apply]
  rfl

theorem attend_apply (x o : Act Ideal) (w : Vec Ideal S1x96x96 .f32) (n : Fin 1024) (j : Fin 96) :
    attend x o w (ix2 n j) = x (ix2 n j) + rowMul (fun k j => w (ix3 0 k j)) (fun k => o (ix2 n k)) j := by
  pointwise [attend]
  rfl

theorem hidden_apply (x : Act Ideal) (w : Vec Ideal S1x96x384 .f32) (n : Fin 1024) (j : Fin 384) :
    hidden x w (ix2 n j) = max (rowMul (fun k j => w (ix3 0 k j)) (norm fun k => x (ix2 n k)) j) 0 := by
  pointwise [hidden]
  simp only [layerNorm_apply]
  rfl

theorem dense_apply (x : Act Ideal) (h : FVec Ideal S1024x384 .f32) (w : Vec Ideal S1x384x96 .f32) (n : Fin 1024) (j : Fin 96) :
    dense x h w (ix2 n j) = x (ix2 n j) + rowMul (fun k j => w (ix3 0 k j)) (fun k => h (ix2 n k)) j := by
  pointwise [dense]
  rfl

theorem six_cases (f : Fin 6 → Fin 16 → EReal) (h : Fin 6) (d : Fin 16) :
    (if p : 16 * h.val + d.val < 16 then f 0 ⟨16 * h.val + d.val, p⟩
      else if p : 16 * h.val + d.val - 16 < 16 then f 1 ⟨16 * h.val + d.val - 16, p⟩
      else if p : 16 * h.val + d.val - 16 - 16 < 16 then f 2 ⟨16 * h.val + d.val - 16 - 16, p⟩
      else if p : 16 * h.val + d.val - 16 - 16 - 16 < 16 then f 3 ⟨16 * h.val + d.val - 16 - 16 - 16, p⟩
      else if p : 16 * h.val + d.val - 16 - 16 - 16 - 16 < 16 then f 4 ⟨16 * h.val + d.val - 16 - 16 - 16 - 16, p⟩
      else f 5 ⟨16 * h.val + d.val - 16 - 16 - 16 - 16 - 16, by omega⟩) = f h d := by
  have pick : ∀ (k : Fin 6) (t : Nat) (ht : t < 16), 16 * h.val + d.val = 16 * k.val + t → f k ⟨t, ht⟩ = f h d := by
    intro k t ht e
    have e1 : k = h := Fin.ext (by omega)
    have e2 : (⟨t, ht⟩ : Fin 16) = d := Fin.ext (by show t = d.val; rw [e1] at e; omega)
    rw [e1, e2]
  split_ifs
  · exact pick 0 _ _ (by show _ = 16 * 0 + _; omega)
  · exact pick 1 _ _ (by show _ = 16 * 1 + _; omega)
  · exact pick 2 _ _ (by show _ = 16 * 2 + _; omega)
  · exact pick 3 _ _ (by show _ = 16 * 3 + _; omega)
  · exact pick 4 _ _ (by show _ = 16 * 4 + _; omega)
  · exact pick 5 _ _ (by show _ = 16 * 5 + _; omega)

theorem six_apply (f : Fin 6 → FVec Ideal S1024x16 .f32) (n : Fin 1024) (h : Fin 6) (d : Fin 16) :
    (concatenate S1024x96 1 [⟨S1024x16, f 0⟩, ⟨S1024x16, f 1⟩, ⟨S1024x16, f 2⟩, ⟨S1024x16, f 3⟩, ⟨S1024x16, f 4⟩, ⟨S1024x16, f 5⟩]
      concatenates_S1024x16_S1024x16_S1024x16_S1024x16_S1024x16_S1024x16_S1024x96_d1 : FVec Ideal S1024x96 .f32) (ix2 n (entry h d)) = f h (ix2 n d) := by
  pointwise
  exact six_cases (fun h d => f h (ix2 n d)) h d

theorem heads_apply (lc : Pair Ideal) (xn : Act Ideal) (w : Fin 6 → Vec Ideal S1x1x96x48 .f32) (n : Fin 1024) (h : Fin 6) (d : Fin 16) :
    heads lc xn (w 0) (w 1) (w 2) (w 3) (w 4) (w 5) (ix2 n (entry h d)) = head lc xn (w h) (ix2 n d) :=
  six_apply (fun h => head lc xn (w h)) n h d

theorem projOf_apply (Q : Vec Ideal S2x6x96x48 .f32) (l : Fin 2) (h : Fin 6) (k : Fin 96) (j : Fin 48) :
    projOf Q l.val h.val l.isLt h.isLt (ix4 0 0 k j) = Q (ix4 l h k j) := by
  refine congrArg Q (funext fun a => Fin.ext ?_)
  rw [Rect.emb_apply]
  match a with
  | 0 => show l.val + 1 * 0 = l.val; omega
  | 1 => show h.val + 1 * 0 = h.val; omega
  | 2 => show 0 + 1 * k.val = k.val; omega
  | 3 => show 0 + 1 * j.val = j.val; omega

theorem woOf_apply (W : Vec Ideal S2x96x96 .f32) (l : Fin 2) (k : Fin 96) (j : Fin 96) : woOf W l.val l.isLt (ix3 0 k j) = W (ix3 l k j) := by
  refine congrArg W (funext fun a => Fin.ext ?_)
  rw [Rect.emb_apply]
  match a with
  | 0 => show l.val + 1 * 0 = l.val; omega
  | 1 => show 0 + 1 * k.val = k.val; omega
  | 2 => show 0 + 1 * j.val = j.val; omega

theorem w1Of_apply (W : Vec Ideal S2x96x384 .f32) (l : Fin 2) (k : Fin 96) (j : Fin 384) : w1Of W l.val l.isLt (ix3 0 k j) = W (ix3 l k j) := by
  refine congrArg W (funext fun a => Fin.ext ?_)
  rw [Rect.emb_apply]
  match a with
  | 0 => show l.val + 1 * 0 = l.val; omega
  | 1 => show 0 + 1 * k.val = k.val; omega
  | 2 => show 0 + 1 * j.val = j.val; omega

theorem w2Of_apply (W : Vec Ideal S2x384x96 .f32) (l : Fin 2) (k : Fin 384) (j : Fin 96) : w2Of W l.val l.isLt (ix3 0 k j) = W (ix3 l k j) := by
  refine congrArg W (funext fun a => Fin.ext ?_)
  rw [Rect.emb_apply]
  match a with
  | 0 => show l.val + 1 * 0 = l.val; omega
  | 1 => show 0 + 1 * k.val = k.val; omega
  | 2 => show 0 + 1 * j.val = j.val; omega

/-- Layer `l`'s weights, of the arrays the kernel is given. -/
def weightsOf (Q : Vec Ideal S2x6x96x48 .f32) (O : Vec Ideal S2x96x96 .f32) (W1 : Vec Ideal S2x96x384 .f32) (W2 : Vec Ideal S2x384x96 .f32) (l : Fin 2) : Weights where
  q k j := Q (ix4 l ⟨j.val / 16, by omega⟩ k ⟨0 + j.val % 16, by omega⟩)
  k k j := Q (ix4 l ⟨j.val / 16, by omega⟩ k ⟨16 + j.val % 16, by omega⟩)
  v k j := Q (ix4 l ⟨j.val / 16, by omega⟩ k ⟨32 + j.val % 16, by omega⟩)
  o k j := O (ix3 l k j)
  w1 k j := W1 (ix3 l k j)
  w2 k j := W2 (ix3 l k j)

theorem log_apply (x : Pair Ideal) (i : S1024x1024.Idx) : log x i = Ideal.log (x i) := rfl

section Layer
variable (Q : Vec Ideal S2x6x96x48 .f32) (O : Vec Ideal S2x96x96 .f32) (W1 : Vec Ideal S2x96x384 .f32) (W2 : Vec Ideal S2x384x96 .f32) (l : Fin 2)

theorem head_column (h : Fin 6) (d : Fin 16) (k : Fin 96) (a : Nat) (ha : a + d.val < 48) (hb : (entry h d).val / 16 < 6) (hc : a + (entry h d).val % 16 < 48) :
    Q (ix4 l h k ⟨a + d.val, ha⟩) = Q (ix4 l ⟨(entry h d).val / 16, hb⟩ k ⟨a + (entry h d).val % 16, hc⟩) := by
  have e1 : h = ⟨(entry h d).val / 16, hb⟩ := Fin.ext (show h.val = (16 * h.val + d.val) / 16 by omega)
  have e2 : (⟨a + d.val, ha⟩ : Fin 48) = ⟨a + (entry h d).val % 16, hc⟩ := Fin.ext (show a + d.val = a + (16 * h.val + d.val) % 16 by omega)
  rw [e2]
  exact congrArg (fun h' => Q (ix4 l h' k _)) e1

variable (x : Act Ideal) (n : Fin 1024) (h : Fin 6) (d : Fin 16)

theorem query_apply : proj (layerNorm x) (projOf Q l.val h.val l.isLt h.isLt) (ix2 n ⟨0 + d.val, by omega⟩)
    = rowMul (weightsOf Q O W1 W2 l).q (norm fun k => x (ix2 n k)) (entry h d) := by
  rw [proj_apply]
  simp only [layerNorm_apply, projOf_apply]
  exact Finset.sum_congr rfl fun k _ => congrArg (norm (fun k => x (ix2 n k)) k * ·) (head_column Q l h d k 0 _ _ _)

theorem key_apply : proj (layerNorm x) (projOf Q l.val h.val l.isLt h.isLt) (ix2 n ⟨16 + d.val, by omega⟩)
    = rowMul (weightsOf Q O W1 W2 l).k (norm fun k => x (ix2 n k)) (entry h d) := by
  rw [proj_apply]
  simp only [layerNorm_apply, projOf_apply]
  exact Finset.sum_congr rfl fun k _ => congrArg (norm (fun k => x (ix2 n k)) k * ·) (head_column Q l h d k 16 _ _ _)

theorem value_apply : proj (layerNorm x) (projOf Q l.val h.val l.isLt h.isLt) (ix2 n ⟨32 + d.val, by omega⟩)
    = rowMul (weightsOf Q O W1 W2 l).v (norm fun k => x (ix2 n k)) (entry h d) := by
  rw [proj_apply]
  simp only [layerNorm_apply, projOf_apply]
  exact Finset.sum_congr rfl fun k _ => congrArg (norm (fun k => x (ix2 n k)) k * ·) (head_column Q l h d k 32 _ _ _)

theorem logit_eq (lc : Pair Ideal) (m : Fin 1024) : logit lc (proj (layerNorm x) (projOf Q l.val h.val l.isLt h.isLt)) (ix2 n m)
    = logitRow (weightsOf Q O W1 W2 l) (fun n k => x (ix2 n k)) h n m + lc (ix2 n m) := by
  rw [logit_apply]
  simp only [query_apply Q O W1 W2, key_apply Q O W1 W2]
  unfold logitRow
  rw [four_eq, Ideal.div_coe (by norm_num), quarter_eq]

variable (nb : Fin 1024 → Fin 34 → Fin 1024)

theorem head_eq (hW : (weightsOf Q O W1 W2 l).Finite) (lc : Pair Ideal) (hlc : ∀ n m, lc (ix2 n m) = Ideal.log ((listed (nb n) m : ℝ) : EReal)) :
    head lc (layerNorm x) (projOf Q l.val h.val l.isLt h.isLt) (ix2 n d)
      = headRow (weightsOf Q O W1 W2 l) (fun n k => x (ix2 n k)) (nb n) n h d := by
  rw [head_apply, summed_apply, summed_one]
  simp only [expo_apply, logit_eq Q O W1 W2, hlc, value_apply Q O W1 W2]
  exact attend_eq (nb n) (fun m => rowMul (weightsOf Q O W1 W2 l).v (norm fun k => x (ix2 m k)) (entry h d)) (by norm_num)
    (logitRow (weightsOf Q O W1 W2 l) (fun n k => x (ix2 n k)) h n) fun m => logitRow_real _ hW h n m

theorem layer_eq (hW : (weightsOf Q O W1 W2 l).Finite) (lc : Pair Ideal) (hlc : ∀ n m, lc (ix2 n m) = Ideal.log ((listed (nb n) m : ℝ) : EReal)) (j : Fin 96) :
    layerOf lc x Q O W1 W2 l.val l.isLt (ix2 n j) = layerRow (weightsOf Q O W1 W2 l) (fun n k => x (ix2 n k)) (nb n) n j := by
  have ha : ∀ n j, attend x (heads lc (layerNorm x) (projOf Q l.val 0 l.isLt (by decide)) (projOf Q l.val 1 l.isLt (by decide))
      (projOf Q l.val 2 l.isLt (by decide)) (projOf Q l.val 3 l.isLt (by decide)) (projOf Q l.val 4 l.isLt (by decide))
      (projOf Q l.val 5 l.isLt (by decide))) (woOf O l.val l.isLt) (ix2 n j)
      = attendRow (weightsOf Q O W1 W2 l) (fun n k => x (ix2 n k)) (nb n) n j := by
    intro n j
    rw [attend_apply]
    simp only [woOf_apply]
    unfold attendRow
    refine congrArg (x (ix2 n j) + ·) (congrArg (fun t => rowMul (fun k j => O (ix3 l k j)) t j) (funext fun i => ?_))
    obtain ⟨h, d, rfl⟩ := entry_of i
    refine (heads_apply lc (layerNorm x) (fun h => projOf Q l.val h.val l.isLt h.isLt) n h d).trans ?_
    rw [head_eq Q O W1 W2 l x n h d nb hW lc hlc]
    exact (at_entry _ h d _ _).symm
  unfold layerOf
  rw [dense_apply]
  simp only [hidden_apply, ha, w1Of_apply, w2Of_apply]
  rfl

end Layer

theorem feat_apply (X : Vec Ideal S1x1024x8 .f32) (n : Fin 1024) (k : Fin 8) : featMat X (ix2 n k) = X (ix3 0 n k) := by
  pointwise [featMat]

/-- A block of the result, entry by entry. -/
theorem block_apply (X : Vec Ideal S1x1024x8 .f32) (P : Vec Ideal S1x3x1024 .f32) (Wi : Vec Ideal S8x96 .f32) (Q : Vec Ideal S2x6x96x48 .f32)
    (O : Vec Ideal S2x96x96 .f32) (W1 : Vec Ideal S2x96x384 .f32) (W2 : Vec Ideal S2x384x96 .f32) (Wo : Vec Ideal S96x288 .f32)
    (nb : Fin 1024 → Fin 34 → Fin 1024) (hnb : ∀ n m, weights (dist X P) (ix2 n m) = ((listed (nb n) m : ℝ) : EReal))
    (hW : ∀ l, (weightsOf Q O W1 W2 l).Finite) (n : Fin 1024) (j : Fin 288) :
    blockOf X P Wi Q O W1 W2 Wo (ix3 0 n j)
      = rowsOut (weightsOf Q O W1 W2 0) (weightsOf Q O W1 W2 1) (fun k j => Wo (ix2 k j))
        (fun n => rowMul (fun k j => Wi (ix2 k j)) fun k => X (ix3 0 n k)) nb n j := by
  unfold blockOf
  generalize weights (dist X P) = w at hnb
  have hlc : ∀ n m, log w (ix2 n m) = Ideal.log ((listed (nb n) m : ℝ) : EReal) := fun n m => by rw [log_apply, hnb]
  generalize log w = lc at hlc
  have e0 : ∀ x n j, layerOf lc x Q O W1 W2 0 (by decide) (ix2 n j) = layerRow (weightsOf Q O W1 W2 0) (fun n k => x (ix2 n k)) (nb n) n j :=
    fun x n j => layer_eq Q O W1 W2 0 x n nb (hW 0) lc hlc j
  have e1 : ∀ x n j, layerOf lc x Q O W1 W2 1 (by decide) (ix2 n j) = layerRow (weightsOf Q O W1 W2 1) (fun n k => x (ix2 n k)) (nb n) n j :=
    fun x n j => layer_eq Q O W1 W2 1 x n nb (hW 1) lc hlc j
  rw [project_apply]
  unfold rowsOut
  refine congrArg (fun t => rowMul (fun k j => Wo (ix2 k j)) (norm t) j) (funext fun k => ?_)
  rw [e1]
  refine congrArg (fun t => layerRow (weightsOf Q O W1 W2 1) t (nb n) n k) (funext fun n' => funext fun k' => ?_)
  rw [e0]
  refine congrArg (fun t => layerRow (weightsOf Q O W1 W2 0) t (nb n') n' k') (funext fun n => funext fun k => ?_)
  rw [embed_apply]
  exact congrArg (fun t => rowMul (fun k j => Wi (ix2 k j)) t k) (funext fun i => feat_apply X n i)

end Cert.TransformerIdeal

end
-- ==== Proof.TransformerIdeal.Arrays.lean ====
module

public import proofs.«01_k».proof.Proof.TransformerIdeal.Launch
public import proofs.«01_k».proof.Proof.TransformerIdeal.Values

/-! What the region finds in its arrays, entry by entry, and what it leaves in the result's. -/

@[expose] public section

set_option maxRecDepth 16384

noncomputable section

namespace Cert.TransformerIdeal.Run

open Cert.TransformerIdeal.Gen Cert.Proof
open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ) (c : Dev nD)

/-- The row of a cloud's point. -/
abbrev rowAt (b : Fin 8) (n : Fin 1024) : Fin 8192 := ⟨1024 * b.val + n.val, by omega⟩

theorem row_eq (b : Fin 8) (n : Fin 1024) (h) : (⟨b.val * 1024 + n.val, h⟩ : Fin 8192) = rowAt b n :=
  Fin.ext (show b.val * 1024 + n.val = 1024 * b.val + n.val by omega)

theorem feat_array : (V m c main_v1 : Vec Ideal S8x1024x8 .f32)
    = shapeCast S8x1024x8 (extractStridedSlice S8192x8 ![0, 0] (m ((c.tc : Thread nD τ).loc main_arg0) : Vec Ideal S8192x16 .f32) slices_S8192x16_S8192x8_0_0)
      shapeCasts_S8192x8_S8x1024x8 := by
  unfold V V0
  simp only [hostOps0, hostOps0_1, hostOps0_2, List.flatten_cons, List.flatten_nil, List.append_nil, List.cons_append, List.nil_append]
  after_results_simp
  rfl

theorem cloud_array : (V m c main_v4 : Vec Ideal S8x3x1024 .f32)
    = transpose S8x3x1024 [0, 2, 1] (shapeCast S8x1024x3 (extractStridedSlice S8192x3 ![0, 3] (m ((c.tc : Thread nD τ).loc main_arg0) : Vec Ideal S8192x16 .f32) slices_S8192x16_S8192x3_0_3)
      shapeCasts_S8192x3_S8x1024x3) transposes_S8x1024x3_S8x3x1024_0_2_1 := by
  unfold V V0
  simp only [hostOps0, hostOps0_1, hostOps0_2, List.flatten_cons, List.flatten_nil, List.append_nil, List.cons_append, List.nil_append]
  after_results_simp
  rfl

theorem into_array : (V m c main_v5 : Vec Ideal S8x96 .f32)
    = pad S8x96 ![0, 0] ![2, 0] ![0, 0] (m ((c.tc : Thread nD τ).loc main_arg1) : Vec Ideal S6x96 .f32)
      (sitofp .f32 (constantI S_ 32 0#32) : FVec Ideal S_ .f32) pads_S6x96_S8x96_020_000 h_S_ := by
  unfold V V0
  simp only [hostOps0, hostOps0_1, hostOps0_2, List.flatten_cons, List.flatten_nil, List.append_nil, List.cons_append, List.nil_append]
  after_results_simp
  rfl

/-- A stack of matrices by heads. -/
def byHead (w : FVec Ideal S2x96x96 .f32) : FVec Ideal S2x6x96x16 .f32 :=
  transpose S2x6x96x16 [0, 2, 1, 3] (shapeCast S2x96x6x16 w shapeCasts_S2x96x96_S2x96x6x16) transposes_S2x96x6x16_S2x6x96x16_0_2_1_3

/-- Three such side by side. -/
def beside (x y z : FVec Ideal S2x6x96x16 .f32) : FVec Ideal S2x6x96x48 .f32 :=
  concatenate S2x6x96x48 3 [⟨S2x6x96x16, x⟩, ⟨S2x6x96x16, y⟩, ⟨S2x6x96x16, z⟩] concatenates_S2x6x96x16_S2x6x96x16_S2x6x96x16_S2x6x96x48_d3

theorem joined (U : Valuation τ sig (Elt Ideal)) : (StableHlo.after [StableHlo.nary ![main_v7, main_v9, main_v11] main_v12 (fun u => (concatenate S2x6x96x48 3 [⟨S2x6x96x16, (u 0 : (⟨S2x6x96x16, .f32⟩ : BufTy).Contents (Elt Ideal))⟩, ⟨S2x6x96x16, (u 1 : (⟨S2x6x96x16, .f32⟩ : BufTy).Contents (Elt Ideal))⟩, ⟨S2x6x96x16, (u 2 : (⟨S2x6x96x16, .f32⟩ : BufTy).Contents (Elt Ideal))⟩] concatenates_S2x6x96x16_S2x6x96x16_S2x6x96x16_S2x6x96x48_d3 : (⟨S2x6x96x48, .f32⟩ : BufTy).Contents (Elt Ideal)))] U main_v12 : Vec Ideal S2x6x96x48 .f32)
    = beside (U main_v7) (U main_v9) (U main_v11) := by
  after_results_simp
  rfl

theorem heads_array : (V m c main_v12 : Vec Ideal S2x6x96x48 .f32)
    = beside (byHead (m ((c.tc : Thread nD τ).loc main_arg2))) (byHead (m ((c.tc : Thread nD τ).loc main_arg3))) (byHead (m ((c.tc : Thread nD τ).loc main_arg4))) := by
  unfold V V0
  simp only [hostOps0, hostOps0_1, hostOps0_2, List.flatten_cons, List.flatten_nil, List.append_nil, List.cons_append, List.nil_append]
  simp only [StableHlo.after_cons]
  refine (joined _).trans ?_
  unfold byHead
  congr 1 <;> after_results_simp

theorem feat_entry (b : Fin 8) (n : Fin 1024) (k : Fin 8) : (V m c main_v1 : Vec Ideal S8x1024x8 .f32) (ix3 b n k)
    = (m ((c.tc : Thread nD τ).loc main_arg0) : Vec Ideal S8192x16 .f32) (ix2 (rowAt b n) ⟨k.val, by omega⟩) := by
  rw [feat_array]
  generalize (m ((c.tc : Thread nD τ).loc main_arg0) : Vec Ideal S8192x16 .f32) = x
  pointwise
  rw [row_eq]

theorem cloud_entry (b : Fin 8) (a : Fin 3) (n : Fin 1024) : (V m c main_v4 : Vec Ideal S8x3x1024 .f32) (ix3 b a n)
    = (m ((c.tc : Thread nD τ).loc main_arg0) : Vec Ideal S8192x16 .f32) (ix2 (rowAt b n) ⟨3 + a.val, by omega⟩) := by
  rw [cloud_array]
  generalize (m ((c.tc : Thread nD τ).loc main_arg0) : Vec Ideal S8192x16 .f32) = x
  pointwise
  rw [row_eq]

theorem padded_apply (x : FVec Ideal S6x96 .f32) (z : FVec Ideal S_ .f32) (k : Fin 8) (j : Fin 96) :
    pad S8x96 ![0, 0] ![2, 0] ![0, 0] x z pads_S6x96_S8x96_020_000 h_S_ (ix2 k j) = if h : k.val < 6 then x (ix2 ⟨k.val, h⟩ j) else z ix0 := by
  pointwise
  simp only [show (Shape.Idx.first h_S_ : S_.Idx) = ix0 from funext fun a => a.elim0]

theorem byHead_apply (w : FVec Ideal S2x96x96 .f32) (l : Fin 2) (h : Fin 6) (k : Fin 96) (e : Fin 16) :
    byHead w (ix4 l h k e) = w (ix3 l k ⟨16 * h.val + e.val, by omega⟩) := by
  pointwise [byHead]
  exact congrArg (fun i => w (ix3 l k i)) (Fin.ext (show h.val * 16 + e.val = 16 * h.val + e.val by omega))

theorem beside_first (x y z : FVec Ideal S2x6x96x16 .f32) (l : Fin 2) (h : Fin 6) (k : Fin 96) (e : Fin 16) :
    beside x y z (ix4 l h k ⟨0 + e.val, by omega⟩) = x (ix4 l h k e) := by
  pointwise [beside]
theorem beside_second (x y z : FVec Ideal S2x6x96x16 .f32) (l : Fin 2) (h : Fin 6) (k : Fin 96) (e : Fin 16) :
    beside x y z (ix4 l h k ⟨16 + e.val, by omega⟩) = y (ix4 l h k e) := by
  pointwise [beside]
theorem beside_third (x y z : FVec Ideal S2x6x96x16 .f32) (l : Fin 2) (h : Fin 6) (k : Fin 96) (e : Fin 16) :
    beside x y z (ix4 l h k ⟨32 + e.val, by omega⟩) = z (ix4 l h k e) := by
  pointwise [beside]
  rw [dif_neg (by omega), dif_neg (by omega)]
  exact congrArg (fun i => z (ix4 l h k i)) (Fin.ext (show 32 + e.val - 16 - 16 = e.val by omega))

theorem point_lt (t : Fin cfg0.N) : t.val < 8 := t.isLt

theorem index_0 : ∀ t : Fin cfg0.N, win0_0.index t = ![t.val, 0, 0] := by decide +kernel
theorem index_1 : ∀ t : Fin cfg0.N, win0_1.index t = ![t.val, 0, 0] := by decide +kernel
theorem index_2 : ∀ t : Fin cfg0.N, win0_2.index t = ![0, 0] := by decide +kernel
theorem index_3 : ∀ t : Fin cfg0.N, win0_3.index t = ![0, 0, 0, 0] := by decide +kernel
theorem index_4 : ∀ t : Fin cfg0.N, win0_4.index t = ![0, 0, 0] := by decide +kernel
theorem index_5 : ∀ t : Fin cfg0.N, win0_5.index t = ![0, 0, 0] := by decide +kernel
theorem index_6 : ∀ t : Fin cfg0.N, win0_6.index t = ![0, 0, 0] := by decide +kernel
theorem index_7 : ∀ t : Fin cfg0.N, win0_7.index t = ![0, 0] := by decide +kernel
theorem index_8 : ∀ t : Fin cfg0.N, win0_8.index t = ![t.val, 0, 0] := by decide +kernel

theorem block_0 (t : Fin cfg0.N) (n : Fin 1024) (k : Fin 8) : (iblk m c 0 t : Vec Ideal S1x1024x8 .f32) (ix3 0 n k)
    = (V m c main_v1 : Vec Ideal S8x1024x8 .f32) (ix3 ⟨t.val, point_lt t⟩ n k) := by
  blk_simp [iblk]
  refine congrArg (V m c main_v1 : Vec Ideal S8x1024x8 .f32) (funext fun a => Fin.ext ?_)
  match a with
  | 0 => blk_simp [index_0]; rfl
  | 1 => blk_simp [index_0]
  | 2 => blk_simp [index_0]

theorem block_1 (t : Fin cfg0.N) (a : Fin 3) (n : Fin 1024) : (iblk m c 1 t : Vec Ideal S1x3x1024 .f32) (ix3 0 a n)
    = (V m c main_v4 : Vec Ideal S8x3x1024 .f32) (ix3 ⟨t.val, point_lt t⟩ a n) := by
  blk_simp [iblk]
  refine congrArg (V m c main_v4 : Vec Ideal S8x3x1024 .f32) (funext fun a => Fin.ext ?_)
  match a with
  | 0 => blk_simp [index_1]; rfl
  | 1 => blk_simp [index_1]
  | 2 => blk_simp [index_1]

theorem block_2 (t : Fin cfg0.N) : (iblk m c 2 t : Vec Ideal S8x96 .f32) = (V m c main_v5 : Vec Ideal S8x96 .f32) := by
  funext i
  blk_simp [iblk]
  refine congrArg (V m c main_v5 : Vec Ideal S8x96 .f32) (funext fun a => Fin.ext ?_)
  match a with
  | 0 => blk_simp [index_2]
  | 1 => blk_simp [index_2]

theorem block_3 (t : Fin cfg0.N) : (iblk m c 3 t : Vec Ideal S2x6x96x48 .f32) = (V m c main_v12 : Vec Ideal S2x6x96x48 .f32) := by
  funext i
  blk_simp [iblk]
  refine congrArg (V m c main_v12 : Vec Ideal S2x6x96x48 .f32) (funext fun a => Fin.ext ?_)
  match a with
  | 0 => blk_simp [index_3]
  | 1 => blk_simp [index_3]
  | 2 => blk_simp [index_3]
  | 3 => blk_simp [index_3]

theorem block_4 (t : Fin cfg0.N) : (iblk m c 4 t : Vec Ideal S2x96x96 .f32) = (V m c main_arg5 : Vec Ideal S2x96x96 .f32) := by
  funext i
  blk_simp [iblk]
  refine congrArg (V m c main_arg5 : Vec Ideal S2x96x96 .f32) (funext fun a => Fin.ext ?_)
  match a with
  | 0 => blk_simp [index_4]
  | 1 => blk_simp [index_4]
  | 2 => blk_simp [index_4]

theorem block_5 (t : Fin cfg0.N) : (iblk m c 5 t : Vec Ideal S2x96x384 .f32) = (V m c main_arg6 : Vec Ideal S2x96x384 .f32) := by
  funext i
  blk_simp [iblk]
  refine congrArg (V m c main_arg6 : Vec Ideal S2x96x384 .f32) (funext fun a => Fin.ext ?_)
  match a with
  | 0 => blk_simp [index_5]
  | 1 => blk_simp [index_5]
  | 2 => blk_simp [index_5]

theorem block_6 (t : Fin cfg0.N) : (iblk m c 6 t : Vec Ideal S2x384x96 .f32) = (V m c main_arg7 : Vec Ideal S2x384x96 .f32) := by
  funext i
  blk_simp [iblk]
  refine congrArg (V m c main_arg7 : Vec Ideal S2x384x96 .f32) (funext fun a => Fin.ext ?_)
  match a with
  | 0 => blk_simp [index_6]
  | 1 => blk_simp [index_6]
  | 2 => blk_simp [index_6]

theorem block_7 (t : Fin cfg0.N) : (iblk m c 7 t : Vec Ideal S96x288 .f32) = (V m c main_arg8 : Vec Ideal S96x288 .f32) := by
  funext i
  blk_simp [iblk]
  refine congrArg (V m c main_arg8 : Vec Ideal S96x288 .f32) (funext fun a => Fin.ext ?_)
  match a with
  | 0 => blk_simp [index_7]
  | 1 => blk_simp [index_7]

theorem block_index (y : S1x1024x288.Idx) : y = ix3 0 (y 1) (y 2) := funext fun a => by
  match a with
  | 0 => exact Subsingleton.elim (α := Fin 1) _ _
  | 1 => rfl
  | 2 => rfl

/-- The result's array, of the blocks. -/
theorem result_array (G : Vec Ideal S8x1024x288 .f32) (hG : ∀ t n j, blockAt m c t (ix3 0 n j) = G (ix3 ⟨t.val, point_lt t⟩ n j)) :
    ((dats m 0 c).arrAt 8 cfg0.N : Vec Ideal S8x1024x288 .f32) = G := by
  refine (dats m 0 c).arrAt_eq_of_covers 8 _ (by decide +kernel) fun t hf y => ?_
  blk_simp
  rw [dats_after_8]
  refine (congrArg (blockAt m c t) (block_index y)).trans ((hG t _ _).trans (congrArg G (funext fun a => Fin.ext ?_)))
  match a with
  | 0 =>
    have h0 : (y 0).val < 1 := (y 0).isLt
    blk_simp [index_8]
  | 1 => blk_simp [index_8]
  | 2 => blk_simp [index_8]

end Cert.TransformerIdeal.Run
-- ==== Proof.Common.Nearest.lean ====
module

public import Idealize.ShloMosaic.Lib.SortFacts
public import Mathlib.Data.EReal.Operations
public import Mathlib.Algebra.BigOperators.Fin

/-! The nearest points of a point, in order. `D` gives each candidate's distance, infinite for one that is too far, and
    `σ` lists the candidates by distance, equal ones by number. -/

@[expose] public section

noncomputable section

namespace Cert.Proof

open Idealize.ShloMosaic

/-- The candidates in the order a stable sort puts them: nearest first. -/
structure Ordered {N : Nat} (D : Fin N → EReal) (σ : Fin N → Fin N) : Prop where
  inj : Function.Injective σ
  sorted : ∀ i j, i < j → D (σ i) < D (σ j) ∨ (D (σ i) = D (σ j) ∧ σ i < σ j)

namespace Ordered

variable {N : Nat} {D : Fin N → EReal} {σ : Fin N → Fin N} (h : Ordered D σ)
include h

theorem surj : Function.Surjective σ := Finite.injective_iff_surjective.mp h.inj

theorem mono {i j : Fin N} (hij : i ≤ j) : D (σ i) ≤ D (σ j) := by
  rcases hij.lt_or_eq with c | rfl
  · rcases h.sorted i j c with c | c
    · exact c.le
    · exact c.1.le
  · exact le_rfl

/-- The neighbour in place `s`: the candidate there, or the point itself where only candidates too far are left. -/
abbrev nb (_ : Ordered D σ) (n : Fin N) (s : Fin N) : Fin N := if D (σ s) ≠ ⊤ then σ s else n

/-- The distances when the first `k` candidates are struck out. -/
def struck (_ : Ordered D σ) (k : Nat) (m : Fin N) : EReal := if ∃ i : Fin N, i.val < k ∧ σ i = m then ⊤ else D m

theorem struck_at (k : Fin N) : h.struck k.val (σ k) = D (σ k) := by
  refine if_neg fun ⟨i, hi, e⟩ => ?_
  rw [h.inj e] at hi
  exact lt_irrefl _ hi

theorem struck_ge (k : Fin N) (m : Fin N) : D (σ k) ≤ h.struck k.val m := by
  unfold struck
  split
  · exact le_top
  · next hn =>
    obtain ⟨i, rfl⟩ := h.surj m
    refine h.mono (le_of_not_gt fun c => hn ⟨i, c, rfl⟩)

/-- The candidate in place `k` is the first of the nearest that are left. -/
theorem struck_first (k : Fin N) (hk : D (σ k) ≠ ⊤) (m : Fin N) (hm : h.struck k.val m = D (σ k)) : σ k ≤ m := by
  unfold struck at hm
  split at hm
  · exact absurd hm.symm hk
  · next hn =>
    obtain ⟨i, rfl⟩ := h.surj m
    have hi : k ≤ i := le_of_not_gt fun c => hn ⟨i, c, rfl⟩
    rcases hi.lt_or_eq with c | rfl
    · rcases h.sorted k i c with c | c
      · exact absurd hm c.ne'
      · exact c.2.le
    · exact le_rfl

theorem struck_zero (m : Fin N) : h.struck 0 m = D m := if_neg fun ⟨_, hi, _⟩ => absurd hi (Nat.not_lt_zero _)

theorem struck_succ (k : Fin N) (m : Fin N) :
    h.struck (k.val + 1) m = if m = σ k ∧ D (σ k) ≠ ⊤ then ⊤ else h.struck k.val m := by
  unfold struck
  by_cases c : ∃ i : Fin N, i.val < k.val ∧ σ i = m
  · rw [if_pos (by obtain ⟨i, hi, e⟩ := c; exact ⟨i, by omega, e⟩), if_pos c, ite_self]
  · by_cases e : m = σ k
    · subst e
      rw [if_pos ⟨k, Nat.lt_succ_self _, rfl⟩, if_neg c]
      split
      · rfl
      · next hn => exact (not_not.1 fun hh => hn ⟨rfl, hh⟩).symm
    · rw [if_neg c, if_neg (show ¬ (m = σ k ∧ D (σ k) ≠ ⊤) from fun hh => e hh.1), if_neg]
      rintro ⟨i, hi, e'⟩
      rcases Nat.lt_succ_iff_lt_or_eq.1 hi with hi | hi
      · exact c ⟨i, hi, e'⟩
      · exact e (by rw [← e', Fin.ext hi])

/-- How often `m` is among the first `k` neighbours of `n`. -/
def times (_ : Ordered D σ) (n : Fin N) (k : Nat) (m : Fin N) : Nat :=
  (Finset.univ.filter fun s : Fin N => s.val < k ∧ (if D (σ s) ≠ ⊤ then σ s else n) = m).card

theorem times_zero (n m : Fin N) : h.times n 0 m = 0 := by
  unfold times
  rw [Finset.card_eq_zero, Finset.filter_eq_empty_iff]
  exact fun s _ c => absurd c.1 (Nat.not_lt_zero _)

theorem times_succ (n : Fin N) (k : Fin N) (m : Fin N) :
    h.times n (k.val + 1) m = h.times n k.val m + if m = (if D (σ k) ≠ ⊤ then σ k else n) then 1 else 0 := by
  unfold times
  by_cases e : m = (if D (σ k) ≠ ⊤ then σ k else n)
  · rw [if_pos e]
    have : (Finset.univ.filter fun s : Fin N => s.val < k.val + 1 ∧ (if D (σ s) ≠ ⊤ then σ s else n) = m)
        = insert k (Finset.univ.filter fun s : Fin N => s.val < k.val ∧ (if D (σ s) ≠ ⊤ then σ s else n) = m) := by
      ext s
      simp only [Finset.mem_filter, Finset.mem_univ, true_and, Finset.mem_insert]
      constructor
      · rintro ⟨hs, e'⟩
        rcases Nat.lt_succ_iff_lt_or_eq.1 hs with hs | hs
        · exact .inr ⟨hs, e'⟩
        · exact .inl (Fin.ext hs)
      · rintro (rfl | ⟨hs, e'⟩)
        · exact ⟨Nat.lt_succ_self _, e.symm⟩
        · exact ⟨by omega, e'⟩
    rw [this, Finset.card_insert_of_notMem]
    simp
  · rw [if_neg e, add_zero]
    congr 1
    ext s
    simp only [Finset.mem_filter, Finset.mem_univ, true_and]
    refine and_congr_left fun e' => ⟨fun hs => ?_, fun hs => by omega⟩
    rcases Nat.lt_succ_iff_lt_or_eq.1 hs with hs | hs
    · exact hs
    · rw [show s = k from Fin.ext hs] at e'
      exact absurd e'.symm e

/-- Where at most `k` candidates are near, each of them is once among the first `k` neighbours, and the point itself
    fills the rest. -/
theorem times_few (n : Fin N) (k : Nat) (hk : (Finset.univ.filter fun m => D m ≠ ⊤).card ≤ k) (hkN : k ≤ N) (m : Fin N) :
    h.times n k m = (if D m ≠ ⊤ then 1 else 0) + if m = n then k - (Finset.univ.filter fun m => D m ≠ ⊤).card else 0 := by
  have early : ∀ s : Fin N, D (σ s) ≠ ⊤ → s.val < k := by
    intro s hs
    refine lt_of_lt_of_le ?_ hk
    have hsub : (Finset.univ.filter fun i : Fin N => i ≤ s).image σ ⊆ Finset.univ.filter fun m => D m ≠ ⊤ := by
      intro m hm
      obtain ⟨i, hi, rfl⟩ := Finset.mem_image.1 hm
      refine Finset.mem_filter.2 ⟨Finset.mem_univ _, fun e => hs ?_⟩
      exact top_le_iff.1 (e ▸ h.mono (Finset.mem_filter.1 hi).2)
    have := Finset.card_le_card hsub
    rw [Finset.card_image_of_injective _ h.inj, show (Finset.univ.filter fun i : Fin N => i ≤ s) = Finset.Iic s by ext; simp,
      Fin.card_Iic] at this
    omega
  have split : (Finset.univ.filter fun s : Fin N => s.val < k ∧ (if D (σ s) ≠ ⊤ then σ s else n) = m)
      = (Finset.univ.filter fun s : Fin N => D (σ s) ≠ ⊤ ∧ σ s = m)
        ∪ (Finset.univ.filter fun s : Fin N => (s.val < k ∧ D (σ s) = ⊤) ∧ m = n) := by
    ext s
    simp only [Finset.mem_filter, Finset.mem_univ, true_and, Finset.mem_union]
    by_cases c : D (σ s) = ⊤
    · simp only [c, ne_eq, not_true_eq_false, if_false, false_and, false_or, and_true]
      exact and_congr_right fun _ => eq_comm
    · simp only [c, ne_eq, not_false_eq_true, if_true, true_and, and_false, false_and, or_false]
      exact and_iff_right (early s c)
  unfold times
  rw [split, Finset.card_union_of_disjoint]
  · congr 1
    · obtain ⟨i, rfl⟩ := h.surj m
      split
      · next c =>
        rw [Finset.card_eq_one]
        refine ⟨i, ?_⟩
        ext s
        simp only [Finset.mem_filter, Finset.mem_univ, true_and, Finset.mem_singleton]
        exact ⟨fun hs => h.inj hs.2, fun e => by rw [e]; exact ⟨c, rfl⟩⟩
      · next c =>
        rw [Finset.card_eq_zero, Finset.filter_eq_empty_iff]
        rintro s _ ⟨hs, e⟩
        exact c (e ▸ hs)
    · split
      · next e =>
        have hA : (Finset.univ.filter fun m => D m ≠ ⊤).card = (Finset.univ.filter fun s : Fin N => D (σ s) ≠ ⊤).card := by
          rw [← Finset.card_image_of_injective (Finset.univ.filter fun s : Fin N => D (σ s) ≠ ⊤) h.inj]
          congr 1
          ext m
          simp only [Finset.mem_filter, Finset.mem_univ, true_and, Finset.mem_image]
          constructor
          · intro hm
            obtain ⟨i, rfl⟩ := h.surj m
            exact ⟨i, hm, rfl⟩
          · rintro ⟨i, hi, rfl⟩
            exact hi
        have hB : (Finset.univ.filter fun s : Fin N => s.val < k).card = k := by
          rw [Fin.card_filter_val_lt]
          exact min_eq_right hkN
        have hC : (Finset.univ.filter fun s : Fin N => s.val < k)
            = (Finset.univ.filter fun s : Fin N => D (σ s) ≠ ⊤) ∪ (Finset.univ.filter fun s : Fin N => (s.val < k ∧ D (σ s) = ⊤) ∧ m = n) := by
          ext s
          simp only [Finset.mem_filter, Finset.mem_univ, true_and, Finset.mem_union, e, and_true]
          by_cases c : D (σ s) = ⊤
          · simp [c]
          · simp [c, early s c]
        rw [hC, Finset.card_union_of_disjoint] at hB
        · omega
        · rw [Finset.disjoint_filter]
          exact fun s _ a b => a b.1.2
      · next e =>
        rw [Finset.card_eq_zero, Finset.filter_eq_empty_iff]
        exact fun s _ c => e c.2
  · rw [Finset.disjoint_filter]
    exact fun s _ a b => a.1 b.1.2

end Ordered

section Sorting
variable {N : Nat} (D : Fin N → EReal)

/-- Nearer, or as near and of a smaller number. -/
abbrev Sooner (i j : Fin N) : Prop := D i < D j ∨ (D i = D j ∧ i < j)

theorem sooner_insert (a : Fin N) (l : List (Fin N)) (hl : l.Pairwise (Sooner D)) (ha : ∀ b ∈ l, a < b) :
    (insertBefore (fun i j : Fin N => decide (D i < D j)) a l).Pairwise (Sooner D) := by
  induction l with
  | nil => exact List.pairwise_singleton _ _
  | cons b l ih =>
    rw [List.pairwise_cons] at hl
    unfold insertBefore
    split
    · next c =>
      refine List.pairwise_cons.2 ⟨fun x hx => ?_, ih hl.2 fun x hx => ha x (List.mem_cons_of_mem _ hx)⟩
      rcases List.mem_cons.1 ((perm_insertBefore _ a l).mem_iff.1 hx) with rfl | hx
      · exact .inl (of_decide_eq_true c)
      · exact hl.1 x hx
    · next c =>
      have hab : D a ≤ D b := not_lt.1 fun hh => c (decide_eq_true hh)
      refine List.pairwise_cons.2 ⟨fun x hx => ?_, List.pairwise_cons.2 hl⟩
      have hbx : D b ≤ D x := by
        rcases List.mem_cons.1 hx with rfl | hx
        · exact le_rfl
        · rcases hl.1 x hx with e | e
          · exact e.le
          · exact e.1.le
      rcases (hab.trans hbx).lt_or_eq with e | e
      · exact .inl e
      · exact .inr ⟨e, ha x hx⟩

theorem sooner_sort (l : List (Fin N)) (hl : l.Pairwise (· < ·)) :
    (stableSort (fun i j : Fin N => decide (D i < D j)) l).Pairwise (Sooner D) := by
  induction l with
  | nil => exact List.Pairwise.nil
  | cons a l ih =>
    rw [List.pairwise_cons] at hl
    exact sooner_insert D a _ (ih hl.2) fun b hb => hl.1 b ((perm_stableSort _ _).mem_iff.1 hb)

/-- A stable sort by distance orders the candidates. -/
theorem sorted_ordered : Ordered D (sortedFrom fun i j : Fin N => decide (D i < D j)) where
  inj := sortedFrom_injective _
  sorted i j hij := by
    have hp : (sortPositions N fun i j : Fin N => decide (D i < D j)).Pairwise (Sooner D) :=
      sooner_sort D (List.finRange N) (List.pairwise_lt_finRange N)
    exact List.pairwise_iff_get.1 hp _ _ (show i.val < j.val from hij)

end Sorting

end Cert.Proof

end
-- ==== Proof.TransformerReference.lean ====
module

public import proofs.«01_k».proof.Proof.Gen.TransformerReferenceIdeal
public import proofs.«01_k».proof.Proof.Common.Attention
public import proofs.«01_k».proof.Proof.Common.Nearest
public import Idealize.ShloMosaic.Lib.Pointwise

/-! The reference's values, entry by entry, on the extended reals. -/

@[expose] public section

noncomputable section

namespace Cert.TransformerReferenceIdeal.Run

open Idealize.ShloMosaic Idealize.ShloMosaic.StableHlo Cert.Proof Cert.TransformerReferenceIdeal Cert.TransformerReferenceIdeal.Gen

/-- The reference's arrays of rows. -/
abbrev Rows := FVec Ideal S8192x96 .f32

/-- The means of the rows, -/
def meanOf (c : FVec Ideal S_ .f32) (x : Rows) : FVec Ideal S8192x1 .f32 :=
  Host.divf (broadcastInDim S8192x1 ![0] bcast_S8192_S8192x1_0 (Host.reduceAdd x (constant S_ .f32 0x00000000#32) reducesTo_S8192x96_S8192_d1 h_S_))
    (broadcastInDim S8192x1 ![] bcast_S_S8192x1 c)

/-- the rows less their means, -/
def centredOf (x : Rows) : Rows := subf x (broadcastInDim S8192x96 ![0, 1] bcast_S8192x1_S8192x96_0_1 (meanOf (constant S_ .f32 0x42C00000#32) x))

/-- the divisor of the variance, -/
def degrees : FVec Ideal S_ .f32 := subf (constant S_ .f32 0x42C00000#32) (sitofp .f32 (constantI S_ 32 0#32))

/-- and the rows normalized. -/
def normedBy (c : FVec Ideal S_ .f32) (x : Rows) : Rows :=
  mulf (centredOf x) (broadcastInDim S8192x96 ![0, 1] bcast_S8192x1_S8192x96_0_1 (Host.rsqrt (addf
    (select (broadcastInDim S8192x1 ![] bcast_S_S8192x1 (cmpf .ogt c (constant S_ .f32 0x00000000#32))) (meanOf c (mulf (centredOf x) (centredOf x)))
      (broadcastInDim S8192x1 ![] bcast_S_S8192x1 (id (constant S_ .f32 0x7FC00000#32))))
    (broadcastInDim S8192x1 ![] bcast_S_S8192x1 (constant S_ .f32 0x3727C5AC#32)))))
def normed (x : Rows) : Rows := normedBy degrees x

/-- The rows times a matrix, by heads. -/
def byHeads (x : Rows) (w : FVec Ideal S96x96 .f32) : FVec Ideal S8192x6x16 .f32 :=
  shapeCast _ (Host.dotGeneral dot_S8192x96_S96x96_S8192x96_1_0_0_1_n_n none x w) shapeCasts_S8192x96_S8192x6x16

/-- The neighbours' rows. -/
def taken (I : IVec S8192x34 32) (y : FVec Ideal S8192x6x16 .f32) : FVec Ideal S8192x34x6x16 .f32 :=
  Host.gather gather_S8192x6x16_S8192x34x1_S8192x34x6x16_23_0_n_n_0_2_1616 y (broadcastInDim S8192x34x1 ![0, 1] bcast_S8192x34_S8192x34x1_0_1
    (select (cmpi .slt I (broadcastInDim S8192x34 ![] bcast_S_S8192x34 (constantI S_ 32 0#32)))
      (addi I (broadcastInDim S8192x34 ![] bcast_S_S8192x34 (constantI S_ 32 8192#32))) I))

/-- The logits, -/
def logitsOf (k : FVec Ideal S8192x34x6x16 .f32) (q : FVec Ideal S8192x6x16 .f32) : FVec Ideal S8192x34x6 .f32 :=
  Host.divf (transpose S8192x34x6 [0, 2, 1] (Host.dotGeneral dot_S8192x34x6x16_S8192x6x16_S8192x6x34_3_2_1_n_02_01 none k q) transposes_S8192x6x34_S8192x34x6_0_2_1)
    (broadcastInDim S8192x34x6 ![] bcast_S_S8192x34x6 (constant S_ .f32 0x40800000#32))

/-- their exponentials, -/
def exposOf (z : FVec Ideal S8192x34x6 .f32) : FVec Ideal S8192x34x6 .f32 :=
  Host.exp (subf z (broadcastInDim S8192x34x6 ![0, 1, 2] bcast_S8192x1x6_S8192x34x6_0_1_2 (broadcastInDim S8192x1x6 ![0, 2] bcast_S8192x6_S8192x1x6_0_2
    (maximumf (broadcastInDim S8192x6 ![] bcast_S_S8192x6 (constant S_ .f32 0xFF800000#32))
      (Host.reduce FloatOps.maximumf z (constant S_ .f32 0xFF800000#32) reducesTo_S8192x34x6_S8192x6_d1 h_S_)))))

/-- what the heads give, -/
def headsOf (e : FVec Ideal S8192x34x6 .f32) (v : FVec Ideal S8192x34x6x16 .f32) : Rows :=
  shapeCast _ (Host.dotGeneral dot_S8192x34x6_S8192x34x6x16_S8192x6x16_1_1_n_3_02_02 none (Host.divf e
    (broadcastInDim S8192x34x6 ![0, 1, 2] bcast_S8192x1x6_S8192x34x6_0_1_2 (broadcastInDim S8192x1x6 ![0, 2] bcast_S8192x6_S8192x1x6_0_2
      (Host.reduceAdd e (constant S_ .f32 0x00000000#32) reducesTo_S8192x34x6_S8192x6_d1 h_S_)))) v) shapeCasts_S8192x6x16_S8192x96

/-- the rows after attention, -/
def attendedOf (x : Rows) (I : IVec S8192x34 32) (q k v o : FVec Ideal S96x96 .f32) : Rows :=
  addf x (Host.dotGeneral dot_S8192x96_S96x96_S8192x96_1_0_0_1_n_n none
    (headsOf (exposOf (logitsOf (taken I (byHeads (normed x) k)) (byHeads (normed x) q))) (taken I (byHeads (normed x) v))) o)

/-- and after the dense layers. -/
def denseOf (x : Rows) (w1 : FVec Ideal S96x384 .f32) (w2 : FVec Ideal S384x96 .f32) : Rows :=
  addf x (Host.dotGeneral dot_S8192x384_S384x96_S8192x96_1_0_0_1_n_n none
    (maximumf (Host.dotGeneral dot_S8192x96_S96x384_S8192x384_1_0_0_1_n_n none (normed x) w1)
      (broadcastInDim S8192x384 ![] bcast_S_S8192x384 (constant S_ .f32 0x00000000#32))) w2)

/-- The rows that leave the reference. -/
def leaving (x : Rows) (w : FVec Ideal S96x288 .f32) : FVec Ideal S8x288x1024 .f32 :=
  transpose S8x288x1024 [0, 2, 1] (shapeCast S8x1024x288 (Host.dotGeneral dot_S8192x96_S96x288_S8192x288_1_0_0_1_n_n none (normed x) w)
    shapeCasts_S8192x288_S8x1024x288) transposes_S8x1024x288_S8x288x1024_0_2_1

/-! ### Entries -/

theorem scalar_apply (b : BitVec 32) : (constant S_ .f32 b : FVec Ideal S_ .f32) ix0 = Ideal.ofBits .f32 b := rfl

theorem meanOf_apply (c : FVec Ideal S_ .f32) (x : Rows) (n : Fin 8192) : meanOf c x (ix2 n 0) = rowMean (c ix0) fun k => x (ix2 n k) := by
  pointwise [meanOf, rowMean]

theorem centredOf_apply (x : Rows) (n : Fin 8192) (j : Fin 96) : centredOf x (ix2 n j) = x (ix2 n j) - rowMean width fun k => x (ix2 n k) := by
  pointwise [centredOf]
  rw [meanOf_apply, scalar_apply]

theorem number_apply (z : BitVec 32) : (sitofp .f32 (constantI S_ 32 z) : FVec Ideal S_ .f32) ix0 = ((z.toInt : ℝ) : EReal) := rfl

theorem minus_apply (a b : FVec Ideal S_ .f32) : subf a b ix0 = a ix0 - b ix0 := rfl

theorem degrees_apply : degrees ix0 = width := by
  unfold degrees
  rw [minus_apply, scalar_apply, number_apply]
  have e : ((0#32).toInt : ℝ) = 0 := by simp
  rw [e, EReal.coe_zero]
  rw [sub_zero]

theorem width_pos : 0 < width := by
  rw [width_eq]
  exact EReal.coe_pos.2 (by norm_num)

theorem square_apply (x : Rows) (i : S8192x96.Idx) : mulf x x i = x i * x i := rfl

theorem normedBy_apply (c : FVec Ideal S_ .f32) (x : Rows) (n : Fin 8192) (j : Fin 96) :
    normedBy c x (ix2 n j) = centredOf x (ix2 n j) * Ideal.rsqrt ((if 0 < c ix0 then meanOf c (mulf (centredOf x) (centredOf x)) (ix2 n 0)
      else Ideal.ofBits .f32 0x7FC00000#32) + little) := by
  pointwise [normedBy]
  rfl

theorem normed_apply (x : Rows) (n : Fin 8192) (j : Fin 96) : normed x (ix2 n j) = norm (fun k => x (ix2 n k)) j := by
  unfold normed
  rw [normedBy_apply, degrees_apply, if_pos width_pos, meanOf_apply, degrees_apply]
  simp only [square_apply, centredOf_apply]
  rfl

theorem byHeads_apply (x : Rows) (w : FVec Ideal S96x96 .f32) (n : Fin 8192) (h : Fin 6) (d : Fin 16) :
    byHeads x w (ix3 n h d) = rowMul (fun k j => w (ix2 k j)) (fun k => x (ix2 n k)) (entry h d) := by
  pointwise [byHeads]
  exact Finset.sum_congr rfl fun k _ => congrArg (fun t => x (ix2 n k) * w (ix2 k t)) (Fin.ext (show h.val * 16 + d.val = 16 * h.val + d.val by omega))

theorem wrapped_apply (I : IVec S8192x34 32) (n : Fin 8192) (s : Fin 34) :
    broadcastInDim S8192x34x1 ![0, 1] bcast_S8192x34_S8192x34x1_0_1
      (select (cmpi .slt I (broadcastInDim S8192x34 ![] bcast_S_S8192x34 (constantI S_ 32 0#32)))
      (addi I (broadcastInDim S8192x34 ![] bcast_S_S8192x34 (constantI S_ 32 8192#32))) I) (ix3 n s 0)
      = Scalar.select (IntOp.cmpi .slt (I (ix2 n s)) 0#32) (IntOp.addi (I (ix2 n s)) 8192#32) (I (ix2 n s)) := by
  pointwise

theorem gather_apply (y : FVec Ideal S8192x6x16 .f32) (J : IVec S8192x34x1 32) (n : Fin 8192) (s : Fin 34) (h : Fin 6) (d : Fin 16) :
    Host.gather gather_S8192x6x16_S8192x34x1_S8192x34x6x16_23_0_n_n_0_2_1616 y J (ix4 n s h d)
      = y (ix3 ⟨min (J (ix3 n s 0)).toInt.toNat 8191, by omega⟩ h d) := by
  unfold Host.gather
  congr 1
  funext a
  refine Fin.ext ?_
  show (gather_S8192x6x16_S8192x34x1_S8192x34x6x16_23_0_n_n_0_2_1616).start (ix4 n s h d) J a
    + (gather_S8192x6x16_S8192x34x1_S8192x34x6x16_23_0_n_n_0_2_1616).batchCoord (ix4 n s h d) a
    + (gather_S8192x6x16_S8192x34x1_S8192x34x6x16_23_0_n_n_0_2_1616).offCoord (ix4 n s h d) a = _
  match a with
  | 0 =>
    rw [GatherDims.batchCoord_eq_zero _ _ _ (by decide), GatherDims.offCoord_eq_zero _ _ _ (by decide)]
    unfold GatherDims.start
    rw [dif_pos (by decide)]
    show min (J _).toInt.toNat (8192 - 1) + 0 + 0 = min (J (ix3 n s 0)).toInt.toNat 8191
    have e : GatherDims.siIdx gather_S8192x6x16_S8192x34x1_S8192x34x6x16_23_0_n_n_0_2_1616 (ix4 n s h d) ⟨0, by decide⟩ = ix3 n s 0 := by
      funext a; match a with | 0 => rfl | 1 => rfl | 2 => rfl
    exact congrArg (fun j => min (J j).toInt.toNat 8191) e
  | 1 =>
    rw [GatherDims.batchCoord_eq_zero _ _ _ (by decide)]
    unfold GatherDims.start GatherDims.offCoord
    rw [dif_neg (by decide), dif_pos (by decide)]
    show 0 + 0 + h.val = h.val
    omega
  | 2 =>
    rw [GatherDims.batchCoord_eq_zero _ _ _ (by decide)]
    unfold GatherDims.start GatherDims.offCoord
    rw [dif_neg (by decide), dif_pos (by decide)]
    show 0 + 0 + d.val = d.val
    omega

theorem number_of (r : Nat) (hr : r < 8192) : (BitVec.ofNat 32 r).toInt = (r : Int) := by
  rw [BitVec.toInt_eq_toNat_cond, BitVec.toNat_ofNat, Nat.mod_eq_of_lt (by omega), if_pos (by omega)]

theorem not_wrapped (r : Nat) (hr : r < 8192) (v : BitVec 32) : Scalar.select (IntOp.cmpi .slt (BitVec.ofNat 32 r) 0#32) v (BitVec.ofNat 32 r) = BitVec.ofNat 32 r := by
  have e : IntOp.cmpi .slt (BitVec.ofNat 32 r) 0#32 = 0#1 := by
    show BitVec.ofBool ((BitVec.ofNat 32 r).slt 0#32) = 0#1
    rw [BitVec.slt_eq_decide, number_of r hr, decide_eq_false (by simp)]
    rfl
  rw [e]
  rfl

theorem taken_apply (I : IVec S8192x34 32) (y : FVec Ideal S8192x6x16 .f32) (n : Fin 8192) (s : Fin 34) (h : Fin 6) (d : Fin 16)
    (r : Fin 8192) (hr : I (ix2 n s) = BitVec.ofNat 32 r.val) : taken I y (ix4 n s h d) = y (ix3 r h d) := by
  unfold taken
  rw [gather_apply]
  refine congrArg (fun t => y (ix3 t h d)) (Fin.ext ?_)
  show min (BitVec.toInt _).toNat 8191 = r.val
  have hlt := r.isLt
  rw [wrapped_apply, hr, not_wrapped _ hlt, number_of _ hlt, Int.toNat_natCast]
  omega

theorem logitsOf_apply (k : FVec Ideal S8192x34x6x16 .f32) (q : FVec Ideal S8192x6x16 .f32) (n : Fin 8192) (s : Fin 34) (h : Fin 6) :
    logitsOf k q (ix3 n s h) = Ideal.div (∑ d, k (ix4 n s h d) * q (ix3 n h d)) four := by
  pointwise [logitsOf]

theorem greatest_apply (z : FVec Ideal S8192x34x6 .f32) (c : FVec Ideal S_ .f32) (n : Fin 8192) (h : Fin 6) :
    Host.reduce FloatOps.maximumf z c reducesTo_S8192x34x6_S8192x6_d1 h_S_ (ix2 n h) = Finset.univ.fold max (c ix0) fun s => z (ix3 n s h) := by
  pointwise
  exact congrArg (fun i => Finset.univ.fold max (c i) fun s => z (ix3 n s h)) (funext fun a => a.elim0)

theorem less_apply (z : FVec Ideal S8192x34x6 .f32) (c : FVec Ideal S_ .f32) (y : FVec Ideal S8192x6 .f32) (n : Fin 8192) (s : Fin 34) (h : Fin 6) :
    Host.exp (subf z (broadcastInDim S8192x34x6 ![0, 1, 2] bcast_S8192x1x6_S8192x34x6_0_1_2 (broadcastInDim S8192x1x6 ![0, 2] bcast_S8192x6_S8192x1x6_0_2
      (maximumf (broadcastInDim S8192x6 ![] bcast_S_S8192x6 c) y)))) (ix3 n s h) = Ideal.exp (z (ix3 n s h) - max (c ix0) (y (ix2 n h))) := by
  pointwise

theorem exposOf_apply (z : FVec Ideal S8192x34x6 .f32) (n : Fin 8192) (s : Fin 34) (h : Fin 6) :
    exposOf z (ix3 n s h) = Ideal.exp (z (ix3 n s h) - max ⊥ (Finset.univ.fold max ⊥ fun s => z (ix3 n s h))) := by
  unfold exposOf
  rw [less_apply, greatest_apply, scalar_apply, bottom_eq]

theorem headsOf_apply (e : FVec Ideal S8192x34x6 .f32) (v : FVec Ideal S8192x34x6x16 .f32) (n : Fin 8192) (j : Fin 96) :
    headsOf e v (ix2 n j) = ∑ s, Ideal.div (e (ix3 n s ⟨j.val / 16, by omega⟩)) (∑ s, e (ix3 n s ⟨j.val / 16, by omega⟩))
      * v (ix4 n s ⟨j.val / 16, by omega⟩ ⟨j.val % 16, by omega⟩) := by
  pointwise [headsOf]

theorem plusProduct_apply (x y : Rows) (o : FVec Ideal S96x96 .f32) (n : Fin 8192) (j : Fin 96) :
    addf x (Host.dotGeneral dot_S8192x96_S96x96_S8192x96_1_0_0_1_n_n none y o) (ix2 n j) = x (ix2 n j) + rowMul (fun k j => o (ix2 k j)) (fun k => y (ix2 n k)) j := by
  pointwise
  rfl

/-- A layer's weights, of its matrices. -/
def weightsFrom (q k v o : FVec Ideal S96x96 .f32) (w1 : FVec Ideal S96x384 .f32) (w2 : FVec Ideal S384x96 .f32) : Weights where
  q i j := q (ix2 i j)
  k i j := k (ix2 i j)
  v i j := v (ix2 i j)
  o i j := o (ix2 i j)
  w1 i j := w1 (ix2 i j)
  w2 i j := w2 (ix2 i j)

theorem logits_apply (x : Rows) (I : IVec S8192x34 32) (q k v o : FVec Ideal S96x96 .f32) (w1 : FVec Ideal S96x384 .f32) (w2 : FVec Ideal S384x96 .f32)
    (nb : Fin 8192 → Fin 34 → Fin 8192) (hI : ∀ n s, I (ix2 n s) = BitVec.ofNat 32 (nb n s).val) (n : Fin 8192) (s : Fin 34) (h : Fin 6) :
    logitsOf (taken I (byHeads (normed x) k)) (byHeads (normed x) q) (ix3 n s h)
      = logitRow (weightsFrom q k v o w1 w2) (fun n k => x (ix2 n k)) h n (nb n s) := by
  rw [logitsOf_apply]
  unfold logitRow
  refine congrArg (Ideal.div · four) (Finset.sum_congr rfl fun d _ => ?_)
  rw [taken_apply I _ n s h d (nb n s) (hI n s), byHeads_apply, byHeads_apply, mul_comm]
  simp only [normed_apply]
  rfl

theorem attendedOf_apply (x : Rows) (I : IVec S8192x34 32) (q k v o : FVec Ideal S96x96 .f32) (w1 : FVec Ideal S96x384 .f32) (w2 : FVec Ideal S384x96 .f32)
    (nb : Fin 8192 → Fin 34 → Fin 8192) (hI : ∀ n s, I (ix2 n s) = BitVec.ofNat 32 (nb n s).val) (n : Fin 8192) (j : Fin 96) :
    attendedOf x I q k v o (ix2 n j) = attendRow (weightsFrom q k v o w1 w2) (fun n k => x (ix2 n k)) (nb n) n j := by
  unfold attendedOf
  rw [plusProduct_apply]
  unfold attendRow
  refine congrArg (x (ix2 n j) + ·) (congrArg (fun t => rowMul (fun k j => o (ix2 k j)) t j) (funext fun i => ?_))
  rw [headsOf_apply]
  simp only [exposOf_apply, logits_apply x I q k v o w1 w2 nb hI]
  unfold headRow
  refine Finset.sum_congr rfl fun s _ => ?_
  rw [taken_apply I _ n s _ _ (nb n s) (hI n s), byHeads_apply]
  simp only [normed_apply]
  rfl

theorem denseOf_apply (x : Rows) (w1 : FVec Ideal S96x384 .f32) (w2 : FVec Ideal S384x96 .f32) (n : Fin 8192) (j : Fin 96) :
    denseOf x w1 w2 (ix2 n j) = x (ix2 n j) + rowMul (fun k j => w2 (ix2 k j)) (fun i => max (rowMul (fun k j => w1 (ix2 k j)) (norm fun k => x (ix2 n k)) i) 0) j := by
  pointwise [denseOf]
  simp only [normed_apply]
  rfl

/-- A layer. -/
theorem layer_apply (x : Rows) (I : IVec S8192x34 32) (q k v o : FVec Ideal S96x96 .f32) (w1 : FVec Ideal S96x384 .f32) (w2 : FVec Ideal S384x96 .f32)
    (nb : Fin 8192 → Fin 34 → Fin 8192) (hI : ∀ n s, I (ix2 n s) = BitVec.ofNat 32 (nb n s).val) (n : Fin 8192) (j : Fin 96) :
    denseOf (attendedOf x I q k v o) w1 w2 (ix2 n j) = layerRow (weightsFrom q k v o w1 w2) (fun n k => x (ix2 n k)) (nb n) n j := by
  rw [denseOf_apply]
  simp only [attendedOf_apply x I q k v o w1 w2 nb hI]
  rfl

/-- The row of a point. -/
abbrev rowOf (b : Fin 8) (n : Fin 1024) : Fin 8192 := ⟨1024 * b.val + n.val, by omega⟩

theorem leaving_apply (x : Rows) (w : FVec Ideal S96x288 .f32) (b : Fin 8) (j : Fin 288) (n : Fin 1024) :
    leaving x w (ix3 b j n) = rowMul (fun k j => w (ix2 k j)) (norm fun k => x (ix2 (rowOf b n) k)) j := by
  pointwise [leaving]
  simp only [normed_apply]
  have e : (⟨b.val * 1024 + n.val, by omega⟩ : Fin 8192) = rowOf b n := Fin.ext (show b.val * 1024 + n.val = 1024 * b.val + n.val by omega)
  exact Finset.sum_congr rfl fun k _ => congrArg (fun t : Fin 8192 => norm (fun k => x (ix2 t k)) k * w (ix2 k j)) e

end Cert.TransformerReferenceIdeal.Run

end
-- ==== Proof.TransformerIdeal.Search.lean ====
module

public import proofs.«01_k».proof.Proof.TransformerIdeal.Sweep
public import proofs.«01_k».proof.Proof.Common.Attention
public import proofs.«01_k».proof.Proof.Common.Nearest
public import Idealize.ShloMosaic.Lib.Pointwise

/-! The kernel's multiplicities: how often each point is among the 34 neighbours of each. -/

@[expose] public section

noncomputable section

namespace Cert.TransformerIdeal

open Idealize.ShloMosaic Cert.Proof
open Facts₀ Facts

variable [Facts]

/-- The radius, squared. -/
abbrev radius : EReal := Ideal.ofBits .f32 0x3C23D70A#32

/-- The distances of the near points; of the others, infinity. -/
def nearDist (d : Pair Ideal) (n m : Fin 1024) : EReal := if d (ix2 n m) ≤ radius then d (ix2 n m) else ⊤

theorem nearDist_ne_top (d : Pair Ideal) (n m : Fin 1024) : nearDist d n m ≠ ⊤ ↔ d (ix2 n m) ≤ radius := by
  obtain ⟨r, hr⟩ := radius_eq
  unfold nearDist
  by_cases h : d (ix2 n m) ≤ radius
  · rw [if_pos h]
    refine ⟨fun _ => h, fun _ e => ?_⟩
    rw [e, radius, hr] at h
    exact absurd (top_le_iff.1 h) (EReal.coe_ne_top r)
  · rw [if_neg h]
    exact ⟨fun e => absurd rfl e, fun e => absurd e h⟩

theorem one_or (p : Prop) [Decidable p] :
    (FloatOps.sitofp .f32 (BitVec.setWidth 32 (BitVec.ofBool (decide p))) : Ideal .f32) = (((if p then 1 else 0 : ℕ) : ℝ) : EReal) := by
  show (((BitVec.setWidth 32 (BitVec.ofBool (decide p))).toInt : ℝ) : EReal) = _
  by_cases h : p
  · rw [decide_eq_true h, if_pos h, show (BitVec.setWidth 32 (BitVec.ofBool true)).toInt = 1 from by decide]
    norm_num
  · rw [decide_eq_false h, if_neg h, show (BitVec.setWidth 32 (BitVec.ofBool false)).toInt = 0 from by decide]
    norm_num

theorem of_index (n : Fin 1024) : (FloatOps.sitofp .f32 (BitVec.ofNat 32 n.val) : Ideal .f32) = ((n.val : ℝ) : EReal) := by
  show (((BitVec.ofNat 32 n.val).toInt : ℝ) : EReal) = _
  have e : (BitVec.ofNat 32 n.val).toInt = (n.val : Int) := by
    have hn := n.isLt
    rw [BitVec.toInt_eq_toNat_cond, BitVec.toNat_ofNat, Nat.mod_eq_of_lt (by omega), if_pos (by omega)]
  rw [e]
  norm_num

theorem select_same (m n : Fin 1024) (x y : EReal) :
    Scalar.select (IntOp.cmpi .eq (BitVec.ofNat 32 m.val) (BitVec.ofNat 32 n.val)) x y = if m = n then x else y := by
  by_cases h : m = n
  · rw [h, if_pos rfl, show IntOp.cmpi .eq (BitVec.ofNat 32 n.val) (BitVec.ofNat 32 n.val) = 1#1 from by simp [IntOp.cmpi]]
    rfl
  · have e : BitVec.ofNat 32 m.val ≠ BitVec.ofNat 32 n.val := by
      intro c
      have c' := congrArg BitVec.toNat c
      rw [BitVec.toNat_ofNat, BitVec.toNat_ofNat, Nat.mod_eq_of_lt (by omega), Nat.mod_eq_of_lt (by omega)] at c'
      exact h (Fin.ext c')
    rw [if_neg h, show IntOp.cmpi .eq (BitVec.ofNat 32 m.val) (BitVec.ofNat 32 n.val) = 0#1 from by
      show BitVec.ofBool (BitVec.ofNat 32 m.val == BitVec.ofNat 32 n.val) = 0#1
      rw [beq_eq_false_iff_ne.2 e]; rfl]
    rfl

theorem select_if (p : Prop) [Decidable p] (x y : EReal) : Scalar.select (BitVec.ofBool (decide p)) x y = if p then x else y := by
  by_cases h : p
  · rw [decide_eq_true h, if_pos h]; rfl
  · rw [decide_eq_false h, if_neg h]; rfl

theorem and_if (p q : Prop) [Decidable p] [Decidable q] :
    IntOp.andi (BitVec.ofBool (decide p)) (BitVec.ofBool (decide q)) = BitVec.ofBool (decide (p ∧ q)) := by
  by_cases h : p <;> by_cases g : q <;> simp only [h, g] <;> rfl

theorem nearOne_apply (d : Pair Ideal) (n m : Fin 1024) : nearOne d (ix2 n m) = (((if nearDist d n m ≠ ⊤ then 1 else 0 : ℕ) : ℝ) : EReal) := by
  pointwise [nearOne, near]
  rw [one_or]
  simp only [nearDist_ne_top]

/-- How many points are near. -/
def nearCard (d : Pair Ideal) (n : Fin 1024) : ℕ := (Finset.univ.filter fun m => nearDist d n m ≠ ⊤).card

theorem count_apply (d : Pair Ideal) (n : Fin 1024) : count d (ix2 n 0) = ((nearCard d n : ℝ) : EReal) := by
  pointwise [count]
  simp only [nearOne_apply]
  rw [sum_coe]
  unfold nearCard
  rw [Finset.card_filter]
  push_cast
  rfl

theorem fold_ge {ι : Type} [Fintype ι] (f : ι → EReal) (b : EReal) (i : ι) : f i ≤ Finset.univ.fold max b f :=
  (Finset.le_fold_max (s := Finset.univ) (f := f) (b := b) (f i)).2 (Or.inr ⟨i, Finset.mem_univ i, le_refl _⟩)

theorem most_ge (d : Pair Ideal) (n : Fin 1024) : count d (ix2 n 0) ≤ most d := by
  pointwise [most]
  exact fold_ge (fun x : Fin 1024 × Fin 1 => count d (ix2 x.1 0)) _ (n, 0)

theorem many_of_lt (x y : EReal) (h : y < x) : Scalar.cmpi .ne (Scalar.extui (Scalar.cmpf (F := Ideal) (φ := .f32) .ogt x y)) (0#32) = 1#1 := by
  have e : Scalar.cmpf (F := Ideal) (φ := .f32) .ogt x y = 1#1 := by
    show BitVec.ofBool (decide (y < x)) = 1#1
    rw [decide_eq_true h]; rfl
  rw [e]
  rfl

theorem few (d : Pair Ideal) (h : ¬ many (most d)) (n : Fin 1024) : nearCard d n ≤ 34 := by
  have hc := most_ge d n
  rw [count_apply] at hc
  generalize most d = x at h hc
  by_contra hn
  refine h (many_of_lt x _ (lt_of_lt_of_le ?_ hc))
  refine lt_of_eq_of_lt thirtyFour_eq ?_
  exact EReal.coe_lt_coe_iff.2 (by exact_mod_cast (not_le.1 hn))

theorem weightFew_apply (d : Pair Ideal) (n m : Fin 1024) :
    weightFew d (ix2 n m) = (((if nearDist d n m ≠ ⊤ then 1 else 0 : ℕ) : ℝ) : EReal) + if m = n then ((34 : ℝ) : EReal) - ((nearCard d n : ℝ) : EReal) else 0 := by
  pointwise [weightFew]
  rw [nearOne_apply, count_apply, select_same, thirtyFour_eq]

theorem search_start (d : Pair Ideal) (n m : Fin 1024) : search₀ d (ix2 n m) = nearDist d n m := by
  pointwise [search₀, near]
  rw [infinity_eq]
  rfl

theorem least_apply (w : Pair Ideal) (n : Fin 1024) : least w (ix2 n 0) = Finset.univ.fold min ⊤ fun m => w (ix2 n m) := by
  pointwise [least]
  rw [infinity_eq]

theorem colNo_apply (n m : Fin 1024) : (colNo : Pair Ideal) (ix2 n m) = ((m.val : ℝ) : EReal) := by
  pointwise [colNo]
  exact of_index m

theorem leastAt_apply (w : Pair Ideal) (n : Fin 1024) : leastAt w (ix2 n 0)
    = Finset.univ.fold min ⊤ fun m : Fin 1024 => if w (ix2 n m) = least w (ix2 n 0) then ((m.val : ℝ) : EReal) else ((2000000000 : ℝ) : EReal) := by
  pointwise [leastAt]
  simp only [colNo_apply]
  rw [infinity_eq, far_eq]

theorem not_top (x : FVec Ideal S1024x1 .f32) (n : Fin 1024) :
    cmpf .one x (broadcast S1024x1 (Scalar.ofBits .f32 0x7F800000#32 : Ideal .f32)) (ix2 n 0) = BitVec.ofBool (decide (x (ix2 n 0) ≠ ⊤)) := by
  pointwise
  rw [infinity_eq]

theorem leastIn_apply (w : Pair Ideal) (n : Fin 1024) : leastIn w (ix2 n 0) = BitVec.ofBool (decide (least w (ix2 n 0) ≠ ⊤)) :=
  not_top (least w) n

theorem self_apply (n : Fin 1024) : (sitofp .f32 (iota .tc S1024x1 32 [0] iota_S1024x1_d0_w32) : FVec Ideal S1024x1 .f32) (ix2 n 0) = ((n.val : ℝ) : EReal) := by
  pointwise
  exact of_index n

theorem add_where (cn c : Pair Ideal) (b : IVec S1024x1 1) (p q : FVec Ideal S1024x1 .f32) (n m : Fin 1024) :
    addf c (sitofp .f32 (extui 32 (cmpf .oeq cn (broadcastTo S1024x1024 (select b p q) broadcasts_S1024x1_S1024x1024)) natLt_1_32)) (ix2 n m)
      = c (ix2 n m) + (FloatOps.sitofp .f32 (BitVec.setWidth 32 (BitVec.ofBool (decide (cn (ix2 n m) = Scalar.select (b (ix2 n 0)) (p (ix2 n 0)) (q (ix2 n 0)))))) : Ideal .f32) := by
  pointwise

theorem weightNext_apply (w c : Pair Ideal) (n m : Fin 1024) : weightNext w c (ix2 n m)
    = c (ix2 n m) + (((if ((m.val : ℝ) : EReal) = (if least w (ix2 n 0) ≠ ⊤ then leastAt w (ix2 n 0) else ((n.val : ℝ) : EReal)) then 1 else 0 : ℕ) : ℝ) : EReal) := by
  unfold weightNext
  rw [add_where, one_or, colNo_apply, leastIn_apply, self_apply, select_if]

theorem strike_where (cn w : Pair Ideal) (b : IVec S1024x1 1) (p : FVec Ideal S1024x1 .f32) (n m : Fin 1024) :
    select (andi (cmpf .oeq cn (broadcastTo S1024x1024 p broadcasts_S1024x1_S1024x1024)) (broadcastTo S1024x1024 b broadcasts_S1024x1_S1024x1024))
      (broadcast S1024x1024 (Scalar.ofBits .f32 0x7F800000#32 : Ideal .f32)) w (ix2 n m)
      = Scalar.select (IntOp.andi (BitVec.ofBool (decide (cn (ix2 n m) = p (ix2 n 0)))) (b (ix2 n 0))) (Ideal.ofBits .f32 0x7F800000#32) (w (ix2 n m)) := by
  pointwise

theorem searchNext_apply (w : Pair Ideal) (n m : Fin 1024) : searchNext w (ix2 n m)
    = if ((m.val : ℝ) : EReal) = leastAt w (ix2 n 0) ∧ least w (ix2 n 0) ≠ ⊤ then ⊤ else w (ix2 n m) := by
  unfold searchNext
  rw [strike_where, colNo_apply, leastIn_apply, and_if, select_if, infinity_eq]

theorem zero_pair (n m : Fin 1024) : (broadcast S1024x1024 (Scalar.ofBits .f32 0x00000000#32 : Ideal .f32) : Pair Ideal) (ix2 n m) = ((0 : ℝ) : EReal) := by
  pointwise
  rfl

section Rounds
variable (d : Pair Ideal) (n : Fin 1024)

/-- The points from nearest to farthest. -/
def order : Fin 1024 → Fin 1024 := sortedFrom fun i j => decide (nearDist d n i < nearDist d n j)

theorem ordered : Ordered (nearDist d n) (order d n) := sorted_ordered _

/-- The `s`-th neighbour. -/
def neighbour (s : Fin 34) : Fin 1024 := (ordered d n).nb n ⟨s.val, by omega⟩

theorem order_mono {i j : Fin 1024} (h : i ≤ j) : nearDist d n (order d n i) ≤ nearDist d n (order d n j) := (ordered d n).mono h

/-- What is left after `k` rounds. -/
theorem left_least (w : Pair Ideal) (k : Fin 1024) (hw : ∀ m, w (ix2 n m) = (ordered d n).struck k.val m) :
    least w (ix2 n 0) = nearDist d n (order d n k) := by
  rw [least_apply]
  refine le_antisymm ?_ ?_
  · refine le_trans ((Finset.fold_min_le _).2 (Or.inr ⟨order d n k, Finset.mem_univ _, le_refl _⟩)) ?_
    rw [hw, (ordered d n).struck_at]
  · refine (Finset.le_fold_min _).2 ⟨le_top, fun m _ => ?_⟩
    rw [hw]
    exact (ordered d n).struck_ge k m

theorem left_leastAt (w : Pair Ideal) (k : Fin 1024) (hw : ∀ m, w (ix2 n m) = (ordered d n).struck k.val m) (hk : nearDist d n (order d n k) ≠ ⊤) :
    leastAt w (ix2 n 0) = (((order d n k).val : ℝ) : EReal) := by
  have hl := left_least d n w k hw
  rw [leastAt_apply, hl]
  refine le_antisymm ?_ ?_
  · refine le_trans ((Finset.fold_min_le _).2 (Or.inr ⟨order d n k, Finset.mem_univ _, le_refl _⟩)) ?_
    rw [if_pos ((hw _).trans ((ordered d n).struck_at k))]
  · refine (Finset.le_fold_min _).2 ⟨le_top, fun m _ => ?_⟩
    by_cases e : w (ix2 n m) = nearDist d n (order d n k)
    · rw [if_pos e]
      have := (ordered d n).struck_first k hk m ((hw m).symm.trans e)
      exact EReal.coe_le_coe_iff.2 (by exact_mod_cast this)
    · rw [if_neg e]
      have := (order d n k).isLt
      refine EReal.coe_le_coe_iff.2 ?_
      have h2 : ((order d n k).val : ℝ) ≤ 1024 := by exact_mod_cast this.le
      linarith

theorem same_number (a b : Fin 1024) : ((a.val : ℝ) : EReal) = ((b.val : ℝ) : EReal) ↔ a = b := by
  rw [EReal.coe_eq_coe_iff, Nat.cast_inj, Fin.ext_iff]

/-- After `k` rounds: the distances of the `k` nearest struck out, and their multiplicities. -/
theorem search_apply (k : Nat) (hk : k ≤ 1024) (m : Fin 1024) :
    (searchAt d k).1 (ix2 n m) = (ordered d n).struck k m ∧ (searchAt d k).2 (ix2 n m) = (((ordered d n).times n k m : ℝ) : EReal) := by
  induction k generalizing m with
  | zero =>
    refine ⟨(search_start d n m).trans ((ordered d n).struck_zero m).symm, ?_⟩
    rw [(ordered d n).times_zero, Nat.cast_zero]
    exact zero_pair n m
  | succ k ih =>
    have hw : ∀ m, (searchAt d k).1 (ix2 n m) = (ordered d n).struck (⟨k, hk⟩ : Fin 1024).val m := fun m => (ih (by omega) m).1
    have hc := (ih (by omega) m).2
    have hl := left_least d n _ ⟨k, hk⟩ hw
    show searchNext (searchAt d k).1 (ix2 n m) = _ ∧ weightNext (searchAt d k).1 (searchAt d k).2 (ix2 n m) = _
    rw [searchNext_apply, weightNext_apply, hc, hw m, hl]
    rw [(ordered d n).struck_succ ⟨k, hk⟩ m, (ordered d n).times_succ n ⟨k, hk⟩ m]
    by_cases c : nearDist d n (order d n ⟨k, hk⟩) ≠ ⊤
    · rw [left_leastAt d n _ ⟨k, hk⟩ hw c, if_pos c]
      simp only [same_number, if_pos c]
      refine ⟨trivial, ?_⟩
      rw [← EReal.coe_add, Nat.cast_add]
    · refine ⟨?_, ?_⟩
      · rw [if_neg (fun h => c h.2), if_neg (fun h => c h.2)]
      · rw [if_neg c, if_neg c]
        simp only [same_number]
        rw [← EReal.coe_add, Nat.cast_add]

/-- How often a point is among the neighbours: as often as the rounds choose it. -/
theorem times_listed (m : Fin 1024) : (ordered d n).times n 34 m = listed (neighbour d n) m := by
  unfold Ordered.times listed neighbour Ordered.nb
  refine (Finset.card_bij (fun (s : Fin 34) _ => (⟨s.val, by omega⟩ : Fin 1024)) ?_ ?_ ?_).symm
  · intro s hs
    rw [Finset.mem_filter] at hs ⊢
    exact ⟨Finset.mem_univ _, s.isLt, hs.2⟩
  · intro s _ t _ e
    exact Fin.ext (show s.val = t.val from congrArg (fun i : Fin 1024 => i.val) e)
  · intro s hs
    rw [Finset.mem_filter] at hs
    exact ⟨⟨s.val, hs.2.1⟩, Finset.mem_filter.2 ⟨Finset.mem_univ _, hs.2.2⟩, rfl⟩

/-- The multiplicities are the neighbours'. -/
theorem weights_apply (m : Fin 1024) : weights d (ix2 n m) = ((listed (neighbour d n) m : ℝ) : EReal) := by
  rw [← times_listed]
  unfold weights
  by_cases c : many (most d)
  · rw [if_pos c]
    exact (search_apply d n 34 (by norm_num) m).2
  · rw [if_neg c, weightFew_apply]
    have hf := few d c n
    rw [(ordered d n).times_few n 34 hf (by norm_num) m]
    unfold nearCard at hf ⊢
    by_cases e : m = n
    · rw [if_pos e, if_pos e, ← EReal.coe_sub, ← EReal.coe_add, Nat.cast_add, Nat.cast_sub hf]
      norm_num
    · rw [if_neg e, if_neg e, add_zero, add_zero]

end Rounds

end Cert.TransformerIdeal

end
-- ==== Proof.TransformerNeighbours.lean ====
module

public import proofs.«01_k».proof.Proof.TransformerReference
public import proofs.«01_k».proof.Proof.TransformerIdeal.Search
public import Idealize.ShloMosaic.Lib.SortFacts

/-! The reference's neighbours, which are the kernel's. -/

@[expose] public section

noncomputable section

namespace Cert.TransformerReferenceIdeal.Run

open Idealize.ShloMosaic Idealize.ShloMosaic.StableHlo Cert.Proof Cert.TransformerReferenceIdeal Cert.TransformerReferenceIdeal.Gen
open Cert.TransformerIdeal (nearDist radius order ordered neighbour)

/-- The reference's arrays of pairs of points of a batch. -/
abbrev Pairs := FVec Ideal S8x1024x1024 .f32

/-- The differences of the points' coordinates, -/
def gaps (p : FVec Ideal S8x1024x3 .f32) : FVec Ideal S8x1024x1024x3 .f32 :=
  subf (broadcastInDim S8x1024x1024x3 ![0, 1, 2, 3] bcast_S8x1024x1x3_S8x1024x1024x3_0_1_2_3 (broadcastInDim S8x1024x1x3 ![0, 1, 3] bcast_S8x1024x3_S8x1024x1x3_0_1_3 p))
    (broadcastInDim S8x1024x1024x3 ![0, 1, 2, 3] bcast_S8x1x1024x3_S8x1024x1024x3_0_1_2_3 (broadcastInDim S8x1x1024x3 ![0, 2, 3] bcast_S8x1024x3_S8x1x1024x3_0_2_3 p))

/-- their squared distances, -/
def distances (p : FVec Ideal S8x1024x3 .f32) : Pairs :=
  Host.reduceAdd (mulf (gaps p) (gaps p)) (constant S_ .f32 0x00000000#32) reducesTo_S8x1024x1024x3_S8x1024x1024_d3 h_S_

/-- the distances of the near ones, negated, -/
def negated (d : Pairs) : Pairs :=
  Host.negf (select (cmpf .ole d (broadcastInDim S8x1024x1024 ![] bcast_S_S8x1024x1024 (constant S_ .f32 0x3C23D70A#32))) d
    (broadcastInDim S8x1024x1024 ![] bcast_S_S8x1024x1024 (id (constant S_ .f32 0x7F800000#32))))

/-- the places of the 34 greatest, each point's own in place of a point that is not near, -/
def places (g : FVec Ideal S8x1024x34 .f32) (i : IVec S8x1024x34 32) : IVec S8192x34 32 :=
  shapeCast _ (addi (select (cmpf .olt (Host.absf g) (broadcastInDim S8x1024x34 ![] bcast_S_S8x1024x34 (constant S_ .f32 0x7F800000#32))) i
    (broadcastInDim S8x1024x34 ![0, 1, 2] bcast_S1x1024x1_S8x1024x34_0_1_2 (broadcastInDim S1x1024x1 ![1] bcast_S1024_S1x1024x1_1 (iotaInDim S1024 32 0))))
    (broadcastInDim S8x1024x34 ![0, 1, 2] bcast_S8x1x1_S8x1024x34_0_1_2 (broadcastInDim S8x1x1 ![0] bcast_S8_S8x1x1_0
      (muli (iotaInDim S8 32 0) (broadcastInDim S8 ![] bcast_S_S8 (constantI S_ 32 1024#32)))))) shapeCasts_S8x1024x34_S8192x34

/-- as rows. -/
def neighboursOf (z : Pairs) : IVec S8192x34 32 :=
  places (Host.topK S8x1024x34 2 (FloatOps.cmpfTotal .gt) z sliceFits_S8x1024x1024_S8x1024x34).1
    (Host.topK S8x1024x34 2 (FloatOps.cmpfTotal .gt) z sliceFits_S8x1024x1024_S8x1024x34).2

theorem gaps_apply (p : FVec Ideal S8x1024x3 .f32) (b : Fin 8) (n m : Fin 1024) (c : Fin 3) :
    gaps p (ix4 b n m c) = p (ix3 b n c) - p (ix3 b m c) := by
  unfold gaps
  pointwise

theorem sum_apply (g : FVec Ideal S8x1024x1024x3 .f32) (b : Fin 8) (n m : Fin 1024) :
    Host.reduceAdd g (constant S_ .f32 0x00000000#32) reducesTo_S8x1024x1024x3_S8x1024x1024_d3 h_S_ (ix3 b n m) = ∑ c : Fin 3, g (ix4 b n m c) := by
  pointwise

theorem distances_apply (p : FVec Ideal S8x1024x3 .f32) (b : Fin 8) (n m : Fin 1024) : distances p (ix3 b n m)
    = (p (ix3 b n 0) - p (ix3 b m 0)) * (p (ix3 b n 0) - p (ix3 b m 0)) + (p (ix3 b n 1) - p (ix3 b m 1)) * (p (ix3 b n 1) - p (ix3 b m 1))
      + (p (ix3 b n 2) - p (ix3 b m 2)) * (p (ix3 b n 2) - p (ix3 b m 2)) := by
  unfold distances
  rw [sum_apply, Fin.sum_univ_three]
  simp only [mulf, gaps_apply]
  rfl

theorem square_nonneg (x : EReal) : 0 ≤ x * x := by
  rcases le_total 0 x with h | h
  · exact mul_nonneg h h
  · have h' : 0 ≤ -x := by simpa using EReal.neg_le_neg_iff.2 h
    have := mul_nonneg h' h'
    rwa [EReal.neg_mul, mul_comm, EReal.neg_mul, neg_neg] at this

theorem distances_nonneg (p : FVec Ideal S8x1024x3 .f32) (b : Fin 8) (n m : Fin 1024) : 0 ≤ distances p (ix3 b n m) := by
  rw [distances_apply]
  exact add_nonneg (add_nonneg (square_nonneg _) (square_nonneg _)) (square_nonneg _)

theorem choose_le (x y u v : EReal) : Scalar.select (Ideal.cmp .ole x y) u v = if x ≤ y then u else v := by
  by_cases h : x ≤ y <;> simp [Scalar.select, Ideal.cmp, h]

theorem negated_apply (d : Pairs) (b : Fin 8) (n m : Fin 1024) (D : TransformerIdeal.Pair Ideal) (hD : ∀ m, d (ix3 b n m) = D (ix2 n m)) :
    negated d (ix3 b n m) = -nearDist D n m := by
  have e : negated d (ix3 b n m) = -(if d (ix3 b n m) ≤ Ideal.ofBits .f32 0x3C23D70A#32 then d (ix3 b n m) else Ideal.ofBits .f32 0x7F800000#32) := by
    unfold negated
    pointwise
    rfl
  rw [e, infinity_eq, hD]
  rfl

/-- The stable order of a row of an array, greatest first. -/
def downOrder (z : Pairs) (b : Fin 8) (n : Fin 1024) : Fin 1024 → Fin 1024 := sortedFrom fun i j => decide (z (ix3 b n j) < z (ix3 b n i))

/-- The axis of the second points. -/
abbrev lastAxis : Fin S8x1024x1024.rank := ⟨2, by decide⟩

theorem along_last (b : Fin 8) (n k m : Fin 1024) : Shape.Idx.along (s := S8x1024x1024) (ix3 b n m) lastAxis k = ix3 b n k := by
  funext a
  match a with
  | 0 => rfl
  | 1 => rfl
  | 2 => rfl

theorem greater (x y : EReal) : (FloatOps.cmpfTotal (F := Ideal) (φ := .f32) .gt x y == 1#1) = decide (y < x) := by
  show (Ideal.cmp .ogt x y == 1#1) = _
  by_cases h : y < x <;> simp [Ideal.cmp, h]

theorem sort_position (z : Pairs) (i : IVec S8x1024x1024 32) (b : Fin 8) (n m : Fin 1024) :
    (sortedFrom fun k k' => (fun l r : EReal × BitVec 32 => FloatOps.cmpfTotal (F := Ideal) (φ := .f32) .gt l.1 r.1)
      (z (Shape.Idx.along (s := S8x1024x1024) (ix3 b n m) lastAxis k), i (Shape.Idx.along (s := S8x1024x1024) (ix3 b n m) lastAxis k))
      (z (Shape.Idx.along (s := S8x1024x1024) (ix3 b n m) lastAxis k'), i (Shape.Idx.along (s := S8x1024x1024) (ix3 b n m) lastAxis k')) == 1#1)
    = downOrder z b n := by
  unfold downOrder
  refine congrArg sortedFrom (funext fun k => funext fun k' => ?_)
  rw [greater]
  exact congrArg₂ (fun a c => decide (z a < z c)) (along_last b n k' m) (along_last b n k m)

theorem sort_values (z : Pairs) (i : IVec S8x1024x1024 32) (b : Fin 8) (n m : Fin 1024) :
    (Host.sort2 S8x1024x1024 2 (fun l r => FloatOps.cmpfTotal (F := Ideal) .gt l.1 r.1) z i).1 (ix3 b n m) = z (ix3 b n (downOrder z b n m)) := by
  unfold Host.sort2
  rw [dif_pos (by decide)]
  refine (congrArg z (along_last b n _ m)).trans ?_
  exact congrArg (fun f => z (ix3 b n (f m))) (sort_position z i b n m)

theorem sort_places (z : Pairs) (i : IVec S8x1024x1024 32) (b : Fin 8) (n m : Fin 1024) :
    (Host.sort2 S8x1024x1024 2 (fun l r => FloatOps.cmpfTotal (F := Ideal) .gt l.1 r.1) z i).2 (ix3 b n m) = i (ix3 b n (downOrder z b n m)) := by
  unfold Host.sort2
  rw [dif_pos (by decide)]
  refine (congrArg i (along_last b n _ m)).trans ?_
  exact congrArg (fun f => i (ix3 b n (f m))) (sort_position z i b n m)

/-- The place of one of the first 34 of a row. -/
def early (s : Fin 34) : Fin 1024 := ⟨s.val, by omega⟩

theorem first_apply {α : Type} (x : S8x1024x1024.Idx → α) (b : Fin 8) (n : Fin 1024) (s : Fin 34) :
    extractStridedSlice S8x1024x34 (fun _ => 0) x sliceFits_S8x1024x1024_S8x1024x34 (ix3 b n s) = x (ix3 b n (early s)) :=
  extractStridedSlice_apply _ _ _ _ _ fun a => by
    match a with
    | 0 => show b.val = 0 + b.val; omega
    | 1 => show n.val = 0 + n.val; omega
    | 2 => show s.val = 0 + s.val; omega

/-- The places along the last axis. -/
def along : IVec S8x1024x1024 32 := fun i => if hd : 2 < S8x1024x1024.rank then iotaInDim S8x1024x1024 32 ⟨2, hd⟩ i else 0#32

theorem along_apply (b : Fin 8) (n k : Fin 1024) : along (ix3 b n k) = BitVec.ofNat 32 k.val := rfl

theorem top_eq (z : Pairs) : Host.topK S8x1024x34 2 (FloatOps.cmpfTotal (F := Ideal) .gt) z sliceFits_S8x1024x1024_S8x1024x34
    = (extractStridedSlice S8x1024x34 (fun _ => 0) (Host.sort2 S8x1024x1024 2 (fun l r => FloatOps.cmpfTotal (F := Ideal) .gt l.1 r.1) z along).1 sliceFits_S8x1024x1024_S8x1024x34,
      extractStridedSlice S8x1024x34 (fun _ => 0) (Host.sort2 S8x1024x1024 2 (fun l r => FloatOps.cmpfTotal (F := Ideal) .gt l.1 r.1) z along).2 sliceFits_S8x1024x1024_S8x1024x34) := rfl

theorem top_values (z : Pairs) (b : Fin 8) (n : Fin 1024) (s : Fin 34) :
    (Host.topK S8x1024x34 2 (FloatOps.cmpfTotal (F := Ideal) .gt) z sliceFits_S8x1024x1024_S8x1024x34).1 (ix3 b n s) = z (ix3 b n (downOrder z b n (early s))) := by
  rw [top_eq]
  exact (first_apply _ b n s).trans (sort_values z _ b n (early s))

theorem top_places (z : Pairs) (b : Fin 8) (n : Fin 1024) (s : Fin 34) :
    (Host.topK S8x1024x34 2 (FloatOps.cmpfTotal (F := Ideal) .gt) z sliceFits_S8x1024x1024_S8x1024x34).2 (ix3 b n s)
      = BitVec.ofNat 32 (downOrder z b n (early s)).val := by
  rw [top_eq]
  exact (first_apply _ b n s).trans ((sort_places z _ b n (early s)).trans (along_apply b n _))

theorem down_order (z : Pairs) (b : Fin 8) (n : Fin 1024) (D : TransformerIdeal.Pair Ideal) (h : ∀ m, z (ix3 b n m) = -nearDist D n m) :
    downOrder z b n = order D n := by
  unfold downOrder order
  refine congrArg sortedFrom (funext fun i => funext fun j => ?_)
  rw [h, h]
  exact decide_eq_decide.2 EReal.neg_lt_neg_iff

theorem places_apply (g : FVec Ideal S8x1024x34 .f32) (i : IVec S8x1024x34 32) (b : Fin 8) (n : Fin 1024) (s : Fin 34) :
    places g i (ix2 (rowOf b n) s)
      = (if max (g (ix3 b n s)) (-g (ix3 b n s)) < ⊤ then i (ix3 b n s) else BitVec.ofNat 32 n.val) + BitVec.ofNat 32 b.val * 1024#32 := by
  rw [← infinity_eq]
  unfold places
  pointwise
  simp only [show (1024 * b.val + n.val) / 1024 = b.val from by omega, show (1024 * b.val + n.val) % 1024 = n.val from by omega]
  rfl

theorem absolute_lt (x : EReal) (h : 0 ≤ x) : max (-x) (- -x) < ⊤ ↔ x ≠ ⊤ := by
  rw [neg_neg, max_lt_iff, lt_top_iff_ne_top, lt_top_iff_ne_top]
  refine ⟨fun h => h.2, fun e => ⟨fun c => ?_, e⟩⟩
  rw [EReal.neg_eq_top_iff] at c
  rw [c] at h
  exact absurd (le_bot_iff.1 h) (by decide)

theorem row_word (b : Fin 8) (n : Fin 1024) : BitVec.ofNat 32 n.val + BitVec.ofNat 32 b.val * 1024#32 = BitVec.ofNat 32 (rowOf b n).val := by
  apply BitVec.eq_of_toNat_eq
  rw [BitVec.toNat_add, BitVec.toNat_mul]
  simp only [BitVec.toNat_ofNat, rowOf]
  omega

variable [TransformerIdeal.Facts]

/-- The reference's neighbours are the nearest points that are near, in order, and the point itself for the rest. -/
theorem neighbours_apply (z : Pairs) (b : Fin 8) (n : Fin 1024) (D : TransformerIdeal.Pair Ideal) (h : ∀ m, z (ix3 b n m) = -nearDist D n m)
    (h0 : ∀ m, 0 ≤ nearDist D n m) (s : Fin 34) :
    neighboursOf z (ix2 (rowOf b n) s) = BitVec.ofNat 32 (rowOf b (neighbour D n s)).val := by
  unfold neighboursOf
  rw [places_apply, top_values, top_places, h, down_order z b n D h, ← row_word]
  refine congrArg (· + _) ?_
  show _ = BitVec.ofNat 32 (if nearDist D n (order D n (early s)) ≠ ⊤ then order D n (early s) else n).val
  by_cases e : nearDist D n (order D n (early s)) ≠ ⊤
  · rw [if_pos e, if_pos ((absolute_lt _ (h0 _)).2 e)]
  · rw [if_neg e, if_neg fun c => e ((absolute_lt _ (h0 _)).1 c)]

end Cert.TransformerReferenceIdeal.Run
-- ==== Proof.TransformerFeatures.lean ====
module

public import proofs.«01_k».proof.Proof.TransformerNeighbours

/-! The reference's features, as one function of its nine arguments. -/

@[expose] public section

noncomputable section

namespace Cert.TransformerReferenceIdeal.Run

open Idealize.ShloMosaic Idealize.ShloMosaic.StableHlo Cert.Proof Cert.TransformerReferenceIdeal Cert.TransformerReferenceIdeal.Gen
open Cert.TransformerIdeal (nearDist radius order ordered neighbour)

/-- The points' coordinates, by batches, -/
def cloud (a : FVec Ideal S8192x16 .f32) : FVec Ideal S8x1024x3 .f32 :=
  shapeCast _ (extractStridedSlice S8192x3 ![0, 3] a slices_S8192x16_S8192x3_0_3) shapeCasts_S8192x3_S8x1024x3

/-- the rows of the neighbours, -/
def nearRows (a : FVec Ideal S8192x16 .f32) : IVec S8192x34 32 := neighboursOf (negated (distances (cloud a)))

/-- the rows before the layers, -/
def entering (a : FVec Ideal S8192x16 .f32) (w : FVec Ideal S6x96 .f32) : Rows :=
  Host.dotGeneral dot_S8192x6_S6x96_S8192x96_1_0_0_1_n_n none (extractStridedSlice S8192x6 ![0, 0] a slices_S8192x16_S8192x6_0_0) w

/-- the matrices of the layers, -/
def first (w : FVec Ideal S2x96x96 .f32) : FVec Ideal S96x96 .f32 :=
  shapeCast _ (extractStridedSlice S1x96x96 ![0, 0, 0] w slices_S2x96x96_S1x96x96_0_0_0) shapeCasts_S1x96x96_S96x96
def second (w : FVec Ideal S2x96x96 .f32) : FVec Ideal S96x96 .f32 :=
  shapeCast _ (extractStridedSlice S1x96x96 ![1, 0, 0] w slices_S2x96x96_S1x96x96_1_0_0) shapeCasts_S1x96x96_S96x96
def firstUp (w : FVec Ideal S2x96x384 .f32) : FVec Ideal S96x384 .f32 :=
  shapeCast _ (extractStridedSlice S1x96x384 ![0, 0, 0] w slices_S2x96x384_S1x96x384_0_0_0) shapeCasts_S1x96x384_S96x384
def secondUp (w : FVec Ideal S2x96x384 .f32) : FVec Ideal S96x384 .f32 :=
  shapeCast _ (extractStridedSlice S1x96x384 ![1, 0, 0] w slices_S2x96x384_S1x96x384_1_0_0) shapeCasts_S1x96x384_S96x384
def firstDown (w : FVec Ideal S2x384x96 .f32) : FVec Ideal S384x96 .f32 :=
  shapeCast _ (extractStridedSlice S1x384x96 ![0, 0, 0] w slices_S2x384x96_S1x384x96_0_0_0) shapeCasts_S1x384x96_S384x96
def secondDown (w : FVec Ideal S2x384x96 .f32) : FVec Ideal S384x96 .f32 :=
  shapeCast _ (extractStridedSlice S1x384x96 ![1, 0, 0] w slices_S2x384x96_S1x384x96_1_0_0) shapeCasts_S1x384x96_S384x96

/-- and the features. -/
def features (x : Rows) (I : IVec S8192x34 32) (a2 a3 a4 a5 : FVec Ideal S2x96x96 .f32) (a6 : FVec Ideal S2x96x384 .f32) (a7 : FVec Ideal S2x384x96 .f32)
    (a8 : FVec Ideal S96x288 .f32) : FVec Ideal S8x288x1024 .f32 :=
  leaving (denseOf (attendedOf (denseOf (attendedOf x I (first a2) (first a3) (first a4) (first a5)) (firstUp a6) (firstDown a7))
    I (second a2) (second a3) (second a4) (second a5)) (secondUp a6) (secondDown a7)) a8

theorem cloud_apply (a : FVec Ideal S8192x16 .f32) (b : Fin 8) (n : Fin 1024) (c : Fin 3) :
    cloud a (ix3 b n c) = a (ix2 (rowOf b n) ⟨3 + c.val, by omega⟩) := by
  have e : (⟨b.val * 1024 + n.val, by omega⟩ : Fin 8192) = rowOf b n := Fin.ext (show b.val * 1024 + n.val = 1024 * b.val + n.val by omega)
  pointwise [cloud]
  rw [← e]

theorem entering_apply (a : FVec Ideal S8192x16 .f32) (w : FVec Ideal S6x96 .f32) (r : Fin 8192) (j : Fin 96) :
    entering a w (ix2 r j) = ∑ k : Fin 6, a (ix2 r ⟨k.val, by omega⟩) * w (ix2 k j) := by
  pointwise [entering]

theorem first_eq (w : FVec Ideal S2x96x96 .f32) (i j : Fin 96) : first w (ix2 i j) = w (ix3 0 i j) := by
  pointwise [first]
theorem second_eq (w : FVec Ideal S2x96x96 .f32) (i j : Fin 96) : second w (ix2 i j) = w (ix3 1 i j) := by
  pointwise [second]
theorem firstUp_eq (w : FVec Ideal S2x96x384 .f32) (i : Fin 96) (j : Fin 384) : firstUp w (ix2 i j) = w (ix3 0 i j) := by
  pointwise [firstUp]
theorem secondUp_eq (w : FVec Ideal S2x96x384 .f32) (i : Fin 96) (j : Fin 384) : secondUp w (ix2 i j) = w (ix3 1 i j) := by
  pointwise [secondUp]
theorem firstDown_eq (w : FVec Ideal S2x384x96 .f32) (i : Fin 384) (j : Fin 96) : firstDown w (ix2 i j) = w (ix3 0 i j) := by
  pointwise [firstDown]
theorem secondDown_eq (w : FVec Ideal S2x384x96 .f32) (i : Fin 384) (j : Fin 96) : secondDown w (ix2 i j) = w (ix3 1 i j) := by
  pointwise [secondDown]

/-- The weights of a layer in the stacks of both. -/
def layerWeights (a2 a3 a4 a5 : FVec Ideal S2x96x96 .f32) (a6 : FVec Ideal S2x96x384 .f32) (a7 : FVec Ideal S2x384x96 .f32) (l : Fin 2) : Weights :=
  ⟨fun i j => a2 (ix3 l i j), fun i j => a3 (ix3 l i j), fun i j => a4 (ix3 l i j), fun i j => a5 (ix3 l i j), fun i j => a6 (ix3 l i j), fun i j => a7 (ix3 l i j)⟩

theorem first_layer (a2 a3 a4 a5 : FVec Ideal S2x96x96 .f32) (a6 : FVec Ideal S2x96x384 .f32) (a7 : FVec Ideal S2x384x96 .f32) :
    weightsFrom (first a2) (first a3) (first a4) (first a5) (firstUp a6) (firstDown a7) = layerWeights a2 a3 a4 a5 a6 a7 0 := by
  simp only [weightsFrom, layerWeights, first_eq, firstUp_eq, firstDown_eq]
theorem second_layer (a2 a3 a4 a5 : FVec Ideal S2x96x96 .f32) (a6 : FVec Ideal S2x96x384 .f32) (a7 : FVec Ideal S2x384x96 .f32) :
    weightsFrom (second a2) (second a3) (second a4) (second a5) (secondUp a6) (secondDown a7) = layerWeights a2 a3 a4 a5 a6 a7 1 := by
  simp only [weightsFrom, layerWeights, second_eq, secondUp_eq, secondDown_eq]

theorem features_apply (x : Rows) (I : IVec S8192x34 32) (a2 a3 a4 a5 : FVec Ideal S2x96x96 .f32) (a6 : FVec Ideal S2x96x384 .f32) (a7 : FVec Ideal S2x384x96 .f32)
    (a8 : FVec Ideal S96x288 .f32) (nb : Fin 8192 → Fin 34 → Fin 8192) (hI : ∀ n s, I (ix2 n s) = BitVec.ofNat 32 (nb n s).val)
    (b : Fin 8) (j : Fin 288) (n : Fin 1024) : features x I a2 a3 a4 a5 a6 a7 a8 (ix3 b j n)
      = rowsOut (layerWeights a2 a3 a4 a5 a6 a7 0) (layerWeights a2 a3 a4 a5 a6 a7 1) (fun k j => a8 (ix2 k j)) (fun n k => x (ix2 n k)) nb (rowOf b n) j := by
  unfold features
  rw [leaving_apply]
  simp only [layer_apply _ I _ _ _ _ _ _ nb hI, first_layer, second_layer]
  rfl

theorem rowOf_split (r : Fin 8192) : r = rowOf ⟨r.val / 1024, by omega⟩ ⟨r.val % 1024, by omega⟩ :=
  Fin.ext (show r.val = 1024 * (r.val / 1024) + r.val % 1024 by omega)

variable [TransformerIdeal.Facts]

/-- The squared distances of a batch's points. -/
def pairsOf (a : FVec Ideal S8192x16 .f32) (b : Fin 8) : TransformerIdeal.Pair Ideal := fun i => distances (cloud a) (ix3 b (i 0) (i 1))

theorem nearDist_nonneg (D : TransformerIdeal.Pair Ideal) (n m : Fin 1024) (h : 0 ≤ D (ix2 n m)) : 0 ≤ nearDist D n m := by
  unfold nearDist
  split_ifs
  · exact h
  · exact le_top

theorem nearRows_apply (a : FVec Ideal S8192x16 .f32) (b : Fin 8) (n : Fin 1024) (s : Fin 34) :
    nearRows a (ix2 (rowOf b n) s) = BitVec.ofNat 32 (rowOf b (neighbour (pairsOf a b) n s)).val :=
  neighbours_apply _ b n (pairsOf a b) (fun m => negated_apply _ b n m _ fun _ => rfl) (fun m => nearDist_nonneg _ n m (distances_nonneg (cloud a) b n m)) s

/-- The rows of a row's neighbours. -/
def nearOf (D : Fin 8 → TransformerIdeal.Pair Ideal) (r : Fin 8192) (s : Fin 34) : Fin 8192 :=
  rowOf ⟨r.val / 1024, by omega⟩ (neighbour (D ⟨r.val / 1024, by omega⟩) ⟨r.val % 1024, by omega⟩ s)

theorem nearRows_of (a : FVec Ideal S8192x16 .f32) (r : Fin 8192) (s : Fin 34) :
    nearRows a (ix2 r s) = BitVec.ofNat 32 (nearOf (pairsOf a) r s).val := by
  have h := nearRows_apply a ⟨r.val / 1024, by omega⟩ ⟨r.val % 1024, by omega⟩ s
  rw [← rowOf_split r] at h
  exact h

theorem nearOf_row (D : Fin 8 → TransformerIdeal.Pair Ideal) (b : Fin 8) (n : Fin 1024) (s : Fin 34) :
    nearOf D (rowOf b n) s = rowOf b (neighbour (D b) n s) := by
  have e1 : (⟨(rowOf b n).val / 1024, by omega⟩ : Fin 8) = b := Fin.ext (show (1024 * b.val + n.val) / 1024 = b.val by omega)
  have e2 : (⟨(rowOf b n).val % 1024, by omega⟩ : Fin 1024) = n := Fin.ext (show (1024 * b.val + n.val) % 1024 = n.val by omega)
  unfold nearOf
  rw [e1, e2]

end Cert.TransformerReferenceIdeal.Run
-- ==== Proof.TransformerEqual.lean ====
module

public import proofs.«01_k».proof.Proof.TransformerIdeal.Arrays
public import proofs.«01_k».proof.Proof.TransformerFeatures
public import proofs.«01_k».proof.Proof.Gen.Pre_logits_finite
public import Idealize.ShloMosaic.Lib.ReduceAll

/-! The transformer kernel's result is the reference's features. -/

@[expose] public section

noncomputable section

namespace Cert.TransformerIdeal.Run

open Cert.TransformerIdeal.Gen Cert.Proof
open Idealize.ShloMosaic Idealize.ShloMosaic.TcCoe
open Cert.TransformerReferenceIdeal.Run (rowOf layerWeights cloud distances pairsOf nearOf entering nearRows features)

theorem layerRow_along {ι κ : Type} (W : Weights) (f : ι → κ) (x : κ → Fin 96 → EReal) (nb : Fin 34 → ι) (n : ι) (j : Fin 96) :
    layerRow W (fun n => x (f n)) nb n j = layerRow W x (fun s => f (nb s)) (f n) j := rfl

/-- The layers of a part of the rows that holds its rows' neighbours. -/
theorem rowsOut_along {ι κ : Type} (A B : Weights) (o : Fin 96 → Fin 288 → EReal) (f : ι → κ) (x : κ → Fin 96 → EReal) (nb : ι → Fin 34 → ι)
    (nb' : κ → Fin 34 → κ) (h : ∀ n s, nb' (f n) s = f (nb n s)) (n : ι) (j : Fin 288) :
    rowsOut A B o (fun n => x (f n)) nb n j = rowsOut A B o x nb' (f n) j := by
  have e : ∀ n, (fun s => f (nb n s)) = nb' (f n) := fun n => funext fun s => (h n s).symm
  have layer : ∀ (W : Weights) (y : κ → Fin 96 → EReal) (n : ι), layerRow W (fun n => y (f n)) (nb n) n = layerRow W y (nb' (f n)) (f n) := fun W y n => by
    funext k
    rw [layerRow_along W f y (nb n) n k, e n]
  have a : (fun n => layerRow A (fun n => x (f n)) (nb n) n) = fun n => (fun r => layerRow A x (nb' r) r) (f n) := funext fun n => layer A x n
  show rowMul o (norm (layerRow B (fun n => layerRow A (fun n => x (f n)) (nb n) n) (nb n) n)) j
    = rowMul o (norm (layerRow B (fun r => layerRow A x (nb' r) r) (nb' (f n)) (f n))) j
  rw [a, layer B (fun r => layerRow A x (nb' r) r) n]

theorem sum_eight (f : Fin 8 → EReal) (g : Fin 6 → EReal) (h6 : f 6 = 0) (h7 : f 7 = 0) (h : ∀ k : Fin 6, f ⟨k.val, by omega⟩ = g k) :
    ∑ k, f k = ∑ k, g k := by
  rw [Fin.sum_univ_castSucc, Fin.sum_univ_castSucc]
  rw [show f (Fin.last 7) = 0 from h7, show f (Fin.last 6).castSucc = 0 from h6, add_zero, add_zero]
  exact Finset.sum_congr rfl fun k _ => h k

theorem pair_ext (d e : Pair Ideal) (h : ∀ n m, d (ix2 n m) = e (ix2 n m)) : d = e := by
  funext i
  have hi : i = ix2 (i 0) (i 1) := funext fun a => by
    match a with
    | 0 => rfl
    | 1 => rfl
  rw [hi]
  exact h _ _

theorem row_place (a : Nat) (ha : a < 3) (m : Fin 1024) :
    (Rect.unit (s := S1x3x1024) ![0, a, 0] S1x1x1024.size (row_inb a ha)).emb (ix3 0 0 m) = ix3 0 ⟨a, ha⟩ m := by
  funext b
  refine Fin.ext ?_
  rw [Rect.emb_apply]
  match b with
  | 0 => rfl
  | 1 => show a + 1 * 0 = a; omega
  | 2 => show 0 + 1 * m.val = m.val; omega

theorem dist_apply (X : Vec Ideal S1x1024x8 .f32) (P : Vec Ideal S1x3x1024 .f32) (n m : Fin 1024) : dist X P (ix2 n m)
    = (X (ix3 0 n 3) - P (ix3 0 0 m)) * (X (ix3 0 n 3) - P (ix3 0 0 m)) + (X (ix3 0 n 4) - P (ix3 0 1 m)) * (X (ix3 0 n 4) - P (ix3 0 1 m))
      + (X (ix3 0 n 5) - P (ix3 0 2 m)) * (X (ix3 0 n 5) - P (ix3 0 2 m)) := by
  have e0 := row_place 0 (by decide) m
  have e1 := row_place 1 (by decide) m
  have e2 := row_place 2 (by decide) m
  pointwise [dist, sqDist, featMat, coordRow]
  rw [e0, e1, e2]
  rfl

section Layout
variable (a2 a3 a4 a5 : FVec Ideal S2x96x96 .f32) (a6 : FVec Ideal S2x96x384 .f32) (a7 : FVec Ideal S2x384x96 .f32)

theorem column_eq (j : Fin 96) (h) : (⟨16 * (j.val / 16) + j.val % 16, h⟩ : Fin 96) = j :=
  Fin.ext (show 16 * (j.val / 16) + j.val % 16 = j.val by omega)

theorem first_column (l : Fin 2) (k j : Fin 96) :
    beside (byHead a2) (byHead a3) (byHead a4) (ix4 l ⟨j.val / 16, by omega⟩ k ⟨0 + j.val % 16, by omega⟩) = a2 (ix3 l k j) :=
  (beside_first _ _ _ l ⟨j.val / 16, by omega⟩ k ⟨j.val % 16, by omega⟩).trans ((byHead_apply a2 l _ k _).trans (by rw [column_eq]))
theorem second_column (l : Fin 2) (k j : Fin 96) :
    beside (byHead a2) (byHead a3) (byHead a4) (ix4 l ⟨j.val / 16, by omega⟩ k ⟨16 + j.val % 16, by omega⟩) = a3 (ix3 l k j) :=
  (beside_second _ _ _ l ⟨j.val / 16, by omega⟩ k ⟨j.val % 16, by omega⟩).trans ((byHead_apply a3 l _ k _).trans (by rw [column_eq]))
theorem third_column (l : Fin 2) (k j : Fin 96) :
    beside (byHead a2) (byHead a3) (byHead a4) (ix4 l ⟨j.val / 16, by omega⟩ k ⟨32 + j.val % 16, by omega⟩) = a4 (ix3 l k j) :=
  (beside_third _ _ _ l ⟨j.val / 16, by omega⟩ k ⟨j.val % 16, by omega⟩).trans ((byHead_apply a4 l _ k _).trans (by rw [column_eq]))

theorem weights_layer (l : Fin 2) : weightsOf (beside (byHead a2) (byHead a3) (byHead a4)) a5 a6 a7 l = layerWeights a2 a3 a4 a5 a6 a7 l := by
  unfold weightsOf layerWeights
  simp only [first_column, second_column, third_column]

theorem layer_finite (h2 : ∀ i, Real' (a2 i)) (h3 : ∀ i, Real' (a3 i)) (l : Fin 2) : (layerWeights a2 a3 a4 a5 a6 a7 l).Finite :=
  ⟨fun _ _ => h2 _, fun _ _ => h3 _⟩
end Layout

theorem rows_value (X : Vec Ideal S1x1024x8 .f32) (Wi : Vec Ideal S8x96 .f32) (a0 : FVec Ideal S8192x16 .f32) (a1 : FVec Ideal S6x96 .f32) (b : Fin 8)
    (hX : ∀ n k, X (ix3 0 n k) = a0 (ix2 (rowAt b n) ⟨k.val, by omega⟩))
    (hWi : ∀ k j, Wi (ix2 k j) = if h : k.val < 6 then a1 (ix2 ⟨k.val, h⟩ j) else 0) (n : Fin 1024) (i : Fin 96) :
    rowMul (fun k j => Wi (ix2 k j)) (fun k => X (ix3 0 n k)) i = entering a0 a1 (ix2 (rowOf b n) i) := by
  rw [TransformerReferenceIdeal.Run.entering_apply]
  refine sum_eight (fun k => X (ix3 0 n k) * Wi (ix2 k i)) _ ?_ ?_ fun k => ?_
  · show X (ix3 0 n 6) * Wi (ix2 6 i) = 0
    rw [hWi, dif_neg (by decide), mul_zero]
  · show X (ix3 0 n 7) * Wi (ix2 7 i) = 0
    rw [hWi, dif_neg (by decide), mul_zero]
  · show X (ix3 0 n ⟨k.val, _⟩) * Wi (ix2 ⟨k.val, _⟩ i) = _
    rw [hWi, dif_pos k.isLt, hX]

/-- A block of the result, of a cloud's rows of the arguments. -/
theorem block_value (X : Vec Ideal S1x1024x8 .f32) (P : Vec Ideal S1x3x1024 .f32) (Wi : Vec Ideal S8x96 .f32)
    (a0 : FVec Ideal S8192x16 .f32) (a1 : FVec Ideal S6x96 .f32) (a2 a3 a4 a5 : FVec Ideal S2x96x96 .f32) (a6 : FVec Ideal S2x96x384 .f32)
    (a7 : FVec Ideal S2x384x96 .f32) (a8 : FVec Ideal S96x288 .f32) (b : Fin 8)
    (hX : ∀ n k, X (ix3 0 n k) = a0 (ix2 (rowAt b n) ⟨k.val, by omega⟩)) (hP : ∀ a n, P (ix3 0 a n) = a0 (ix2 (rowAt b n) ⟨3 + a.val, by omega⟩))
    (hWi : ∀ k j, Wi (ix2 k j) = if h : k.val < 6 then a1 (ix2 ⟨k.val, h⟩ j) else 0) (h2 : ∀ i, Real' (a2 i)) (h3 : ∀ i, Real' (a3 i))
    (n : Fin 1024) (j : Fin 288) :
    blockOf X P Wi (beside (byHead a2) (byHead a3) (byHead a4)) a5 a6 a7 a8 (ix3 0 n j)
      = features (entering a0 a1) (nearRows a0) a2 a3 a4 a5 a6 a7 a8 (ix3 b j n) := by
  have hd : dist X P = pairsOf a0 b := pair_ext _ _ fun n m => by
    rw [dist_apply, hX, hX, hX, hP, hP, hP]
    show _ = distances (cloud a0) (ix3 b n m)
    rw [TransformerReferenceIdeal.Run.distances_apply]
    simp only [TransformerReferenceIdeal.Run.cloud_apply]
    rfl
  have hx : (fun n => rowMul (fun k j => Wi (ix2 k j)) fun k => X (ix3 0 n k)) = fun n => (fun r k => entering a0 a1 (ix2 r k)) (rowOf b n) := by
    exact funext fun n => funext fun i => rows_value X Wi a0 a1 b hX hWi n i
  rw [block_apply X P Wi _ a5 a6 a7 a8 (neighbour (pairsOf a0 b)) (fun n m => by rw [hd]; exact weights_apply _ n m)
    (fun l => by rw [weights_layer]; exact layer_finite a2 a3 a4 a5 a6 a7 h2 h3 l) n j, weights_layer, weights_layer, hx,
    TransformerReferenceIdeal.Run.features_apply (entering a0 a1) (nearRows a0) a2 a3 a4 a5 a6 a7 a8 (nearOf (pairsOf a0)) (TransformerReferenceIdeal.Run.nearRows_of a0) b j n]
  generalize pairsOf a0 = D
  generalize entering a0 a1 = e
  exact rowsOut_along (layerWeights a2 a3 a4 a5 a6 a7 0) (layerWeights a2 a3 a4 a5 a6 a7 1) (fun k j => a8 (ix2 k j)) (rowOf b) (fun r k => e (ix2 r k))
    (neighbour (D b)) (nearOf D) (fun n s => TransformerReferenceIdeal.Run.nearOf_row D b n s) n j

variable (m : (ℓ : Loc nD τ sig) → Buf (Elt Ideal) ℓ) (c : Dev nD)

theorem into_entry (k : Fin 8) (j : Fin 96) : (V m c main_v5 : Vec Ideal S8x96 .f32) (ix2 k j)
    = if h : k.val < 6 then (m ((c.tc : Thread nD τ).loc main_arg1) : Vec Ideal S6x96 .f32) (ix2 ⟨k.val, h⟩ j) else (0 : EReal) := by
  rw [into_array, padded_apply]
  have z : ((sitofp .f32 (constantI S_ 32 0#32) : FVec Ideal S_ .f32) ix0 : EReal) = 0 := by
    show (((0#32 : BitVec 32).toInt : ℝ) : EReal) = 0
    simp
  rw [z]

/-- The reference's features at the kernel's arguments. -/
abbrev featuresAt : FVec Ideal S8x288x1024 .f32 :=
  features (entering (m ((c.tc : Thread nD τ).loc main_arg0)) (m ((c.tc : Thread nD τ).loc main_arg1))) (nearRows (m ((c.tc : Thread nD τ).loc main_arg0)))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

theorem block_eq (h2 : ∀ i, Real' ((m ((c.tc : Thread nD τ).loc main_arg2) : FVec Ideal S2x96x96 .f32) i))
    (h3 : ∀ i, Real' ((m ((c.tc : Thread nD τ).loc main_arg3) : FVec Ideal S2x96x96 .f32) i)) (t : Fin cfg0.N) (n : Fin 1024) (j : Fin 288) :
    blockAt m c t (ix3 0 n j) = featuresAt m c (ix3 ⟨t.val, point_lt t⟩ j n) := by
  unfold blockAt
  rw [block_2, block_3, block_4, block_5, block_6, block_7, heads_array, V_main_arg5, V_main_arg6, V_main_arg7, V_main_arg8]
  exact block_value _ _ _ (m ((c.tc : Thread nD τ).loc main_arg0)) (m ((c.tc : Thread nD τ).loc main_arg1)) _ _ _ _ _ _ _ ⟨t.val, point_lt t⟩
    (fun n k => (block_0 m c t n k).trans (feat_entry m c _ n k)) (fun a n => (block_1 m c t a n).trans (cloud_entry m c _ a n)) (into_entry m c) h2 h3 n j

/-- The run's result is the features. -/
theorem result_eq (h2 : ∀ i, Real' ((m ((c.tc : Thread nD τ).loc main_arg2) : FVec Ideal S2x96x96 .f32) i))
    (h3 : ∀ i, Real' ((m ((c.tc : Thread nD τ).loc main_arg3) : FVec Ideal S2x96x96 .f32) i)) : result m c = featuresAt m c := by
  have h := result_array m c (fun i => featuresAt m c (ix3 (i 0) (i 2) (i 1))) fun t n j => block_eq m c h2 h3 t n j
  unfold result
  rw [h]
  generalize featuresAt m c = G
  funext i
  have hi : i = ix3 (i 0) (i 1) (i 2) := funext fun a => by
    match a with
    | 0 => rfl
    | 1 => rfl
    | 2 => rfl
  rw [hi]
  exact transpose_apply _ _ _ _ (ix3 (i 0) (i 2) (i 1)) (by
    intro a
    match a with
    | 0 => rfl
    | 1 => rfl
    | 2 => rfl)

instance : Subsingleton Cert.Pre_logits_finite.S_.Idx := ⟨fun a b => funext fun i => i.elim0⟩

theorem real_of_word (x : EReal) (e : Ideal.cmp .olt (max x (-x)) (Ideal.ofBits .f32 0x7F800000#32) = 1#1) : Real' x := by
  rw [infinity_eq] at e
  have h : max x (-x) < ⊤ := by
    by_contra c
    simp [Ideal.cmp, c] at e
  rw [max_lt_iff] at h
  induction x with
  | bot => simp at h
  | top => simp at h
  | coe r => exact ⟨r, rfl⟩

theorem and_one (x y : BitVec 1) (e : IntOp.andi x y = 1#1) : x = 1#1 ∧ y = 1#1 := by
  revert x y; decide

/-- Under the precondition the weights of the queries and of the keys are real numbers. -/
theorem finite_weights (a0 : FVec Ideal S8192x16 .f32) (a1 : FVec Ideal S6x96 .f32) (a2 a3 a4 a5 : FVec Ideal S2x96x96 .f32) (a6 : FVec Ideal S2x96x384 .f32)
    (a7 : FVec Ideal S2x384x96 .f32) (a8 : FVec Ideal S96x288 .f32)
    (h : Cert.Pre_logits_finite.fn (F := Ideal) a0 a1 a2 a3 a4 a5 a6 a7 a8 = fun _ => 1#1) : (∀ i, Real' (a2 i)) ∧ ∀ i, Real' (a3 i) := by
  have e := congrFun h (fun i => i.elim0)
  unfold Cert.Pre_logits_finite.fn at e
  obtain ⟨e2, e3⟩ := and_one _ _ e
  exact ⟨fun i => real_of_word _ (Host.reduce_andi_all _ _ _ _ _ e2 i), fun i => real_of_word _ (Host.reduce_andi_all _ _ _ _ _ e3 i)⟩

end Cert.TransformerIdeal.Run
-- ==== Proof.TransformerReferenceRun.lean ====
module

public import proofs.«01_k».proof.Proof.TransformerFeatures
public import proofs.«01_k».proof.Proof.Gen.TransformerReferenceIdeal.Run

/-! The reference's run leaves the features. -/

@[expose] public section

noncomputable section

namespace Cert.TransformerReferenceIdeal.Run

open Idealize.ShloMosaic Idealize.ShloMosaic.StableHlo Cert.Proof Cert.TransformerReferenceIdeal Cert.TransformerReferenceIdeal.Gen
open Cert.TransformerReferenceIdeal.Value
open Idealize.ShloMosaic.TcCoe

variable (V : Valuation τ sig (Elt Ideal))

theorem near_eq : res_main_v26 V = nearRows (V main_arg0) := rfl
theorem entering_eq : res_main_v28 V = entering (V main_arg0) (V main_arg1) := rfl
theorem normed_first : res_main_v40 V = normed (res_main_v28 V) := rfl
theorem logits_first : res_main_v70 V = logitsOf (taken (res_main_v26 V) (byHeads (res_main_v40 V) (first (V main_arg3)))) (byHeads (res_main_v40 V) (first (V main_arg2))) := rfl
theorem expos_first : res_main_v77 V = exposOf (res_main_v70 V) := rfl
theorem heads_first : res_main_v87 V = addf (res_main_v28 V) (Host.dotGeneral dot_S8192x96_S96x96_S8192x96_1_0_0_1_n_n none
    (headsOf (res_main_v77 V) (taken (res_main_v26 V) (byHeads (res_main_v40 V) (first (V main_arg4))))) (first (V main_arg5))) := rfl
theorem attended_first : res_main_v87 V = attendedOf (res_main_v28 V) (res_main_v26 V) (first (V main_arg2)) (first (V main_arg3)) (first (V main_arg4)) (first (V main_arg5)) := by
  rw [heads_first, expos_first, logits_first, normed_first]; rfl
theorem dense_first : res_main_v107 V = denseOf (res_main_v87 V) (firstUp (V main_arg6)) (firstDown (V main_arg7)) := rfl
theorem normed_second : res_main_v119 V = normed (res_main_v107 V) := rfl
theorem logits_second : res_main_v149 V = logitsOf (taken (res_main_v26 V) (byHeads (res_main_v119 V) (second (V main_arg3)))) (byHeads (res_main_v119 V) (second (V main_arg2))) := rfl
theorem expos_second : res_main_v156 V = exposOf (res_main_v149 V) := rfl
theorem heads_second : res_main_v166 V = addf (res_main_v107 V) (Host.dotGeneral dot_S8192x96_S96x96_S8192x96_1_0_0_1_n_n none
    (headsOf (res_main_v156 V) (taken (res_main_v26 V) (byHeads (res_main_v119 V) (second (V main_arg4))))) (second (V main_arg5))) := rfl
theorem attended_second : res_main_v166 V = attendedOf (res_main_v107 V) (res_main_v26 V) (second (V main_arg2)) (second (V main_arg3)) (second (V main_arg4)) (second (V main_arg5)) := by
  rw [heads_second, expos_second, logits_second, normed_second]; rfl
theorem dense_second : res_main_v186 V = denseOf (res_main_v166 V) (secondUp (V main_arg6)) (secondDown (V main_arg7)) := rfl

theorem leaving_eq : leaving (res_main_v186 V) (V main_arg8)
    = features (entering (V main_arg0) (V main_arg1)) (nearRows (V main_arg0)) (V main_arg2) (V main_arg3) (V main_arg4) (V main_arg5) (V main_arg6) (V main_arg7) (V main_arg8) := by
  rw [dense_second, attended_second, dense_first, attended_first, entering_eq, near_eq]
  rfl

variable (m : (ℓ : Loc nD τ sig) → Buf (Elt Ideal) ℓ)

/-- The run, read at the result and at the arguments. -/
theorem run (ρ : Dev nD → PrngReg) : θ_run defs (onTc (τ := τ) (main (F := Ideal))) ⟨m, fun _ => 0, ρ⟩ fun r => ∀ c : Dev nD,
    r.2.mem ((c.tc : Thread nD τ).loc main_v201) = features (entering (m ((c.tc : Thread nD τ).loc main_arg0)) (m ((c.tc : Thread nD τ).loc main_arg1)))
        (nearRows (m ((c.tc : Thread nD τ).loc main_arg0))) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (leaving_eq (launchContents m c)), (h c).2⟩) (Value.run m ρ)

end Cert.TransformerReferenceIdeal.Run
-- ==== Proof.Precondition.lean ====
/-
  The precondition read entry by entry: every index lies between 0 and 19999.
-/
module

public import proofs.«01_k».proof.Proof.Gen.Pre_idx_in_range
public import Idealize.ShloMosaic.Lib.ReduceAll

@[expose] public section

noncomputable section

namespace Cert.Proof

open Idealize.ShloMosaic

instance : Subsingleton Cert.Pre_idx_in_range.S_.Idx := ⟨fun a b => funext fun i => i.elim0⟩

/-- A word that is at least 0 and below 20000 as a signed word is below 20000 as a natural number. -/
theorem word_below (v : BitVec 32) (e : IntOp.andi (IntOp.cmpi .sge v 0#32) (IntOp.cmpi .slt v 20000#32) = 1#1) : v.toNat < 20000 := by
  have andi_ofBool (p q : Bool) : IntOp.andi (BitVec.ofBool p) (BitVec.ofBool q) = BitVec.ofBool (p && q) := by
    cases p <;> cases q <;> decide
  have ofBool_one (p : Bool) : (BitVec.ofBool p = 1#1) ↔ p = true := by cases p <;> decide
  simp only [IntOp.cmpi, andi_ofBool, ofBool_one, Bool.and_eq_true, BitVec.sle_eq_decide, BitVec.slt_eq_decide,
    decide_eq_true_eq, BitVec.toInt_eq_toNat_cond, BitVec.toNat_ofNat, Nat.reducePow, Nat.reduceMod] at e
  omega

/-- Under the precondition every index is below 20000. -/
theorem idx_below {F : FTy → Type} [FloatOps F] (p c : FVec F Cert.Pre_idx_in_range.S8x20000x3 .f32) (ix : IVec Cert.Pre_idx_in_range.S8x1024 32)
    (h : Cert.Pre_idx_in_range.fn (F := F) p c ix = fun _ => 1#1) (j : Cert.Pre_idx_in_range.S8x1024.Idx) : (ix j).toNat < 20000 := by
  have e := congrFun h (fun i => i.elim0)
  unfold Cert.Pre_idx_in_range.fn at e
  exact word_below _ (Host.reduce_andi_all _ _ _ _ _ e j)

end Cert.Proof

end
-- ==== Proof.KernelIdeal.Tile.lean ====
/-
  The row gather of the SparseCore call, one task of it: what a task holds when it starts, what it holds when it ends,
  and the run of its body in between.

  A task fetches 128 row numbers of the flat list into its index buffer, gathers those rows of the table into its row
  buffer, and copies the row buffer out; it does this twice, for two neighbouring chunks of 128 rows. What it leaves
  in each chunk of the output is stated as a function of the list and the table alone (`gathered`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.GatherIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

/-- The labels under the launch: the kernel's and those of the pipelines, of which there are none. -/
abbrev ΛP : Labels := Pipeline.Sig Λ₀ (Fin 0) fun p => (pcfgs (F := F) p).Adm
/-- The program's SparseCore launch. -/
abbrev K : SparseCore.Cfg τ sig (ΛP (F := F)) 1 := sc (F := F)
theorem nSub_eq : (K (F := F)).nSub 0 = 16 := rfl
theorem nCore_eq : (K (F := F)).nCore 0 = 2 := rfl
/-- The body table under the launch. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The three arrays of the call -/

/-- The flat list of row numbers, the table, and the gathered rows. -/
abbrev iLoc (d : Dev nD) : Loc nD τ sig := (SparseCore.T d).loc main_v6
abbrev xLoc (d : Dev nD) : Loc nD τ sig := (SparseCore.T d).loc main_v9
abbrev oLoc (d : Dev nD) : Loc nD τ sig := (SparseCore.T d).loc main_v10

/-- Entry `n` of the flat list, and the table's entry in row `w` and column `c`. -/
def iAt (n : Fin 8192) : S8192.Idx := fun | 0 => n
def xAt (w : BitVec 32) (c : Fin 16) : S160000x16.Idx := fun | 0 => ⟨w.toNat % 160000, Nat.mod_lt _ (by decide)⟩ | 1 => c

/-- Row `n` of the result is the row of the table that entry `n` of the list names. -/
def gathered (fi : S8192.Idx → Elt F .i32) (fx : S160000x16.Idx → Elt F .f32) : S8192x16.Idx → Elt F .f32 :=
  fun j => fx (xAt (fi (iAt (j 0))) (j 1))

/-- The output's chunk `k` of 128 rows. -/
theorem odiv : 64 ∣ S8192x16.size 0 := ⟨128, rfl⟩
abbrev oBlk (k : Fin 64) : Rect S8192x16 := Rect.part (s := S8192x16) (a₀ := 0) odiv k
abbrev oSet (k : Fin 64) : Finset S8192x16.Idx := ((Memref.whole main_v10_scv).view.slice (oBlk k)).set

/-- Task `(c, s)`'s number, and its chunk `r`. -/
def tIx (c : Fin 2) (s : Fin 16) : Fin 32 := finProdFinEquiv (s, c)
def kIx (c : Fin 2) (s : Fin 16) (r : Fin 2) : Fin 64 := finProdFinEquiv (tIx c s, r)

/-- The share of the list and of the table that task `(c, s)` reads them at. -/
abbrev rq (c : Fin 2) (s : Fin 16) : PosShare TreeShare := leaf 5 fullShare (tIx c s)

variable [FloatOps F]
variable (fi : (d : Dev nD) → Buf (Elt F) (iLoc d)) (fx : (d : Dev nD) → Buf (Elt F) (xLoc d)) (fo : (d : Dev nD) → Buf (Elt F) (oLoc d))

abbrev iPts (d : Dev nD) (c : Fin 2) (s : Fin 16) : sProp 𝕄 := iLoc d ↦{rq c s} fi d
abbrev xPts (d : Dev nD) (c : Fin 2) (s : Fin 16) : sProp 𝕄 := xLoc d ↦{rq c s} fx d
abbrev oPts (d : Dev nD) (k : Fin 64) (f : Buf (Elt F) (oLoc d)) : sProp 𝕄 := oLoc d ↦[oSet k]{fullShare} f

/-- Every word of the list names a row of the table. -/
def InRange : Prop := ∀ (d : Dev nD) (j : S8192.Idx), (fi d j).toNat < 160000

/-! ## The task -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

/-- The slices the task addresses: its two chunks of the list and of the output. -/
abbrev iChunk0 (L : grid0.Coords) : Memref sig .scVector .hbm S128 .i32 := (Memref.whole main_v6_scv).slice (Rect.unit (s := S8192) (k0_off1 L 0#32) S128.size (k0_off1_inb L 0)) (fun _ => rfl)
abbrev iChunk1 (L : grid0.Coords) : Memref sig .scVector .hbm S128 .i32 := (Memref.whole main_v6_scv).slice (Rect.unit (s := S8192) (k0_off1 L 128#32) S128.size (k0_off1_inb L 1)) (fun _ => rfl)
abbrev oChunk0 (L : grid0.Coords) : Memref sig .scVector .hbm S128x16 .f32 := (Memref.whole main_v10_scv).slice (Rect.unit (s := S8192x16) (k0_off2 L 0#32) S128x16.size (k0_off2_inb L 0)) (fun _ => rfl)
abbrev oChunk1 (L : grid0.Coords) : Memref sig .scVector .hbm S128x16 .f32 := (Memref.whole main_v10_scv).slice (Rect.unit (s := S8192x16) (k0_off2 L 128#32) S128x16.size (k0_off2_inb L 1)) (fun _ => rfl)
abbrev xAll : Memref sig .scVector .hbm S160000x16 .f32 := (Memref.whole main_v9_scv).slice (Rect.unit (s := S160000x16) ![0, 0] S160000x16.size inb_S160000x16_S160000x16_0_0) (fun _ => rfl)

omit [FloatOps F] in
theorem oBlk_eq (r : Fin 2) : Rect.unit (s := S8192x16) (k0_off2 L (BitVec.ofNat 32 (128 * r.val))) S128x16.size (k0_off2_inb L r) = oBlk (kIx (cL L) (sL L) r) := by
  unfold oBlk Rect.part Rect.block
  congr 1 <;> funext a
  · rw [k0_off2_eq]
    match a with
    | 0 =>
      simp [Shape.partIx, Shape.partSize, kIx, tIx, finProdFinEquiv]
      omega
    | 1 => simp [Shape.partIx, Shape.partSize]
  · match a with
    | 0 => simp [Shape.partSize]
    | 1 => simp [Shape.partSize]
omit [FloatOps F] in
theorem set_oChunk0 : (oChunk0 L).view.set = oSet (kIx (cL L) (sL L) 0) := by
  show ((Memref.whole main_v10_scv).view.slice _).set = _
  rw [show Rect.unit (s := S8192x16) (k0_off2 L 0#32) S128x16.size (k0_off2_inb L 0) = oBlk (kIx (cL L) (sL L) 0) from oBlk_eq L 0]
omit [FloatOps F] in
theorem set_oChunk1 : (oChunk1 L).view.set = oSet (kIx (cL L) (sL L) 1) := by
  show ((Memref.whole main_v10_scv).view.slice _).set = _
  rw [show Rect.unit (s := S8192x16) (k0_off2 L 128#32) S128x16.size (k0_off2_inb L 1) = oBlk (kIx (cL L) (sL L) 1) from oBlk_eq L 1]

omit [FloatOps F] in
theorem pts_oChunk0 (f : Buf (Elt F) (oLoc d)) :
    ((oChunk0 L).view.loc (V d (cV L) (jV L)) ↦[(oChunk0 L).view.set]{fullShare} f : sProp 𝕄) = oPts d (kIx (cL L) (sL L) 0) f := by
  rw [set_oChunk0]
omit [FloatOps F] in
theorem pts_oChunk1 (f : Buf (Elt F) (oLoc d)) :
    ((oChunk1 L).view.loc (V d (cV L) (jV L)) ↦[(oChunk1 L).view.set]{fullShare} f : sProp 𝕄) = oPts d (kIx (cL L) (sL L) 1) f := by
  rw [set_oChunk1]
omit [FloatOps F] in
theorem pts_iV (q : PosShare TreeShare) (f : Buf (Elt F) (iLoc d)) :
    ((Memref.whole main_v6_scv).view.loc (V d (cV L) (jV L)) ↦{q} f : sProp 𝕄) = iLoc d ↦{q} f := rfl
omit [FloatOps F] in
theorem pts_xV (q : PosShare TreeShare) (f : Buf (Elt F) (xLoc d)) :
    ((Memref.whole main_v9_scv).view.loc (V d (cV L) (jV L)) ↦{q} f : sProp 𝕄) = xLoc d ↦{q} f := rfl
omit [FloatOps F] in
theorem pts_sV (f : Buf (Elt F) ((V d (cV L) (jV L)).loc cc0_scratch0)) :
    ((Memref.whole cc0_scratch0).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((Memref.whole cc0_scratch1).view.loc (V d (cV L) (jV L)) ↦{fullShare} f : sProp 𝕄) = (V d (cV L) (jV L)).loc cc0_scratch1 ↦{fullShare} f := rfl

/-- The five transfer cells of a task. -/
abbrev cell (d : Dev nD) (c : Fin τ.nSC) (i : Fin τ.nSub) (a : Fin 5) : GSem nD τ sig := (V d c i, .dma a)

omit [FloatOps F] in
theorem cell_mem (c : Fin τ.nSC) (i : Fin τ.nSub) (a : Fin 5) : cell d c i a ∈ ownCells (V d c i) :=
  mem_ownCells.mpr ⟨rfl, by
    show (SemLoc.dma a : SemLoc sig).isScoped .scVector = true
    revert a; decide⟩
omit [FloatOps F] in
theorem cell_ne (c : Fin τ.nSC) (i : Fin τ.nSub) {a b : Fin 5} (h : a ≠ b) : cell d c i a ≠ cell d c i b := fun e => h (by
  have := congrArg Prod.snd e
  simpa [cell] using this)

omit [FloatOps F] in
/-- The five cells out of a task's own, and the rest. -/
theorem ownSems_split :
    (ownSems0 (V d (cV L) (jV L)) : sProp 𝕄)
      = iprop(semVal (cell d (cV L) (jV L) 0) 0 ∗ semVal (cell d (cV L) (jV L) 1) 0 ∗ semVal (cell d (cV L) (jV L) 2) 0
          ∗ semVal (cell d (cV L) (jV L) 3) 0 ∗ semVal (cell d (cV L) (jV L) 4) 0
          ∗ bigSep ((((((ownCells (V d (cV L) (jV L))).erase (cell d (cV L) (jV L) 0)).erase (cell d (cV L) (jV L) 1)).erase (cell d (cV L) (jV L) 2)).erase
              (cell d (cV L) (jV L) 3)).erase (cell d (cV L) (jV L) 4)) fun g => semVal g 0) := by
  have hm := cell_mem d (cV L) (jV L)
  have hn := fun {a b : Fin 5} (h : a ≠ b) => cell_ne d (cV L) (jV L) h
  unfold SparseCore.Cfg.ownSems0
  rw [SparseCore.bigSep_erase' (hm 0),
    SparseCore.bigSep_erase' (Finset.mem_erase.mpr ⟨hn (by decide), hm 1⟩),
    SparseCore.bigSep_erase' (Finset.mem_erase.mpr ⟨hn (by decide), Finset.mem_erase.mpr ⟨hn (by decide), hm 2⟩⟩),
    SparseCore.bigSep_erase' (Finset.mem_erase.mpr ⟨hn (by decide), Finset.mem_erase.mpr ⟨hn (by decide), Finset.mem_erase.mpr ⟨hn (by decide), hm 3⟩⟩⟩),
    SparseCore.bigSep_erase' (Finset.mem_erase.mpr ⟨hn (by decide), Finset.mem_erase.mpr ⟨hn (by decide), Finset.mem_erase.mpr ⟨hn (by decide), Finset.mem_erase.mpr ⟨hn (by decide), hm 4⟩⟩⟩⟩)]

omit [FloatOps F] in
/-- The index buffer and the row buffer out of a task's own buffers, and the rest. -/
theorem ownBufs_split :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- What the gather lands in the row buffer: row `x 0` is the table's row named by word `x 0` of the index buffer. -/
theorem gather_at (B : S128.Idx → Elt F .i32) (gx : S160000x16.Idx → Elt F .f32)
    (hin : ∀ x, (B x).toNat < S160000x16.size gathers_S160000x16_S128x16.axis) (x : S128x16.Idx) (y : S128.Idx) (hy : (y 0).val = (x 0).val) :
    SparseCore.gatherPayload gathers_S160000x16_S128x16 ((xAll).view.read (Elt F) gx) (SparseCore.rows B rfl hin) x = gx (xAt (B y) (x 1)) := by
  unfold SparseCore.gatherPayload
  rw [View.read_apply, cast_eq]
  congr 1
  funext a
  apply Fin.ext
  match a with
  | 0 =>
    show 0 + 1 * (gathers_S160000x16_S128x16.idx (SparseCore.rows B rfl hin) x (gathers_S160000x16_S128x16.axis)).val = (B y).toNat % 160000
    rw [Shape.Gathers.idx_axis, Nat.zero_add, Nat.one_mul, show (B y).toNat % 160000 = (B y).toNat from Nat.mod_eq_of_lt (hin y)]
    show (B (S128.rowMajor.symm _)).toNat = _
    congr 2
    rw [Equiv.symm_apply_eq]
    exact Fin.ext ((hy.symm).trans (Shape.rowMajor_val_one y).symm)
  | 1 =>
    show 0 + 1 * (gathers_S160000x16_S128x16.idx (SparseCore.rows B rfl hin) x 1).val = (x 1).val
    rw [Shape.Gathers.idx_of_ne _ _ _ _ (by decide), Nat.zero_add, Nat.one_mul]
    rfl

/-- One chunk's landing. The list's words from `o1` on are fetched over the index buffer's old contents, the rows of the
    table they name are gathered into the row buffer, and the row buffer is copied to the output's rows from `o2` on:
    if the two offsets agree, each element landed is the one `gathered` has there. -/
theorem chunk_value (o1 : Fin 1 → ℕ) (o2 : Fin 2 → ℕ) (h1 : ∀ a, o1 a + S128.size a ≤ S8192.size a) (h2 : ∀ a, o2 a + S128x16.size a ≤ S8192x16.size a)
    (e : o1 0 = o2 0) (e1 : o2 1 = 0) (gi : S8192.Idx → Elt F .i32) (gx : S160000x16.Idx → Elt F .f32) (go : S8192x16.Idx → Elt F .f32)
    (fs : S128.Idx → Elt F .i32) (fr : S128x16.Idx → Elt F .f32) (Lr : List (View.Piece (Elt F) S128x16 .f32))
    (hin : ∀ x, ((Memref.whole cc0_scratch0).view.read (Elt F) (View.write (Elt F) (Memref.whole cc0_scratch0).view fs (ReadAs.same.apply (((Memref.whole main_v6_scv).slice (Rect.unit (s := S8192) o1 S128.size h1) (fun _ => rfl)).view.read (Elt F) gi)) Finset.univ) x).toNat
      < S160000x16.size gathers_S160000x16_S128x16.axis)
    (j : S8192x16.Idx) (hj : j ∈ ((Memref.whole main_v10_scv).slice (Rect.unit (s := S8192x16) o2 S128x16.size h2) (fun _ => rfl)).view.set) :
    ((Memref.whole main_v10_scv).slice (Rect.unit (s := S8192x16) o2 S128x16.size h2) (fun _ => rfl)).view.writes (Elt F) go
      [⟨Rect.whole S128x16, ReadAs.same.apply ((Memref.whole cc0_scratch1).view.read (Elt F) ((Memref.whole cc0_scratch1).view.writes (Elt F) fr (⟨Rect.whole S128x16,
        SparseCore.gatherPayload gathers_S160000x16_S128x16 ((xAll).view.read (Elt F) gx)
          (SparseCore.rows ((Memref.whole cc0_scratch0).view.read (Elt F) (View.write (Elt F) (Memref.whole cc0_scratch0).view fs (ReadAs.same.apply (((Memref.whole main_v6_scv).slice (Rect.unit (s := S8192) o1 S128.size h1) (fun _ => rfl)).view.read (Elt F) gi)) Finset.univ)) rfl hin)⟩ :: Lr)))⟩] j
      = gathered gi gx j := by
  obtain ⟨x, -, rfl⟩ := Finset.mem_map.1 hj
  have a1 := congrFun (View.read_writes_whole (Val := Elt F) ((Memref.whole main_v10_scv).slice (Rect.unit (s := S8192x16) o2 S128x16.size h2) (fun _ => rfl)).view go
    (ReadAs.same.apply ((Memref.whole cc0_scratch1).view.read (Elt F) ((Memref.whole cc0_scratch1).view.writes (Elt F) fr (⟨Rect.whole S128x16,
        SparseCore.gatherPayload gathers_S160000x16_S128x16 ((xAll).view.read (Elt F) gx)
          (SparseCore.rows ((Memref.whole cc0_scratch0).view.read (Elt F) (View.write (Elt F) (Memref.whole cc0_scratch0).view fs (ReadAs.same.apply (((Memref.whole main_v6_scv).slice (Rect.unit (s := S8192) o1 S128.size h1) (fun _ => rfl)).view.read (Elt F) gi)) Finset.univ)) rfl hin)⟩ :: Lr))))) x
  rw [View.read_apply, cast_eq] at a1
  refine a1.trans ?_
  refine (View.read_writes_cons_hit (Val := Elt F) (Memref.whole cc0_scratch1).view fr (Rect.whole S128x16) _ Lr x x (Rect.emb_whole_apply _ _)).trans ?_
  refine (gather_at _ gx hin x (fun | 0 => x 0) rfl).trans ?_
  unfold gathered
  congr 2
  · rw [View.write_whole_univ]
    simp only [Memref.view_whole, View.read_whole]
    refine ((View.read_apply _ _).trans (cast_eq _ _)).trans ?_
    congr 1
    funext a
    match a with
    | 0 => exact Fin.ext (congrArg (· + 1 * (x 0).val) e)
  · exact Fin.ext (show (x 1).val = o2 1 + 1 * (x 1).val by rw [e1]; omega)

set_option maxHeartbeats 4000000 in
/-- The run of a task's body: it gives back its shares of the list and the table and leaves the gathered rows in its two chunks of the output. -/
theorem tile_body (hF : (K (F := F)).Facts) (hin : InRange fi) (O : CellTallies nD τ sig (HIx 1)) (W : Waits sig (HIx 1)) (hO : ∀ g, O g none = 0) :
    iprop(levAts (K (F := F)).L (K (F := F)).lev ∗ emp
        ∗ (iPts fi d (cL L) (sL L) ∗ xPts fx d (cL L) (sL L) ∗ oPts d (kIx (cL L) (sL L) 0) (fo d) ∗ oPts d (kIx (cL L) (sL L) 1) (fo d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L (Memref.whole main_v9_scv) (Memref.isWhole_whole _) (Memref.whole main_v6_scv) (Memref.isWhole_whole _) (Memref.whole main_v10_scv) (Memref.isWhole_whole _)
            (Memref.whole cc0_scratch0) (Memref.isWhole_whole _) (Memref.whole cc0_scratch1) (Memref.isWhole_whole _) cc0_scratch2 cc0_scoped0 cc0_scoped1 cc0_scoped2 cc0_scoped3)
          fun _ => iprop((iPts fi d (cL L) (sL L) ∗ xPts fx d (cL L) (sL L)
              ∗ oPts d (kIx (cL L) (sL L) 0) (gathered (fi d) (fx d)) ∗ oPts d (kIx (cL L) (sL L) 1) (gathered (fi d) (fx d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems_split, ownBufs_split]
  iintro ⟨#Hlv, -, ⟨Hi, Hx, Ho, Hp⟩, ⟨⟨%fs, Hs⟩, ⟨%fr, Hr⟩, Hbufs⟩, ⟨HsemA, HsemB, HsemC, HsemD, HsemE, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Hx' := (Entails.of_eq (pts_xV (F := F) d L _ _).symm) $$ Hx
  ihave Ho' := (Entails.of_eq (pts_oChunk0 (F := F) d L _).symm) $$ Ho
  ihave Hp' := (Entails.of_eq (pts_oChunk1 (F := F) d L _).symm) $$ Hp
  ihave Hs' := (Entails.of_eq (pts_sV (F := F) d L _).symm) $$ Hs
  ihave Hr' := (Entails.of_eq (pts_rV (F := F) d L _).symm) $$ Hr
  have hin0 : ∀ (g : Buf (Elt F) ((V d (cV L) (jV L)).loc cc0_scratch0)) (x : S128.Idx),
      ((Memref.whole cc0_scratch0).view.read (Elt F) (View.write (Elt F) (Memref.whole cc0_scratch0).view g (ReadAs.same.apply ((iChunk0 L).view.read (Elt F) (fi d))) Finset.univ) x).toNat < S160000x16.size gathers_S160000x16_S128x16.axis := by
    intro g x
    rw [View.write_whole_univ]
    simp only [Memref.view_whole, View.read_whole]
    exact hin d _
  have hin1 : ∀ (g : Buf (Elt F) ((V d (cV L) (jV L)).loc cc0_scratch0)) (x : S128.Idx),
      ((Memref.whole cc0_scratch0).view.read (Elt F) (View.write (Elt F) (Memref.whole cc0_scratch0).view g (ReadAs.same.apply ((iChunk1 L).view.read (Elt F) (fi d))) Finset.univ) x).toNat < S160000x16.size gathers_S160000x16_S128x16.axis := by
    intro g x
    rw [View.write_whole_univ]
    simp only [Memref.view_whole, View.read_whole]
    exact hin d _
  sl_exec
  sl_step
  have hv0 : ∀ j ∈ oSet (kIx (cL L) (sL L) 0), (oChunk0 L).view.writes (Elt F) (fo d) [⟨Rect.whole S128x16, tile_body.sl.dma0_1 fi fx d L fs fr hin0⟩] j = gathered (fi d) (fx d) j := by
    rw [← set_oChunk0]
    exact chunk_value (k0_off1 L 0#32) (k0_off2 L 0#32) (k0_off1_inb L 0) (k0_off2_inb L 0) ((congrFun (k0_off1_eq L 0) 0).trans (congrFun (k0_off2_eq L 0) 0).symm) (congrFun (k0_off2_eq L 0) 1) (fi d) (fx d) (fo d) fs fr [] (hin0 fs)
  have hv1 : ∀ j ∈ oSet (kIx (cL L) (sL L) 1), (oChunk1 L).view.writes (Elt F) (fo d) [⟨Rect.whole S128x16, tile_body.sl.dma0_3 fi fx d L fs fr hin0 hin1⟩] j = gathered (fi d) (fx d) j := by
    rw [← set_oChunk1]
    exact chunk_value (k0_off1 L 128#32) (k0_off2 L 128#32) (k0_off1_inb L 1) (k0_off2_inb L 1) ((congrFun (k0_off1_eq L 1) 0).trans (congrFun (k0_off2_eq L 1) 0).symm) (congrFun (k0_off2_eq L 1) 1) (fi d) (fx d) (fo d) _ fr _ (hin1 _)
  isplitl [Hi' Hx' Ho' Hp']
  · isplitl [Hi']; · iexact Hi'
    isplitl [Hx']; · iexact Hx'
    isplitl [Ho']
    · iapply (Entails.of_eq ((pts_oChunk0 (F := F) d L _).trans (pointsTo_congr hv0))); iexact Ho'
    · iapply (Entails.of_eq ((pts_oChunk1 (F := F) d L _).trans (pointsTo_congr hv1))); iexact Hp'
  isplitl [Hs' Hr' Hbufs]
  · isplitl [Hs']; · iexists _; iexact Hs'
    isplitl [Hr']; · iexists _; iexact Hr'
    iexact Hbufs
  isplitl [HsemA HsemB HsemC HsemD HsemE Hsems]
  · isplitl [HsemA]; · iexact HsemA
    isplitl [HsemB]; · iexact HsemB
    isplitl [HsemC]; · iexact HsemC
    isplitl [HsemD]; · iexact HsemD
    isplitl [HsemE]; · iexact HsemE
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.GatherIdeal

end
-- ==== Proof.KernelIdeal.Launch.lean ====
/-
  The whole program around the gather: the host operations before the SparseCore call, the call itself — the list and
  the table dealt to its tasks as shares, the output as chunks, and joined again —, and the host operations after it.
  `run_main` states what every buffer of the TensorCore holds at the end, as a function of the launch memory.
-/
module

public import proofs.«01_k».proof.Proof.KernelIdeal.Tile
public import Idealize.ShloMosaic.Lib.Pipeline.Frame

@[expose] public section

noncomputable section

namespace Cert.Proof.GatherIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf pointsTo_leaves)
open Idealize.ShloMosaic.StableHlo (seq after held wp_seq)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the handshakes carry -/

section Call

variable (fi : (d : Dev nD) → Buf (Elt F) (iLoc d)) (fx : (d : Dev nD) → Buf (Elt F) (xLoc d)) (fo : (d : Dev nD) → Buf (Elt F) (oLoc d))

/-- What task `(c, s)` takes, and what it brings back. -/
abbrev taskIn (d : Dev nD) (c : Fin 2) (s : Fin 16) : sProp 𝕄 :=
  iprop(iPts fi d c s ∗ xPts fx d c s ∗ oPts d (kIx c s 0) (fo d) ∗ oPts d (kIx c s 1) (fo d))
abbrev taskOut (d : Dev nD) (c : Fin 2) (s : Fin 16) : sProp 𝕄 :=
  iprop(iPts fi d c s ∗ xPts fx d c s ∗ oPts d (kIx c s 0) (gathered (fi d) (fx d)) ∗ oPts d (kIx c s 1) (gathered (fi d) (fx d)))

/-- The call's payments: each SparseCore takes what its tasks take and brings back what they bring back. -/
def P : (K (F := F)).Pay (nD := nD) (Val := Elt F) (Name := ℕ) (U := UU) where
  st := fun q d c => match q with
    | 0 => bigSep Finset.univ fun i : Fin ((K (F := F)).nSub 0) => taskIn fi fx fo d (Fin.cast nCore_eq c) (Fin.cast nSub_eq i)
  dn := fun q d c => match q with
    | 0 => bigSep Finset.univ fun i : Fin ((K (F := F)).nSub 0) => taskOut fi fx d (Fin.cast nCore_eq c) (Fin.cast nSub_eq i)
  go := fun q d c i => match q with | 0 => taskIn fi fx fo d (Fin.cast nCore_eq c) (Fin.cast nSub_eq i)
  td := fun q d c i => match q with | 0 => taskOut fi fx d (Fin.cast nCore_eq c) (Fin.cast nSub_eq i)
  x := fun _ _ => iprop(emp)

instance P_storable : (P (F := F) fi fx fo).IsStorable where
  st q d c := match q with
    | 0 => (inferInstance : BI.Storable (upEmb : UEmb _ 𝕄)
      (bigSep Finset.univ fun i : Fin ((K (F := F)).nSub 0) => taskIn fi fx fo d (Fin.cast nCore_eq c) (Fin.cast nSub_eq i)))
  dn q d c := match q with
    | 0 => (inferInstance : BI.Storable (upEmb : UEmb _ 𝕄)
      (bigSep Finset.univ fun i : Fin ((K (F := F)).nSub 0) => taskOut fi fx d (Fin.cast nCore_eq c) (Fin.cast nSub_eq i)))
  go q d c i := match q with
    | 0 => (inferInstance : BI.Storable (upEmb : UEmb _ 𝕄) (taskIn fi fx fo d (Fin.cast nCore_eq c) (Fin.cast nSub_eq i)))
  td q d c i := match q with
    | 0 => (inferInstance : BI.Storable (upEmb : UEmb _ 𝕄) (taskOut fi fx d (Fin.cast nCore_eq c) (Fin.cast nSub_eq i)))

/-! ## The tasks' obligation -/

/-- The grid point of task `(c, s)`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          (Memref.whole main_v9_scv) (Memref.isWhole_whole _) (Memref.whole main_v6_scv) (Memref.isWhole_whole _) (Memref.whole main_v10_scv) (Memref.isWhole_whole _)
          (Memref.whole cc0_scratch0) (Memref.isWhole_whole _) (Memref.whole cc0_scratch1) (Memref.isWhole_whole _) cc0_scratch2 cc0_scoped0 cc0_scoped1 cc0_scoped2 cc0_scoped3) ⟨⟩ c s := rfl

omit [FloatOps F] in
/-- A task's waits are of no handshake, so they are of none or of this call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each task of the call runs from what it takes to what it brings back. -/
theorem tileObl (hF : (K (F := F)).Facts) (hin : InRange fi) : (K (F := F)).TileObl (D (F := F)) 𝒱 (P fi fx fo) v₀ 0 := by
  intro d c i O W hO _ _
  simp only [show (P fi fx fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fi fx fo d (coordsV ⟨_, hci.1⟩ ⟨_, hci.2⟩) hF hin O W hO).trans (wp_mono frame _ _ fun _ => obl_post)

/-- A SparseCore deals its tasks what it took and collects what they bring back. -/
theorem vecSplit : (K (F := F)).VecSplit' (P fi fx fo) 0 := by
  intro d c
  show (P fi fx fo).st 0 d c ⊢ |={Set.univ}=> iprop((P fi fx fo).st 0 d c ∗ ((P fi fx fo).dn 0 d c -∗ (P fi fx fo).dn 0 d c))
  iintro H; imodintro
  isplitl [H]; · iexact H
  iintro H; iexact H

/-! ## The arrays dealt to the tasks and joined again -/

omit [FloatOps F] in
/-- A family over the tasks' numbers, by core and subcore. -/
theorem bigSep_tasks (Φ : Fin 32 → sProp 𝕄) :
    bigSep Finset.univ Φ = bigSep Finset.univ fun c : Fin 2 => bigSep Finset.univ fun s : Fin 16 => Φ (tIx c s) := by
  rw [bigSep_univ_equiv ((Equiv.prodComm (Fin 2) (Fin 16)).trans finProdFinEquiv) Φ, bigSep_univ_prod]
  rfl

omit [FloatOps F] in
/-- A family over the chunks, by core and subcore, two chunks each. -/
theorem bigSep_chunks (Φ : Fin 64 → sProp 𝕄) :
    bigSep Finset.univ Φ = bigSep Finset.univ fun c : Fin 2 => bigSep Finset.univ fun s : Fin 16 => iprop(Φ (kIx c s 0) ∗ Φ (kIx c s 1)) := by
  rw [bigSep_univ_equiv (finProdFinEquiv : Fin 32 × Fin 2 ≃ Fin 64) Φ, bigSep_univ_prod, bigSep_tasks]
  exact bigSep_congr fun c _ => bigSep_congr fun s _ => BI.bigSep_fin_two _

omit [FloatOps F] in
theorem oSet_eq (k : Fin 64) : oSet k = (oBlk k).set := by
  show ((View.whole (main_v10_scv : Ref sig .scVector)).slice (oBlk k)).set = _
  rw [View.set_slice]; exact Finset.map_refl

omit [FloatOps F] in
/-- The whole output is its chunks. -/
theorem out_chunks (d : Dev nD) (f : Buf (Elt F) (oLoc d)) :
    (oLoc d ↦{fullShare} f : sProp 𝕄) = bigSep Finset.univ fun k : Fin 64 => oPts d k f := by
  rw [← pointsTo_biUnion Finset.univ (ℓ := oLoc d) oSet (fun i _ j _ h => by rw [oSet_eq, oSet_eq]; exact Rect.part_disjoint odiv h),
    (Finset.biUnion_congr rfl fun i _ => oSet_eq i).trans (Rect.biUnion_part odiv)]
  try rfl

omit [FloatOps F] in
/-- The list, the table and the output, whole, are what the tasks hold of them. -/
theorem arrays_tasks (d : Dev nD) (fi : Buf (Elt F) (iLoc d)) (fx : Buf (Elt F) (xLoc d)) (f : Buf (Elt F) (oLoc d)) :
    (iprop((iLoc d ↦{fullShare} fi) ∗ (xLoc d ↦{fullShare} fx) ∗ (oLoc d ↦{fullShare} f)) : sProp 𝕄)
      = bigSep Finset.univ fun c : Fin 2 => bigSep Finset.univ fun s : Fin 16 =>
          iprop((iLoc d ↦{rq c s} fi) ∗ (xLoc d ↦{rq c s} fx) ∗ oPts d (kIx c s 0) f ∗ oPts d (kIx c s 1) f) := by
  rw [show (iLoc d ↦{fullShare} fi : sProp 𝕄) = (bigSep Finset.univ fun t : Fin 32 => iLoc d ↦{leaf 5 fullShare t} fi) from pointsTo_leaves Finset.univ fi 5 fullShare,
    show (xLoc d ↦{fullShare} fx : sProp 𝕄) = (bigSep Finset.univ fun t : Fin 32 => xLoc d ↦{leaf 5 fullShare t} fx) from pointsTo_leaves Finset.univ fx 5 fullShare, out_chunks,
    bigSep_chunks, bigSep_tasks (fun t => iLoc d ↦{leaf 5 fullShare t} fi), bigSep_tasks (fun t => xLoc d ↦{leaf 5 fullShare t} fx)]
  simp only [bigSep_sep']

theorem st_eq (d : Dev nD) : (bigSep Finset.univ fun c : Fin ((K (F := F)).nCore 0) => (P fi fx fo).st 0 d c)
    = iprop((iLoc d ↦{fullShare} fi d) ∗ (xLoc d ↦{fullShare} fx d) ∗ (oLoc d ↦{fullShare} fo d)) := (arrays_tasks d (fi d) (fx d) (fo d)).symm
theorem dn_eq (d : Dev nD) : (bigSep Finset.univ fun c : Fin ((K (F := F)).nCore 0) => (P fi fx fo).dn 0 d c)
    = iprop((iLoc d ↦{fullShare} fi d) ∗ (xLoc d ↦{fullShare} fx d) ∗ (oLoc d ↦{fullShare} gathered (fi d) (fx d))) :=
  (arrays_tasks d (fi d) (fx d) (gathered (fi d) (fx d))).symm

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- The launch's ghost state is the handshakes' rounds; the tasks ask for nothing besides. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fi fx fo).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) fi fx fo).x q thr) = bigSep Finset.univ fun _ => iprop(emp) from
    bigSep_congr fun _ _ => bigSep_univ_of_subsingleton (0 : Fin 1), bigSep_emp']
  iempintro

end Call

/-! ## The host operations around the call -/

/-- Two arrays of three channels side by side along the channel axis. -/
def sideBySide (a b : (⟨S8x20000x3, .f32⟩ : BufTy).Contents (Elt F)) : (⟨S8x20000x6, .f32⟩ : BufTy).Contents (Elt F) :=
  concatenate S8x20000x6 2 [⟨S8x20000x3, a⟩, ⟨S8x20000x3, b⟩] concatenates_S8x20000x3_S8x20000x3_S8x20000x6_d2

/-- The operations before the call, and those after it. -/
def opsA : List (HloOp τ sig (Elt F)) :=
  [StableHlo.nullary main_v0 (iotaInDim S8 32 0),
   StableHlo.nullary main_c (constantI S_ 32 20000#32),
   StableHlo.unary main_c main_v1 (broadcastInDim S8 ![] bcast_S_S8 : (⟨S_, .i32⟩ : BufTy).Contents (Elt F) → (⟨S8, .i32⟩ : BufTy).Contents (Elt F)),
   StableHlo.binary main_v0 main_v1 main_v2 (muli : (⟨S8, .i32⟩ : BufTy).Contents (Elt F) → (⟨S8, .i32⟩ : BufTy).Contents (Elt F) → (⟨S8, .i32⟩ : BufTy).Contents (Elt F)),
   StableHlo.unary main_v2 main_v3 (broadcastInDim S8x1 ![0] bcast_S8_S8x1_0 : (⟨S8, .i32⟩ : BufTy).Contents (Elt F) → (⟨S8x1, .i32⟩ : BufTy).Contents (Elt F)),
   StableHlo.unary main_v3 main_v4 (broadcastInDim S8x1024 ![0, 1] bcast_S8x1_S8x1024_0_1 : (⟨S8x1, .i32⟩ : BufTy).Contents (Elt F) → (⟨S8x1024, .i32⟩ : BufTy).Contents (Elt F)),
   StableHlo.binary main_arg2 main_v4 main_v5 (addi : (⟨S8x1024, .i32⟩ : BufTy).Contents (Elt F) → (⟨S8x1024, .i32⟩ : BufTy).Contents (Elt F) → (⟨S8x1024, .i32⟩ : BufTy).Contents (Elt F)),
   StableHlo.reshape main_v5 main_v6 (rfl : (.i32 : EltTy) = .i32) shapeCasts_S8x1024_S8192,
   StableHlo.binary main_arg1 main_arg0 main_v7 sideBySide,
   StableHlo.nullary main_c_0 (constantI S_ 32 0#32),
   StableHlo.TRef.unary (.of main_c_0 : StableHlo.TRef sig ⟨S_, .i32⟩) main_call0.v0 (sitofp .f32),
   StableHlo.TRef.binary (.of main_v7 : StableHlo.TRef sig ⟨S8x20000x6, .f32⟩) main_call0.v0 main_call0.v1 (fun x v => pad S8x20000x16 ![0, 0, 0] ![0, 0, 10] ![0, 0, 0] x v pads_S8x20000x6_S8x20000x16_000_000_0100 h_S_),
   StableHlo.reshape main_v8 main_v9 (rfl : (.f32 : EltTy) = .f32) shapeCasts_S8x20000x16_S160000x16]
def opsB : List (HloOp τ sig (Elt F)) :=
  [StableHlo.unary main_v10 main_v11 ((extractStridedSlice S8192x8 ![0, 0] · slices_S8192x16_S8192x8_0_0) : (⟨S8192x16, .f32⟩ : BufTy).Contents (Elt F) → (⟨S8192x8, .f32⟩ : BufTy).Contents (Elt F)),
   StableHlo.reshape main_v11 main_v12 (rfl : (.f32 : EltTy) = .f32) shapeCasts_S8192x8_S8x1024x8,
   StableHlo.unary main_v10 main_v13 ((extractStridedSlice S8192x3 ![0, 3] · slices_S8192x16_S8192x3_0_3) : (⟨S8192x16, .f32⟩ : BufTy).Contents (Elt F) → (⟨S8192x3, .f32⟩ : BufTy).Contents (Elt F)),
   StableHlo.reshape main_v13 main_v14 (rfl : (.f32 : EltTy) = .f32) shapeCasts_S8192x3_S8x1024x3]

theorem main_eq (d : Dev nD) : main (F := F) d = seq opsA >>= fun _ => ((sc (F := F)).run d 0 >>= fun _ => (seq opsB >>= fun _ => pure ⟨⟩)) := rfl

variable (m : (ℓ : Loc nD τ sig) → Buf (Elt F) ℓ) (ρ : Dev nD → PrngReg)

abbrev i' : DevRef τ sig := Proc.devRef .tc (main_v6 : Ref sig .tc)
abbrev x' : DevRef τ sig := Proc.devRef .tc (main_v9 : Ref sig .tc)
abbrev o' : DevRef τ sig := Proc.devRef .tc (main_v10 : Ref sig .tc)

/-- The TensorCore's buffers at the launch, before the call, after it, and at the end. -/
def V0 (d : Dev nD) : Valuation τ sig (Elt F) := fun b => m (d, b)
def V1 (d : Dev nD) : Valuation τ sig (Elt F) := after opsA (V0 m d)
def V2 (d : Dev nD) : Valuation τ sig (Elt F) := Function.update (V1 m d) o' (gathered (V1 m d i') (V1 m d x'))
def V3 (d : Dev nD) : Valuation τ sig (Elt F) := after opsB (V2 m d)

/-- The call's payments from the buffers before it. -/
abbrev PP : (K (F := F)).Pay (nD := nD) (Val := Elt F) (Name := ℕ) (U := UU) := P (fun d => V1 m d i') (fun d => V1 m d x') (fun d => V1 m d o')

abbrev S3 : Finset (DevRef τ sig) := {i', x', o'}
omit [FloatOps F] in
theorem held_S3 (d : Dev nD) (W : Valuation τ sig (Elt F)) :
    (held (SparseCore.T d) S3 W : sProp 𝕄) = iprop((iLoc d ↦{fullShare} W i') ∗ (xLoc d ↦{fullShare} W x') ∗ (oLoc d ↦{fullShare} W o')) := by
  unfold held S3
  rw [SparseCore.bigSep_insert' (by decide), SparseCore.bigSep_insert' (by decide), bigSep_singleton]
omit [FloatOps F] in
theorem S3_sub : S3 ⊆ ucRefs τ sig := by decide

theorem opsA_sub : ∀ op ∈ opsA (F := F), op.bufs ⊆ ucRefs τ sig := fun op h => sub_ucRefs op
  ((List.forall_iff_forall_mem.mp (show (opsA (F := F)).Forall fun op => op.bufs ⊆ StableHlo.tcRefs τ sig from ⟨StableHlo.nullary_bufs_sub .., StableHlo.nullary_bufs_sub .., StableHlo.unary_bufs_sub .., StableHlo.binary_bufs_sub ..,
    StableHlo.unary_bufs_sub .., StableHlo.unary_bufs_sub .., StableHlo.binary_bufs_sub .., StableHlo.reshape_bufs_sub ..,
    StableHlo.binary_bufs_sub .., StableHlo.nullary_bufs_sub .., StableHlo.unary_bufs_sub .., StableHlo.binary_bufs_sub ..,
    StableHlo.reshape_bufs_sub ..⟩) op h))
theorem opsB_sub : ∀ op ∈ opsB (F := F), op.bufs ⊆ ucRefs τ sig := fun op h => sub_ucRefs op
  ((List.forall_iff_forall_mem.mp (show (opsB (F := F)).Forall fun op => op.bufs ⊆ StableHlo.tcRefs τ sig from ⟨StableHlo.unary_bufs_sub .., StableHlo.reshape_bufs_sub .., StableHlo.unary_bufs_sub ..,
    StableHlo.reshape_bufs_sub ..⟩) op h))
theorem opsA_fresh : ∀ op ∈ opsA (F := F), op.fresh = ∅ := fun op h =>
  List.forall_iff_forall_mem.mp (show (opsA (F := F)).Forall fun op => op.fresh = ∅ from ⟨rfl, rfl, rfl, rfl, rfl, rfl, rfl, rfl, rfl, rfl, rfl, rfl, rfl⟩) op h
theorem opsB_fresh : ∀ op ∈ opsB (F := F), op.fresh = ∅ := fun op h =>
  List.forall_iff_forall_mem.mp (show (opsB (F := F)).Forall fun op => op.fresh = ∅ from ⟨rfl, rfl, rfl, rfl⟩) op h

theorem unscoped_held (d : Dev nD) : (unscopedBufs d (fun b => m ((SparseCore.T d).loc b)) : sProp 𝕄) = held (SparseCore.T d) (ucRefs τ sig) (V0 m d) :=
  unscopedBufs_held d (V0 m d)

/-- What the TensorCore ends with: all its buffers, at the last contents. -/
abbrev FIN (d : Dev nD) : sProp 𝕄 := held (SparseCore.T d) (ucRefs τ sig) (V3 m d)

/-- The TensorCore's program: the operations before the call, the call, the operations after it. -/
theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (ucRefs τ sig) _ opsA opsA_sub opsA_fresh (V0 m d)) $$ [Hb Hheld]
  · isplitl [Hb] <;> iassumption
  iintro ⟨Hb, Hheld⟩
  ihave Hh := (Entails.of_eq (show held (d.tc : Thread nD τ) (ucRefs τ sig) (after opsA (V0 m d)) = iprop(held (SparseCore.T d) S3 (V1 m d) ∗ held (SparseCore.T d) (ucRefs τ sig \ S3) (V1 m d))
    from StableHlo.held_sub_split (SparseCore.T d) S3_sub (V1 m d))) $$ Hheld
  icases Hh with ⟨H3, Hrest⟩
  rw [wp_bind]
  iapply ((K (F := F)).wp_run (D (F := F)) 𝒱 (EH := EH) (P := PP m) κ d 0) $$ [Hst H3 Hb Hrest Hts]
  isplitr; · iexact Hctx
  isplitl [Hst]; · iexact Hst
  isplitl [H3]
  · rw [st_eq]; iapply (Entails.of_eq (held_S3 (F := F) d (V1 m d))); iexact H3
  iintro ⟨Hst, Hdn⟩
  ihave H3 := (Entails.of_eq (show _ = held (SparseCore.T d) S3 (V2 m d) from (dn_eq _ _ _ d).trans
    (by rw [held_S3]; rfl))) $$ Hdn
  ihave Hrest := (Entails.of_eq (StableHlo.held_congr (SparseCore.T d) (S := ucRefs τ sig \ S3) (V := V1 m d) (V' := V2 m d)
    fun b hb => (Function.update_of_ne (fun e => (Finset.mem_sdiff.mp hb).2 (by rw [e]; decide)) _ _).symm)) $$ Hrest
  ihave Hheld := (Entails.of_eq (StableHlo.held_sub_split (SparseCore.T d) S3_sub (V2 m d)).symm) $$ [H3 Hrest]
  · isplitl [H3] <;> iassumption
  iapply (wp_seq 𝒱 none Set.univ d (ucRefs τ sig) _ opsB opsB_sub opsB_fresh (V2 m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

/-- What the claims read of device `d`'s final state. -/
def fq (d : Dev nD) (s' : Phys nD τ sig (Elt F)) : Prop := ∀ b ∈ ucRefs τ sig, s'.mem.mem (d, b) = V3 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro; exact h

/-! ## The run -/

def QC : PUnit × MemSt nD τ sig (Elt F) → Prop := fun r => (∀ c : Dev nD, ∀ b ∈ ucRefs τ sig, r.2.mem (c, b) = V3 m c b) ∧ r.2.sem = fun _ => 0

/-- Every run of the program from `m` ends, each buffer at its last contents and every counter at zero. -/
theorem run_main [∀ e, Nonempty (Elt F e)] (hin : InRange (fun d => V1 m d i')) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) launchFacts v₀
    (fun q hq => match q with | 0 => nomatch hq)
    (fun q _ => match q with | 0 => tileObl _ _ _ launchFacts hin)
    (fun q _ => match q with | 0 => SparseCore.Cfg.VecSplit.of_plain (vecSplit _ _ _))
    m ρ main (fun _ => iprop(emp)) (FIN m) (u₀ (F := F)) (sep_elim_left.trans (hu₀ _ _ _)) (hmain m ρ) (fq m) (hfin m) (QC m) (fun _ h hz => ⟨h, hz⟩)

end Cert.Proof.GatherIdeal

end
-- ==== Proof.KernelIdeal.Values.lean ====
/-
  What the buffers hold at the end, as a function of the arguments.
-/
module

public import proofs.«01_k».proof.Proof.KernelIdeal.Launch
public import proofs.«01_k».proof.Proof.Gen.Pre_idx_in_range
public import Idealize.ShloMosaic.Lib.StableHlo.Predicate
public import Idealize.ShloMosaic.Lib.ValueIdxCore
public import Idealize.ShloMosaic.Lib.KernelVsHost

@[expose] public section

noncomputable section

namespace Cert.Proof.GatherIdeal

open Cert.KernelIdeal Cert.KernelIdeal.Gen

open Idealize.ShloMosaic
open Idealize.ShloMosaic.StableHlo
open Idealize.ShloMosaic.ValueIdx
open Idealize.ShloMosaic.Pipeline (ucRefs)
open Idealize.SL.Sem

variable {F : FTy → Type} [FloatOps F]
variable (m : (ℓ : Loc nD τ sig) → Buf (Elt F) ℓ) (d : Dev nD)

abbrev a0 : DevRef τ sig := Proc.devRef .tc (main_arg0 : Ref sig .tc)
abbrev a1 : DevRef τ sig := Proc.devRef .tc (main_arg1 : Ref sig .tc)
abbrev a2 : DevRef τ sig := Proc.devRef .tc (main_arg2 : Ref sig .tc)

/-- The flat list the host builds from the indices, and the table it builds from the colours and the points. -/
def listOf (ix : S8x1024.Idx → Elt F .i32) : S8192.Idx → Elt F .i32 :=
  shapeCast S8192 (addi ix (broadcastInDim S8x1024 ![0, 1] bcast_S8x1_S8x1024_0_1 (broadcastInDim S8x1 ![0] bcast_S8_S8x1_0
    (muli (iotaInDim S8 32 0) (broadcastInDim S8 ![] bcast_S_S8 (constantI S_ 32 20000#32)))))) shapeCasts_S8x1024_S8192
def tableOf (p c : S8x20000x3.Idx → Elt F .f32) : S160000x16.Idx → Elt F .f32 :=
  shapeCast S160000x16 (pad S8x20000x16 ![0, 0, 0] ![0, 0, 10] ![0, 0, 0] (sideBySide c p)
    (sitofp .f32 (constantI S_ 32 0#32)) pads_S8x20000x6_S8x20000x16_000_000_0100 h_S_) shapeCasts_S8x20000x16_S160000x16

theorem V1_i : V1 m d i' = listOf (V0 m d a2) := by
  unfold V1 opsA listOf
  after_results
  rfl
theorem V1_x : V1 m d x' = tableOf (V0 m d a0) (V0 m d a1) := by
  unfold V1 opsA tableOf
  after_results_simp
  simp only [TRef.ofBuf_toBuf]
  rfl

/-- The call's output buffer after the call. -/
theorem V2_o : V2 m d o' = gathered (listOf (V0 m d a2)) (tableOf (V0 m d a0) (V0 m d a1)) := by
  rw [V2, Function.update_self, V1_i, V1_x]

/-- The arguments keep their contents. -/
theorem V3_a0 : V3 m d a0 = V0 m d a0 := by
  have e : V3 m d a0 = V2 m d a0 := by unfold V3 opsB; after_results_simp
  rw [e, V2, Function.update_of_ne (by decide)]
  unfold V1 opsA; after_results_simp
theorem V3_a1 : V3 m d a1 = V0 m d a1 := by
  have e : V3 m d a1 = V2 m d a1 := by unfold V3 opsB; after_results_simp
  rw [e, V2, Function.update_of_ne (by decide)]
  unfold V1 opsA; after_results_simp
theorem V3_a2 : V3 m d a2 = V0 m d a2 := by
  have e : V3 m d a2 = V2 m d a2 := by unfold V3 opsB; after_results_simp
  rw [e, V2, Function.update_of_ne (by decide)]
  unfold V1 opsA; after_results_simp

/-- The two results: the first eight columns of the gathered rows, and columns 3 to 5. -/
def featOf (p c : S8x20000x3.Idx → Elt F .f32) (ix : S8x1024.Idx → Elt F .i32) : S8x1024x8.Idx → Elt F .f32 :=
  shapeCast S8x1024x8 (extractStridedSlice S8192x8 ![0, 0] (gathered (listOf ix) (tableOf p c)) slices_S8192x16_S8192x8_0_0) shapeCasts_S8192x8_S8x1024x8
def coordOf (p c : S8x20000x3.Idx → Elt F .f32) (ix : S8x1024.Idx → Elt F .i32) : S8x1024x3.Idx → Elt F .f32 :=
  shapeCast S8x1024x3 (extractStridedSlice S8192x3 ![0, 3] (gathered (listOf ix) (tableOf p c)) slices_S8192x16_S8192x3_0_3) shapeCasts_S8192x3_S8x1024x3

theorem V3_feat : V3 m d (Proc.devRef .tc (main_v12 : Ref sig .tc)) = featOf (V0 m d a0) (V0 m d a1) (V0 m d a2) := by
  unfold V3 opsB featOf
  after_results_simp
  rw [show V2 m d (Proc.tc.devRef main_v10) = _ from V2_o m d]
  rfl
theorem V3_coord : V3 m d (Proc.devRef .tc (main_v14 : Ref sig .tc)) = coordOf (V0 m d a0) (V0 m d a1) (V0 m d a2) := by
  unfold V3 opsB coordOf
  after_results_simp
  rw [show V2 m d (Proc.tc.devRef main_v10) = _ from V2_o m d]
  rfl

/-! ## The values, entry by entry -/

/-- Entry `1024 b + n` of the flat list: the index plus 20000 times the batch. -/
theorem listOf_apply (ix : S8x1024.Idx → Elt F .i32) (b : Fin 8) (n : Fin 1024) (k : Fin 8192) (hk : k.val = 1024 * b.val + n.val) :
    listOf (F := F) ix (iAt k) = ix (ix2 b n) + BitVec.ofNat 32 b.val * 20000#32 := by
  unfold listOf
  rw [shapeCast_apply _ _ (iAt k) (ix2 b n) (by
    rw [Shape.rowMajor_val_two, Shape.rowMajor_val_one]
    show b.val * 1024 + n.val = k.val
    omega)]
  rfl

/-- With every index below 20000, the list's entry is the row number `20000 b + ix`, below 160000. -/
theorem listOf_toNat (ix : S8x1024.Idx → Elt F .i32) (hix : ∀ j, (ix j).toNat < 20000) (b : Fin 8) (n : Fin 1024) (k : Fin 8192)
    (hk : k.val = 1024 * b.val + n.val) :
    (listOf (F := F) ix (iAt k)).toNat = 20000 * b.val + (ix (ix2 b n)).toNat := by
  rw [listOf_apply ix b n k hk]
  have h1 := hix (ix2 b n)
  have h2 := b.isLt
  show ((ix (ix2 b n) : BitVec 32) + BitVec.ofNat 32 b.val * 20000#32).toNat = _
  rw [BitVec.toNat_add, BitVec.toNat_mul, BitVec.toNat_ofNat]
  simp only [BitVec.toNat_ofNat, Nat.reducePow, Nat.reduceMod]
  have h3 : ((ix (ix2 b n) : BitVec 32)).toNat < 20000 := h1
  omega

theorem inRange_of (hix : ∀ d j, (V0 m d a2 j).toNat < 20000) : InRange (fun d => V1 m d i') := by
  intro d j
  have hj : j = iAt (j 0) := by funext a; match a with | 0 => rfl
  show (V1 m d i' j).toNat < _
  have h0 : (j 0).val < 8192 := (j 0).isLt
  rw [V1_i, hj, listOf_toNat _ (hix d) ⟨(j 0).val / 1024, by omega⟩ ⟨(j 0).val % 1024, by omega⟩ (j 0) (by show (j 0).val = _; dsimp only; omega)]
  have := hix d (ix2 ⟨(j 0).val / 1024, by omega⟩ ⟨(j 0).val % 1024, by omega⟩)
  have h2 : (j 0).val / 1024 < 8 := by omega
  dsimp only
  omega

/-- Row `20000 b + k` of the table holds, for point `k` of cloud `b`, the colour, then the position, then zeros. -/
theorem tableOf_colour (p c : S8x20000x3.Idx → Elt F .f32) (b : Fin 8) (k : Fin 20000) (w : BitVec 32)
    (hw : w.toNat = 20000 * b.val + k.val) (q : Fin 16) (r : Fin 3) (hr : q.val = r.val) :
    tableOf p c (xAt w q) = c (ix3 b k r) := by
  unfold tableOf
  rw [shapeCast_apply _ _ (xAt w q) (ix3 b k q) (by
    rw [Shape.rowMajor_val_three, Shape.rowMajor_val_two]
    show (b.val * 20000 + k.val) * 16 + q.val = (w.toNat % 160000) * 16 + q.val
    have := b.isLt; have := k.isLt
    omega)]
  rw [pad_apply_of_inside _ _ _ _ _ _ _ _ (ix3 b k (⟨q.val, by have := r.isLt; omega⟩ : Fin 6)) (by
    intro a; match a with | 0 => simp | 1 => simp | 2 => simp)]
  unfold sideBySide
  exact concatenate_pair_apply_left (t := S8x20000x6) (s₁ := S8x20000x3) (s₂ := S8x20000x3) 2 c p _ (ix3 b k (⟨q.val, by have := r.isLt; omega⟩ : Fin 6)) rfl (ix3 b k r) (by
    intro a; match a with
    | 0 => rfl
    | 1 => rfl
    | 2 => show r.val = q.val; exact hr.symm)

theorem tableOf_position (p c : S8x20000x3.Idx → Elt F .f32) (b : Fin 8) (k : Fin 20000) (w : BitVec 32)
    (hw : w.toNat = 20000 * b.val + k.val) (q : Fin 16) (r : Fin 3) (hr : q.val = 3 + r.val) :
    tableOf p c (xAt w q) = p (ix3 b k r) := by
  unfold tableOf
  rw [shapeCast_apply _ _ (xAt w q) (ix3 b k q) (by
    rw [Shape.rowMajor_val_three, Shape.rowMajor_val_two]
    show (b.val * 20000 + k.val) * 16 + q.val = (w.toNat % 160000) * 16 + q.val
    have := b.isLt; have := k.isLt
    omega)]
  rw [pad_apply_of_inside _ _ _ _ _ _ _ _ (ix3 b k (⟨q.val, by have := r.isLt; omega⟩ : Fin 6)) (by
    intro a; match a with | 0 => simp | 1 => simp | 2 => simp)]
  unfold sideBySide
  refine concatenate_apply_piece (2 : Fin S8x20000x6.rank) [⟨S8x20000x3, c⟩, ⟨S8x20000x3, p⟩] _ _ 1 (by simp) S8x20000x3 p rfl rfl 3 rfl (ix3 b k r) (by
    intro a ha; match a with
    | 0 => rfl
    | 1 => rfl
    | 2 => exact absurd rfl ha) ?_
  show 3 + r.val = q.val
  exact hr.symm

theorem tableOf_rest (p c : S8x20000x3.Idx → Elt F .f32) (b : Fin 8) (k : Fin 20000) (w : BitVec 32)
    (hw : w.toNat = 20000 * b.val + k.val) (q : Fin 16) (hq : 6 ≤ q.val) :
    tableOf p c (xAt w q) = FloatOps.sitofp .f32 0#32 := by
  unfold tableOf
  rw [shapeCast_apply _ _ (xAt w q) (ix3 b k q) (by
    rw [Shape.rowMajor_val_three, Shape.rowMajor_val_two]
    show (b.val * 20000 + k.val) * 16 + q.val = (w.toNat % 160000) * 16 + q.val
    have := b.isLt; have := k.isLt
    omega)]
  rw [pad_apply_of_not_inside _ _ _ _ _ _ _ _ 2 (by
    rintro ⟨-, -, h⟩
    have h' : (q.val - 0) / (0 + 1) < 6 := h
    omega)]
  rfl

/-- An entry of the two results is an entry of the gathered rows. -/
theorem featOf_apply (p c : S8x20000x3.Idx → Elt F .f32) (ix : S8x1024.Idx → Elt F .i32) (b : Fin 8) (n : Fin 1024) (q : Fin 8) :
    featOf p c ix (ix3 b n q) = tableOf p c (xAt (listOf (F := F) ix (iAt ⟨1024 * b.val + n.val, by omega⟩)) (q.castLE (by decide))) := by
  unfold featOf
  rw [shapeCast_apply _ _ (ix3 b n q) (ix2 (⟨1024 * b.val + n.val, by omega⟩ : Fin 8192) q) (by
    rw [Shape.rowMajor_val_three, Shape.rowMajor_val_two]
    show (1024 * b.val + n.val) * 8 + q.val = (b.val * 1024 + n.val) * 8 + q.val
    omega)]
  rw [extractStridedSlice_apply _ _ _ _ (ix2 (⟨1024 * b.val + n.val, by omega⟩ : Fin 8192) (q.castLE (by decide) : Fin 16)) (by
    intro a; match a with
    | 0 => show _ = 0 + _; rw [Nat.zero_add]; rfl
    | 1 => show _ = 0 + _; rw [Nat.zero_add]; rfl)]
  rfl

theorem coordOf_apply (p c : S8x20000x3.Idx → Elt F .f32) (ix : S8x1024.Idx → Elt F .i32) (b : Fin 8) (n : Fin 1024) (q : Fin 3) :
    coordOf p c ix (ix3 b n q) = tableOf p c (xAt (listOf (F := F) ix (iAt ⟨1024 * b.val + n.val, by omega⟩)) ⟨3 + q.val, by omega⟩) := by
  unfold coordOf
  rw [shapeCast_apply _ _ (ix3 b n q) (ix2 (⟨1024 * b.val + n.val, by omega⟩ : Fin 8192) q) (by
    rw [Shape.rowMajor_val_three, Shape.rowMajor_val_two]
    show (1024 * b.val + n.val) * 3 + q.val = (b.val * 1024 + n.val) * 3 + q.val
    omega)]
  rw [extractStridedSlice_apply _ _ _ _ (ix2 (⟨1024 * b.val + n.val, by omega⟩ : Fin 8192) (⟨3 + q.val, by omega⟩ : Fin 16)) (by
    intro a; match a with
    | 0 => show _ = 0 + _; rw [Nat.zero_add]; rfl
    | 1 => rfl)]
  rfl

end Cert.Proof.GatherIdeal

end
-- ==== Proof.Reference.Run.lean ====
/-
  The reference: its run, and its two results entry by entry.

  `take_along_axis` wraps negative indices, gathers with the start clamped into the array, and replaces what an index
  out of range selected; with every index between 0 and 19999 each of these leaves the entry that the index names.
-/
module

public import proofs.«01_k».proof.Proof.Gen.ReferenceIdeal
public import Idealize.ShloMosaic.Lib.StableHlo.Run
public import Idealize.ShloMosaic.Lib.StableHlo.Predicate
public import Idealize.ShloMosaic.Lib.ReduceAll
public import Idealize.ShloMosaic.Lib.ValueIdxCore
public import Idealize.ShloMosaic.Lib.Pipeline.Value

@[expose] public section

noncomputable section

namespace Cert.Proof.RefGather

open Cert.ReferenceIdeal Cert.ReferenceIdeal.Gen
open Idealize.ShloMosaic Idealize.ShloMosaic.StableHlo Idealize.ShloMosaic.ValueIdx
open Idealize.SL.Sem

variable {F : FTy → Type} [FloatOps F]

/-- The operations of one call of `take_along_axis`. -/
def takeOps (arg0 : StableHlo.TRef sig ⟨S8x20000x3, .f32⟩) (arg1 : StableHlo.TRef sig ⟨S8x1024x1, .i32⟩) (φ : fn_take_along_axis.Bufs) :
    List (HloOp τ sig (Elt F)) :=
  [StableHlo.TRef.nullary φ.c (constantI S_ 32 0#32),
   StableHlo.TRef.unary φ.c φ.v0 (broadcastInDim S8x1024x1 ![] bcast_S_S8x1024x1),
   StableHlo.TRef.binary arg1 φ.v0 φ.v1 (cmpi .slt),
   StableHlo.TRef.nullary φ.c_0 (constantI S_ 32 20000#32),
   StableHlo.TRef.unary φ.c_0 φ.v2 (broadcastInDim S8x1024x1 ![] bcast_S_S8x1024x1),
   StableHlo.TRef.binary arg1 φ.v2 φ.v3 addi,
   StableHlo.TRef.ternary φ.v1 φ.v3 arg1 φ.v4 select,
   StableHlo.TRef.nullary φ.c_1 (constantI S1 32 19999#32),
   StableHlo.TRef.nullary φ.c_2 (constantI S_ 32 0#32),
   StableHlo.TRef.unary φ.c_2 φ.v5 (broadcastInDim S8x1024x1 ![] bcast_S_S8x1024x1),
   StableHlo.TRef.binary φ.v4 φ.v5 φ.v6 (cmpi .sge),
   StableHlo.TRef.unary φ.c_1 φ.v7 (broadcastInDim S1x1x1 ![2] bcast_S1_S1x1x1_2),
   StableHlo.TRef.unary φ.v7 φ.v8 (broadcastInDim S8x1024x1 ![0, 1, 2] bcast_S1x1x1_S8x1024x1_0_1_2),
   StableHlo.TRef.binary φ.v4 φ.v8 φ.v9 (cmpi .sle),
   StableHlo.TRef.binary φ.v6 φ.v9 φ.v10 andi,
   StableHlo.TRef.nullary φ.c_3 (constantI S_ 1 1#1),
   StableHlo.TRef.binary φ.v10 φ.c_3 φ.v11 (fun x v => Host.reduce IntOp.andi x v reducesTo_S8x1024x1_S8x1024_d2 h_S_),
   StableHlo.TRef.binary arg0 φ.v4 φ.v12 (fun x i => Host.gather gather_S8x20000x3_S8x1024x1_S8x1024x3_2_1_0_0_1_2_113 x i),
   StableHlo.TRef.unary φ.v11 φ.v13 (broadcastInDim S8x1024x3 ![0, 1] bcast_S8x1024_S8x1024x3_0_1),
   StableHlo.TRef.nullary φ.cst (constant S_ .f32 0x7FC00000#32),
   StableHlo.TRef.unary φ.cst φ.v14 (broadcastInDim S8x1024x3 ![] bcast_S_S8x1024x3),
   StableHlo.TRef.ternary φ.v13 φ.v12 φ.v14 φ.v15 select]

/-- The three arrays of the result side by side. -/
def threeSideBySide (u : (i : Fin 3) → ((![main_v3, main_v1, main_v4] : Fin 3 → Ref sig .tc) i).ty.Contents (Elt F)) : (⟨S8x1024x8, .f32⟩ : BufTy).Contents (Elt F) :=
  concatenate S8x1024x8 2 [⟨S8x1024x3, (u 0 : (⟨S8x1024x3, .f32⟩ : BufTy).Contents (Elt F))⟩, ⟨S8x1024x3, (u 1 : (⟨S8x1024x3, .f32⟩ : BufTy).Contents (Elt F))⟩,
    ⟨S8x1024x2, (u 2 : (⟨S8x1024x2, .f32⟩ : BufTy).Contents (Elt F))⟩] concatenates_S8x1024x3_S8x1024x3_S8x1024x2_S8x1024x8_d2

/-- The program in five parts: the indices with a unit axis, the points taken, the same twice for the colours, and the join. -/
def ops0 : List (HloOp τ sig (Elt F)) :=
  StableHlo.unary main_arg2 main_v0 (broadcastInDim S8x1024x1 ![0, 1] bcast_S8x1024_S8x1024x1_0_1 : (⟨S8x1024, .i32⟩ : BufTy).Contents (Elt F) → (⟨S8x1024x1, .i32⟩ : BufTy).Contents (Elt F))
  :: takeOps (.of main_arg0) (.of main_v0) main_call0
def ops1 : List (HloOp τ sig (Elt F)) :=
  StableHlo.unary main_arg2 main_v2 (broadcastInDim S8x1024x1 ![0, 1] bcast_S8x1024_S8x1024x1_0_1 : (⟨S8x1024, .i32⟩ : BufTy).Contents (Elt F) → (⟨S8x1024x1, .i32⟩ : BufTy).Contents (Elt F))
  :: takeOps (.of main_arg1) (.of main_v2) main_call1
def ops2 : List (HloOp τ sig (Elt F)) :=
  [StableHlo.nullary main_cst (constant S_ .f32 0x00000000#32),
   StableHlo.unary main_cst main_v4 (broadcastInDim S8x1024x2 ![] bcast_S_S8x1024x2 : (⟨S_, .f32⟩ : BufTy).Contents (Elt F) → (⟨S8x1024x2, .f32⟩ : BufTy).Contents (Elt F)),
   StableHlo.nary ![main_v3, main_v1, main_v4] main_v5 threeSideBySide]
def ops : List (HloOp τ sig (Elt F)) := ops0 ++ (ops1 ++ ops2)

theorem main_eq (d : Dev nD) : main (F := F) d = seq ops := rfl

theorem after_two (l l' : List (HloOp τ sig (Elt F))) (V : Valuation τ sig (Elt F)) : after (l ++ l') V = after l' (after l V) := by
  induction l generalizing V with
  | nil => rfl
  | cons o l ih => exact ih _

theorem takeOps_sub (arg0 : StableHlo.TRef sig ⟨S8x20000x3, .f32⟩) (arg1 : StableHlo.TRef sig ⟨S8x1024x1, .i32⟩) (φ : fn_take_along_axis.Bufs) :
    (takeOps (F := F) arg0 arg1 φ).Forall fun op => op.bufs ⊆ tcRefs τ sig :=
  ⟨StableHlo.nullary_bufs_sub .., StableHlo.unary_bufs_sub .., StableHlo.binary_bufs_sub .., StableHlo.nullary_bufs_sub .., StableHlo.unary_bufs_sub ..,
   StableHlo.binary_bufs_sub .., StableHlo.ternary_bufs_sub .., StableHlo.nullary_bufs_sub .., StableHlo.nullary_bufs_sub .., StableHlo.unary_bufs_sub ..,
   StableHlo.binary_bufs_sub .., StableHlo.unary_bufs_sub .., StableHlo.unary_bufs_sub .., StableHlo.binary_bufs_sub .., StableHlo.binary_bufs_sub ..,
   StableHlo.nullary_bufs_sub .., StableHlo.binary_bufs_sub .., StableHlo.binary_bufs_sub .., StableHlo.unary_bufs_sub .., StableHlo.nullary_bufs_sub ..,
   StableHlo.unary_bufs_sub .., StableHlo.ternary_bufs_sub ..⟩
theorem takeOps_fresh (arg0 : StableHlo.TRef sig ⟨S8x20000x3, .f32⟩) (arg1 : StableHlo.TRef sig ⟨S8x1024x1, .i32⟩) (φ : fn_take_along_axis.Bufs) :
    (takeOps (F := F) arg0 arg1 φ).Forall fun op => op.fresh = ∅ :=
  ⟨rfl, rfl, rfl, rfl, rfl, rfl, rfl, rfl, rfl, rfl, rfl, rfl, rfl, rfl, rfl, rfl, rfl, rfl, rfl, rfl, rfl, rfl⟩

theorem ops_sub : (ops (F := F)).Forall fun op => op.bufs ⊆ tcRefs τ sig := by
  unfold ops ops0 ops1 ops2
  rw [List.forall_append, List.forall_append, List.forall_cons, List.forall_cons]
  exact ⟨⟨StableHlo.unary_bufs_sub .., takeOps_sub _ _ _⟩, ⟨StableHlo.unary_bufs_sub .., takeOps_sub _ _ _⟩,
    StableHlo.nullary_bufs_sub .., StableHlo.unary_bufs_sub .., StableHlo.nary_bufs_sub ..⟩
theorem ops_fresh : (ops (F := F)).Forall fun op => op.fresh = ∅ := by
  unfold ops ops0 ops1 ops2
  rw [List.forall_append, List.forall_append, List.forall_cons, List.forall_cons]
  exact ⟨⟨rfl, takeOps_fresh _ _ _⟩, ⟨rfl, takeOps_fresh _ _ _⟩, rfl, rfl, rfl⟩

variable (m : (ℓ : Loc nD τ sig) → Buf (Elt F) ℓ) (ρ : Dev nD → PrngReg)

/-- Every run of the reference ends, each buffer at its last contents and every counter at zero. -/
theorem run_main : θ_run (Cert.ReferenceIdeal.defs (F := F)) (onTc (τ := τ) (main (F := F))) ⟨m, fun _ => 0, ρ⟩ fun r =>
    ∀ (d : Dev nD) (b : Ref sig .tc), r.2.mem ((d.tc : Thread nD τ).loc b) = after ops (launchContents m d) (Proc.devRef .tc b) :=
  StableHlo.run_seq (by decide) (by decide) _ main (fun _ => ops) main_eq (fun _ => ops_sub) m ρ
    (fun _ => List.forall_iff_forall_mem.mp ops_fresh)

/-! ## The results as composed operations -/

/-- The indices after a negative one is wrapped around. -/
def wrapped (i : S8x1024x1.Idx → Elt F .i32) : S8x1024x1.Idx → Elt F .i32 :=
  select (cmpi .slt i (broadcastInDim S8x1024x1 ![] bcast_S_S8x1024x1 (constantI S_ 32 0#32)))
    (addi i (broadcastInDim S8x1024x1 ![] bcast_S_S8x1024x1 (constantI S_ 32 20000#32))) i

/-- What `take_along_axis` computes. -/
def taken (x : S8x20000x3.Idx → Elt F .f32) (i : S8x1024x1.Idx → Elt F .i32) : S8x1024x3.Idx → Elt F .f32 :=
  select (broadcastInDim S8x1024x3 ![0, 1] bcast_S8x1024_S8x1024x3_0_1
      (Host.reduce IntOp.andi (andi (cmpi .sge (wrapped (F := F) i) (broadcastInDim S8x1024x1 ![] bcast_S_S8x1024x1 (constantI S_ 32 0#32)))
        (cmpi .sle (wrapped (F := F) i) (broadcastInDim S8x1024x1 ![0, 1, 2] bcast_S1x1x1_S8x1024x1_0_1_2 (broadcastInDim S1x1x1 ![2] bcast_S1_S1x1x1_2 (constantI S1 32 19999#32)))))
        (constantI S_ 1 1#1) reducesTo_S8x1024x1_S8x1024_d2 h_S_))
    (Host.gather gather_S8x20000x3_S8x1024x1_S8x1024x3_2_1_0_0_1_2_113 x (wrapped (F := F) i))
    (broadcastInDim S8x1024x3 ![] bcast_S_S8x1024x3 (constant S_ .f32 0x7FC00000#32))

abbrev b0 : DevRef τ sig := Proc.devRef .tc (main_arg0 : Ref sig .tc)
abbrev b1 : DevRef τ sig := Proc.devRef .tc (main_arg1 : Ref sig .tc)
abbrev b2 : DevRef τ sig := Proc.devRef .tc (main_arg2 : Ref sig .tc)

/-- The indices with a unit axis. -/
def column (ix : S8x1024.Idx → Elt F .i32) : S8x1024x1.Idx → Elt F .i32 := broadcastInDim S8x1024x1 ![0, 1] bcast_S8x1024_S8x1024x1_0_1 ix

variable (V : Valuation τ sig (Elt F))

/-- A literal reference's cast between the buffer's type and the tensor's is the identity. -/
theorem ofBuf_v0 (h₁ h₂ h₃) (x : (main_v0 : Ref sig .tc).ty.Contents (Elt F)) : (TRef.of (main_v0 : Ref sig .tc) h₁ h₂ h₃ : TRef sig ⟨S8x1024x1, .i32⟩).ofBuf x = x := rfl
theorem ofBuf_v2 (h₁ h₂ h₃) (x : (main_v2 : Ref sig .tc).ty.Contents (Elt F)) : (TRef.of (main_v2 : Ref sig .tc) h₁ h₂ h₃ : TRef sig ⟨S8x1024x1, .i32⟩).ofBuf x = x := rfl
theorem ofBuf_a0 (h₁ h₂ h₃) (x : (main_arg0 : Ref sig .tc).ty.Contents (Elt F)) : (TRef.of (main_arg0 : Ref sig .tc) h₁ h₂ h₃ : TRef sig ⟨S8x20000x3, .f32⟩).ofBuf x = x := rfl
theorem ofBuf_a1 (h₁ h₂ h₃) (x : (main_arg1 : Ref sig .tc).ty.Contents (Elt F)) : (TRef.of (main_arg1 : Ref sig .tc) h₁ h₂ h₃ : TRef sig ⟨S8x20000x3, .f32⟩).ofBuf x = x := rfl
theorem toBuf_v1 (h₁ h₂ h₃) (x : S8x1024x3.Idx → Elt F .f32) : (TRef.of (main_v1 : Ref sig .tc) h₁ h₂ h₃ : TRef sig ⟨S8x1024x3, .f32⟩).toBuf x = x := rfl
theorem toBuf_v3 (h₁ h₂ h₃) (x : S8x1024x3.Idx → Elt F .f32) : (TRef.of (main_v3 : Ref sig .tc) h₁ h₂ h₃ : TRef sig ⟨S8x1024x3, .f32⟩).toBuf x = x := rfl

set_option maxRecDepth 8192 in
theorem ops0_v1 : after ops0 V (Proc.devRef .tc (main_v1 : Ref sig .tc)) = taken (V b0) (column (F := F) (V b2)) := by
  unfold ops0 takeOps taken wrapped column
  after_results_simp
  simp only [TRef.ofBuf_toBuf, ofBuf_v0, ofBuf_a0, toBuf_v1]
set_option maxRecDepth 8192 in
theorem ops1_v3 : after ops1 V (Proc.devRef .tc (main_v3 : Ref sig .tc)) = taken (V b1) (column (F := F) (V b2)) := by
  unfold ops1 takeOps taken wrapped column
  after_results_simp
  simp only [TRef.ofBuf_toBuf, ofBuf_v2, ofBuf_a1, toBuf_v3]
set_option maxRecDepth 8192 in
theorem ops0_keep : after ops0 V b0 = V b0 ∧ after ops0 V b1 = V b1 ∧ after ops0 V b2 = V b2 := by
  unfold ops0 takeOps
  refine ⟨?_, ?_, ?_⟩ <;> after_results_simp
set_option maxRecDepth 8192 in
theorem ops1_keep : after ops1 V b0 = V b0 ∧ after ops1 V b1 = V b1 ∧ after ops1 V b2 = V b2
    ∧ after ops1 V (Proc.devRef .tc (main_v1 : Ref sig .tc)) = V (Proc.devRef .tc (main_v1 : Ref sig .tc)) := by
  unfold ops1 takeOps
  refine ⟨?_, ?_, ?_, ?_⟩ <;> after_results_simp
theorem ops2_keep : after ops2 V b0 = V b0 ∧ after ops2 V b1 = V b1 ∧ after ops2 V b2 = V b2
    ∧ after ops2 V (Proc.devRef .tc (main_v1 : Ref sig .tc)) = V (Proc.devRef .tc (main_v1 : Ref sig .tc)) := by
  unfold ops2
  refine ⟨?_, ?_, ?_, ?_⟩ <;> after_results_simp

/-- The colours, the points and two channels of zeros side by side. -/
def joined (c p : S8x1024x3.Idx → Elt F .f32) : S8x1024x8.Idx → Elt F .f32 :=
  concatenate S8x1024x8 2 [⟨S8x1024x3, c⟩, ⟨S8x1024x3, p⟩,
    ⟨S8x1024x2, broadcastInDim S8x1024x2 ![] bcast_S_S8x1024x2 (constant S_ .f32 0x00000000#32)⟩] concatenates_S8x1024x3_S8x1024x3_S8x1024x2_S8x1024x8_d2

theorem ops2_v5 : after ops2 V (Proc.devRef .tc (main_v5 : Ref sig .tc))
    = joined (V (Proc.devRef .tc (main_v3 : Ref sig .tc))) (V (Proc.devRef .tc (main_v1 : Ref sig .tc))) := by
  unfold ops2
  after_results_simp
  rfl

/-- The arguments keep their contents, and the two results. -/
theorem after_args : after ops V b0 = V b0 ∧ after ops V b1 = V b1 ∧ after ops V b2 = V b2 := by
  unfold ops
  rw [after_two, after_two]
  have h0 := ops0_keep V
  have h1 := ops1_keep (after ops0 V)
  have h2 := ops2_keep (after ops1 (after ops0 V))
  exact ⟨h2.1.trans (h1.1.trans h0.1), h2.2.1.trans (h1.2.1.trans h0.2.1), h2.2.2.1.trans (h1.2.2.1.trans h0.2.2)⟩
theorem after_points : after ops V (Proc.devRef .tc (main_v1 : Ref sig .tc)) = taken (V b0) (column (F := F) (V b2)) := by
  unfold ops
  rw [after_two, after_two, (ops2_keep _).2.2.2, (ops1_keep _).2.2.2, ops0_v1]
theorem after_feats : after ops V (Proc.devRef .tc (main_v5 : Ref sig .tc))
    = joined (taken (V b1) (column (F := F) (V b2))) (taken (V b0) (column (F := F) (V b2))) := by
  unfold ops
  rw [after_two, after_two, ops2_v5, ops1_v3, (ops1_keep _).2.2.2, ops0_v1, (ops0_keep V).2.1, (ops0_keep V).2.2]

/-! ## Entry by entry -/

/-- A select read where its condition is set, and where it is not. -/
theorem select_set {s : Shape} {α : Type} (c : IVec s 1) (a b : s.Idx → α) (j : s.Idx) (h : c j = 1#1) : select c a b j = a j := by
  unfold select Scalar.select
  rw [h]; rfl
theorem select_clear {s : Shape} {α : Type} (c : IVec s 1) (a b : s.Idx → α) (j : s.Idx) (h : ¬c j = 1#1) : select c a b j = b j := by
  unfold select Scalar.select
  exact if_neg h

/-- An index that is not negative is not wrapped. -/
theorem wrapped_apply (ix : S8x1024.Idx → Elt F .i32) (hix : ∀ j, (ix j).toNat < 20000) (j : S8x1024x1.Idx) :
    wrapped (F := F) (column (F := F) ix) j = ix (ix2 (j 0) (j 1)) := by
  have e : column (F := F) ix j = ix (ix2 (j 0) (j 1)) := by
    unfold column
    exact broadcastInDim_apply _ _ _ _ (ix2 (j 0) (j 1)) (by intro a; match a with | 0 => rfl | 1 => rfl)
  have h := hix (ix2 (j 0) (j 1))
  unfold wrapped
  rw [select_clear _ _ _ _ (by
    intro hc
    have hc' : IntOp.cmpi .slt (column (F := F) ix j) 0#32 = 1#1 := hc
    rw [e, Predicate.slt_iff_toNat (by omega) (by decide)] at hc'
    simp at hc'), e]

/-- With every index between 0 and 19999, entry `(b, n, r)` of what `take_along_axis` computes is the array's entry `(b, ix (b, n), r)`. -/
theorem taken_apply (x : S8x20000x3.Idx → Elt F .f32) (ix : S8x1024.Idx → Elt F .i32) (hix : ∀ j, (ix j).toNat < 20000)
    (b : Fin 8) (n : Fin 1024) (r : Fin 3) :
    taken x (column (F := F) ix) (ix3 b n r) = x (ix3 b ⟨(ix (ix2 b n)).toNat, hix _⟩ r) := by
  have hw : wrapped (F := F) (column (F := F) ix) = fun j => ix (ix2 (j 0) (j 1)) := funext (wrapped_apply ix hix)
  unfold taken
  rw [hw]
  rw [select_set _ _ _ _ (by
    rw [broadcastInDim_apply _ _ _ _ (ix2 b n) (by intro a; match a with | 0 => rfl | 1 => rfl)]
    refine Host.reduce_andi_one _ _ _ _ _ rfl ?_
    intro j
    have h := hix (ix2 (j 0) (j 1))
    show IntOp.andi (IntOp.cmpi .sge (ix (ix2 (j 0) (j 1))) 0#32) (IntOp.cmpi .sle (ix (ix2 (j 0) (j 1))) 19999#32) = 1#1
    rw [(Predicate.sge_iff_toNat (by omega) (by decide)).2 (by simp), (Predicate.sle_iff_toNat (by omega) (by decide)).2 (by simp; omega)]
    rfl)]
  unfold Host.gather
  congr 1
  funext a
  refine Fin.ext ?_
  have h := hix (ix2 b n)
  have ht : (ix (ix2 b n)).toInt = (ix (ix2 b n)).toNat := Predicate.toInt_eq_toNat_of_lt (by omega)
  show (gather_S8x20000x3_S8x1024x1_S8x1024x3_2_1_0_0_1_2_113).start (ix3 b n r) (fun j => ix (ix2 (j 0) (j 1))) a
    + (gather_S8x20000x3_S8x1024x1_S8x1024x3_2_1_0_0_1_2_113).batchCoord (ix3 b n r) a
    + (gather_S8x20000x3_S8x1024x1_S8x1024x3_2_1_0_0_1_2_113).offCoord (ix3 b n r) a = _
  match a with
  | 0 =>
    rw [GatherDims.start_batching _ _ _ _ (by decide), GatherDims.offCoord_eq_zero _ _ _ (by decide)]
    unfold GatherDims.batchCoord
    rw [dif_pos (by decide)]
    show 0 + b.val + 0 = b.val
    omega
  | 1 =>
    rw [GatherDims.batchCoord_eq_zero _ _ _ (by decide), GatherDims.offCoord_eq_zero _ _ _ (by decide)]
    unfold GatherDims.start
    rw [dif_pos (by decide)]
    show min (ix (ix2 b n)).toInt.toNat (20000 - 1) + 0 + 0 = (ix (ix2 b n)).toNat
    rw [ht]
    omega
  | 2 =>
    rw [GatherDims.batchCoord_eq_zero _ _ _ (by decide)]
    unfold GatherDims.start GatherDims.offCoord
    rw [dif_neg (by decide), dif_pos (by decide)]
    show 0 + 0 + r.val = r.val
    omega

/-- The joined array: channels 0 to 2 are the colours, 3 to 5 the points, 6 and 7 are zero. -/
theorem joined_colour (c p : S8x1024x3.Idx → Elt F .f32) (b : Fin 8) (n : Fin 1024) (q : Fin 8) (r : Fin 3) (hr : q.val = r.val) :
    joined c p (ix3 b n q) = c (ix3 b n r) := by
  unfold joined
  refine concatenate_apply_piece (2 : Fin S8x1024x8.rank) [⟨S8x1024x3, c⟩, ⟨S8x1024x3, p⟩, _] _ _ 0 (by simp) S8x1024x3 c rfl rfl 0 rfl (ix3 b n r) (by
    intro a ha; match a with
    | 0 => rfl
    | 1 => rfl
    | 2 => exact absurd rfl ha) ?_
  show 0 + r.val = q.val
  omega
theorem joined_point (c p : S8x1024x3.Idx → Elt F .f32) (b : Fin 8) (n : Fin 1024) (q : Fin 8) (r : Fin 3) (hr : q.val = 3 + r.val) :
    joined c p (ix3 b n q) = p (ix3 b n r) := by
  unfold joined
  refine concatenate_apply_piece (2 : Fin S8x1024x8.rank) [⟨S8x1024x3, c⟩, ⟨S8x1024x3, p⟩, _] _ _ 1 (by simp) S8x1024x3 p rfl rfl 3 rfl (ix3 b n r) (by
    intro a ha; match a with
    | 0 => rfl
    | 1 => rfl
    | 2 => exact absurd rfl ha) ?_
  show 3 + r.val = q.val
  omega
theorem joined_zero (c p : S8x1024x3.Idx → Elt F .f32) (b : Fin 8) (n : Fin 1024) (q : Fin 8) (hq : 6 ≤ q.val) :
    joined c p (ix3 b n q) = FloatOps.ofBits .f32 0x00000000#32 := by
  unfold joined
  refine (concatenate_apply_piece (2 : Fin S8x1024x8.rank) [⟨S8x1024x3, c⟩, ⟨S8x1024x3, p⟩, _] _ _ 2 (by simp) S8x1024x2 _ rfl rfl 6 rfl
    (ix3 b n (⟨q.val - 6, by omega⟩ : Fin 2)) (by
    intro a ha; match a with
    | 0 => rfl
    | 1 => rfl
    | 2 => exact absurd rfl ha) ?_).trans ?_
  · show 6 + (q.val - 6) = q.val
    omega
  · rfl

end Cert.Proof.RefGather

end
-- ==== Proof.SamplingIdeal.Program.lean ====
module

public import proofs.«01_k».proof.SamplingIdeal

/-! The sampling kernel's body as a recursion over the slices of the cloud. The printed body is written out slice by
    slice and cut into windows; here one slice is a definition in its number, one run of slices a recursion. -/

@[expose] public section

noncomputable section

namespace Cert.SamplingIdeal

open Idealize.ShloMosaic Idealize.SL.Sem
open Facts₀ Facts

variable {F : FTy → Type} [FloatOps F] [Facts]

/-- One value for each cloud and each lane. -/
abbrev Tile (F : FTy → Type) : Type := FVec F S8x128 .f32

/-- One value for each cloud. -/
abbrev Col (F : FTy → Type) : Type := FVec F S8x1 .f32

theorem coord_inb (a : Nat) (ha : a < 3) (c : Nat) (hc : c < 157) :
    ∀ i, (![a, c, 0, 0] : Fin 4 → Nat) i + S1x1x8x128.size i ≤ S3x157x8x128.size i := by
  intro i
  fin_cases i
  · show a + 1 ≤ 3; omega
  · show c + 1 ≤ 157; omega
  · show 0 + 8 ≤ 8; omega
  · show 0 + 128 ≤ 128; omega

theorem slice_inb (c : Nat) (hc : c < 157) :
    ∀ i, (![c, 0, 0] : Fin 3 → Nat) i + S1x8x128.size i ≤ S157x8x128.size i := by
  intro i
  fin_cases i
  · show c + 1 ≤ 157; omega
  · show 0 + 8 ≤ 8; omega
  · show 0 + 128 ≤ 128; omega

/-- Where coordinate `a` of slice `c` lies. -/
abbrev coordRect (a : Nat) (ha : a < 3) (c : Nat) (hc : c < 157) : Rect S3x157x8x128 :=
  Rect.unit (s := S3x157x8x128) ![a, c, 0, 0] S1x1x8x128.size (coord_inb a ha c hc)

/-- Where slice `c` of the distances, or of the points' numbers, lies. -/
abbrev sliceRect (c : Nat) (hc : c < 157) : Rect S157x8x128 :=
  Rect.unit (s := S157x8x128) ![c, 0, 0] S1x8x128.size (slice_inb c hc)

/-- A slice's squared distances from the points `(fx, fy, fz)`. -/
abbrev sqDist (x y z : Tile F) (fx fy fz : Col F) : Tile F :=
  addf (addf (mulf (subf x (broadcastTo S8x128 fx broadcasts_S8x1_S8x128)) (subf x (broadcastTo S8x128 fx broadcasts_S8x1_S8x128)))
      (mulf (subf y (broadcastTo S8x128 fy broadcasts_S8x1_S8x128)) (subf y (broadcastTo S8x128 fy broadcasts_S8x1_S8x128))))
    (mulf (subf z (broadcastTo S8x128 fz broadcasts_S8x1_S8x128)) (subf z (broadcastTo S8x128 fz broadcasts_S8x1_S8x128)))

variable (arg0 : Memref sig .tc .vmem S3x157x8x128 .f32) (arg1 : Memref sig .tc .vmem S157x8x128 .f32)
  (arg2 : Memref sig .tc .vmem S1200x8 .f32) (arg3 : Memref sig .tc .vmem S157x8x128 .f32)

/-- One slice: its three coordinates are read, its distances lowered, and its numbers read. The continuation takes the
    new distances, the numbers and the coordinates. -/
def slice {β : Type} (c : Nat) (hc : c < 157) (fx fy fz : Col F)
    (k : Tile F → Tile F → Tile F → Tile F → Tile F → Prog (TpuEff nD τ sig (Elt F) Λ₀ .tc) β) :
    Prog (TpuEff nD τ sig (Elt F) Λ₀ .tc) β :=
  .op (.load arg0 (coordRect 0 (by decide) c hc).toLoadRect (View.loadsAt_vmem h_S1x1x8x128)) fun x =>
  .op (.load arg0 (coordRect 1 (by decide) c hc).toLoadRect (View.loadsAt_vmem h_S1x1x8x128)) fun y =>
  .op (.load arg0 (coordRect 2 (by decide) c hc).toLoadRect (View.loadsAt_vmem h_S1x1x8x128)) fun z =>
  .op (.load arg3 (sliceRect c hc).toLoadRect (View.loadsAt_vmem h_S1x8x128)) fun old =>
  .op (.load arg3 (sliceRect c hc).toLoadRect (View.loadsAt_vmem h_S1x8x128)) fun _ =>
  .op (.store arg3 (sliceRect c hc) (shapeCast S1x8x128
      (minimumf (shapeCast S8x128 old shapeCasts_S1x8x128_S8x128)
        (sqDist (shapeCast S8x128 x shapeCasts_S1x1x8x128_S8x128) (shapeCast S8x128 y shapeCasts_S1x1x8x128_S8x128)
          (shapeCast S8x128 z shapeCasts_S1x1x8x128_S8x128) fx fy fz)) shapeCasts_S8x128_S1x8x128) Finset.univ
    (View.stores_vmem_bits_univ h_S1x8x128 rfl) (.inl rfl)) fun _ =>
  .op (.load arg1 (sliceRect c hc).toLoadRect (View.loadsAt_vmem h_S1x8x128)) fun lin =>
  k (minimumf (shapeCast S8x128 old shapeCasts_S1x8x128_S8x128)
        (sqDist (shapeCast S8x128 x shapeCasts_S1x1x8x128_S8x128) (shapeCast S8x128 y shapeCasts_S1x1x8x128_S8x128)
          (shapeCast S8x128 z shapeCasts_S1x1x8x128_S8x128) fx fy fz))
    (shapeCast S8x128 lin shapeCasts_S1x8x128_S8x128)
    (shapeCast S8x128 x shapeCasts_S1x1x8x128_S8x128) (shapeCast S8x128 y shapeCasts_S1x1x8x128_S8x128)
    (shapeCast S8x128 z shapeCasts_S1x1x8x128_S8x128)

/-- Slices `c`, …, `c + n - 1`, where each lane keeps the farthest point met so far. -/
def slices {β : Type} (fx fy fz : Col F)
    (k : Tile F → Tile F → Tile F → Tile F → Tile F → Prog (TpuEff nD τ sig (Elt F) Λ₀ .tc) β) :
    (n c : Nat) → c + n ≤ 157 → Tile F → Tile F → Tile F → Tile F → Tile F → Prog (TpuEff nD τ sig (Elt F) Λ₀ .tc) β
  | 0, _, _, d, l, x, y, z => k d l x y z
  | n + 1, c, hc, d, l, x, y, z =>
    slice arg0 arg1 arg3 c (by omega) fx fy fz fun d' l' x' y' z' =>
      slices fx fy fz k n (c + 1) (by omega)
        (select (cmpf .ogt d' d) d' d) (select (cmpf .ogt d' d) l' l) (select (cmpf .ogt d' d) x' x)
        (select (cmpf .ogt d' d) y' y) (select (cmpf .ogt d' d) z' z)

/-- Each cloud's greatest value over the lanes. -/
abbrev laneMax (d : Tile F) : Col F :=
  shapeCast S8x1 (multiReduction .maximumf [1] S8 d 0xFF800000#32 reduces_S8x128_S8 (.inl rfl) rfl) shapeCasts_S8_S8x1

/-- The numbers of the lanes that attain the greatest distance; `10 ^ 9` at the others. -/
abbrev cand (d l : Tile F) : Tile F :=
  select (cmpf .oeq d (broadcastTo S8x128 (laneMax d) broadcasts_S8x1_S8x128)) l
    (broadcast S8x128 (Scalar.ofBits .f32 0x4E6E6B28#32))

/-- Each cloud's least number among the candidates: the next sample. -/
abbrev pick (d l : Tile F) : Col F :=
  shapeCast S8x1 (multiReduction .minimumf [1] S8 (cand d l) 0x7F800000#32 reduces_S8x128_S8 (.inl rfl) rfl) shapeCasts_S8_S8x1

/-- A coordinate of the next sample: the sum over the lanes of the coordinate where the sample is, of zero elsewhere. -/
abbrev coordOf (d l x : Tile F) : Col F :=
  shapeCast S8x1 (multiReduction .add [1] S8
    (select (cmpf .oeq (cand d l) (broadcastTo S8x128 (pick d l) broadcasts_S8x1_S8x128)) x
      (broadcast S8x128 (Scalar.ofBits .f32 0x00000000#32))) 0x00000000#32 reduces_S8x128_S8 (.inl rfl) rfl) shapeCasts_S8_S8x1

/-- What a trip yields from the two halves' farthest points: the next sample and its coordinates. -/
abbrev yieldOf (d l x y z : Tile F) : Col F × Col F × Col F × Col F :=
  (pick d l, coordOf d l x, coordOf d l y, coordOf d l z)

/-- One trip: the current samples are written out, the two halves of the cloud are gone through, and the better of the
    two farthest points is the next sample. -/
def trip (t : Fin k0_t1_loop.trips) (far fx fy fz : Col F) :
    Prog (TpuEff nD τ sig (Elt F) Λ₀ .tc) (Col F × Col F × Col F × Col F) :=
  .op (.load arg2 (Rect.unit (s := S1200x8) (k0_off1 t) S1x8.size (k0_off1_inb t)).toLoadRect (View.loadsAt_vmem h_S1x8)) fun _ =>
  .op (.store arg2 (Rect.unit (s := S1200x8) (k0_off1 t) S1x8.size (k0_off1_inb t)) (shapeCast S1x8 far shapeCasts_S8x1_S1x8)
    Finset.univ (View.stores_vmem_bits_univ h_S1x8 rfl) (.inl rfl)) fun _ =>
  slice arg0 arg1 arg3 0 (by decide) fx fy fz fun d l x y z =>
  slices arg0 arg1 arg3 fx fy fz (fun d₁ l₁ x₁ y₁ z₁ =>
    slice arg0 arg1 arg3 78 (by decide) fx fy fz fun d l x y z =>
    slices arg0 arg1 arg3 fx fy fz (fun d₂ l₂ x₂ y₂ z₂ =>
      .ret (yieldOf (select (cmpf .ogt d₂ d₁) d₂ d₁) (select (cmpf .ogt d₂ d₁) l₂ l₁) (select (cmpf .ogt d₂ d₁) x₂ x₁)
        (select (cmpf .ogt d₂ d₁) y₂ y₁) (select (cmpf .ogt d₂ d₁) z₂ z₁))) 78 79 (by decide) d l x y z)
    77 1 (by decide) d l x y z

/-- The distances before the first trip: `10 ^ 10` at the points, `-1` at the lanes past the last point. -/
abbrev start : FVec F S157x8x128 .f32 :=
  select (cmpf .olt (sitofp (F := F) .f32 (addi (muli (iota .tc S157x8x128 32 [0] iota_S157x8x128_d0_w32) (broadcast S157x8x128 128#32))
      (iota .tc S157x8x128 32 [2] iota_S157x8x128_d2_w32))) (broadcast S157x8x128 (Scalar.ofBits .f32 0x469C4000#32 : F .f32)))
    (broadcast S157x8x128 (Scalar.ofBits .f32 0x501502F9#32)) (broadcast S157x8x128 (Scalar.ofBits .f32 0xBF800000#32))

/-- The kernel's body. -/
def body : Prog (TpuEff nD τ sig (Elt F) Λ₀ .tc) PUnit :=
  .op (.load arg3 (Rect.unit (s := S157x8x128) ![0, 0, 0] S157x8x128.size inb_S157x8x128_S157x8x128_0_0_0).toLoadRect
    (View.loadsAt_vmem h_S157x8x128)) fun _ =>
  .op (.store arg3 (Rect.unit (s := S157x8x128) ![0, 0, 0] S157x8x128.size inb_S157x8x128_S157x8x128_0_0_0)
    (shapeCast S157x8x128 (start (F := F)) shapeCasts_S157x8x128_S157x8x128) Finset.univ (View.stores_vmem_bits_univ h_S157x8x128 rfl) (.inl rfl)) fun _ =>
  .op (.load arg0 (Rect.unit (s := S3x157x8x128) ![0, 0, 0, 0] S1x1x8x1.size inb_S3x157x8x128_S1x1x8x1_0_0_0_0).toLoadRect
    (View.loadsAt_vmem h_S1x1x8x1)) fun x =>
  .op (.load arg0 (Rect.unit (s := S3x157x8x128) ![1, 0, 0, 0] S1x1x8x1.size inb_S3x157x8x128_S1x1x8x1_1_0_0_0).toLoadRect
    (View.loadsAt_vmem h_S1x1x8x1)) fun y =>
  .op (.load arg0 (Rect.unit (s := S3x157x8x128) ![2, 0, 0, 0] S1x1x8x1.size inb_S3x157x8x128_S1x1x8x1_2_0_0_0).toLoadRect
    (View.loadsAt_vmem h_S1x1x8x1)) fun z =>
  Scf.Loop.for (σ := Col F × Col F × Col F × Col F) k0_t1_loop k0_t1_ok
      ((broadcast S8x1 (Scalar.ofBits .f32 0x00000000#32) : Col F), shapeCast S8x1 x shapeCasts_S1x1x8x1_S8x1,
        shapeCast S8x1 y shapeCasts_S1x1x8x1_S8x1, shapeCast S8x1 z shapeCasts_S1x1x8x1_S8x1)
      (fun t s => trip arg0 arg1 arg2 arg3 t s.1 s.2.1 s.2.2.1 s.2.2.2) >>= fun _ => .ret ⟨⟩

set_option maxRecDepth 100000 in
set_option maxHeartbeats 0 in
/-- The printed body is this one. -/
theorem cc0_eq (harg0 : arg0.IsWhole) (harg1 : arg1.IsWhole) (harg2 : arg2.IsWhole) (harg3 : arg3.IsWhole) :
    cc0__fps_body (F := F) arg0 harg0 arg1 harg1 arg2 harg2 arg3 harg3 = body arg0 arg1 arg2 arg3 := by
  rfl

end Cert.SamplingIdeal

end
-- ==== Proof.SamplingIdeal.Sweep.lean ====
module

public import proofs.«01_k».proof.Proof.SamplingIdeal.Program
public import proofs.«01_k».proof.Proof.Common.Owned
public import Idealize.ShloMosaic.Lib.Pipeline.Kit
public import Idealize.ShloMosaic.Lib.Scf
public import Idealize.ShloMosaic.Lib.Pipeline.Value

/-! What the sampling kernel's body computes, as functions of its two inputs, and its run. -/

@[expose] public section

noncomputable section

namespace Cert.SamplingIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig Unit (Elt F) ℕ (UR sig nD τ) ℕ

/-- Coordinate `a` of slice `c`. -/
def coordTile (X : Vec F S3x157x8x128 .f32) (a : Nat) (ha : a < 3) (c : Nat) (hc : c < 157) : Tile F :=
  shapeCast S8x128 (fun i => X ((coordRect a ha c hc).emb i)) shapeCasts_S1x1x8x128_S8x128

/-- Slice `c`. -/
def tileOf (D : Vec F S157x8x128 .f32) (c : Nat) (hc : c < 157) : Tile F :=
  shapeCast S8x128 (fun i => D ((sliceRect c hc).emb i)) shapeCasts_S1x8x128_S8x128

/-- Slice `c`'s new distances. -/
def near (X : Vec F S3x157x8x128 .f32) (D : Vec F S157x8x128 .f32) (fx fy fz : Col F) (c : Nat) (hc : c < 157) : Tile F :=
  minimumf (tileOf D c hc) (sqDist (coordTile X 0 (by decide) c hc) (coordTile X 1 (by decide) c hc) (coordTile X 2 (by decide) c hc) fx fy fz)

/-- The distances once slice `c`'s are the new ones. -/
def lower (X : Vec F S3x157x8x128 .f32) (D : Vec F S157x8x128 .f32) (fx fy fz : Col F) (c : Nat) (hc : c < 157) : Vec F S157x8x128 .f32 :=
  (sliceRect c hc).overlay D (shapeCast S1x8x128 (near X D fx fy fz c hc) shapeCasts_S8x128_S1x8x128)

/-- Five tiles: the distances, the numbers and the coordinates of each lane's farthest point. -/
structure Best (F : FTy → Type) where
  d : Tile F
  l : Tile F
  x : Tile F
  y : Tile F
  z : Tile F

/-- The better of two, lane by lane, the second where it is strictly farther. -/
def Best.or (b b' : Best F) : Best F where
  d := select (cmpf .ogt b'.d b.d) b'.d b.d
  l := select (cmpf .ogt b'.d b.d) b'.l b.l
  x := select (cmpf .ogt b'.d b.d) b'.x b.x
  y := select (cmpf .ogt b'.d b.d) b'.y b.y
  z := select (cmpf .ogt b'.d b.d) b'.z b.z

/-- Slice `c` as five tiles. -/
def sliceBest (X : Vec F S3x157x8x128 .f32) (L D : Vec F S157x8x128 .f32) (fx fy fz : Col F) (c : Nat) (hc : c < 157) : Best F where
  d := near X D fx fy fz c hc
  l := tileOf L c hc
  x := coordTile X 0 (by decide) c hc
  y := coordTile X 1 (by decide) c hc
  z := coordTile X 2 (by decide) c hc

/-- Slices `c`, …, `c + n - 1`: the distances after them and each lane's farthest point. -/
def sweep (X : Vec F S3x157x8x128 .f32) (L : Vec F S157x8x128 .f32) (fx fy fz : Col F) :
    (n c : Nat) → c + n ≤ 157 → Vec F S157x8x128 .f32 → Best F → Vec F S157x8x128 .f32 × Best F
  | 0, _, _, D, b => (D, b)
  | n + 1, c, hc, D, b =>
    sweep X L fx fy fz n (c + 1) (by omega) (lower X D fx fy fz c (by omega)) (b.or (sliceBest X L D fx fy fz c (by omega)))

/-- A half of the cloud, from slice `c` on. -/
def half (X : Vec F S3x157x8x128 .f32) (L : Vec F S157x8x128 .f32) (fx fy fz : Col F) (n c : Nat) (hc : c + (n + 1) ≤ 157)
    (D : Vec F S157x8x128 .f32) : Vec F S157x8x128 .f32 × Best F :=
  sweep X L fx fy fz n (c + 1) (by omega) (lower X D fx fy fz c (by omega)) (sliceBest X L D fx fy fz c (by omega))

/-- What a trip starts from: the distances, the current samples and their coordinates. -/
structure State (F : FTy → Type) where
  D : Vec F S157x8x128 .f32
  cur : Col F × Col F × Col F × Col F

/-- One trip. -/
def next (X : Vec F S3x157x8x128 .f32) (L : Vec F S157x8x128 .f32) (s : State F) : State F :=
  let h₁ := half X L s.cur.2.1 s.cur.2.2.1 s.cur.2.2.2 77 0 (by decide) s.D
  let h₂ := half X L s.cur.2.1 s.cur.2.2.1 s.cur.2.2.2 78 78 (by decide) h₁.1
  let b := h₁.2.or h₂.2
  ⟨h₂.1, yieldOf b.d b.l b.x b.y b.z⟩

/-- A coordinate of the cloud's first point. -/
def firstOf (X : Vec F S3x157x8x128 .f32) (a : Nat) (inb : ∀ i, (![a, 0, 0, 0] : Fin 4 → Nat) i + S1x1x8x1.size i ≤ S3x157x8x128.size i) : Col F :=
  shapeCast S8x1 (fun i => X ((Rect.unit (s := S3x157x8x128) ![a, 0, 0, 0] S1x1x8x1.size inb).emb i)) shapeCasts_S1x1x8x1_S8x1

/-- What the first trip starts from. -/
def state₀ (X : Vec F S3x157x8x128 .f32) : State F :=
  ⟨start, (broadcast S8x1 (Scalar.ofBits .f32 0x00000000#32), firstOf X 0 inb_S3x157x8x128_S1x1x8x1_0_0_0_0,
    firstOf X 1 inb_S3x157x8x128_S1x1x8x1_1_0_0_0, firstOf X 2 inb_S3x157x8x128_S1x1x8x1_2_0_0_0)⟩

/-- What trip `t` starts from. -/
def stateAt (X : Vec F S3x157x8x128 .f32) (L : Vec F S157x8x128 .f32) : Nat → State F
  | 0 => state₀ X
  | t + 1 => next X L (stateAt X L t)

/-- The cell of the one row written in a trip under a cell of the result. -/
def rowIx (j : S1200x8.Idx) : S1x8.Idx := fun a => match a with
  | ⟨0, _⟩ => (⟨0, by decide⟩ : Fin 1)
  | ⟨1, _⟩ => (⟨(j 1).val, (j 1).isLt⟩ : Fin 8)

/-- The result. -/
def samples (X : Vec F S3x157x8x128 .f32) (L : Vec F S157x8x128 .f32) : Vec F S1200x8 .f32 :=
  fun j => shapeCast S1x8 (stateAt X L (j 0).val).cur.1 shapeCasts_S8x1_S1x8 (rowIx j)

variable (defs : Defs nD τ sig (Elt F) Λ₀) (c : Dev nD) (bd : Option Variants.none.V) (E : Set ℕ)
  {arg0 : Memref sig .tc .vmem S3x157x8x128 .f32} {arg1 : Memref sig .tc .vmem S157x8x128 .f32}
  {arg2 : Memref sig .tc .vmem S1200x8 .f32} {arg3 : Memref sig .tc .vmem S157x8x128 .f32}
  (X : Vec F S3x157x8x128 .f32) (L : Vec F S157x8x128 .f32)

/-- The two inputs and the distances, as a slice finds them. -/
abbrev held (arg0 : Memref sig .tc .vmem S3x157x8x128 .f32) (arg1 : Memref sig .tc .vmem S157x8x128 .f32)
    (arg3 : Memref sig .tc .vmem S157x8x128 .f32) (D : Vec F S157x8x128 .f32) : sProp 𝕄 :=
  iprop(owns (c : Thread nD τ) arg0 fullShare X ∗ owns (c : Thread nD τ) arg1 fullShare L ∗ owns (c : Thread nD τ) arg3 fullShare D)

/-- The run of one slice. -/
theorem wp_slice {β : Type} {Q : β → sProp 𝕄} (n : Nat) (hn : n < 157) (fx fy fz : Col F)
    (k : Tile F → Tile F → Tile F → Tile F → Tile F → Prog (TpuEff nD τ sig (Elt F) Λ₀ .tc) β) (D : Vec F S157x8x128 .f32) :
    held c X L arg0 arg1 arg3 D
      ⊢ iprop((held c X L arg0 arg1 arg3 (lower X D fx fy fz n hn)
            -∗ wp frame (wpE defs Variants.none c bd) E
              (k (near X D fx fy fz n hn) (tileOf L n hn) (coordTile X 0 (by decide) n hn) (coordTile X 1 (by decide) n hn) (coordTile X 2 (by decide) n hn)) Q)
        -∗ wp frame (wpE defs Variants.none c bd) E (slice arg0 arg1 arg3 n hn fx fy fz k) Q) := by
  unfold held slice
  iintro ⟨H0, H1, H3⟩ HK
  iapply (Owned.wp_load Variants.none c bd E) $$ H0; iintro H0
  iapply (Owned.wp_load Variants.none c bd E) $$ H0; iintro H0
  iapply (Owned.wp_load Variants.none c bd E) $$ H0; iintro H0
  iapply (Owned.wp_load Variants.none c bd E) $$ H3; iintro H3
  iapply (Owned.wp_load Variants.none c bd E) $$ H3; iintro H3
  iapply (Owned.wp_store Variants.none c bd E) $$ H3; iintro H3
  iapply (Owned.wp_load Variants.none c bd E) $$ H1; iintro H1
  iapply HK
  isplitl [H0]; · iexact H0
  isplitl [H1]; · iexact H1
  iexact H3

/-- The run of several slices. -/
theorem wp_slices {β : Type} {Q : β → sProp 𝕄} (fx fy fz : Col F)
    (k : Tile F → Tile F → Tile F → Tile F → Tile F → Prog (TpuEff nD τ sig (Elt F) Λ₀ .tc) β) (n : Nat) :
    ∀ (s : Nat) (hs : s + n ≤ 157) (D : Vec F S157x8x128 .f32) (b : Best F),
    held c X L arg0 arg1 arg3 D
      ⊢ iprop((held c X L arg0 arg1 arg3 (sweep X L fx fy fz n s hs D b).1
            -∗ wp frame (wpE defs Variants.none c bd) E
              (k (sweep X L fx fy fz n s hs D b).2.d (sweep X L fx fy fz n s hs D b).2.l (sweep X L fx fy fz n s hs D b).2.x
                (sweep X L fx fy fz n s hs D b).2.y (sweep X L fx fy fz n s hs D b).2.z) Q)
        -∗ wp frame (wpE defs Variants.none c bd) E (slices arg0 arg1 arg3 fx fy fz k n s hs b.d b.l b.x b.y b.z) Q) := by
  induction n with
  | zero =>
    intro s hs D b
    iintro H HK
    iapply HK
    iexact H
  | succ n ih =>
    intro s hs D b
    rw [slices]
    iintro H HK
    iapply (wp_slice defs c bd E X L s _ fx fy fz _ D) $$ H
    iintro H
    iapply (ih (s + 1) _ (lower X D fx fy fz s _) (b.or (sliceBest X L D fx fy fz s _))) $$ H
    iexact HK

/-- Where the row of trip `t` lies. -/
abbrev rowRect (t : Fin k0_t1_loop.trips) : Rect S1200x8 := Rect.unit (s := S1200x8) (k0_off1 t) S1x8.size (k0_off1_inb t)

seal sweep lower near in
/-- The run of one trip. -/
theorem wp_trip (t : Fin k0_t1_loop.trips) (s : State F) (O : Vec F S1200x8 .f32) (Q : Col F × Col F × Col F × Col F → sProp 𝕄) :
    iprop(held c X L arg0 arg1 arg3 s.D ∗ owns (c : Thread nD τ) arg2 fullShare O)
      ⊢ iprop((∀ D cur, ⌜(⟨D, cur⟩ : State F) = next X L s⌝ -∗ held c X L arg0 arg1 arg3 D
            -∗ owns (c : Thread nD τ) arg2 fullShare ((rowRect t).overlay O (shapeCast S1x8 s.cur.1 shapeCasts_S8x1_S1x8))
            -∗ Q cur)
        -∗ wp frame (wpE defs Variants.none c bd) E (trip arg0 arg1 arg2 arg3 t s.cur.1 s.cur.2.1 s.cur.2.2.1 s.cur.2.2.2) Q) := by
  unfold trip
  iintro ⟨H, H2⟩ HK
  iapply (Owned.wp_load Variants.none c bd E) $$ H2; iintro H2
  iapply (Owned.wp_store Variants.none c bd E) $$ H2; iintro H2
  iapply (wp_slice defs c bd E X L 0 _ s.cur.2.1 s.cur.2.2.1 s.cur.2.2.2 _ s.D) $$ H
  iintro H
  iapply (wp_slices defs c bd E X L s.cur.2.1 s.cur.2.2.1 s.cur.2.2.2 _ 77 1 _
    (lower X s.D s.cur.2.1 s.cur.2.2.1 s.cur.2.2.2 0 _) (sliceBest X L s.D s.cur.2.1 s.cur.2.2.1 s.cur.2.2.2 0 (by decide))) $$ H
  iintro H
  iapply (wp_slice defs c bd E X L 78 _ s.cur.2.1 s.cur.2.2.1 s.cur.2.2.2 _ _) $$ H
  iintro H
  iapply (wp_slices defs c bd E X L s.cur.2.1 s.cur.2.2.1 s.cur.2.2.2 _ 78 79 (by decide) _ (sliceBest X L _ s.cur.2.1 s.cur.2.2.1 s.cur.2.2.2 78 (by decide))) $$ H
  iintro H
  rw [wp_ret]
  imodintro
  iapply HK $$ [] H H2
  ipureintro
  rfl

theorem trips_eq : k0_t1_loop.trips = 1200 := by decide +kernel

theorem off_eq (t : Fin k0_t1_loop.trips) : k0_off1 t = ![t.val, 0] := by
  have ht : t.val < 1200 := trips_eq ▸ t.isLt
  have e : (Scalar.indexCast (Scf.iv 0#32 1#32 t.val) : Index).toNat = t.val := by
    simp [Scf.iv, Scalar.indexCast]
    omega
  exact congrArg (fun n : Nat => (![n, 0] : Fin 2 → Nat)) e

/-- A row once written, the rows before it kept. -/
theorem overlay_row (t : Fin k0_t1_loop.trips) (O : Vec F S1200x8 .f32) (w : Vec F S1x8 .f32) (j : S1200x8.Idx) :
    (rowRect t).overlay O w j = if (j 0).val = t.val then w (rowIx j) else O j := by
  by_cases h : (j 0).val = t.val
  · rw [if_pos h]
    have e : j = (rowRect t).emb (rowIx j) := by
      funext a
      apply Fin.ext
      rw [Rect.emb_apply]
      fin_cases a <;> simp [off_eq, rowIx, h]
    conv_lhs => rw [e]
    exact Rect.overlay_emb _ _ _ _
  · rw [if_neg h]
    refine Rect.overlay_of_not_mem _ _ _ fun hj => h ?_
    rw [← Rect.map_emb_univ, Finset.mem_map] at hj
    obtain ⟨i, -, rfl⟩ := hj
    rw [Rect.emb_apply]
    have : (i 0).val < 1 := (i 0).isLt
    simp [off_eq]
    omega

/-- What the loop holds before trip `t`. -/
def inv (arg0 : Memref sig .tc .vmem S3x157x8x128 .f32) (arg1 : Memref sig .tc .vmem S157x8x128 .f32)
    (arg2 : Memref sig .tc .vmem S1200x8 .f32) (arg3 : Memref sig .tc .vmem S157x8x128 .f32) (t : Nat)
    (cur : Col F × Col F × Col F × Col F) : sProp 𝕄 :=
  iprop(⌜cur = (stateAt X L t).cur⌝ ∗ held c X L arg0 arg1 arg3 (stateAt X L t).D
    ∗ (∃ O : Vec F S1200x8 .f32, ⌜∀ j : S1200x8.Idx, (j 0).val < t → O j = samples X L j⌝ ∗ owns (c : Thread nD τ) arg2 fullShare O))

/-- The run of the body: from any contents of the result and of the distances, the result holds the samples. -/
theorem wp_body (K : PUnit → sProp 𝕄) :
    iprop(owns (c : Thread nD τ) arg0 fullShare X ∗ owns (c : Thread nD τ) arg1 fullShare L ∗ (∃ d, owns (c : Thread nD τ) arg2 fullShare d)
        ∗ (∃ d, owns (c : Thread nD τ) arg3 fullShare d)
        ∗ (iprop(owns (c : Thread nD τ) arg0 fullShare X ∗ owns (c : Thread nD τ) arg1 fullShare L
            ∗ owns (c : Thread nD τ) arg2 fullShare (samples X L) ∗ (∃ d, owns (c : Thread nD τ) arg3 fullShare d)) -∗ K ⟨⟩))
      ⊢ wp frame (wpE defs Variants.none c bd) E (body arg0 arg1 arg2 arg3) K := by
  unfold body
  iintro ⟨H0, H1, ⟨%O, H2⟩, ⟨%D, H3⟩, HK⟩
  iapply (Owned.wp_load Variants.none c bd E) $$ H3; iintro H3
  iapply (Owned.wp_store Variants.none c bd E) $$ H3; iintro H3
  iapply (Owned.wp_load Variants.none c bd E) $$ H0; iintro H0
  iapply (Owned.wp_load Variants.none c bd E) $$ H0; iintro H0
  iapply (Owned.wp_load Variants.none c bd E) $$ H0; iintro H0
  iapply (Scf.wp_for_bind frame (wpE defs Variants.none c bd) E _ _ _ _ _ _ (inv c X L arg0 arg1 arg2 arg3) ?hstep) $$ [H0 H1 H2 H3]
  case hstep =>
    intro t cur
    unfold inv
    iintro ⟨%hc, H, ⟨%O, %hO, H2⟩⟩
    subst hc
    iapply (wp_trip defs c bd E X L t (stateAt X L t.val) O) $$ [H H2]
    · isplitl [H]
      · iexact H
      iexact H2
    iintro %D %cur %he H H2
    isplitr
    · ipureintro; rw [stateAt, ← he]
    isplitl [H]
    · rw [stateAt, ← he]; iexact H
    iexists _
    isplitr
    swap
    · iexact H2
    ipureintro
    intro j hj
    rw [overlay_row]
    split_ifs with h
    · rw [samples, h]
    · exact hO j (by omega)
  · unfold inv
    isplitr
    · ipureintro; rfl
    isplitl [H0 H1 H3]
    · isplitl [H0]; · iexact H0
      isplitl [H1]; · iexact H1
      have e : (Rect.unit (s := S157x8x128) ![0, 0, 0] S157x8x128.size inb_S157x8x128_S157x8x128_0_0_0).overlay D
          (shapeCast S157x8x128 (start (F := F)) shapeCasts_S157x8x128_S157x8x128) = (stateAt X L 0).D := by
        rw [shapeCast_self]
        funext j
        have hj : j = (Rect.unit (s := S157x8x128) ![0, 0, 0] S157x8x128.size inb_S157x8x128_S157x8x128_0_0_0).emb j := by
          funext a
          apply Fin.ext
          rw [Rect.emb_apply]
          fin_cases a <;> simp
        conv_lhs => rw [hj]
        exact Rect.overlay_emb _ _ _ _
      rw [e]
      iexact H3
    iexists O
    isplitr
    · ipureintro; intro j hj; omega
    iexact H2
  iintro %cur
  unfold inv
  iintro ⟨%hc, ⟨H0, H1, H3⟩, ⟨%O, %hO, H2⟩⟩
  rw [wp_ret]
  imodintro
  iapply HK
  isplitl [H0]; · iexact H0
  isplitl [H1]; · iexact H1
  have e : O = samples X L := funext fun j => hO j (by
    have := trips_eq
    have hj : (j 0).val < 1200 := (j 0).isLt
    change (j 0).val < k0_t1_loop.trips
    omega)
  rw [e]
  isplitl [H2]; · iexact H2
  iexists _
  iexact H3

end Cert.SamplingIdeal

end
-- ==== Proof.SamplingIdeal.Launch.lean ====
/-
  The sampling program's launch: the host operations, the one region of no grid, and what its result array holds.
-/
module

public import proofs.«01_k».proof.Proof.Gen.SamplingIdeal.Launch
public import proofs.«01_k».proof.Proof.Gen.SamplingIdeal.Points
public import proofs.«01_k».proof.Proof.SamplingIdeal.Sweep
public import Idealize.ShloMosaic.Lib.Pipeline.FrameBody
public import Idealize.ShloMosaic.Lib.Pipeline.FrameSuffix
public import Idealize.ShloMosaic.Lib.Pipeline.ValueKit.Geometry
public import Idealize.ShloMosaic.Lib.Pipeline.ValueKit
public import Idealize.ShloMosaic.Lib.Claim

@[expose] public section

set_option maxRecDepth 16384

noncomputable section

namespace Cert.SamplingIdeal.Run

open Cert.SamplingIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the region. -/
abbrev hostOps : List (List (HloOp τ sig (Elt F))) := [hostOps0, hostOps0_1, hostOps0_2]

/-- What core `c`'s buffers hold where the region is entered, -/
abbrev entered (c : Dev nD) : Valuation τ sig (Elt F) := StableHlo.after (List.flatten hostOps) (fun b => m (c, b))

/-- and the buffer `b` of them. -/
abbrev entry (c : Dev nD) (b : Ref sig .tc) : Buf (Elt F) ((c : Thread nD τ).loc b) := entered m c (Proc.devRef .tc b)

set_option maxHeartbeats 800000 in
/-- The program is the host operations, the region, and the host operations after it. -/
theorem main_around (𝒱₀ : Variants) :
    Pipeline.HMainK (Ix := Unit) (Name := ℕ) (U := UR sig nD τ) (Lvl := ℕ) cfgs 0 defs₀ 𝒱₀ m (main (F := F))
      (fun c b => entered m c (Proc.devRef .tc b)) (fun _ => Pipeline.chain ([hostOps1].map StableHlo.seq)) :=
  Pipeline.hmain_around cfgs 0 defs₀ 𝒱₀ m main hostOps [hostOps1]
    (by simp only [List.Forall]; exact ⟨hostOps0_sub, hostOps0_1_sub, hostOps0_2_sub⟩)
    (by simp only [List.Forall]; repeat' constructor) main_chain

/-- The operations after the region touch the core's own buffers, -/
theorem suffix_sub : ∀ ops ∈ [hostOps1 (F := F)], ∀ op ∈ ops, op.bufs ⊆ Pipeline.tailRefs sig Pipeline.Prefetch.none spec0 := by
  intro ops h op hop
  rw [List.mem_singleton.mp h] at hop
  exact Pipeline.sub_tailRefs _ _ op (List.forall_iff_forall_mem.mp hostOps1_sub op hop) (fun k => k.elim0)

/-- leave nothing undetermined, -/
theorem suffix_fresh : ∀ ops ∈ [hostOps1 (F := F)], ∀ op ∈ ops, op.fresh = ∅ := by
  intro ops h op hop
  rw [List.mem_singleton.mp h] at hop
  exact List.forall_iff_forall_mem.mp (show List.Forall (fun op => op.fresh = ∅) (hostOps1 (F := F)) by simp only [List.Forall]; repeat' constructor) op hop

/-- and write none of the region's arrays. -/
theorem suffix_keep : ∀ ops ∈ [hostOps1 (F := F)], ∀ op ∈ ops, ∀ w, Proc.devRef .tc (Pipeline.arrRef spec0 w) ∉ op.writes := by
  intro ops h op hop w
  rw [List.mem_singleton.mp h] at hop
  revert op
  rw [← List.forall_iff_forall_mem]
  simp only [List.Forall]
  refine ⟨?_, ?_, ?_, ?_, ?_, ?_, ?_, ?_, ?_, ?_, ?_⟩ <;> fin_cases w <;> exact fun h => absurd (Finset.mem_singleton.mp h) (by decide)

/-- The arguments are not written before the region. -/
theorem entry_arg0 (c : Dev nD) : entry m c main_arg0 = m ((c : Thread nD τ).loc main_arg0) := by
  unfold entry entered hostOps hostOps0 hostOps0_1 hostOps0_2
  simp only [List.flatten_cons, List.flatten_nil, List.append_nil, List.cons_append, List.nil_append]
  after_results_simp

theorem entry_arg1 (c : Dev nD) : entry m c main_arg1 = m ((c : Thread nD τ).loc main_arg1) := by
  unfold entry entered hostOps hostOps0 hostOps0_1 hostOps0_2
  simp only [List.flatten_cons, List.flatten_nil, List.append_nil, List.cons_append, List.nil_append]
  after_results_simp

/-- The points and their numbers as the region finds them. -/
abbrev points (c : Dev nD) : Vec F S3x157x8x128 .f32 := entry m c main_v3
abbrev numbers (c : Dev nD) : Vec F S157x8x128 .f32 := entry m c main_v17

/-- Window `w`'s block, of its array as the region finds it. -/
def found (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The pipeline's data: the inputs stay, the result's buffer ends at the samples. -/
def dats (_ : Fin 1) (c : Dev nD) : Dat τ (Elt F) Unit ℕ (UR sig nD τ) ℕ cfg0 c where
  A w := entry m c (Pipeline.arrRef spec0 w)
  after w t := match w with
    | ⟨0, _⟩ => found m c 0 t
    | ⟨1, _⟩ => found m c 1 t
    | ⟨2, _⟩ => samples (found m c 0 t) (found m c 1 t)
  Φ _ := Pipeline.ΦA spec0 c
  q _ := fullShare
  owed _ := 0

theorem dats_A (c : Dev nD) (w : Fin cfg0.W) : (dats m 0 c).A w = entry m c (Pipeline.arrRef spec0 w) := by dsimp only [dats]
theorem dats_after_0 (c : Dev nD) (t : Fin cfg0.N) : (dats m 0 c).after 0 t = found m c 0 t := by dsimp only [dats]
theorem dats_after_1 (c : Dev nD) (t : Fin cfg0.N) : (dats m 0 c).after 1 t = found m c 1 t := by dsimp only [dats]
theorem dats_after_2 (c : Dev nD) (t : Fin cfg0.N) : (dats m 0 c).after 2 t = samples (found m c 0 t) (found m c 1 t) := by dsimp only [dats]

/-- The inputs' staging buffers hold the blocks. -/
theorem dats_before_0 (c : Dev nD) (t : Fin cfg0.N) (d) : (dats m 0 c).before 0 t d = found m c 0 t :=
  ((dats m 0 c).before_in_eq_fetched 0 rfl (fun _ => rfl) (fun _ _ _ => rfl)
    (fun t => by rw [dats_after_0]; unfold Dat.blockOf found; rw [dats_A]) t d).trans
    (by unfold Dat.fetched Dat.blockOf found; rw [dats_A]; rfl)
theorem dats_before_1 (c : Dev nD) (t : Fin cfg0.N) (d) : (dats m 0 c).before 1 t d = found m c 1 t :=
  ((dats m 0 c).before_in_eq_fetched 1 rfl (fun _ => rfl) (fun _ _ _ => rfl)
    (fun t => by rw [dats_after_1]; unfold Dat.blockOf found; rw [dats_A]) t d).trans
    (by unfold Dat.fetched Dat.blockOf found; rw [dats_A]; rfl)

/-- The scratch buffer of distances. -/
abbrev scratch : Memref sig .tc .vmem S157x8x128 .f32 := Memref.whole cc0_scratch0

/-- The invariant: the distances at some contents, and the generator's register. -/
theorem inv_eq (c : Dev nD) :
    (Pipeline.ΦA spec0 c : sProp 𝕄) = iprop(iprop((∃ d, owns (c : Thread nD τ) scratch fullShare d)) ∗ (∃ r, prngReg c r)) := by
  unfold Pipeline.ΦA
  rw [scopedRest0_eq]
  simp only [scratch, owns_whole]
  try rfl

/-- What the body is called with, -/
def given (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))

/-- and what it returns. -/
def returned (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t))

/-- The body's run at a point. -/
theorem body_run (c : Dev nD) (t : Fin cfg0.N) :
    given m c t ⊢ wp frame (wpE (defs₀ (F := F)) Variants.none c none) Set.univ (bodyAt0 t) (fun _ => returned m c t) := by
  unfold given returned bodyAt0
  simp only [dats_before_0, dats_before_1]
  rw [show (dats m 0 c).Φ t.succ = (dats m 0 c).Φ t.castSucc from rfl,
    show (dats m 0 c).owesAt () t.succ = (dats m 0 c).owesAt () t.castSucc from rfl,
    dats_after_0, dats_after_1, dats_after_2]
  rw [show (dats m 0 c).Φ t.castSucc = Pipeline.ΦA spec0 c from rfl, inv_eq, cc0_eq]
  iintro ⟨⟨HS, Hg⟩, Ho, ⟨%d0, H0⟩, ⟨%d1, H1⟩, ⟨%d2, H2⟩⟩
  iapply (wp_body defs₀ c none Set.univ (found m c 0 t) (found m c 1 t))
  isplitl [H0]; · iexact H0
  isplitl [H1]; · iexact H1
  isplitl [H2]; · iexists _; iexact H2
  isplitl [HS]; · iexact HS
  iintro ⟨H0, H1, H2, HS⟩
  isplitl [HS Hg]
  · isplitl [HS]
    · iexact HS
    iexact Hg
  isplitl [Ho]; · iexact Ho
  isplitl [H0]; · iexact H0
  isplitl [H1]; · iexact H1
  iexact H2

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_run m c t) rfl .rfl fun _ => .rfl

set_option backward.isDefEq.respectTransparency.types false in
/-- The program's run. -/
theorem run_main : θ_run defs (onTc (τ := τ) (main (F := F))) (s₀ m ρ)
    (fun r => Pipeline.FramePost cfgs (dats m) 0 (Pipeline.afterTail₀ cfgs (dats m) 0 (entered m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := entered m) (opss := [hostOps1]) (hsub := suffix_sub) (hfresh := suffix_fresh) (hkeep := suffix_keep)
    (hmain := main_around m Variants.none) (hA := dats_A m) (hΦ := fun _ _ => rfl)

theorem index_zero : ∀ t : Fin cfg0.N, win0_0.index t = ![0, 0, 0, 0] ∧ win0_1.index t = ![0, 0, 0] :=
  (by decide +kernel : ∀ t : Fin grid0.N, _)

/-- The one block of either input is the whole array. -/
theorem read_block_0 (c : Dev nD) (X : Buf (Elt F) ((c : Thread nD τ).loc main_v3)) : ((cfg0.win 0).blk t0_0).view.read (Elt F) X = X := by
  blk_ext! [index_zero t0_0]
theorem read_block_1 (c : Dev nD) (X : Buf (Elt F) ((c : Thread nD τ).loc main_v17)) : ((cfg0.win 1).blk t0_0).view.read (Elt F) X = X := by
  blk_ext! [index_zero t0_0]

theorem found_0 (c : Dev nD) : found m c 0 t0_0 = points m c := read_block_0 c _
theorem found_1 (c : Dev nD) : found m c 1 t0_0 = numbers m c := read_block_1 c _

/-- The result array ends at the samples. -/
theorem result_eq (c : Dev nD) : (dats m 0 c).arrAt 2 cfg0.N = samples (points m c) (numbers m c) := by
  refine (dats m 0 c).arrAt_eq_of_after_last 2 t0_0 (by decide +kernel) _ fun j => ?_
  rw [dats_after_2, found_0, found_1]
  rfl

/-- The points as the host lays them out: padded with zeros, cut into slices of 128. -/
def layout (x : Vec F S8x20000x3 .f32) : Vec F S3x157x8x128 .f32 :=
  transpose S3x157x8x128 [0, 2, 1, 3] (shapeCast S3x8x157x128
    (pad S3x8x20096 ![0, 0, 0] ![0, 0, 96] ![0, 0, 0] (transpose S3x8x20000 [2, 0, 1] x transposes_S8x20000x3_S3x8x20000_2_0_1)
      (sitofp .f32 (constantI S_ 32 0#32)) pads_S3x8x20000_S3x8x20096_000_000_0960 h_S_) shapeCasts_S3x8x20096_S3x8x157x128)
    transposes_S3x8x157x128_S3x157x8x128_0_2_1_3

/-- The points' numbers. -/
def counted : Vec F S157x8x128 .f32 :=
  sitofp .f32 (addi (broadcastInDim S157x8x128 ![0, 1, 2] bcast_S157x1x128_S157x8x128_0_1_2
      (addi (broadcastInDim S157x1x128 ![0, 1, 2] bcast_S157x1x1_S157x1x128_0_1_2
          (muli (broadcastInDim S157x1x1 ![0] bcast_S157_S157x1x1_0 (iotaInDim S157 32 0)) (broadcastInDim S157x1x1 ![] bcast_S_S157x1x1 (constantI S_ 32 128#32))))
        (broadcastInDim S157x1x128 ![0, 1, 2] bcast_S1x1x128_S157x1x128_0_1_2 (broadcastInDim S1x1x128 ![2] bcast_S128_S1x1x128_2 (iotaInDim S128 32 0)))))
    (broadcastInDim S157x8x128 ![0, 1, 2] bcast_S1x8x1_S157x8x128_0_1_2 (broadcastInDim S1x8x1 ![] bcast_S_S1x8x1 (constantI S_ 32 0#32))))

theorem points_eq (c : Dev nD) : points m c = layout (m ((c : Thread nD τ).loc main_arg0)) := by
  unfold points entry entered hostOps hostOps0 hostOps0_1 hostOps0_2 layout
  simp only [List.flatten_cons, List.flatten_nil, List.append_nil, List.cons_append, List.nil_append]
  after_results_simp
  rfl

theorem numbers_eq (c : Dev nD) : numbers m c = counted := by
  unfold numbers entry entered hostOps hostOps0 hostOps0_1 hostOps0_2 counted
  simp only [List.flatten_cons, List.flatten_nil, List.append_nil, List.cons_append, List.nil_append]
  after_results_simp

/-- The rows to read, a negative one wrapped, as a column. -/
def rows (sel : Vec F S1024 .i32) : Vec F S1024x1 .i32 :=
  broadcastInDim S1024x1 ![0] bcast_S1024_S1024x1_0
    (select (cmpi .slt sel (broadcastInDim S1024 ![] bcast_S_S1024 (constantI S_ 32 0#32)))
      (addi sel (broadcastInDim S1024 ![] bcast_S_S1024 (constantI S_ 32 1200#32))) sel)

/-- The samples as integers, the rows `sel` of them, transposed. -/
def chosen (out : Vec F S1200x8 .f32) (sel : Vec F S1024 .i32) : Vec F S8x1024 .i32 :=
  transpose S8x1024 [1, 0] (Host.gather gather_S1200x8_S1024x1_S1024x8_1_0_n_n_0_1_18 (fptosi 32 out : Vec F S1200x8 .i32) (rows (F := F) sel))
    transposes_S1024x8_S8x1024_1_0

section Suffix
variable (V : Valuation τ sig (Elt F))

theorem suffix_result : (StableHlo.after hostOps1 V main_v27 : Vec F S8x1024 .i32) = chosen (V main_v18) (V main_arg1) := by
  unfold hostOps1
  after_results_simp
  rfl
theorem suffix_arg0 : StableHlo.after hostOps1 V main_arg0 = V main_arg0 := by
  unfold hostOps1; after_results_simp
theorem suffix_arg1 : StableHlo.after hostOps1 V main_arg1 = V main_arg1 := by
  unfold hostOps1; after_results_simp

end Suffix

/-- What the core's buffers hold when the region is left. -/
abbrev left (c : Dev nD) : Valuation τ sig (Elt F) :=
  Pipeline.withArrays (cfgs 0).spec c (entered m c) fun w => (dats m 0 c).arrAt w (cfgs 0).N

theorem left_result (c : Dev nD) : (left m c main_v18 : Vec F S1200x8 .f32) = samples (points m c) (numbers m c) :=
  (Pipeline.withArrays_arr (cfgs 0).spec launch0.win.arr_inj c (entered m c) _ 2).trans (result_eq m c)
theorem left_arg0 (c : Dev nD) : left m c main_arg0 = entry m c main_arg0 :=
  Pipeline.withArrays_of_ne _ _ _ _ main_arg0 (by decide)
theorem left_arg1 (c : Dev nD) : left m c main_arg1 = entry m c main_arg1 :=
  Pipeline.withArrays_of_ne _ _ _ _ main_arg1 (by decide)

/-- The program's result. -/
abbrev result (c : Dev nD) : Vec F S8x1024 .i32 :=
  chosen (samples (points m c) (numbers m c)) (m ((c.tc : Thread nD τ).loc main_arg1))

/-- The run, read at the result and at the arguments. -/
theorem run (g : Dev nD → PrngReg) : θ_run defs (onTc (τ := τ) (main (F := F))) ⟨m, fun _ => 0, g⟩ (fun r =>
    (∀ c : Dev nD, r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine (θ_run defs _ _).mono (fun r h => ⟨fun c => ⟨?_, ?_, ?_⟩, h.2⟩) (run_main m g)
  · refine ((h.1 c).2 main_v27 (Pipeline.mem_restRefs_of main_v27 (by decide) (by decide))).trans ((suffix_result (left m c)).trans ?_)
    rw [left_result, left_arg1, entry_arg1]
  · exact ((h.1 c).2 main_arg0 (Pipeline.mem_restRefs_of main_arg0 (by decide) (by decide))).trans
      ((suffix_arg0 (left m c)).trans ((left_arg0 m c).trans (entry_arg0 m c)))
  · exact ((h.1 c).2 main_arg1 (Pipeline.mem_restRefs_of main_arg1 (by decide) (by decide))).trans
      ((suffix_arg1 (left m c)).trans ((left_arg1 m c).trans (entry_arg1 m c)))

end Cert.SamplingIdeal.Run

end
-- ==== Proof.Common.Best.lean ====
module

public import Mathlib.Order.Lattice
public import Mathlib.Data.EReal.Operations

/-! The best entry of a list and of a sequence, by the comparisons that pick it. -/

@[expose] public section

namespace Cert.Proof

/-- What is left of a list when `f` keeps one of two: an entry or what it began with, and none is better. -/
theorem foldl_best {β : Type} (f : β → β → β) (R : β → β → Prop) (refl : ∀ r, R r r) (trans : ∀ a b c, R a b → R b c → R a c)
    (hf : ∀ r q, f r q = r ∨ f r q = q) (h1 : ∀ r q, R (f r q) r) (h2 : ∀ r q, R (f r q) q) (l : List β) (r : β) :
    (l.foldl f r = r ∨ l.foldl f r ∈ l) ∧ R (l.foldl f r) r ∧ ∀ q ∈ l, R (l.foldl f r) q := by
  induction l generalizing r with
  | nil => exact ⟨.inl rfl, refl r, fun _ h => nomatch h⟩
  | cons q l ih =>
    obtain ⟨ha, hb, hc⟩ := ih (f r q)
    refine ⟨?_, trans _ _ _ hb (h1 r q), ?_⟩
    · rcases ha with ha | ha
      · rcases hf r q with h | h
        · exact .inl (ha.trans h)
        · exact .inr (List.mem_cons.2 (.inl (ha.trans h)))
      · exact .inr (List.mem_cons_of_mem _ ha)
    · intro p hp
      rcases List.mem_cons.1 hp with rfl | hp
      · exact trans _ _ _ hb (h2 r p)
      · exact hc p hp

/-- `i` is the first of `s`, …, `e - 1` where `f` is greatest. -/
structure First {α : Type} [LinearOrder α] (f : Nat → α) (s e i : Nat) : Prop where
  lo : s ≤ i
  hi : i < e
  max : ∀ j, s ≤ j → j < e → f j ≤ f i
  first : ∀ j, s ≤ j → j < i → f j < f i

theorem First.one {α : Type} [LinearOrder α] (f : Nat → α) (s : Nat) : First f s (s + 1) s where
  lo := le_rfl
  hi := Nat.lt_succ_self s
  max j h h' := by obtain rfl : j = s := by omega
                   exact le_rfl
  first j h h' := by omega

/-- Two neighbouring stretches: the second's is taken where it is strictly greater. -/
theorem First.or {α : Type} [LinearOrder α] {f : Nat → α} {s k e i i' : Nat} (h : First f s k i) (h' : First f k e i') :
    First f s e (if f i < f i' then i' else i) := by
  have h1 := h.lo; have h2 := h.hi; have h3 := h'.lo; have h4 := h'.hi
  split
  · next hlt =>
    refine ⟨by omega, h4, fun j hj hj' => ?_, fun j hj hj' => ?_⟩
    · by_cases c : j < k
      · exact (h.max j hj c).trans hlt.le
      · exact h'.max j (by omega) hj'
    · by_cases c : j < k
      · exact (h.max j hj c).trans_lt hlt
      · exact h'.first j (by omega) hj'
  · next hlt =>
    refine ⟨h1, by omega, fun j hj hj' => ?_, h.first⟩
    by_cases c : j < k
    · exact h.max j hj c
    · exact (h'.max j (by omega) hj').trans (not_lt.1 hlt)

theorem First.unique {α : Type} [LinearOrder α] {f : Nat → α} {s e i i' : Nat} (h : First f s e i) (h' : First f s e i') : i = i' := by
  rcases lt_trichotomy i i' with c | c | c
  · exact absurd (h'.first i h.lo c) (not_lt.2 (h.max i' h'.lo h'.hi))
  · exact c
  · exact absurd (h.first i' h'.lo c) (not_lt.2 (h'.max i h.lo h.hi))

/-- A square is not negative. -/
theorem square_nonneg (a : EReal) : 0 ≤ a * a := by
  rcases le_total 0 a with h | h
  · exact EReal.mul_nonneg h h
  · have h' : 0 ≤ -a := by rwa [EReal.neg_nonneg]
    have := EReal.mul_nonneg h' h'
    rwa [neg_mul_neg] at this

end Cert.Proof

end
-- ==== Proof.SamplingIdeal.Trip.lean ====
module

public import proofs.«01_k».proof.Proof.SamplingIdeal.Sweep
public import proofs.«01_k».proof.Proof.Common.Best
public import Idealize.ShloMosaic.Lib.Pointwise
public import Idealize.ShloMosaic.Lib.Pipeline.Value

/-! One trip of the sampling kernel, entry by entry, on the extended reals: the distances are lowered slice by slice,
    each lane keeps the first slice where it is greatest, and of the lanes the one with the least number is taken. -/

@[expose] public section

noncomputable section

namespace Cert.SamplingIdeal

open Idealize.ShloMosaic Cert.Proof
open Facts₀ Facts

section Any
variable {F : FTy → Type} [FloatOps F] [Facts]

/-- Of the distances once slice `c`'s are new, slice `c'`. -/
theorem tileOf_lower (X : Vec F S3x157x8x128 .f32) (D : Vec F S157x8x128 .f32) (fx fy fz : Col F) (c : Nat) (hc : c < 157)
    (c' : Nat) (hc' : c' < 157) :
    tileOf (lower X D fx fy fz c hc) c' hc' = if c' = c then near X D fx fy fz c hc else tileOf D c' hc' := by
  unfold lower
  split
  · next h =>
    subst h
    show shapeCast S8x128 (fun i => (sliceRect c' hc').overlay D (shapeCast S1x8x128 (near X D fx fy fz c' hc) shapeCasts_S8x128_S1x8x128)
      ((sliceRect c' hc').emb i)) shapeCasts_S1x8x128_S8x128 = _
    simp only [Rect.overlay_emb]
    exact shapeCast_shapeCast _ _ _
  · next h =>
    unfold tileOf
    congr 1
    funext i
    refine Rect.overlay_of_not_mem _ _ _ fun hj => h ?_
    rw [← Rect.map_emb_univ, Finset.mem_map] at hj
    obtain ⟨k, -, hk⟩ := hj
    have e := congrArg (fun j : S157x8x128.Idx => (j 0).val) hk
    simp only [Rect.emb_apply] at e
    have hi : (i 0).val < 1 := (i 0).isLt
    have hk0 : (k 0).val < 1 := (k 0).isLt
    simp at e
    omega

theorem near_congr (X : Vec F S3x157x8x128 .f32) (D D' : Vec F S157x8x128 .f32) (fx fy fz : Col F) (c : Nat) (hc : c < 157)
    (h : tileOf D c hc = tileOf D' c hc) : near X D fx fy fz c hc = near X D' fx fy fz c hc := by
  unfold near
  rw [h]

/-- Of the distances once slices `c`, …, `c + n - 1` are new, slice `c'`. -/
theorem tileOf_sweep (X : Vec F S3x157x8x128 .f32) (L : Vec F S157x8x128 .f32) (fx fy fz : Col F) (n c : Nat) (hc : c + n ≤ 157)
    (D : Vec F S157x8x128 .f32) (b : Best F) (c' : Nat) (hc' : c' < 157) :
    tileOf (sweep X L fx fy fz n c hc D b).1 c' hc'
      = if c ≤ c' ∧ c' < c + n then near X D fx fy fz c' hc' else tileOf D c' hc' := by
  induction n generalizing c D b with
  | zero => rw [if_neg (by omega)]; rfl
  | succ n ih =>
    rw [sweep, ih]
    by_cases h : c' = c
    · subst h
      rw [if_neg (by omega), if_pos (by omega), tileOf_lower, if_pos rfl]
    · by_cases h' : c + 1 ≤ c' ∧ c' < c + 1 + n
      · rw [if_pos h', if_pos (by omega)]
        exact near_congr _ _ _ _ _ _ _ _ (by rw [tileOf_lower, if_neg h])
      · rw [if_neg h', if_neg (by omega), tileOf_lower, if_neg h]

end Any

variable [Facts]

/-- A lane of a slice. -/
abbrev lane (b : Fin 8) (l : Fin 128) : S8x128.Idx := ix2 b l

/-- The new distances of cloud `b`, lane `l`, by slices. -/
def nearAt (X : Vec Ideal S3x157x8x128 .f32) (D : Vec Ideal S157x8x128 .f32) (fx fy fz : Col Ideal) (b : Fin 8) (l : Fin 128) (c : Nat) : EReal :=
  if h : c < 157 then near X D fx fy fz c h (lane b l) else 0

/-- Cloud `b`, lane `l` of the best holds the first of slices `s`, …, `e - 1` where `f` is greatest. -/
def Holds (X : Vec Ideal S3x157x8x128 .f32) (L : Vec Ideal S157x8x128 .f32) (f : Nat → EReal) (b : Fin 8) (l : Fin 128) (s e : Nat)
    (t : Best Ideal) : Prop :=
  ∃ i, ∃ h : i < 157, First f s e i ∧ t.d (lane b l) = f i ∧ t.l (lane b l) = tileOf L i h (lane b l)
    ∧ t.x (lane b l) = coordTile X 0 (by decide) i h (lane b l) ∧ t.y (lane b l) = coordTile X 1 (by decide) i h (lane b l)
    ∧ t.z (lane b l) = coordTile X 2 (by decide) i h (lane b l)

theorem select_ogt (d d' v v' : Tile Ideal) (j : S8x128.Idx) :
    select (cmpf .ogt d' d) v' v j = if (d j : EReal) < d' j then v' j else v j := by
  show Scalar.select (Ideal.cmp .ogt (d' j) (d j)) (v' j) (v j) = _
  unfold Ideal.cmp Scalar.select
  by_cases h : (d j : EReal) < d' j <;> simp [h]

theorem Holds.or {X : Vec Ideal S3x157x8x128 .f32} {L : Vec Ideal S157x8x128 .f32} {f : Nat → EReal} {b : Fin 8} {l : Fin 128} {s k e : Nat}
    {t t' : Best Ideal} (h : Holds X L f b l s k t) (h' : Holds X L f b l k e t') : Holds X L f b l s e (t.or t') := by
  obtain ⟨i, hi, hf, hd, hl, hx, hy, hz⟩ := h
  obtain ⟨i', hi', hf', hd', hl', hx', hy', hz'⟩ := h'
  have ho := hf.or hf'
  unfold Holds Best.or
  dsimp only
  simp only [select_ogt, hd, hd', hl, hl', hx, hx', hy, hy', hz, hz']
  by_cases c : f i < f i'
  · rw [if_pos c] at ho
    simp only [if_pos c]
    exact ⟨i', hi', ho, rfl, rfl, rfl, rfl, rfl⟩
  · rw [if_neg c] at ho
    simp only [if_neg c]
    exact ⟨i, hi, ho, rfl, rfl, rfl, rfl, rfl⟩

theorem Holds.one (X : Vec Ideal S3x157x8x128 .f32) (L D : Vec Ideal S157x8x128 .f32) (fx fy fz : Col Ideal) (f : Nat → EReal)
    (b : Fin 8) (l : Fin 128) (c : Nat) (hc : c < 157) (hf : f c = near X D fx fy fz c hc (lane b l)) :
    Holds X L f b l c (c + 1) (sliceBest X L D fx fy fz c hc) :=
  ⟨c, hc, First.one f c, hf.symm, rfl, rfl, rfl, rfl⟩

/-- The best after slices `c`, …, `c + n - 1`. -/
theorem holds_sweep (X : Vec Ideal S3x157x8x128 .f32) (L : Vec Ideal S157x8x128 .f32) (fx fy fz : Col Ideal) (f : Nat → EReal)
    (b : Fin 8) (l : Fin 128) (s n c : Nat) (hc : c + n ≤ 157) (D : Vec Ideal S157x8x128 .f32) (t : Best Ideal)
    (hf : ∀ c', c ≤ c' → ∀ h : c' < 157, f c' = near X D fx fy fz c' h (lane b l)) (ht : Holds X L f b l s c t) :
    Holds X L f b l s (c + n) (sweep X L fx fy fz n c hc D t).2 := by
  induction n generalizing c D t with
  | zero => exact ht
  | succ n ih =>
    rw [sweep, show c + (n + 1) = c + 1 + n by omega]
    refine ih (c + 1) _ _ _ (fun c' hcc h => ?_) (ht.or (Holds.one X L D fx fy fz f b l c (by omega) (hf c le_rfl _)))
    rw [hf c' (by omega) h]
    exact congrFun (near_congr _ _ _ _ _ _ _ _ (by rw [tileOf_lower, if_neg (by omega)])) _

/-- The best of the whole cloud. -/
def bestOf (X : Vec Ideal S3x157x8x128 .f32) (L : Vec Ideal S157x8x128 .f32) (s : State Ideal) : Best Ideal :=
  (half X L s.cur.2.1 s.cur.2.2.1 s.cur.2.2.2 77 0 (by decide) s.D).2.or
    (half X L s.cur.2.1 s.cur.2.2.1 s.cur.2.2.2 78 78 (by decide) (half X L s.cur.2.1 s.cur.2.2.1 s.cur.2.2.2 77 0 (by decide) s.D).1).2

theorem tileOf_half (X : Vec Ideal S3x157x8x128 .f32) (L : Vec Ideal S157x8x128 .f32) (fx fy fz : Col Ideal) (n c : Nat) (hc : c + (n + 1) ≤ 157)
    (D : Vec Ideal S157x8x128 .f32) (c' : Nat) (hc' : c' < 157) :
    tileOf (half X L fx fy fz n c hc D).1 c' hc'
      = if c ≤ c' ∧ c' < c + (n + 1) then near X D fx fy fz c' hc' else tileOf D c' hc' := by
  have h := tileOf_sweep X L fx fy fz (n + 1) c hc D (sliceBest X L D fx fy fz c (by omega)) c' hc'
  unfold half
  rw [← h, sweep]
  rw [tileOf_sweep, tileOf_sweep]

theorem holds_half (X : Vec Ideal S3x157x8x128 .f32) (L : Vec Ideal S157x8x128 .f32) (fx fy fz : Col Ideal) (f : Nat → EReal)
    (b : Fin 8) (l : Fin 128) (n c : Nat) (hc : c + (n + 1) ≤ 157) (D : Vec Ideal S157x8x128 .f32)
    (hf : ∀ c', c ≤ c' → ∀ h : c' < 157, f c' = near X D fx fy fz c' h (lane b l)) :
    Holds X L f b l c (c + (n + 1)) (half X L fx fy fz n c hc D).2 := by
  unfold half
  rw [show c + (n + 1) = c + 1 + n by omega]
  refine holds_sweep X L fx fy fz f b l c n (c + 1) _ _ _ (fun c' hcc h => ?_) (Holds.one X L D fx fy fz f b l c (by omega) (hf c le_rfl _))
  rw [hf c' (by omega) h]
  exact congrFun (near_congr _ _ _ _ _ _ _ _ (by rw [tileOf_lower, if_neg (by omega)])) _

/-- The distances after a trip. -/
theorem tileOf_next (X : Vec Ideal S3x157x8x128 .f32) (L : Vec Ideal S157x8x128 .f32) (s : State Ideal) (c : Nat) (hc : c < 157) :
    tileOf (next X L s).D c hc = near X s.D s.cur.2.1 s.cur.2.2.1 s.cur.2.2.2 c hc := by
  show tileOf (half X L _ _ _ 78 78 (by decide) (half X L _ _ _ 77 0 (by decide) s.D).1).1 c hc = _
  rw [tileOf_half]
  split
  · next h => exact near_congr _ _ _ _ _ _ _ _ (by rw [tileOf_half, if_neg (by omega)])
  · next h => rw [tileOf_half, if_pos (by omega)]

/-- Each lane's best after a trip. -/
theorem holds_bestOf (X : Vec Ideal S3x157x8x128 .f32) (L : Vec Ideal S157x8x128 .f32) (s : State Ideal) (b : Fin 8) (l : Fin 128) :
    Holds X L (nearAt X s.D s.cur.2.1 s.cur.2.2.1 s.cur.2.2.2 b l) b l 0 157 (bestOf X L s) := by
  refine Holds.or (k := 78) (holds_half _ _ _ _ _ _ _ _ 77 0 _ _ fun c' _ h => dif_pos h)
    (holds_half _ _ _ _ _ _ _ _ 78 78 _ _ fun c' hcc h => ?_)
  refine (dif_pos h).trans ?_
  exact congrFun (near_congr _ _ _ _ _ _ _ _ (by rw [tileOf_half, if_neg (by omega)])) _

theorem next_cur (X : Vec Ideal S3x157x8x128 .f32) (L : Vec Ideal S157x8x128 .f32) (s : State Ideal) :
    (next X L s).cur = yieldOf (bestOf X L s).d (bestOf X L s).l (bestOf X L s).x (bestOf X L s).y (bestOf X L s).z := rfl

end Cert.SamplingIdeal

end
-- ==== Proof.SamplingIdeal.Values.lean ====
module

public import proofs.«01_k».proof.Proof.SamplingIdeal.Trip
public import proofs.«01_k».proof.Proof.SamplingIdeal.Launch
public import Idealize.ShloMosaic.Lib.IdealHost
public import Idealize.ShloMosaic.Lib.DynamicIndex
public import Idealize.ShloMosaic.Lib.KernelVsHost
public import Idealize.ShloMosaic.Lib.StableHlo.Predicate

/-! What the sampling kernel reads and what a trip yields, entry by entry, on the extended reals. -/

@[expose] public section

noncomputable section

namespace Cert.SamplingIdeal

open Idealize.ShloMosaic Cert.Proof
open Facts₀ Facts

section Any
variable {F : FTy → Type} [FloatOps F] [Facts]

theorem coordTile_apply (X : Vec F S3x157x8x128 .f32) (a : Nat) (ha : a < 3) (c : Nat) (hc : c < 157) (b : Fin 8) (l : Fin 128) :
    coordTile X a ha c hc (ix2 b l) = X (ix4 ⟨a, ha⟩ ⟨c, hc⟩ b l) := by
  unfold coordTile
  rw [shapeCast_apply _ _ (ix2 b l) (ix4 0 0 b l) (by rw [Shape.rowMajor_val_four, Shape.rowMajor_val_two]; show ((0 * 1 + 0) * 8 + b.val) * 128 + l.val = b.val * 128 + l.val; omega)]
  congr 1
  funext i
  refine Fin.ext ?_
  rw [Rect.emb_apply]
  match i with
  | 0 => show a + 1 * 0 = a; omega
  | 1 => show c + 1 * 0 = c; omega
  | 2 => show 0 + 1 * b.val = b.val; omega
  | 3 => show 0 + 1 * l.val = l.val; omega

theorem tileOf_apply (D : Vec F S157x8x128 .f32) (c : Nat) (hc : c < 157) (b : Fin 8) (l : Fin 128) :
    tileOf D c hc (ix2 b l) = D (ix3 ⟨c, hc⟩ b l) := by
  unfold tileOf
  rw [shapeCast_apply _ _ (ix2 b l) (ix3 0 b l) (by rw [Shape.rowMajor_val_three, Shape.rowMajor_val_two]; show (0 * 8 + b.val) * 128 + l.val = b.val * 128 + l.val; omega)]
  congr 1
  funext i
  refine Fin.ext ?_
  rw [Rect.emb_apply]
  match i with
  | 0 => show c + 1 * 0 = c; omega
  | 1 => show 0 + 1 * b.val = b.val; omega
  | 2 => show 0 + 1 * l.val = l.val; omega

theorem firstOf_apply (X : Vec F S3x157x8x128 .f32) (a : Nat) (ha : a < 3) (inb) (b : Fin 8) :
    firstOf X a inb (ix2 b 0) = X (ix4 ⟨a, ha⟩ 0 b 0) := by
  unfold firstOf
  rw [shapeCast_apply _ _ (ix2 b 0) (ix4 0 0 b 0) (by rw [Shape.rowMajor_val_four, Shape.rowMajor_val_two]; show ((0 * 1 + 0) * 8 + b.val) * 1 + 0 = b.val * 1 + 0; omega)]
  congr 1
  funext i
  refine Fin.ext ?_
  rw [Rect.emb_apply]
  match i with
  | 0 => show a + 1 * 0 = a; omega
  | 1 => rfl
  | 2 => show 0 + 1 * b.val = b.val; omega
  | 3 => rfl

theorem spread_apply (f : Col F) (b : Fin 8) (l : Fin 128) : broadcastTo S8x128 f broadcasts_S8x1_S8x128 (ix2 b l) = f (ix2 b 0) :=
  broadcastTo_apply _ _ _ _ (by intro a; match a with | 0 => rfl | 1 => rfl)

/-- The kernel's copy of the cloud, at the lanes that hold a point. -/
theorem layout_apply (x : Vec F S8x20000x3 .f32) (a : Fin 3) (c : Fin 157) (b : Fin 8) (l : Fin 128) (n : Fin 20000)
    (hn : n.val = 128 * c.val + l.val) : Run.layout x (ix4 a c b l) = x (ix3 b n a) := by
  unfold Run.layout
  rw [transpose_apply _ _ _ (ix4 a c b l) (ix4 a b c l) (by intro i; match i with | 0 => rfl | 1 => rfl | 2 => rfl | 3 => rfl),
    shapeCast_apply _ _ (ix4 a b c l) (ix3 a b (⟨n.val, by have := n.isLt; omega⟩ : Fin 20096)) (by
      rw [Shape.rowMajor_val_four, Shape.rowMajor_val_three]
      show (a.val * 8 + b.val) * 20096 + n.val = ((a.val * 8 + b.val) * 157 + c.val) * 128 + l.val
      omega),
    pad_apply_of_inside _ _ _ _ _ _ _ _ (ix3 a b n) (by intro i; match i with | 0 => simp | 1 => simp | 2 => simp)]
  exact transpose_apply _ _ _ _ (ix3 b n a) (by intro i; match i with | 0 => rfl | 1 => rfl | 2 => rfl)

theorem number_word (c l : Nat) : BitVec.ofNat 32 c * 128#32 + BitVec.ofNat 32 l = BitVec.ofNat 32 (128 * c + l) := by
  apply BitVec.eq_of_toNat_eq
  simp only [BitVec.toNat_add, BitVec.toNat_mul, BitVec.toNat_ofNat]
  omega

/-- A slice's numbers. -/
theorem counted_apply (c : Fin 157) (b : Fin 8) (l : Fin 128) :
    Run.counted (F := F) (ix3 c b l) = FloatOps.sitofp .f32 (BitVec.ofNat 32 (128 * c.val + l.val)) := by
  have e : Run.counted (F := F) (ix3 c b l) = FloatOps.sitofp .f32
      (BitVec.ofNat 32 c.val * 128#32 + BitVec.ofNat 32 l.val + 0#32) := rfl
  rw [e, BitVec.add_zero, number_word]

end Any

variable [Facts]

/-- A slice's new distance. -/
theorem near_apply (X : Vec Ideal S3x157x8x128 .f32) (D : Vec Ideal S157x8x128 .f32) (fx fy fz : Col Ideal) (c : Nat) (hc : c < 157)
    (b : Fin 8) (l : Fin 128) :
    near X D fx fy fz c hc (ix2 b l) = (min (tileOf D c hc (ix2 b l))
      ((coordTile X 0 (by decide) c hc (ix2 b l) - fx (ix2 b 0)) * (coordTile X 0 (by decide) c hc (ix2 b l) - fx (ix2 b 0))
        + (coordTile X 1 (by decide) c hc (ix2 b l) - fy (ix2 b 0)) * (coordTile X 1 (by decide) c hc (ix2 b l) - fy (ix2 b 0))
        + (coordTile X 2 (by decide) c hc (ix2 b l) - fz (ix2 b 0)) * (coordTile X 2 (by decide) c hc (ix2 b l) - fz (ix2 b 0))) : EReal) := by
  rw [← spread_apply fx b l, ← spread_apply fy b l, ← spread_apply fz b l]
  rfl

theorem toCol_apply (v : FVec Ideal S8 .f32) (b : Fin 8) : shapeCast S8x1 v shapeCasts_S8_S8x1 (ix2 b 0) = v (ix1 b) :=
  shapeCast_apply _ _ _ _ (by rw [Shape.rowMajor_val_one, Shape.rowMajor_val_two]; show b.val = b.val * 1 + 0; omega)

/-- The greatest value over the lanes. -/
theorem laneMax_eq (d : Tile Ideal) (b : Fin 8) (l : Fin 128) (h : ∀ k, (d (lane b k) : EReal) ≤ d (lane b l)) :
    laneMax d (ix2 b 0) = d (lane b l) := by
  unfold laneMax
  rw [toCol_apply]
  refine (multiReduction_maximumf_eq_fold (F := Ideal) d _ reduces_S8x128_S8 _ _ (ix1 b)).trans ?_
  rw [Shape.Reduces.fold_fiber_r2_a1]
  refine le_antisymm (Finset.fold_max_le _ |>.2 ⟨?_, fun k _ => h k⟩) (Finset.le_fold_max _ |>.2 (.inr ⟨l, Finset.mem_univ _, le_rfl⟩))
  show Ideal.ofBits .f32 0xFF800000#32 ≤ _
  rw [show Ideal.ofBits .f32 0xFF800000#32 = ⊥ by simp [Ideal.ofBits, Ideal.ieee]]
  exact bot_le

/-- The least number among the candidates. -/
theorem pick_eq (d n : Tile Ideal) (b : Fin 8) (l : Fin 128) (h : ∀ k, (cand d n (lane b l) : EReal) ≤ cand d n (lane b k)) :
    pick d n (ix2 b 0) = cand d n (lane b l) := by
  unfold pick
  rw [toCol_apply]
  refine (multiReduction_minimumf_eq_fold (F := Ideal) (cand d n) _ reduces_S8x128_S8 _ _ (ix1 b)).trans ?_
  rw [Shape.Reduces.fold_fiber_r2_a1]
  refine le_antisymm (Finset.fold_min_le _ |>.2 (.inr ⟨l, Finset.mem_univ _, le_rfl⟩)) (Finset.le_fold_min _ |>.2 ⟨?_, fun k _ => h k⟩)
  show _ ≤ Ideal.ofBits .f32 0x7F800000#32
  rw [show Ideal.ofBits .f32 0x7F800000#32 = ⊤ by simp [Ideal.ofBits, Ideal.ieee]]
  exact le_top

theorem select_oeq {s : Shape} (d d' v v' : FVec Ideal s .f32) (j : s.Idx) :
    select (cmpf .oeq d d') v v' j = if (d j : EReal) = d' j then v j else v' j := by
  show Scalar.select (Ideal.cmp .oeq (d j) (d' j)) (v j) (v' j) = _
  unfold Ideal.cmp Scalar.select
  by_cases h : (d j : EReal) = d' j <;> simp [h]

/-- A lane's candidate. -/
theorem cand_apply (d n : Tile Ideal) (b : Fin 8) (l : Fin 128) :
    cand d n (lane b l) = if (d (lane b l) : EReal) = laneMax d (ix2 b 0) then n (lane b l) else Ideal.ofBits .f32 0x4E6E6B28#32 := by
  unfold cand
  rw [select_oeq, spread_apply]
  rfl

/-- The coordinate at the one lane whose candidate is the least. -/
theorem coordOf_eq (d n x : Tile Ideal) (b : Fin 8) (l : Fin 128) (h : ∀ k, (cand d n (lane b k) : EReal) = pick d n (ix2 b 0) ↔ k = l) :
    coordOf d n x (ix2 b 0) = x (lane b l) := by
  unfold coordOf
  rw [toCol_apply]
  refine (Ideal.reduceAdd_r2_a1 reduces_S8x128_S8 _ _).trans ?_
  refine (Finset.sum_eq_single l (fun k _ hk => ?_) fun h => absurd (Finset.mem_univ l) h).trans ?_
  · refine (select_oeq _ _ _ _ (lane b k)).trans ?_
    rw [spread_apply, if_neg (fun e => hk ((h k).1 e))]
    exact Ideal.ofBits_zero_f32
  · refine (select_oeq _ _ _ _ (lane b l)).trans ?_
    rw [spread_apply, if_pos ((h l).2 rfl)]

/-- The distances at the start. -/
theorem start_apply (c : Fin 157) (b : Fin 8) (l : Fin 128) :
    start (F := Ideal) (ix3 c b l) = if 128 * c.val + l.val < 20000 then Ideal.ofBits .f32 0x501502F9#32 else Ideal.ofBits .f32 0xBF800000#32 := by
  have e : start (F := Ideal) (ix3 c b l) = Scalar.select (Ideal.cmp .olt
      (((iota .tc S157x8x128 32 [0] iota_S157x8x128_d0_w32 (ix3 c b l) * 128#32
        + iota .tc S157x8x128 32 [2] iota_S157x8x128_d2_w32 (ix3 c b l)).toInt : ℝ) : EReal) (Ideal.ofBits .f32 0x469C4000#32))
      (Ideal.ofBits .f32 0x501502F9#32) (Ideal.ofBits .f32 0xBF800000#32) := rfl
  have hc := c.isLt
  have hl := l.isLt
  rw [e, iota_single_apply, iota_single_apply]
  have hw : (BitVec.ofNat 32 (ix3 c b l 0).val * 128#32 + BitVec.ofNat 32 (ix3 c b l 2).val).toInt = ((128 * c.val + l.val : Nat) : Int) := by
    show (BitVec.ofNat 32 c.val * 128#32 + BitVec.ofNat 32 l.val).toInt = _
    rw [number_word, toInt_ofNat_of_lt (by omega)]
  have h2 : Ideal.ofBits .f32 0x469C4000#32 = ((20000 : ℝ) : EReal) := by
    simp [Ideal.ofBits, Ideal.ieee, -EReal.coe_mul]; norm_num
  rw [hw, h2]
  unfold Ideal.cmp Scalar.select
  by_cases h : 128 * c.val + l.val < 20000
  · have h' : (((128 * c.val + l.val : Nat) : Int) : ℝ) < 20000 := by exact_mod_cast h
    simp only [EReal.coe_lt_coe_iff, h', h]
    simp
  · have h' : ¬ (((128 * c.val + l.val : Nat) : Int) : ℝ) < 20000 := by exact_mod_cast h
    simp only [EReal.coe_lt_coe_iff, h', h]
    simp

theorem far_start : (0 : EReal) ≤ Ideal.ofBits .f32 0x501502F9#32 := by
  rw [show Ideal.ofBits .f32 0x501502F9#32 = ((10000000000 : ℝ) : EReal) by
    simp [Ideal.ofBits, Ideal.ieee, -EReal.coe_mul]; norm_num]
  exact_mod_cast (by norm_num : (0 : ℝ) ≤ 10000000000)

theorem past_start : Ideal.ofBits .f32 0xBF800000#32 = ((-1 : ℝ) : EReal) := by
  simp [Ideal.ofBits, Ideal.ieee, -EReal.coe_mul]; norm_num

theorem no_cand : Ideal.ofBits .f32 0x4E6E6B28#32 = ((1000000000 : ℝ) : EReal) := by
  simp [Ideal.ofBits, Ideal.ieee, -EReal.coe_mul]; norm_num

end Cert.SamplingIdeal

end
-- ==== Proof.SamplingReference.Run.lean ====
/-
  The sampling reference: its run, and one trip of its loop as operations on what the loop carries.
-/
module

public import proofs.«01_k».proof.Proof.Gen.SamplingReferenceIdeal
public import Idealize.ShloMosaic.Lib.StableHlo.Run
public import Idealize.ShloMosaic.Lib.StableHlo.RunLoop
public import Idealize.ShloMosaic.Lib.StableHlo.RunClose
public import Idealize.ShloMosaic.Lib.Scf.ExitTest
public import Idealize.ShloMosaic.Lib.Scf.Counter

@[expose] public section

noncomputable section

namespace Cert.SamplingReferenceIdeal.Run

open Cert.SamplingReferenceIdeal.Gen
open Idealize.ShloMosaic Idealize.ShloMosaic.TcCoe Idealize.ShloMosaic.StableHlo
open Idealize.ShloMosaic.Pipeline (ucRefs sub_ucRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Before the loop. -/
def preOps : List (HloOp τ sig (Elt F)) :=
  [ StableHlo.nullary main_cst (constant S_ .f32 0x501502F9#32),
    StableHlo.unary main_cst main_v0 (broadcastInDim S8x20000 ![] bcast_S_S8x20000 : (⟨S_, .f32⟩ : BufTy).Contents (Elt F) → (⟨S8x20000, .f32⟩ : BufTy).Contents (Elt F)),
    StableHlo.nullary main_c (constantI S_ 32 0#32),
    StableHlo.unary main_c main_v1 (broadcastInDim S8 ![] bcast_S_S8 : (⟨S_, .i32⟩ : BufTy).Contents (Elt F) → (⟨S8, .i32⟩ : BufTy).Contents (Elt F)),
    StableHlo.nullary main_c_0 (constantI S_ 32 0#32),
    StableHlo.unary main_c_0 main_v2 (broadcastInDim S1200x8 ![] bcast_S_S1200x8 : (⟨S_, .i32⟩ : BufTy).Contents (Elt F) → (⟨S1200x8, .i32⟩ : BufTy).Contents (Elt F)),
    StableHlo.nullary main_c_1 (constantI S_ 32 0#32),
    StableHlo.nullary main_c_2 (constantI S_ 32 0#32),
    StableHlo.unary main_arg0 main_v3_0 id,
    StableHlo.unary main_c_2 main_v3_1 id,
    StableHlo.unary main_c_1 main_v3_2 id,
    StableHlo.unary main_v0 main_v3_3 id,
    StableHlo.unary main_v1 main_v3_4 id,
    StableHlo.unary main_v2 main_v3_5 id ]

/-- The loop's test. -/
def condOps : List (HloOp τ sig (Elt F)) :=
  [ StableHlo.nullary main_while0c_c_10 (constantI S_ 32 1200#32),
    StableHlo.binary main_v3_1 main_while0c_c_10 main_while0c_v12 (cmpi .slt : (⟨S_, .i32⟩ : BufTy).Contents (Elt F) → (⟨S_, .i32⟩ : BufTy).Contents (Elt F) → (⟨S_, .i1⟩ : BufTy).Contents (Elt F)) ]

/-- One trip. -/
def bodyOps : List (HloOp τ sig (Elt F)) :=
  [ StableHlo.nullary main_while0b_c_10 (constantI S_ 32 1#32),
    StableHlo.binary main_v3_2 main_while0b_c_10 main_while0b_v12 (addi : (⟨S_, .i32⟩ : BufTy).Contents (Elt F) → (⟨S_, .i32⟩ : BufTy).Contents (Elt F) → (⟨S_, .i32⟩ : BufTy).Contents (Elt F)),
    StableHlo.unary main_v3_4 main_while0b_call0_v0 (broadcastInDim S1x8 ![1] bcast_S8_S1x8_1 : (⟨S8, .i32⟩ : BufTy).Contents (Elt F) → (⟨S1x8, .i32⟩ : BufTy).Contents (Elt F)),
    StableHlo.nullary main_while0b_call0_c (constantI S_ 32 0#32),
    StableHlo.binary main_v3_2 main_while0b_call0_c main_while0b_call0_v1 (cmpi .slt : (⟨S_, .i32⟩ : BufTy).Contents (Elt F) → (⟨S_, .i32⟩ : BufTy).Contents (Elt F) → (⟨S_, .i1⟩ : BufTy).Contents (Elt F)),
    StableHlo.unary main_v3_2 main_while0b_call0_v2 (id : (⟨S_, .i32⟩ : BufTy).Contents (Elt F) → (⟨S_, .i32⟩ : BufTy).Contents (Elt F)),
    StableHlo.nullary main_while0b_call0_c_0 (constantI S_ 32 1200#32),
    StableHlo.binary main_while0b_call0_v2 main_while0b_call0_c_0 main_while0b_call0_v3 (addi : (⟨S_, .i32⟩ : BufTy).Contents (Elt F) → (⟨S_, .i32⟩ : BufTy).Contents (Elt F) → (⟨S_, .i32⟩ : BufTy).Contents (Elt F)),
    StableHlo.ternary main_while0b_call0_v1 main_while0b_call0_v3 main_v3_2 main_while0b_call0_v4 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_call0_c_1 (constantI S_ 32 0#32),
    StableHlo.TRef.binaryIndexed (.of main_v3_5 : StableHlo.TRef sig ⟨S1200x8, .i32⟩) (.of main_while0b_call0_v0 : StableHlo.TRef sig ⟨S1x8, .i32⟩) ![(.of main_while0b_call0_v4 : StableHlo.TRef sig ⟨S_, .i32⟩), .of main_while0b_call0_c_1] (.of main_while0b_v13 : StableHlo.TRef sig ⟨S1200x8, .i32⟩) (fun x u i => Host.dynamicUpdateSlice x u (fun k => (i k (Shape.Idx.first h_S_)).toInt) updateFits_S1200x8_S1x8),
    StableHlo.unary main_v3_4 main_while0b_v14 (broadcastInDim S8x1x1 ![0] bcast_S8_S8x1x1_0 : (⟨S8, .i32⟩ : BufTy).Contents (Elt F) → (⟨S8x1x1, .i32⟩ : BufTy).Contents (Elt F)),
    StableHlo.nullary main_while0b_call1_c (constantI S_ 32 0#32),
    StableHlo.unary main_while0b_call1_c main_while0b_call1_v0 (broadcastInDim S8x1x1 ![] bcast_S_S8x1x1 : (⟨S_, .i32⟩ : BufTy).Contents (Elt F) → (⟨S8x1x1, .i32⟩ : BufTy).Contents (Elt F)),
    StableHlo.binary main_while0b_v14 main_while0b_call1_v0 main_while0b_call1_v1 (cmpi .slt : (⟨S8x1x1, .i32⟩ : BufTy).Contents (Elt F) → (⟨S8x1x1, .i32⟩ : BufTy).Contents (Elt F) → (⟨S8x1x1, .i1⟩ : BufTy).Contents (Elt F)),
    StableHlo.nullary main_while0b_call1_c_0 (constantI S_ 32 20000#32),
    StableHlo.unary main_while0b_call1_c_0 main_while0b_call1_v2 (broadcastInDim S8x1x1 ![] bcast_S_S8x1x1 : (⟨S_, .i32⟩ : BufTy).Contents (Elt F) → (⟨S8x1x1, .i32⟩ : BufTy).Contents (Elt F)),
    StableHlo.binary main_while0b_v14 main_while0b_call1_v2 main_while0b_call1_v3 (addi : (⟨S8x1x1, .i32⟩ : BufTy).Contents (Elt F) → (⟨S8x1x1, .i32⟩ : BufTy).Contents (Elt F) → (⟨S8x1x1, .i32⟩ : BufTy).Contents (Elt F)),
    StableHlo.ternary main_while0b_call1_v1 main_while0b_call1_v3 main_while0b_v14 main_while0b_call1_v4 (select : (⟨S8x1x1, .i1⟩ : BufTy).Contents (Elt F) → (⟨S8x1x1, .i32⟩ : BufTy).Contents (Elt F) → (⟨S8x1x1, .i32⟩ : BufTy).Contents (Elt F) → (⟨S8x1x1, .i32⟩ : BufTy).Contents (Elt F)),
    StableHlo.binary main_v3_0 main_while0b_call1_v4 main_while0b_v15 (fun x i => Host.gather gather_S8x20000x3_S8x1x1_S8x1x3_2_1_0_0_1_2_113 x i : (⟨S8x20000x3, .f32⟩ : BufTy).Contents (Elt F) → (⟨S8x1x1, .i32⟩ : BufTy).Contents (Elt F) → (⟨S8x1x3, .f32⟩ : BufTy).Contents (Elt F)),
    StableHlo.unary main_while0b_v15 main_while0b_v16 (broadcastInDim S8x20000x3 ![0, 1, 2] bcast_S8x1x3_S8x20000x3_0_1_2 : (⟨S8x1x3, .f32⟩ : BufTy).Contents (Elt F) → (⟨S8x20000x3, .f32⟩ : BufTy).Contents (Elt F)),
    StableHlo.binary main_v3_0 main_while0b_v16 main_while0b_v17 (subf : (⟨S8x20000x3, .f32⟩ : BufTy).Contents (Elt F) → (⟨S8x20000x3, .f32⟩ : BufTy).Contents (Elt F) → (⟨S8x20000x3, .f32⟩ : BufTy).Contents (Elt F)),
    StableHlo.binary main_while0b_v17 main_while0b_v17 main_while0b_v18 (mulf : (⟨S8x20000x3, .f32⟩ : BufTy).Contents (Elt F) → (⟨S8x20000x3, .f32⟩ : BufTy).Contents (Elt F) → (⟨S8x20000x3, .f32⟩ : BufTy).Contents (Elt F)),
    StableHlo.nullary main_while0b_cst_11 (constant S_ .f32 0x00000000#32),
    StableHlo.binary main_while0b_v18 main_while0b_cst_11 main_while0b_v19 ((fun x v => Host.reduceAdd x v reducesTo_S8x20000x3_S8x20000_d2 h_S_) : (⟨S8x20000x3, .f32⟩ : BufTy).Contents (Elt F) → (⟨S_, .f32⟩ : BufTy).Contents (Elt F) → (⟨S8x20000, .f32⟩ : BufTy).Contents (Elt F)),
    StableHlo.binary main_v3_3 main_while0b_v19 main_while0b_v20 (minimumf : (⟨S8x20000, .f32⟩ : BufTy).Contents (Elt F) → (⟨S8x20000, .f32⟩ : BufTy).Contents (Elt F) → (⟨S8x20000, .f32⟩ : BufTy).Contents (Elt F)),
    StableHlo.nullary main_while0b_call2_v0 (iotaInDim S8x20000 32 1),
    StableHlo.nullary main_while0b_call2_cst (constant S_ .f32 0xFF800000#32),
    StableHlo.nullary main_while0b_call2_c (constantI S_ 32 0#32),
    StableHlo.quaternary main_while0b_v20 main_while0b_call2_v0 main_while0b_call2_cst main_while0b_call2_c main_while0b_call2_v1_0 ((fun x y u v j => (Host.argReduce reducer_argmax_f32_i32 x y u v reducesTo_S8x20000_S8_d1 h_S_ j).1) : (⟨S8x20000, .f32⟩ : BufTy).Contents (Elt F) → (⟨S8x20000, .i32⟩ : BufTy).Contents (Elt F) → (⟨S_, .f32⟩ : BufTy).Contents (Elt F) → (⟨S_, .i32⟩ : BufTy).Contents (Elt F) → (⟨S8, .f32⟩ : BufTy).Contents (Elt F)),
    StableHlo.quaternary main_while0b_v20 main_while0b_call2_v0 main_while0b_call2_cst main_while0b_call2_c main_while0b_v21 ((fun x y u v j => (Host.argReduce reducer_argmax_f32_i32 x y u v reducesTo_S8x20000_S8_d1 h_S_ j).2) : (⟨S8x20000, .f32⟩ : BufTy).Contents (Elt F) → (⟨S8x20000, .i32⟩ : BufTy).Contents (Elt F) → (⟨S_, .f32⟩ : BufTy).Contents (Elt F) → (⟨S_, .i32⟩ : BufTy).Contents (Elt F) → (⟨S8, .i32⟩ : BufTy).Contents (Elt F)),
    StableHlo.nullary main_while0b_c_12 (constantI S_ 32 1#32),
    StableHlo.binary main_v3_1 main_while0b_c_12 main_while0b_v22 (addi : (⟨S_, .i32⟩ : BufTy).Contents (Elt F) → (⟨S_, .i32⟩ : BufTy).Contents (Elt F) → (⟨S_, .i32⟩ : BufTy).Contents (Elt F)),
    StableHlo.unary main_while0b_v22 main_v3_1 id,
    StableHlo.unary main_while0b_v12 main_v3_2 id,
    StableHlo.unary main_while0b_v20 main_v3_3 id,
    StableHlo.unary main_while0b_v21 main_v3_4 id,
    StableHlo.unary main_while0b_v13 main_v3_5 id ]

/-- After the loop. -/
def postOps : List (HloOp τ sig (Elt F)) :=
  [ StableHlo.unary main_v3_5 main_v4 ((transpose S8x1200 [1, 0] · transposes_S1200x8_S8x1200_1_0) : (⟨S1200x8, .i32⟩ : BufTy).Contents (Elt F) → (⟨S8x1200, .i32⟩ : BufTy).Contents (Elt F)),
    StableHlo.nullary main_c_3 (constantI S_ 32 0#32),
    StableHlo.unary main_c_3 main_v5 (broadcastInDim S1024 ![] bcast_S_S1024 : (⟨S_, .i32⟩ : BufTy).Contents (Elt F) → (⟨S1024, .i32⟩ : BufTy).Contents (Elt F)),
    StableHlo.binary main_arg1 main_v5 main_v6 (cmpi .slt : (⟨S1024, .i32⟩ : BufTy).Contents (Elt F) → (⟨S1024, .i32⟩ : BufTy).Contents (Elt F) → (⟨S1024, .i1⟩ : BufTy).Contents (Elt F)),
    StableHlo.nullary main_c_4 (constantI S_ 32 1200#32),
    StableHlo.unary main_c_4 main_v7 (broadcastInDim S1024 ![] bcast_S_S1024 : (⟨S_, .i32⟩ : BufTy).Contents (Elt F) → (⟨S1024, .i32⟩ : BufTy).Contents (Elt F)),
    StableHlo.binary main_arg1 main_v7 main_v8 (addi : (⟨S1024, .i32⟩ : BufTy).Contents (Elt F) → (⟨S1024, .i32⟩ : BufTy).Contents (Elt F) → (⟨S1024, .i32⟩ : BufTy).Contents (Elt F)),
    StableHlo.ternary main_v6 main_v8 main_arg1 main_v9 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v9 main_v10 (broadcastInDim S1024x1 ![0] bcast_S1024_S1024x1_0 : (⟨S1024, .i32⟩ : BufTy).Contents (Elt F) → (⟨S1024x1, .i32⟩ : BufTy).Contents (Elt F)),
    StableHlo.binary main_v4 main_v10 main_v11 ((fun x i => Host.gather gather_S8x1200_S1024x1_S8x1024_0_1_n_n_1_1_81 x i) : (⟨S8x1200, .i32⟩ : BufTy).Contents (Elt F) → (⟨S1024x1, .i32⟩ : BufTy).Contents (Elt F) → (⟨S8x1024, .i32⟩ : BufTy).Contents (Elt F)) ]

theorem preOps_sub : (preOps (F := F)).Forall fun op => op.bufs ⊆ tcRefs τ sig :=
  ⟨nullary_bufs_sub .., unary_bufs_sub .., nullary_bufs_sub .., unary_bufs_sub .., nullary_bufs_sub .., unary_bufs_sub .., nullary_bufs_sub .., nullary_bufs_sub .., unary_bufs_sub .., unary_bufs_sub .., unary_bufs_sub .., unary_bufs_sub .., unary_bufs_sub .., unary_bufs_sub ..⟩
theorem bodyOps_sub : (bodyOps (F := F)).Forall fun op => op.bufs ⊆ tcRefs τ sig :=
  ⟨nullary_bufs_sub .., binary_bufs_sub .., unary_bufs_sub .., nullary_bufs_sub .., binary_bufs_sub .., unary_bufs_sub .., nullary_bufs_sub .., binary_bufs_sub .., ternary_bufs_sub .., nullary_bufs_sub .., binaryIndexed_bufs_sub .., unary_bufs_sub .., nullary_bufs_sub .., unary_bufs_sub .., binary_bufs_sub .., nullary_bufs_sub .., unary_bufs_sub .., binary_bufs_sub .., ternary_bufs_sub .., binary_bufs_sub .., unary_bufs_sub .., binary_bufs_sub .., binary_bufs_sub .., nullary_bufs_sub .., binary_bufs_sub .., binary_bufs_sub .., nullary_bufs_sub .., nullary_bufs_sub .., nullary_bufs_sub .., quaternary_bufs_sub .., quaternary_bufs_sub .., nullary_bufs_sub .., binary_bufs_sub .., unary_bufs_sub .., unary_bufs_sub .., unary_bufs_sub .., unary_bufs_sub .., unary_bufs_sub ..⟩
theorem postOps_sub : (postOps (F := F)).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub ..⟩
theorem preOps_fresh : ∀ op ∈ (preOps (F := F)), op.fresh = ∅ :=
  List.forall_iff_forall_mem.mp (by unfold preOps; simp only [List.Forall]; repeat' constructor)
theorem bodyOps_fresh : ∀ op ∈ (bodyOps (F := F)), op.fresh = ∅ :=
  List.forall_iff_forall_mem.mp (by unfold bodyOps; simp only [List.Forall]; repeat' constructor)
theorem postOps_fresh : ∀ op ∈ (postOps (F := F)), op.fresh = ∅ :=
  List.forall_iff_forall_mem.mp (by unfold postOps; simp only [List.Forall]; repeat' constructor)

theorem main_eq (c : Dev nD) : main (F := F) c = Pipeline.chain [seq preOps, HostLoop.enter 0, seq postOps] := by
  rewrite [StableHlo.chain_seq_cons, Pipeline.chain_cons]
  chain_rfl

theorem body_eq : main_while0_body (F := F) = Pipeline.chain [seq bodyOps] := by
  chain_rfl

/-! ### One trip as operations on what the loop carries -/

/-- The numbers of the points to read, a negative one wrapped. -/
def wrapped (far : Vec F S8 .i32) : Vec F S8x1x1 .i32 :=
  select (cmpi .slt (broadcastInDim S8x1x1 ![0] bcast_S8_S8x1x1_0 far) (broadcastInDim S8x1x1 ![] bcast_S_S8x1x1 (constantI S_ 32 0#32)))
    (addi (broadcastInDim S8x1x1 ![0] bcast_S8_S8x1x1_0 far) (broadcastInDim S8x1x1 ![] bcast_S_S8x1x1 (constantI S_ 32 20000#32)))
    (broadcastInDim S8x1x1 ![0] bcast_S8_S8x1x1_0 far)

/-- The squared distances to the points `far`. -/
def dists (x : Vec F S8x20000x3 .f32) (far : Vec F S8 .i32) : Vec F S8x20000 .f32 :=
  let g : Vec F S8x20000x3 .f32 := broadcastInDim S8x20000x3 ![0, 1, 2] bcast_S8x1x3_S8x20000x3_0_1_2
    (Host.gather gather_S8x20000x3_S8x1x1_S8x1x3_2_1_0_0_1_2_113 x (wrapped far))
  Host.reduceAdd (mulf (subf x g) (subf x g)) (constant S_ .f32 0x00000000#32) reducesTo_S8x20000x3_S8x20000_d2 h_S_

/-- The number of the first largest distance. -/
def pick (D : Vec F S8x20000 .f32) : Vec F S8 .i32 := fun j =>
  (Host.argReduce reducer_argmax_f32_i32 D (iotaInDim S8x20000 32 1) (constant S_ .f32 0xFF800000#32) (constantI S_ 32 0#32)
    reducesTo_S8x20000_S8_d1 h_S_ j).2

/-- The row to write, a negative one wrapped. -/
def rowNo (k : Vec F S_ .i32) : Vec F S_ .i32 :=
  select (cmpi .slt k (constantI S_ 32 0#32)) (addi k (constantI S_ 32 1200#32)) k

/-- The table with `far` written to row `k`. -/
def put (O : Vec F S1200x8 .i32) (far : Vec F S8 .i32) (k : Vec F S_ .i32) : Vec F S1200x8 .i32 :=
  Host.dynamicUpdateSlice O (broadcastInDim S1x8 ![1] bcast_S8_S1x8_1 far)
    (fun a : Fin 2 => ((![rowNo (F := F) k, constantI S_ 32 0#32] : Fin 2 → Vec F S_ .i32) a (Shape.Idx.first h_S_)).toInt) updateFits_S1200x8_S1x8

/-- The smallest distances, the numbers picked last, and the table. -/
structure State (F : FTy → Type) where
  D : Vec F S8x20000 .f32
  far : Vec F S8 .i32
  out : Vec F S1200x8 .i32

/-- Trip `k`. -/
def next (x : Vec F S8x20000x3 .f32) (k : Nat) (s : State F) : State F where
  D := minimumf s.D (dists x s.far)
  far := pick (minimumf s.D (dists x s.far))
  out := put s.out s.far (constantI S_ 32 (BitVec.ofNat 32 k))

/-- What the loop carries before trip `k`. -/
def stateAt (x : Vec F S8x20000x3 .f32) : Nat → State F
  | 0 => ⟨broadcastInDim S8x20000 ![] bcast_S_S8x20000 (constant S_ .f32 0x501502F9#32),
      broadcastInDim S8 ![] bcast_S_S8 (constantI S_ 32 0#32), broadcastInDim S1200x8 ![] bcast_S_S1200x8 (constantI S_ 32 0#32)⟩
  | k + 1 => next x k (stateAt x k)

theorem stateAt_far (x : Vec F S8x20000x3 .f32) (k : Nat) :
    (stateAt x (k + 1)).far = pick (minimumf (stateAt x k).D (dists x (stateAt x k).far)) := by
  rw [stateAt, next]

section Trip
variable (V : Valuation τ sig (Elt F))

theorem cond_v3_0 : after condOps V main_v3_0 = V main_v3_0 := by
  unfold condOps; after_results_simp
theorem cond_v3_1 : after condOps V main_v3_1 = V main_v3_1 := by
  unfold condOps; after_results_simp
theorem cond_v3_2 : after condOps V main_v3_2 = V main_v3_2 := by
  unfold condOps; after_results_simp
theorem cond_v3_3 : after condOps V main_v3_3 = V main_v3_3 := by
  unfold condOps; after_results_simp
theorem cond_v3_4 : after condOps V main_v3_4 = V main_v3_4 := by
  unfold condOps; after_results_simp
theorem cond_v3_5 : after condOps V main_v3_5 = V main_v3_5 := by
  unfold condOps; after_results_simp
theorem cond_arg0 : after condOps V main_arg0 = V main_arg0 := by
  unfold condOps; after_results_simp

theorem cond_arg1 : after condOps V main_arg1 = V main_arg1 := by
  unfold condOps; after_results_simp

theorem body_v3_0 : after bodyOps V main_v3_0 = V main_v3_0 := by
  unfold bodyOps; after_results_simp
theorem body_arg0 : after bodyOps V main_arg0 = V main_arg0 := by
  unfold bodyOps; after_results_simp
theorem body_arg1 : after bodyOps V main_arg1 = V main_arg1 := by
  unfold bodyOps; after_results_simp
theorem body_v3_1 : (after bodyOps V main_v3_1 : Vec F S_ .i32) = addi (V main_v3_1) (constantI S_ 32 1#32) := by
  unfold bodyOps; after_results_simp; rfl
theorem body_v3_2 : (after bodyOps V main_v3_2 : Vec F S_ .i32) = addi (V main_v3_2) (constantI S_ 32 1#32) := by
  unfold bodyOps; after_results_simp; rfl
theorem body_v3_3 : (after bodyOps V main_v3_3 : Vec F S8x20000 .f32) = minimumf (V main_v3_3) (dists (V main_v3_0) (V main_v3_4)) := by
  unfold bodyOps; after_results_simp; rfl
theorem body_v3_4 : (after bodyOps V main_v3_4 : Vec F S8 .i32) = pick (minimumf (V main_v3_3) (dists (V main_v3_0) (V main_v3_4))) := by
  unfold bodyOps; after_results_simp; rfl
/-- The trip up to the written row. -/
def firstOps : List (HloOp τ sig (Elt F)) :=
  [ StableHlo.nullary main_while0b_c_10 (constantI S_ 32 1#32),
    StableHlo.binary main_v3_2 main_while0b_c_10 main_while0b_v12 (addi : (⟨S_, .i32⟩ : BufTy).Contents (Elt F) → (⟨S_, .i32⟩ : BufTy).Contents (Elt F) → (⟨S_, .i32⟩ : BufTy).Contents (Elt F)),
    StableHlo.unary main_v3_4 main_while0b_call0_v0 (broadcastInDim S1x8 ![1] bcast_S8_S1x8_1 : (⟨S8, .i32⟩ : BufTy).Contents (Elt F) → (⟨S1x8, .i32⟩ : BufTy).Contents (Elt F)),
    StableHlo.nullary main_while0b_call0_c (constantI S_ 32 0#32),
    StableHlo.binary main_v3_2 main_while0b_call0_c main_while0b_call0_v1 (cmpi .slt : (⟨S_, .i32⟩ : BufTy).Contents (Elt F) → (⟨S_, .i32⟩ : BufTy).Contents (Elt F) → (⟨S_, .i1⟩ : BufTy).Contents (Elt F)),
    StableHlo.unary main_v3_2 main_while0b_call0_v2 (id : (⟨S_, .i32⟩ : BufTy).Contents (Elt F) → (⟨S_, .i32⟩ : BufTy).Contents (Elt F)),
    StableHlo.nullary main_while0b_call0_c_0 (constantI S_ 32 1200#32),
    StableHlo.binary main_while0b_call0_v2 main_while0b_call0_c_0 main_while0b_call0_v3 (addi : (⟨S_, .i32⟩ : BufTy).Contents (Elt F) → (⟨S_, .i32⟩ : BufTy).Contents (Elt F) → (⟨S_, .i32⟩ : BufTy).Contents (Elt F)),
    StableHlo.ternary main_while0b_call0_v1 main_while0b_call0_v3 main_v3_2 main_while0b_call0_v4 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_call0_c_1 (constantI S_ 32 0#32),
    StableHlo.TRef.binaryIndexed (.of main_v3_5 : StableHlo.TRef sig ⟨S1200x8, .i32⟩) (.of main_while0b_call0_v0 : StableHlo.TRef sig ⟨S1x8, .i32⟩) ![(.of main_while0b_call0_v4 : StableHlo.TRef sig ⟨S_, .i32⟩), .of main_while0b_call0_c_1] (.of main_while0b_v13 : StableHlo.TRef sig ⟨S1200x8, .i32⟩) (fun x u i => Host.dynamicUpdateSlice x u (fun k => (i k (Shape.Idx.first h_S_)).toInt) updateFits_S1200x8_S1x8) ]

/-- The rest of the trip. -/
def restOps : List (HloOp τ sig (Elt F)) := bodyOps.drop 11

theorem body_split : after bodyOps V = after restOps (after firstOps V) := rfl
theorem rest_v3_5 : (after restOps V main_v3_5 : Vec F S1200x8 .i32) = V main_while0b_v13 := by
  unfold restOps bodyOps; simp only [List.drop]; after_results_simp; rfl
theorem first_table : (after firstOps V main_while0b_v13 : Vec F S1200x8 .i32) = put (V main_v3_5) (V main_v3_4) (V main_v3_2) := by
  unfold firstOps; after_results_simp_entrywise; rfl
theorem body_v3_5 : (after bodyOps V main_v3_5 : Vec F S1200x8 .i32) = put (V main_v3_5) (V main_v3_4) (V main_v3_2) := by
  rw [body_split, rest_v3_5, first_table]

theorem pre_v3_0 : (after preOps V main_v3_0 : Vec F S8x20000x3 .f32) = V main_arg0 := by
  unfold preOps; after_results_simp; rfl
theorem pre_arg0 : (after preOps V main_arg0 : Vec F S8x20000x3 .f32) = V main_arg0 := by
  unfold preOps; after_results_simp
theorem pre_arg1 : (after preOps V main_arg1 : Vec F S1024 .i32) = V main_arg1 := by
  unfold preOps; after_results_simp
theorem pre_v3_1 : (after preOps V main_v3_1 : Vec F S_ .i32) = constantI S_ 32 0#32 := by
  unfold preOps; after_results_simp; rfl
theorem pre_v3_2 : (after preOps V main_v3_2 : Vec F S_ .i32) = constantI S_ 32 0#32 := by
  unfold preOps; after_results_simp; rfl
theorem pre_v3_3 : (after preOps V main_v3_3 : Vec F S8x20000 .f32) = broadcastInDim S8x20000 ![] bcast_S_S8x20000 (constant S_ .f32 0x501502F9#32) := by
  unfold preOps; after_results_simp; rfl
theorem pre_v3_4 : (after preOps V main_v3_4 : Vec F S8 .i32) = broadcastInDim S8 ![] bcast_S_S8 (constantI S_ 32 0#32) := by
  unfold preOps; after_results_simp; rfl
theorem pre_v3_5 : (after preOps V main_v3_5 : Vec F S1200x8 .i32) = broadcastInDim S1200x8 ![] bcast_S_S1200x8 (constantI S_ 32 0#32) := by
  unfold preOps; after_results_simp; rfl

end Trip

/-- The rows to read, a negative one wrapped, as a column. -/
def rows (sel : Vec F S1024 .i32) : Vec F S1024x1 .i32 :=
  broadcastInDim S1024x1 ![0] bcast_S1024_S1024x1_0
    (select (cmpi .slt sel (broadcastInDim S1024 ![] bcast_S_S1024 (constantI S_ 32 0#32)))
      (addi sel (broadcastInDim S1024 ![] bcast_S_S1024 (constantI S_ 32 1200#32))) sel)

/-- The table transposed, the columns `sel` of it. -/
def chosen (out : Vec F S1200x8 .i32) (sel : Vec F S1024 .i32) : Vec F S8x1024 .i32 :=
  Host.gather gather_S8x1200_S1024x1_S8x1024_0_1_n_n_1_1_81 (transpose S8x1200 [1, 0] out transposes_S1200x8_S8x1200_1_0) (rows (F := F) sel)

theorem post_v11 (V : Valuation τ sig (Elt F)) : (after postOps V main_v11 : Vec F S8x1024 .i32) = chosen (V main_v3_5) (V main_arg1) := by
  unfold postOps; after_results_simp; rfl
theorem post_arg0 (V : Valuation τ sig (Elt F)) : after postOps V main_arg0 = V main_arg0 := by
  unfold postOps; after_results_simp
theorem post_arg1 (V : Valuation τ sig (Elt F)) : after postOps V main_arg1 = V main_arg1 := by
  unfold postOps; after_results_simp

/-! ### The loop -/

variable (m : (ℓ : Loc nD τ sig) → Buf (Elt F) ℓ)

/-- The buffers before test `k`. -/
def at_ (k : Nat) (c : Dev nD) : Valuation τ sig (Elt F) := atTrip condOps [bodyOps] (entryContents [preOps] m) k c

theorem at_zero (c : Dev nD) : at_ m 0 c = after preOps (launchContents m c) := rfl
theorem at_succ (k : Nat) (c : Dev nD) : at_ m (k + 1) c = after bodyOps (after condOps (at_ m k c)) := rfl

/-- The cloud. -/
def cloud (c : Dev nD) : Vec F S8x20000x3 .f32 := m ((c.tc : Thread nD τ).loc main_arg0)

/-- The rows to choose. -/
def choice (c : Dev nD) : Vec F S1024 .i32 := m ((c.tc : Thread nD τ).loc main_arg1)

/-- What the loop carries, as the buffers hold it. -/
structure Carries (k : Nat) (c : Dev nD) : Prop where
  x : (at_ m k c main_v3_0 : Vec F S8x20000x3 .f32) = cloud m c
  a : (at_ m k c main_arg0 : Vec F S8x20000x3 .f32) = cloud m c
  b : (at_ m k c main_arg1 : Vec F S1024 .i32) = choice m c
  i : (at_ m k c main_v3_1 : Vec F S_ .i32) = constantI S_ 32 (BitVec.ofNat 32 k)
  r : (at_ m k c main_v3_2 : Vec F S_ .i32) = constantI S_ 32 (BitVec.ofNat 32 k)
  D : (at_ m k c main_v3_3 : Vec F S8x20000 .f32) = (stateAt (cloud m c) k).D
  far : (at_ m k c main_v3_4 : Vec F S8 .i32) = (stateAt (cloud m c) k).far
  out : (at_ m k c main_v3_5 : Vec F S1200x8 .i32) = (stateAt (cloud m c) k).out

theorem addi_one (k : Nat) : (addi (constantI S_ 32 (BitVec.ofNat 32 k)) (constantI S_ 32 1#32) : Vec F S_ .i32) = constantI S_ 32 (BitVec.ofNat 32 (k + 1)) := by
  funext j
  exact BitVec.ofNat_add_ofNat k 1

theorem carries (c : Dev nD) (k : Nat) : Carries m k c := by
  induction k with
  | zero =>
    constructor <;> rw [at_zero]
    · exact pre_v3_0 _
    · exact pre_arg0 _
    · exact pre_arg1 _
    · exact pre_v3_1 _
    · exact pre_v3_2 _
    · exact pre_v3_3 _
    · exact pre_v3_4 _
    · exact pre_v3_5 _
  | succ k ih =>
    obtain ⟨hx, ha, hb, hi, hr, hD, hf, ho⟩ := ih
    constructor <;> rw [at_succ]
    · rw [body_v3_0, cond_v3_0, hx]
    · rw [body_arg0, cond_arg0, ha]
    · rw [body_arg1, cond_arg1, hb]
    · rw [body_v3_1, cond_v3_1, hi, addi_one]
    · rw [body_v3_2, cond_v3_2, hr, addi_one]
    · rw [body_v3_3, cond_v3_3, cond_v3_4, cond_v3_0, hD, hf, hx]; rfl
    · rw [body_v3_4, cond_v3_3, cond_v3_4, cond_v3_0, hD, hf, hx, stateAt_far]
    · rw [body_v3_5, cond_v3_5, cond_v3_4, cond_v3_2, ho, hf, hr]; rfl

variable [Facts]

theorem trips_eq : main_while0_count.trips = 1200 := by decide +kernel

set_option backward.isDefEq.respectTransparency.types false in
/-- The loop's test before trip `k`. -/
theorem test : CondSpec (pcfgs (F := F)) defs₀ loops main_while0_cond condOps [bodyOps] (entryContents [preOps] m) 1200 := by
  intro k hk c bd
  have hctr : atTrip condOps [bodyOps] (entryContents [preOps] m) k c main_v3_1 HostLoop.idx0 = BitVec.ofNat 32 k :=
    congrFun (carries m c k).i HostLoop.idx0
  unfold main_while0_cond
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps [bodyOps] (entryContents [preOps] m) k c) main_v3_1 HostLoop.idx0)
        (HloOp.result _ (atTrip condOps [bodyOps] (entryContents [preOps] m) k c) main_while0c_c_10 HostLoop.idx0) = 1#1) (k < 1200)
    rw [StableHlo.nullary_result_ne _ _ _ _ (by decide), StableHlo.nullary_result, hctr]
    have h := Scf.cmpi_slt_iv_ub_iff main_while0_ok (k := k) (hk.trans trips_eq.ge)
    rw [show Scf.trips main_while0_count.lb main_while0_count.ub main_while0_count.st = 1200 from trips_eq] at h
    rw [← h]
    show Iff (IntOp.cmpi .slt (BitVec.ofNat 32 k) 1200#32 = 1#1) (IntOp.cmpi .slt (Scf.iv 0#32 1#32 k) 1200#32 = 1#1)
    rw [show Scf.iv 0#32 1#32 k = BitVec.ofNat 32 k by simp [Scf.iv]]
  isplitl [Hb]; · iexact Hb
  unfold condOps
  rw [StableHlo.after_cons, StableHlo.after_cons, StableHlo.after_nil]
  iexact Hh

/-- The reference's run: its result is what `sel` chooses of the table after 1200 trips, and its arguments are what they were. -/
theorem run [∀ e, Nonempty (Elt F e)] (g : Dev nD → PrngReg) :
    θ_run (defs (F := F)) (onTc main) ⟨m, fun _ => 0, g⟩ (fun r =>
      (∀ c : Dev nD, r.2.mem ((c.tc : Thread nD τ).loc main_v11) = chosen (stateAt (cloud m c) 1200).out (choice m c)
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  refine (θ_run _ _ _).mono ?_ (run_loop pcfgs defs₀ loops main 0 main_while0_cond main_while0_body rfl [preOps] [bodyOps] [postOps] condOps
    (Plain.cons preOps_sub Plain.nil preOps_fresh) (Plain.cons bodyOps_sub Plain.nil bodyOps_fresh) (Plain.cons postOps_sub Plain.nil postOps_fresh)
    main_eq body_eq 1200 m g (test m))
  intro r h
  refine ⟨fun c => ⟨?_, ?_, ?_⟩, sem_eq_zero_of_no_sems (by decide) r.2⟩
  · rw [h c main_v11 rfl]
    show after postOps (after condOps (at_ m 1200 c)) main_v11 = _
    rw [post_v11, cond_v3_5, cond_arg1, (carries m c 1200).out, (carries m c 1200).b]
  · rw [h c main_arg0 rfl]
    show after postOps (after condOps (at_ m 1200 c)) main_arg0 = _
    rw [post_arg0, cond_arg0, (carries m c 1200).a]
    rfl
  · rw [h c main_arg1 rfl]
    show after postOps (after condOps (at_ m 1200 c)) main_arg1 = _
    rw [post_arg1, cond_arg1, (carries m c 1200).b]
    rfl

end Cert.SamplingReferenceIdeal.Run

end
-- ==== Proof.SamplingReference.Values.lean ====
/-
  The sampling reference's trip, entry by entry, on the extended reals.
-/
module

public import proofs.«01_k».proof.Proof.SamplingReference.Run
public import proofs.«01_k».proof.Proof.Common.Best
public import Idealize.ShloMosaic.Lib.DynamicIndex
public import Idealize.ShloMosaic.Lib.Pointwise
public import Idealize.ShloMosaic.Lib.ValueIdx
public import Idealize.ShloMosaic.Lib.WordCmp
public import Idealize.ShloMosaic.Lib.StableHlo.Predicate
public import Idealize.ShloMosaic.Lib.Pipeline.Value

@[expose] public section

noncomputable section

namespace Cert.SamplingReferenceIdeal.Run

open Cert.SamplingReferenceIdeal.Gen Cert.Proof
open Idealize.ShloMosaic Idealize.ShloMosaic.StableHlo

section Any
variable {F : FTy → Type} [FloatOps F]

/-- A number that is not negative is not wrapped. -/
theorem wrapped_apply (far : Vec F S8 .i32) (hf : ∀ b, (far b).toNat < 20000) (j : S8x1x1.Idx) :
    wrapped (F := F) far j = far (ix1 (j 0)) := by
  have e : broadcastInDim S8x1x1 ![0] bcast_S8_S8x1x1_0 far j = far (ix1 (j 0)) :=
    broadcastInDim_apply _ _ _ _ (ix1 (j 0)) (by intro a; match a with | 0 => rfl)
  have h := hf (ix1 (j 0))
  unfold wrapped
  refine Eq.trans (select_slt_zero_of_nonneg _ _ _ j ?_) e
  rw [e, Predicate.toInt_eq_toNat_of_lt (by omega)]
  omega

/-- The points read. -/
theorem gather_apply (x : Vec F S8x20000x3 .f32) (far : Vec F S8 .i32) (hf : ∀ b, (far b).toNat < 20000) (b : Fin 8) (r : Fin 3) :
    Host.gather gather_S8x20000x3_S8x1x1_S8x1x3_2_1_0_0_1_2_113 x (wrapped (F := F) far) (ix3 b 0 r)
      = x (ix3 b ⟨(far (ix1 b)).toNat, hf _⟩ r) := by
  have hw : wrapped (F := F) far = fun j => far (ix1 (j 0)) := funext (wrapped_apply far hf)
  rw [hw]
  unfold Host.gather
  congr 1
  funext a
  refine Fin.ext ?_
  have h := hf (ix1 b)
  have ht : (far (ix1 b)).toInt = (far (ix1 b)).toNat := Predicate.toInt_eq_toNat_of_lt (by omega)
  show (gather_S8x20000x3_S8x1x1_S8x1x3_2_1_0_0_1_2_113).start (ix3 b 0 r) (fun j => far (ix1 (j 0))) a
    + (gather_S8x20000x3_S8x1x1_S8x1x3_2_1_0_0_1_2_113).batchCoord (ix3 b 0 r) a
    + (gather_S8x20000x3_S8x1x1_S8x1x3_2_1_0_0_1_2_113).offCoord (ix3 b 0 r) a = _
  match a with
  | 0 =>
    rw [GatherDims.start_batching _ _ _ _ (by decide), GatherDims.offCoord_eq_zero _ _ _ (by decide)]
    unfold GatherDims.batchCoord
    rw [dif_pos (by decide)]
    show 0 + b.val + 0 = b.val
    omega
  | 1 =>
    rw [GatherDims.batchCoord_eq_zero _ _ _ (by decide), GatherDims.offCoord_eq_zero _ _ _ (by decide)]
    unfold GatherDims.start
    rw [dif_pos (by decide)]
    show min (far (ix1 b)).toInt.toNat (20000 - 1) + 0 + 0 = (far (ix1 b)).toNat
    rw [ht]
    omega
  | 2 =>
    rw [GatherDims.batchCoord_eq_zero _ _ _ (by decide)]
    unfold GatherDims.start GatherDims.offCoord
    rw [dif_neg (by decide), dif_pos (by decide)]
    show 0 + 0 + r.val = r.val
    omega

/-- The row written holds the numbers, the others what they held. -/
theorem put_apply (O : Vec F S1200x8 .i32) (far : Vec F S8 .i32) (k : Nat) (hk : k < 1200) (t : Fin 1200) (b : Fin 8) :
    put (F := F) O far (constantI S_ 32 (BitVec.ofNat 32 k)) (ix2 t b) = if t.val = k then far (ix1 b) else O (ix2 t b) := by
  unfold put
  rw [WordCmp.dynamicUpdateSlice_eq_update _ _ _ _ ![k, 0] (by
      refine ⟨rfl, ?_⟩
      intro a; match a with
      | 0 => show k + 1 ≤ 1200; omega
      | 1 => show 0 + 8 ≤ 8; omega) (by
      intro a; match a with
      | 0 => exact toInt_wrap_ofNat k (by omega)
      | 1 => rfl)]
  unfold updateSlice
  by_cases h : t.val = k
  · rw [if_pos h, dif_pos (by
      intro a; match a with
      | 0 => show k ≤ t.val ∧ t.val < k + 1; omega
      | 1 => show 0 ≤ b.val ∧ b.val < 0 + 8; omega)]
    refine broadcastInDim_apply _ _ _ _ (ix1 b) ?_
    intro a; match a with | 0 => rfl
  · rw [if_neg h, dif_neg (by
      intro hh
      have h0 : k ≤ t.val ∧ t.val < k + 1 := hh 0
      omega)]

end Any

/-- A squared distance. -/
theorem dists_apply (x : Vec Ideal S8x20000x3 .f32) (far : Vec Ideal S8 .i32) (hf : ∀ b, (far b).toNat < 20000) (b : Fin 8) (k : Fin 20000) :
    dists (F := Ideal) x far (ix2 b k)
      = ((x (ix3 b k 0) - x (ix3 b ⟨(far (ix1 b)).toNat, hf _⟩ 0)) * (x (ix3 b k 0) - x (ix3 b ⟨(far (ix1 b)).toNat, hf _⟩ 0))
          + (x (ix3 b k 1) - x (ix3 b ⟨(far (ix1 b)).toNat, hf _⟩ 1)) * (x (ix3 b k 1) - x (ix3 b ⟨(far (ix1 b)).toNat, hf _⟩ 1))
          + (x (ix3 b k 2) - x (ix3 b ⟨(far (ix1 b)).toNat, hf _⟩ 2)) * (x (ix3 b k 2) - x (ix3 b ⟨(far (ix1 b)).toNat, hf _⟩ 2)) : EReal) := by
  unfold dists
  refine (Ideal.hostReduceAdd_r3_a2 reducesTo_S8x20000x3_S8x20000_d2 _ _ (ix2 b k)).trans ?_
  have hg : ∀ r : Fin 3, broadcastInDim S8x20000x3 ![0, 1, 2] bcast_S8x1x3_S8x20000x3_0_1_2
      (Host.gather gather_S8x20000x3_S8x1x1_S8x1x3_2_1_0_0_1_2_113 x (wrapped (F := Ideal) far)) (ix3 b k r)
        = x (ix3 b ⟨(far (ix1 b)).toNat, hf _⟩ r) := fun r =>
    (broadcastInDim_apply _ _ _ _ (ix3 b 0 r) (by intro a; match a with | 0 => rfl | 1 => rfl | 2 => rfl)).trans (gather_apply x far hf b r)
  rw [Fin.sum_univ_three]
  refine (congrArg (· + _) Ideal.ofBits_zero_f32).trans ((zero_add _).trans ?_)
  rw [← hg 0, ← hg 1, ← hg 2]
  rfl

/-- One of two (distance, number) pairs is kept where no other is better. -/
def Beats (a b : EReal × BitVec 32) : Prop := b.1 < a.1 ∨ (a.1 = b.1 ∧ a.2.toInt ≤ b.2.toInt)

theorem Beats.refl (a : EReal × BitVec 32) : Beats a a := .inr ⟨rfl, le_rfl⟩
theorem Beats.trans (a b c : EReal × BitVec 32) (h : Beats a b) (h' : Beats b c) : Beats a c := by
  rcases h with h | ⟨h, g⟩ <;> rcases h' with h' | ⟨h', g'⟩
  · exact .inl (h'.trans h)
  · exact .inl (h' ▸ h)
  · exact .inl (h ▸ h')
  · exact .inr ⟨h.trans h', g.trans g'⟩

theorem reducer_eq (a b : EReal × BitVec 32) :
    (reducer_argmax_f32_i32 (F := Ideal) a b = a ∧ Beats a b) ∨ (reducer_argmax_f32_i32 (F := Ideal) a b = b ∧ Beats b a) := by
  obtain ⟨x, i⟩ := a
  obtain ⟨y, j⟩ := b
  unfold reducer_argmax_f32_i32 Beats
  simp only [Ideal.cmpf_def, Ideal.cmp, ne_eq, not_true_eq_false, decide_false, BitVec.ofBool_false]
  rcases lt_trichotomy y x with h | h | h
  · left
    have hn : x ≠ y := h.ne'
    simp [h, hn, IntOp.ori, IntOp.andi, Scalar.select]
  · subst h
    by_cases c : i.slt j
    · left
      have c' : i.toInt < j.toInt := by simpa [BitVec.slt] using c
      simp [IntOp.ori, IntOp.andi, IntOp.cmpi, Scalar.select, c, c'.le]
    · right
      have c' : j.toInt ≤ i.toInt := by simpa [BitVec.slt] using c
      simp [IntOp.ori, IntOp.andi, IntOp.cmpi, Scalar.select, c, c']
  · right
    have hn : x ≠ y := h.ne
    have hl : ¬ y < x := not_lt.2 h.le
    simp [h, hn, hl, IntOp.ori, IntOp.andi, Scalar.select]

/-- The number picked is that of the first point where the distance is greatest. -/
theorem pick_spec (D : Vec Ideal S8x20000 .f32) (hD : ∀ j, (0 : EReal) ≤ D j) (b : Fin 8) :
    ∃ n : Fin 20000, pick (F := Ideal) D (ix1 b) = BitVec.ofNat 32 n.val ∧ (∀ k, (D (ix2 b k) : EReal) ≤ D (ix2 b n))
      ∧ ∀ k, k < n → (D (ix2 b k) : EReal) < D (ix2 b n) := by
  have hdrop : ∀ i : S8x20000.Idx, reducesTo_S8x20000_S8_d1.drop i = ix1 b ↔ i 0 = b := by
    intro i
    have hv : (reducesTo_S8x20000_S8_d1.drop i 0 : Nat) = i 0 := Shape.ReducesTo.drop_apply_val _ i 0
    constructor
    · intro e; rw [e] at hv; exact Fin.ext hv.symm
    · intro e; funext a; have ha : a = 0 := Subsingleton.elim _ _; subst ha; exact Fin.ext (hv.trans (congrArg Fin.val e))
  have hmem : ∀ k : Fin 20000, ((D (ix2 b k), BitVec.ofNat 32 k.val) : EReal × BitVec 32)
      ∈ Host.argReduceFiber (α := EReal) D (iotaInDim S8x20000 32 1) reducesTo_S8x20000_S8_d1 (ix1 b) := by
    intro k
    refine List.mem_map.2 ⟨S8x20000.rowMajor (ix2 b k), List.mem_filter.2 ⟨List.mem_finRange _, ?_⟩, ?_⟩
    · rw [Equiv.symm_apply_apply]; exact decide_eq_true ((hdrop _).2 rfl)
    · rw [Equiv.symm_apply_apply]; rfl
  have hof : ∀ p ∈ Host.argReduceFiber (α := EReal) D (iotaInDim S8x20000 32 1) reducesTo_S8x20000_S8_d1 (ix1 b),
      ∃ k : Fin 20000, p = (D (ix2 b k), BitVec.ofNat 32 k.val) := by
    intro p hp
    obtain ⟨n, hn, rfl⟩ := List.mem_map.1 hp
    have h0 := (hdrop _).1 (of_decide_eq_true (List.mem_filter.1 hn).2)
    generalize S8x20000.rowMajor.symm n = i at h0 ⊢
    refine ⟨i 1, ?_⟩
    have hi : i = ix2 b (i 1) := by rw [← h0]; exact eq_ix2 i
    rw [hi]; rfl
  have hpick : pick (F := Ideal) D (ix1 b)
      = ((Host.argReduceFiber (α := EReal) D (iotaInDim S8x20000 32 1) reducesTo_S8x20000_S8_d1 (ix1 b)).foldl
          (reducer_argmax_f32_i32 (F := Ideal)) (⊥, 0#32)).2 := by
    unfold pick
    rw [Ideal.argReduce_eq_reduce2, Host.reduce2_eq_foldl_fiber]
    have hb : (constant (F := Ideal) S_ .f32 0xFF800000#32 (Shape.Idx.first h_S_) : EReal) = ⊥ := by
      show Ideal.ofBits .f32 0xFF800000#32 = ⊥
      simp [Ideal.ofBits, Ideal.ieee]
    rw [hb]; rfl
  obtain ⟨h1, -, h3⟩ := foldl_best (reducer_argmax_f32_i32 (F := Ideal)) Beats Beats.refl Beats.trans
    (fun r q => (reducer_eq r q).imp And.left And.left)
    (fun r q => by rcases reducer_eq r q with ⟨e, h⟩ | ⟨e, h⟩ <;> rw [e]; exacts [Beats.refl r, h])
    (fun r q => by rcases reducer_eq r q with ⟨e, h⟩ | ⟨e, h⟩ <;> rw [e]; exacts [h, Beats.refl q])
    (Host.argReduceFiber (α := EReal) D (iotaInDim S8x20000 32 1) reducesTo_S8x20000_S8_d1 (ix1 b)) (⊥, 0#32)
  rw [hpick]
  generalize (Host.argReduceFiber (α := EReal) D (iotaInDim S8x20000 32 1) reducesTo_S8x20000_S8_d1 (ix1 b)).foldl
    (reducer_argmax_f32_i32 (F := Ideal)) (⊥, 0#32) = r at h1 h3
  have hne : r ≠ (⊥, 0#32) := by
    rintro rfl
    rcases h3 _ (hmem ⟨0, by decide⟩) with h | ⟨h, -⟩
    · exact absurd h not_lt_bot
    · have := hD (ix2 b ⟨0, by decide⟩)
      rw [← show (⊥ : EReal) = D (ix2 b ⟨0, by decide⟩) from h] at this
      exact absurd this (by simp)
  obtain ⟨n, rfl⟩ := hof r (h1.resolve_left hne)
  have hint : ∀ k : Fin 20000, (BitVec.ofNat 32 k.val).toInt = (k.val : Int) := fun k => toInt_ofNat_of_lt (by have := k.isLt; omega)
  refine ⟨n, rfl, fun k => ?_, fun k hk => ?_⟩
  · rcases h3 _ (hmem k) with h | ⟨h, -⟩
    · exact le_of_lt h
    · exact le_of_eq h.symm
  · rcases h3 _ (hmem k) with h | ⟨-, h⟩
    · exact h
    · have h' : (BitVec.ofNat 32 n.val).toInt ≤ (BitVec.ofNat 32 k.val).toInt := h
      rw [hint, hint] at h'
      have : k.val < n.val := hk
      omega

/-- Squared distances are not negative. -/
theorem dists_nonneg (x : Vec Ideal S8x20000x3 .f32) (far : Vec Ideal S8 .i32) (hf : ∀ b, (far b).toNat < 20000) (j : S8x20000.Idx) :
    (0 : EReal) ≤ dists (F := Ideal) x far j := by
  have e : dists (F := Ideal) x far j = _ := (congrArg _ (eq_ix2 j)).trans (dists_apply x far hf (j 0) (j 1))
  rw [e]
  exact add_nonneg (add_nonneg (square_nonneg _) (square_nonneg _)) (square_nonneg _)

theorem start_nonneg : (0 : EReal) ≤ Ideal.ofBits .f32 0x501502F9#32 := by
  rw [show Ideal.ofBits .f32 0x501502F9#32 = ((10000000000 : ℝ) : EReal) by
    simp [Ideal.ofBits, Ideal.ieee, -EReal.coe_mul]; norm_num]
  exact_mod_cast (by norm_num : (0 : ℝ) ≤ 10000000000)

/-- The distances after a trip. -/
theorem stateAt_D (x : Vec Ideal S8x20000x3 .f32) (k : Nat) :
    (stateAt x (k + 1)).D = minimumf (stateAt x k).D (dists x (stateAt x k).far) := by
  rw [stateAt, next]

theorem lowered_apply (D D' : Vec Ideal S8x20000 .f32) (j : S8x20000.Idx) : minimumf (F := Ideal) (φ := .f32) D D' j = (min (D j) (D' j) : EReal) := rfl

/-- The point picked after a trip: the first of the farthest. -/
theorem far_spec (x : Vec Ideal S8x20000x3 .f32) (k : Nat) (hD : ∀ j, (0 : EReal) ≤ (stateAt x (k + 1)).D j) (b : Fin 8) :
    ∃ n : Fin 20000, (stateAt x (k + 1)).far (ix1 b) = BitVec.ofNat 32 n.val
      ∧ (∀ i, ((stateAt x (k + 1)).D (ix2 b i) : EReal) ≤ (stateAt x (k + 1)).D (ix2 b n))
      ∧ ∀ i, i < n → ((stateAt x (k + 1)).D (ix2 b i) : EReal) < (stateAt x (k + 1)).D (ix2 b n) := by
  rw [stateAt_far, ← stateAt_D]
  exact pick_spec _ hD b

/-- At every trip the distances are not negative and the numbers are those of points. -/
theorem stateAt_bounds (x : Vec Ideal S8x20000x3 .f32) (t : Nat) :
    (∀ j, (0 : EReal) ≤ (stateAt x t).D j) ∧ ∀ b, ((stateAt x t).far b).toNat < 20000 := by
  induction t with
  | zero => exact ⟨fun _ => start_nonneg, fun _ => by show (0#32).toNat < 20000; decide⟩
  | succ t ih =>
    have hD : ∀ j, (0 : EReal) ≤ (stateAt x (t + 1)).D j := fun j => by
      rw [stateAt_D, lowered_apply]
      exact le_min (ih.1 j) (dists_nonneg x _ ih.2 j)
    refine ⟨hD, fun b => ?_⟩
    obtain ⟨n, hn, -⟩ := far_spec x t hD (b 0)
    have e : (stateAt x (t + 1)).far b = BitVec.ofNat 32 n.val := (congrArg _ (eq_ix1 b)).trans hn
    rw [e, BitVec.toNat_ofNat]
    have := n.isLt
    omega

/-- Row `r` of the table, once written, holds the numbers of trip `r`. -/
theorem out_apply (x : Vec Ideal S8x20000x3 .f32) (t : Nat) (ht : t ≤ 1200) (r : Fin 1200) (hr : r.val < t) (b : Fin 8) :
    (stateAt x t).out (ix2 r b) = (stateAt x r.val).far (ix1 b) := by
  induction t with
  | zero => omega
  | succ t ih =>
    refine (put_apply (F := Ideal) (stateAt x t).out (stateAt x t).far t (by omega) r b).trans ?_
    by_cases h : r.val = t
    · rw [if_pos h, h]
    · rw [if_neg h]
      exact ih (by omega) (by omega)

end Cert.SamplingReferenceIdeal.Run

end
-- ==== Proof.SamplingEqual.lean ====
module

public import proofs.«01_k».proof.Proof.SamplingIdeal.Values
public import proofs.«01_k».proof.Proof.SamplingReference.Values

/-! The sampling kernel and its reference go through the same states: at every trip the kernel's slices hold the
    reference's distances, and its current point is the reference's. -/

@[expose] public section

noncomputable section

namespace Cert.SamplingIdeal

open Idealize.ShloMosaic Cert.Proof
open Facts₀ Facts

/-- A cloud's eight times twenty thousand points, and one distance for each of them. -/
abbrev Cloud : Type := Vec Ideal Cert.SamplingReferenceIdeal.S8x20000x3 .f32
abbrev Dists : Type := Vec Ideal Cert.SamplingReferenceIdeal.S8x20000 .f32

/-- The reference's state at trip `t`. -/
abbrev refAt (x : Cloud) (t : Nat) : Cert.SamplingReferenceIdeal.Run.State Ideal := Cert.SamplingReferenceIdeal.Run.stateAt x t

/-- The number of the reference's current point of cloud `b`. -/
def cur (x : Cloud) (t : Nat) (b : Fin 8) : Fin 20000 := ⟨((refAt x t).far (ix1 b)).toNat, (Cert.SamplingReferenceIdeal.Run.stateAt_bounds x t).2 _⟩

theorem cur_val (x : Cloud) (t : Nat) (b : Fin 8) : (cur x t b).val = ((refAt x t).far (ix1 b)).toNat := rfl

/-- What lane `l` of slice `c` holds: the distance of the point there, `-1` past the last point. -/
def slot (D : Dists) (b : Fin 8) (l : Fin 128) (c : Nat) : EReal :=
  if h : 128 * c + l.val < 20000 then D (ix2 b ⟨128 * c + l.val, h⟩) else ((-1 : ℝ) : EReal)

theorem slot_at (D : Dists) (b : Fin 8) (l : Fin 128) (c : Nat) (n : Fin 20000) (h : n.val = 128 * c + l.val) :
    slot D b l c = D (ix2 b n) := by
  obtain ⟨n, hn⟩ := n
  subst h
  exact dif_pos hn

theorem neg_one_lt : ((-1 : ℝ) : EReal) < 0 := by exact_mod_cast (by norm_num : (-1 : ℝ) < 0)

section Slot
variable {D : Dists} (hD : ∀ j, (0 : EReal) ≤ D j) {b : Fin 8} {n : Fin 20000}
  (hmax : ∀ k, (D (ix2 b k) : EReal) ≤ D (ix2 b n)) (hfirst : ∀ k, k < n → (D (ix2 b k) : EReal) < D (ix2 b n))
include hD hmax

theorem slot_le (l : Fin 128) (c : Nat) : slot D b l c ≤ D (ix2 b n) := by
  unfold slot
  split
  · exact hmax _
  · exact neg_one_lt.le.trans (hD _)

include hfirst

theorem slot_lt (l : Fin 128) (c : Nat) (h : 128 * c + l.val < n.val) : slot D b l c < D (ix2 b n) := by
  have := n.isLt
  rw [slot_at D b l c ⟨128 * c + l.val, by omega⟩ rfl]
  exact hfirst _ h

theorem slot_first (l : Fin 128) (c : Nat) (h : n.val = 128 * c + l.val) : First (slot D b l) 0 157 c := by
  have := n.isLt
  refine ⟨by omega, by omega, fun j _ _ => ?_, fun j _ hj => ?_⟩
  · rw [slot_at D b l c n h]
    exact slot_le hD hmax l j
  · rw [slot_at D b l c n h]
    exact slot_lt hD hmax hfirst l j (by omega)

theorem slot_eq (l : Fin 128) (c : Nat) (h : slot D b l c = D (ix2 b n)) : n.val ≤ 128 * c + l.val := by
  by_contra hn
  exact absurd h (slot_lt hD hmax hfirst l c (by omega)).ne

end Slot

theorem First.congr {α : Type} [LinearOrder α] {f g : Nat → α} {s e i : Nat} (h : First f s e i) (hfg : ∀ j, s ≤ j → j < e → f j = g j) :
    First g s e i := by
  have hlo := h.lo; have hhi := h.hi
  refine ⟨hlo, hhi, fun j hj hj' => ?_, fun j hj hj' => ?_⟩
  · rw [← hfg j hj hj', ← hfg i hlo hhi]; exact h.max j hj hj'
  · rw [← hfg j hj (by omega), ← hfg i hlo hhi]; exact h.first j hj hj'

variable [Facts]

/-- The sample of the next trip, where one lane's number is below all others at the greatest distance. -/
theorem yield_eq (t : Best Ideal) (b : Fin 8) (l : Fin 128) (v : Nat) (hv : v < 1000000000)
    (hmax : ∀ k, (t.d (lane b k) : EReal) ≤ t.d (lane b l)) (hl : (t.l (lane b l) : EReal) = ((v : ℝ) : EReal))
    (hother : ∀ k, k ≠ l → (t.d (lane b k) : EReal) = t.d (lane b l) → ((v : ℝ) : EReal) < t.l (lane b k)) :
    (yieldOf t.d t.l t.x t.y t.z).1 (ix2 b 0) = ((v : ℝ) : EReal)
      ∧ (yieldOf t.d t.l t.x t.y t.z).2.1 (ix2 b 0) = t.x (lane b l)
      ∧ (yieldOf t.d t.l t.x t.y t.z).2.2.1 (ix2 b 0) = t.y (lane b l)
      ∧ (yieldOf t.d t.l t.x t.y t.z).2.2.2 (ix2 b 0) = t.z (lane b l) := by
  have hm := laneMax_eq t.d b l hmax
  have hcl : (cand t.d t.l (lane b l) : EReal) = ((v : ℝ) : EReal) := by
    rw [cand_apply, hm, if_pos rfl, hl]
  have hck : ∀ k, k ≠ l → ((v : ℝ) : EReal) < (cand t.d t.l (lane b k) : EReal) := fun k hk => by
    rw [cand_apply, hm]
    split
    · next h => exact hother k hk h
    · rw [no_cand]
      exact_mod_cast hv
  have hp : (pick t.d t.l (ix2 b 0) : EReal) = ((v : ℝ) : EReal) := by
    rw [pick_eq t.d t.l b l fun k => ?_, hcl]
    by_cases hk : k = l
    · rw [hk]
    · rw [hcl]; exact (hck k hk).le
  have hiff : ∀ k, (cand t.d t.l (lane b k) : EReal) = pick t.d t.l (ix2 b 0) ↔ k = l := fun k => by
    rw [hp]
    refine ⟨fun h => ?_, fun h => by rw [h, hcl]⟩
    by_contra hk
    exact (hck k hk).ne h.symm
  exact ⟨hp, coordOf_eq _ _ _ b l hiff, coordOf_eq _ _ _ b l hiff, coordOf_eq _ _ _ b l hiff⟩

/-- The kernel's state at trip `t` on the cloud `x`. -/
abbrev kerAt (x : Cloud) (t : Nat) : State Ideal := stateAt (Run.layout (F := Ideal) x) (Run.counted (F := Ideal)) t

/-- The two states agree. -/
structure Agree (x : Cloud) (t : Nat) : Prop where
  dists : ∀ b l c (hc : c < 157), (tileOf (kerAt x t).D c hc (lane b l) : EReal) = slot (refAt x t).D b l c
  num : ∀ b, ((kerAt x t).cur.1 (ix2 b 0) : EReal) = (((cur x t b).val : ℝ) : EReal)
  x0 : ∀ b, (kerAt x t).cur.2.1 (ix2 b 0) = x (ix3 b (cur x t b) 0)
  x1 : ∀ b, (kerAt x t).cur.2.2.1 (ix2 b 0) = x (ix3 b (cur x t b) 1)
  x2 : ∀ b, (kerAt x t).cur.2.2.2 (ix2 b 0) = x (ix3 b (cur x t b) 2)

/-- A coordinate of the point in lane `l` of slice `c`. -/
theorem coord_at (x : Cloud) (a : Fin 3) (c : Nat) (hc : c < 157) (b : Fin 8) (l : Fin 128) (n : Fin 20000) (hn : n.val = 128 * c + l.val) :
    coordTile (Run.layout (F := Ideal) x) a.val a.isLt c hc (lane b l) = x (ix3 b n a) :=
  (coordTile_apply _ _ _ _ _ _ _).trans (layout_apply x a ⟨c, hc⟩ b l n hn)

theorem cur_zero (x : Cloud) (b : Fin 8) : cur x 0 b = 0 := rfl

theorem agree_zero (x : Cloud) : Agree x 0 where
  dists b l c hc := by
    refine (tileOf_apply _ c hc b l).trans ((start_apply ⟨c, hc⟩ b l).trans ?_)
    unfold slot
    split
    · rfl
    · exact past_start
  num b := by
    rw [cur_zero]
    refine Ideal.ofBits_zero_f32.trans ?_
    simp
  x0 b := (firstOf_apply _ 0 _ _ b).trans (layout_apply x 0 0 b 0 0 rfl)
  x1 b := (firstOf_apply _ 1 _ _ b).trans (layout_apply x 1 0 b 0 0 rfl)
  x2 b := (firstOf_apply _ 2 _ _ b).trans (layout_apply x 2 0 b 0 0 rfl)

/-- The new distances agree. -/
theorem Agree.near {x : Cloud} {t : Nat} (h : Agree x t) (b : Fin 8) (l : Fin 128) (c : Nat) (hc : c < 157) :
    (near (Run.layout (F := Ideal) x) (kerAt x t).D (kerAt x t).cur.2.1 (kerAt x t).cur.2.2.1 (kerAt x t).cur.2.2.2 c hc (lane b l) : EReal)
      = slot (refAt x (t + 1)).D b l c := by
  refine (near_apply _ _ _ _ _ c hc b l).trans ?_
  rw [h.dists, h.x0, h.x1, h.x2]
  unfold slot
  split
  · next hn =>
    rw [Cert.SamplingReferenceIdeal.Run.stateAt_D, Cert.SamplingReferenceIdeal.Run.lowered_apply,
      Cert.SamplingReferenceIdeal.Run.dists_apply x _ (Cert.SamplingReferenceIdeal.Run.stateAt_bounds x t).2]
    have e0 := coord_at x 0 c hc b l ⟨_, hn⟩ rfl
    have e1 := coord_at x 1 c hc b l ⟨_, hn⟩ rfl
    have e2 := coord_at x 2 c hc b l ⟨_, hn⟩ rfl
    rw [← e0, ← e1, ← e2]
    rfl
  · exact min_eq_left (neg_one_lt.le.trans (add_nonneg (add_nonneg (square_nonneg _) (square_nonneg _)) (square_nonneg _)))

/-- The word of a slot's number. -/
theorem counted_at (c : Nat) (hc : c < 157) (b : Fin 8) (l : Fin 128) :
    (tileOf (Run.counted (F := Ideal)) c hc (lane b l) : EReal) = (((128 * c + l.val : Nat) : ℝ) : EReal) := by
  refine (tileOf_apply _ c hc b l).trans ((counted_apply ⟨c, hc⟩ b l).trans ?_)
  have hl := l.isLt
  show (((BitVec.ofNat 32 (128 * c + l.val)).toInt : ℝ) : EReal) = _
  rw [toInt_ofNat_of_lt (by omega)]
  norm_cast

theorem agree_succ {x : Cloud} {t : Nat} (h : Agree x t) : Agree x (t + 1) := by
  have hD := (Cert.SamplingReferenceIdeal.Run.stateAt_bounds x (t + 1)).1
  have key : ∀ b : Fin 8, ((kerAt x (t + 1)).cur.1 (ix2 b 0) : EReal) = (((cur x (t + 1) b).val : ℝ) : EReal)
      ∧ (kerAt x (t + 1)).cur.2.1 (ix2 b 0) = x (ix3 b (cur x (t + 1) b) 0)
      ∧ (kerAt x (t + 1)).cur.2.2.1 (ix2 b 0) = x (ix3 b (cur x (t + 1) b) 1)
      ∧ (kerAt x (t + 1)).cur.2.2.2 (ix2 b 0) = x (ix3 b (cur x (t + 1) b) 2) := fun b => by
    obtain ⟨n, hn, hmax, hfirst⟩ := Cert.SamplingReferenceIdeal.Run.far_spec x t hD b
    have hcur : cur x (t + 1) b = n := Fin.ext ((cur_val x (t + 1) b).trans (by
      have := n.isLt
      rw [hn, BitVec.toNat_ofNat]; omega))
    have hnlt := n.isLt
    obtain ⟨l, c, hlc⟩ : ∃ (l : Fin 128) (c : Nat), n.val = 128 * c + l.val :=
      ⟨⟨n.val % 128, Nat.mod_lt _ (by decide)⟩, n.val / 128, (Nat.div_add_mod _ _).symm⟩
    have holds : ∀ k : Fin 128, ∃ i, ∃ hi : i < 157, First (slot (refAt x (t + 1)).D b k) 0 157 i
        ∧ (bestOf (Run.layout x) Run.counted (kerAt x t)).d (lane b k) = slot (refAt x (t + 1)).D b k i
        ∧ ((bestOf (Run.layout x) Run.counted (kerAt x t)).l (lane b k) : EReal) = (((128 * i + k.val : Nat) : ℝ) : EReal)
        ∧ (bestOf (Run.layout x) Run.counted (kerAt x t)).x (lane b k) = coordTile (Run.layout x) 0 (by decide) i hi (lane b k)
        ∧ (bestOf (Run.layout x) Run.counted (kerAt x t)).y (lane b k) = coordTile (Run.layout x) 1 (by decide) i hi (lane b k)
        ∧ (bestOf (Run.layout x) Run.counted (kerAt x t)).z (lane b k) = coordTile (Run.layout x) 2 (by decide) i hi (lane b k) := fun k => by
      obtain ⟨i, hi, hF, hd, hl, hx, hy, hz⟩ := holds_bestOf (Run.layout (F := Ideal) x) (Run.counted (F := Ideal)) (kerAt x t) b k
      have hs : ∀ j, j < 157 → nearAt (Run.layout (F := Ideal) x) (kerAt x t).D (kerAt x t).cur.2.1 (kerAt x t).cur.2.2.1
          (kerAt x t).cur.2.2.2 b k j = slot (refAt x (t + 1)).D b k j := fun j hj => (dif_pos hj).trans (h.near b k j hj)
      exact ⟨i, hi, First.congr hF fun j _ hj => hs j hj, hd.trans (hs i hi), hl.trans (counted_at i hi b k), hx, hy, hz⟩
    obtain ⟨i, hi, hF, hd, hl, hx, hy, hz⟩ := holds l
    obtain rfl : i = c := hF.unique (slot_first hD hmax hfirst l c hlc)
    have hd' := hd.trans (slot_at _ b l i n hlc)
    have hy' := yield_eq (bestOf (Run.layout x) Run.counted (kerAt x t)) b l n.val (by omega)
      (fun k => by
        obtain ⟨j, hj, -, hdk, -⟩ := holds k
        rw [hdk, hd']
        exact slot_le hD hmax k j)
      (by rw [hl, hlc])
      (fun k hk he => by
        obtain ⟨j, hj, -, hdk, hlk, -⟩ := holds k
        rw [hdk, hd'] at he
        have hle := slot_eq hD hmax hfirst k j he
        have hne : k.val ≠ l.val := fun e => hk (Fin.ext e)
        have hk' := k.isLt
        have hl' := l.isLt
        rw [hlk]
        have : n.val < 128 * j + k.val := by omega
        exact_mod_cast this)
    rw [hcur]
    exact ⟨hy'.1, hy'.2.1.trans (hx.trans (coord_at x 0 i hi b l n hlc)), hy'.2.2.1.trans (hy.trans (coord_at x 1 i hi b l n hlc)),
      hy'.2.2.2.trans (hz.trans (coord_at x 2 i hi b l n hlc))⟩
  exact ⟨fun b l c hc => (congrFun (tileOf_next _ _ (kerAt x t) c hc) _).trans (h.near b l c hc),
    fun b => (key b).1, fun b => (key b).2.1, fun b => (key b).2.2.1, fun b => (key b).2.2.2⟩

theorem agree (x : Cloud) (t : Nat) : Agree x t := by
  induction t with
  | zero => exact agree_zero x
  | succ t ih => exact agree_succ ih

/-- The two results are equal. -/
theorem samples_eq (x : Cloud) :
    samples (Run.layout (F := Ideal) x) (Run.counted (F := Ideal)) = sitofp (F := Ideal) .f32 (refAt x 1200).out := by
  funext j
  obtain ⟨r, b, rfl⟩ : ∃ (r : Fin 1200) (b : Fin 8), j = ix2 r b := ⟨j 0, j 1, eq_ix2 j⟩
  have e := Cert.SamplingReferenceIdeal.Run.out_apply x 1200 le_rfl r r.isLt b
  have hb : ((refAt x r.val).far (ix1 b)).toNat < 20000 := (Cert.SamplingReferenceIdeal.Run.stateAt_bounds x r.val).2 (ix1 b)
  have e' : (sitofp (F := Ideal) .f32 (refAt x 1200).out (ix2 r b) : EReal) = (((cur x r.val b).val : ℝ) : EReal) := by
    show ((((refAt x 1200).out (ix2 r b)).toInt : ℝ) : EReal) = _
    rw [e]
    have : ((refAt x r.val).far (ix1 b)).toInt = ((cur x r.val b).val : Int) := by
      rw [BitVec.toInt_eq_toNat_of_lt (by omega)]
      rfl
    rw [this]
    norm_cast
  refine Eq.trans ?_ e'.symm
  refine Eq.trans ?_ ((agree x r.val).num b)
  exact shapeCast_apply _ _ _ (ix2 b 0) (by rw [Shape.rowMajor_val_two, Shape.rowMajor_val_two]; show b.val * 1 + 0 = 0 * 8 + b.val; omega)

end Cert.SamplingIdeal

end
-- ==== Proof.SamplingChosen.lean ====
/-
  The rows chosen of the samples: the program converts the table of floats to integers, takes the rows and transposes;
  the reference transposes its table of integers and takes the columns. Both read one entry of one table.
-/
module

public import proofs.«01_k».proof.Proof.SamplingIdeal.Launch
public import proofs.«01_k».proof.Proof.SamplingEqual

@[expose] public section

noncomputable section

namespace Cert.SamplingIdeal

open Idealize.ShloMosaic
open Facts₀ Facts

/-- A number converted to a float and back is that number. -/
theorem to_int_of_int (z : BitVec 32) : (FloatOps.fptosi 32 (FloatOps.sitofp .f32 z : Ideal .f32) : BitVec 32) = z := by
  show Ideal.fptosi 32 ((z.toInt : ℝ) : EReal) = z
  have lo : -(2 ^ 31 : Int) ≤ z.toInt := BitVec.le_toInt z
  have hi : z.toInt < (2 ^ 31 : Int) := BitVec.toInt_lt
  have e : Ideal.toIntClamped (-(2 ^ (32 - 1) : Nat)) ((2 ^ (32 - 1) : Nat) - 1) ((z.toInt : ℝ) : EReal) = z.toInt := by
    show max _ (min _ (if (0 : ℝ) ≤ (z.toInt : ℝ) then ⌊(z.toInt : ℝ)⌋ else ⌈(z.toInt : ℝ)⌉)) = _
    rw [Int.floor_intCast, Int.ceil_intCast, ite_self]
    push_cast
    omega
  unfold Ideal.fptosi
  rw [e]
  exact BitVec.ofInt_toInt

/-- The row of the table that entry `n` of the column names: read as a signed number and brought into the table. -/
def row (i : S1024x1.Idx → BitVec 32) (n : Fin 1024) : Fin 1200 := ⟨min (i (ix2 n 0)).toInt.toNat 1199, by omega⟩

/-- The program's gather reads that row, -/
theorem rows_apply (O : S1200x8.Idx → BitVec 32) (i : S1024x1.Idx → BitVec 32) (n : Fin 1024) (b : Fin 8) :
    Host.gather gather_S1200x8_S1024x1_S1024x8_1_0_n_n_0_1_18 O i (ix2 n b) = O (ix2 (row i n) b) := by
  unfold Host.gather
  congr 1
  funext a
  refine Fin.ext ?_
  show (gather_S1200x8_S1024x1_S1024x8_1_0_n_n_0_1_18).start (ix2 n b) i a
    + (gather_S1200x8_S1024x1_S1024x8_1_0_n_n_0_1_18).batchCoord (ix2 n b) a
    + (gather_S1200x8_S1024x1_S1024x8_1_0_n_n_0_1_18).offCoord (ix2 n b) a = _
  match a with
  | 0 =>
    rw [GatherDims.batchCoord_eq_zero _ _ _ (by decide), GatherDims.offCoord_eq_zero _ _ _ (by decide)]
    unfold GatherDims.start
    rw [dif_pos (by decide)]
    show min (i _).toInt.toNat (1200 - 1) + 0 + 0 = min (i (ix2 n 0)).toInt.toNat 1199
    have e : GatherDims.siIdx gather_S1200x8_S1024x1_S1024x8_1_0_n_n_0_1_18 (ix2 n b) ⟨0, by decide⟩ = ix2 n 0 := by
      funext a; match a with | 0 => rfl | 1 => rfl
    exact congrArg (fun j => min (i j).toInt.toNat 1199) e
  | 1 =>
    rw [GatherDims.batchCoord_eq_zero _ _ _ (by decide)]
    unfold GatherDims.start GatherDims.offCoord
    rw [dif_neg (by decide), dif_pos (by decide)]
    show 0 + 0 + b.val = b.val
    omega

/-- and the reference's gather that column of the transposed table. -/
theorem columns_apply (O : Cert.SamplingReferenceIdeal.S8x1200.Idx → BitVec 32) (i : S1024x1.Idx → BitVec 32) (n : Fin 1024) (b : Fin 8) :
    Host.gather Cert.SamplingReferenceIdeal.gather_S8x1200_S1024x1_S8x1024_0_1_n_n_1_1_81 O i (ix2 b n) = O (ix2 b (row i n)) := by
  unfold Host.gather
  congr 1
  funext a
  refine Fin.ext ?_
  show (Cert.SamplingReferenceIdeal.gather_S8x1200_S1024x1_S8x1024_0_1_n_n_1_1_81).start (ix2 b n) i a
    + (Cert.SamplingReferenceIdeal.gather_S8x1200_S1024x1_S8x1024_0_1_n_n_1_1_81).batchCoord (ix2 b n) a
    + (Cert.SamplingReferenceIdeal.gather_S8x1200_S1024x1_S8x1024_0_1_n_n_1_1_81).offCoord (ix2 b n) a = _
  match a with
  | 0 =>
    rw [GatherDims.batchCoord_eq_zero _ _ _ (by decide)]
    unfold GatherDims.start GatherDims.offCoord
    rw [dif_neg (by decide), dif_pos (by decide)]
    show 0 + 0 + b.val = b.val
    omega
  | 1 =>
    rw [GatherDims.batchCoord_eq_zero _ _ _ (by decide), GatherDims.offCoord_eq_zero _ _ _ (by decide)]
    unfold GatherDims.start
    rw [dif_pos (by decide)]
    show min (i _).toInt.toNat (1200 - 1) + 0 + 0 = min (i (ix2 n 0)).toInt.toNat 1199
    have e : GatherDims.siIdx Cert.SamplingReferenceIdeal.gather_S8x1200_S1024x1_S8x1024_0_1_n_n_1_1_81 (ix2 b n) ⟨0, by decide⟩ = ix2 n 0 := by
      funext a; match a with | 0 => rfl | 1 => rfl
    exact congrArg (fun j => min (i j).toInt.toNat 1199) e

/-- The two choices are equal, whatever the rows asked for. -/
theorem chosen_eq (O : Vec Ideal S1200x8 .i32) (sel : Vec Ideal S1024 .i32) :
    Run.chosen (F := Ideal) (sitofp (F := Ideal) .f32 O) sel = Cert.SamplingReferenceIdeal.Run.chosen (F := Ideal) O sel := by
  funext j
  obtain ⟨b, n, rfl⟩ : ∃ (b : Fin 8) (n : Fin 1024), j = ix2 b n := ⟨j 0, j 1, eq_ix2 j⟩
  have ek : Run.chosen (F := Ideal) (sitofp (F := Ideal) .f32 O) sel (ix2 b n) = O (ix2 (row (Run.rows (F := Ideal) sel) n) b) := by
    unfold Run.chosen
    refine (transpose_apply _ _ _ _ (ix2 n b) (by intro a; match a with | 0 => rfl | 1 => rfl)).trans ?_
    rw [rows_apply]
    exact to_int_of_int _
  have er : Cert.SamplingReferenceIdeal.Run.chosen (F := Ideal) O sel (ix2 b n)
      = O (ix2 (row (Cert.SamplingReferenceIdeal.Run.rows (F := Ideal) sel) n) b) := by
    unfold Cert.SamplingReferenceIdeal.Run.chosen
    refine (columns_apply _ _ n b).trans ?_
    exact transpose_apply _ _ _ _ (ix2 (row (Cert.SamplingReferenceIdeal.Run.rows (F := Ideal) sel) n) b) (by intro a; match a with | 0 => rfl | 1 => rfl)
  exact ek.trans er.symm

/-- The program's result is the reference's. -/
theorem result_eq (x : Cloud) (sel : Vec Ideal S1024 .i32) :
    Run.chosen (F := Ideal) (samples (Run.layout (F := Ideal) x) (Run.counted (F := Ideal))) sel
      = Cert.SamplingReferenceIdeal.Run.chosen (F := Ideal) (refAt x 1200).out sel := by
  rw [samples_eq]
  exact chosen_eq _ _

end Cert.SamplingIdeal

end
-- ==== Proof.lean ====
/-
  The claims, of the gather, of the sampling and of the transformer: the frames of the program, of its idealization and of the reference,
  and the equality of their results.
-/
module

public import proofs.«01_k».proof.Proof.Gen.Transformer
public import proofs.«01_k».proof.Proof.Gen.TransformerIdeal
public import proofs.«01_k».proof.Proof.Gen.Transformer.Frame
public import proofs.«01_k».proof.Proof.Gen.TransformerIdeal.Frame
public import proofs.«01_k».proof.Proof.Gen.TransformerReferenceIdeal.Run
public import proofs.«01_k».proof.Proof.Transformer.Launch
public import proofs.«01_k».proof.Proof.TransformerIdeal.Launch
public import proofs.«01_k».proof.Proof.TransformerEqual
public import proofs.«01_k».proof.Proof.TransformerReferenceRun
public import proofs.«01_k».proof.Proof.Gen.TransformerReferenceIdeal
public import proofs.«01_k».proof.Proof.Gen.Pre_logits_finite
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_idx_in_range
public import proofs.«01_k».proof.Proof.Precondition
public import proofs.«01_k».proof.Proof.Kernel.Values
public import proofs.«01_k».proof.Proof.KernelIdeal.Values
public import proofs.«01_k».proof.Proof.Reference.Run
public import proofs.«01_k».proof.Proof.Gen.Sampling
public import proofs.«01_k».proof.Proof.Gen.SamplingIdeal
public import proofs.«01_k».proof.Proof.Gen.SamplingReferenceIdeal
public import proofs.«01_k».proof.Proof.Sampling.Launch
public import proofs.«01_k».proof.Proof.SamplingChosen

@[expose] public section

noncomputable section

namespace Cert.Proof

open Idealize.ShloMosaic Idealize.ShloMosaic.StableHlo
open Idealize.ShloMosaic.Pipeline (ucRefs)
open Idealize.SL.Sem

/-- The program, read at the machine's own words, runs, keeps its arguments and leaves every counter at zero. -/
theorem frame_kernel : Cert.quiescent_Kernel := fun m g hpre =>
  (θ_run (Cert.Kernel.defs (F := Bits)) _ _).mono (fun _ h => ⟨fun c =>
      ⟨(h.1 c Gather.a0 (by decide)).trans (Gather.V3_a0 m c), (h.1 c Gather.a1 (by decide)).trans (Gather.V3_a1 m c),
        (h.1 c Gather.a2 (by decide)).trans (Gather.V3_a2 m c)⟩, h.2⟩)
    (Gather.run_main (F := Bits) m g (Gather.inRange_of m fun d j => idx_below _ _ _ (hpre d) j))

/-- The idealized program's run under the precondition. -/
theorem run_ideal (m : (ℓ : Loc Cert.KernelIdeal.nD Cert.KernelIdeal.τ Cert.KernelIdeal.sig) → Buf (Elt Ideal) ℓ)
    (g : Dev Cert.KernelIdeal.nD → PrngReg) (hpre : Cert.Pre_KernelIdeal m) :
    θ_run (Cert.KernelIdeal.defs (F := Ideal)) (Cert.KernelIdeal.threads (F := Ideal)) ⟨m, fun _ => 0, g⟩ (GatherIdeal.QC m) :=
  GatherIdeal.run_main (F := Ideal) m g (GatherIdeal.inRange_of m fun d j => idx_below _ _ _ (hpre d) j)

/-- The idealized program runs, keeps its arguments and leaves every counter at zero. -/
theorem frame_ideal : Cert.quiescent_KernelIdeal := fun m g hpre =>
  (θ_run (Cert.KernelIdeal.defs (F := Ideal)) _ _).mono (fun _ h => ⟨fun c =>
      ⟨(h.1 c GatherIdeal.a0 (by decide)).trans (GatherIdeal.V3_a0 m c), (h.1 c GatherIdeal.a1 (by decide)).trans (GatherIdeal.V3_a1 m c),
        (h.1 c GatherIdeal.a2 (by decide)).trans (GatherIdeal.V3_a2 m c)⟩, h.2⟩)
    (run_ideal m g hpre)

/-- The reference's run: what it keeps, and its counters, of which it declares none. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run (Cert.ReferenceIdeal.defs (F := Ideal)) _ _).mono (fun r h => ⟨fun c =>
      ⟨(h c Cert.ReferenceIdeal.main_arg0).trans (RefGather.after_args _).1, (h c Cert.ReferenceIdeal.main_arg1).trans (RefGather.after_args _).2.1,
        (h c Cert.ReferenceIdeal.main_arg2).trans (RefGather.after_args _).2.2⟩, sem_eq_zero_of_no_sems (by decide) r.2⟩)
    (RefGather.run_main (F := Ideal) m g)

/-- The reference runs, keeps its arguments and leaves every counter at zero, whatever the indices. -/
theorem frame_reference : Cert.quiescent_ReferenceIdeal := fun m g _ => run_reference m g
theorem frame_reference_in_range : Cert.quiescent_ReferenceIdeal_pre_idx_in_range := fun m g _ => run_reference m g

/-- The number zero, from the integer zero and from the zero word. -/
theorem zero_eq : (FloatOps.sitofp .f32 (0#32 : BitVec 32) : Ideal .f32) = FloatOps.ofBits .f32 0x00000000#32 := by
  show (((0#32 : BitVec 32).toInt : ℝ) : EReal) = Ideal.ofBits .f32 0x00000000#32
  rw [Ideal.ofBits_zero_f32]
  simp

section

variable (p c : Cert.KernelIdeal.S8x20000x3.Idx → Elt Ideal .f32) (ix : Cert.KernelIdeal.S8x1024.Idx → Elt Ideal .i32)

/-- The gathered coordinates are the points at the indices. -/
theorem coord_eq (hix : ∀ j, (ix j).toNat < 20000) :
    RefGather.taken p (RefGather.column (F := Ideal) ix) = GatherIdeal.coordOf p c ix := by
  funext j
  obtain ⟨b, n, q, rfl⟩ : ∃ (b : Fin 8) (n : Fin 1024) (q : Fin 3), j = ValueIdx.ix3 b n q := ⟨j 0, j 1, j 2, by
    funext a; match a with | 0 => rfl | 1 => rfl | 2 => rfl⟩
  rw [RefGather.taken_apply _ _ hix]
  rw [GatherIdeal.coordOf_apply]
  exact (GatherIdeal.tableOf_position p c b ⟨(ix (ValueIdx.ix2 b n)).toNat, hix _⟩ _ (GatherIdeal.listOf_toNat ix hix b n _ rfl) _ q rfl).symm

/-- The gathered features are the colours at the indices, the points at the indices and two zeros. -/
theorem feat_eq (hix : ∀ j, (ix j).toNat < 20000) :
    RefGather.joined (RefGather.taken c (RefGather.column (F := Ideal) ix)) (RefGather.taken p (RefGather.column (F := Ideal) ix))
      = GatherIdeal.featOf p c ix := by
  funext j
  obtain ⟨b, n, q, rfl⟩ : ∃ (b : Fin 8) (n : Fin 1024) (q : Fin 8), j = ValueIdx.ix3 b n q := ⟨j 0, j 1, j 2, by
    funext a; match a with | 0 => rfl | 1 => rfl | 2 => rfl⟩
  rw [GatherIdeal.featOf_apply]
  have hl := GatherIdeal.listOf_toNat ix hix b n ⟨1024 * b.val + n.val, by omega⟩ rfl
  by_cases h3 : q.val < 3
  · rw [RefGather.joined_colour _ _ b n q ⟨q.val, h3⟩ rfl, RefGather.taken_apply _ _ hix]
    exact (GatherIdeal.tableOf_colour p c b ⟨(ix (ValueIdx.ix2 b n)).toNat, hix _⟩ _ hl _ ⟨q.val, h3⟩ rfl).symm
  · by_cases h6 : q.val < 6
    · rw [RefGather.joined_point _ _ b n q ⟨q.val - 3, by omega⟩ (by show q.val = 3 + (q.val - 3); omega), RefGather.taken_apply _ _ hix]
      exact (GatherIdeal.tableOf_position p c b ⟨(ix (ValueIdx.ix2 b n)).toNat, hix _⟩ _ hl _ ⟨q.val - 3, by omega⟩
        (by show q.val = 3 + (q.val - 3); omega)).symm
    · rw [RefGather.joined_zero _ _ b n q (by omega)]
      exact zero_eq.symm.trans (GatherIdeal.tableOf_rest p c b ⟨(ix (ValueIdx.ix2 b n)).toNat, hix _⟩ _ hl _ (by show 6 ≤ q.val; omega)).symm

end

/-- From memories agreeing on the arguments the idealized program and the reference end with equal results. -/
theorem algebraic : Cert.algebraic_KernelIdeal_ReferenceIdeal := by
  intro m g m' g' hpre hagree
  have hix : ∀ d j, (GatherIdeal.V0 m d GatherIdeal.a2 j).toNat < 20000 := fun d j => idx_below _ _ _ (hpre d) j
  refine ⟨fun c => GatherIdeal.featOf (GatherIdeal.V0 m c GatherIdeal.a0) (GatherIdeal.V0 m c GatherIdeal.a1) (GatherIdeal.V0 m c GatherIdeal.a2),
    fun c => GatherIdeal.coordOf (GatherIdeal.V0 m c GatherIdeal.a0) (GatherIdeal.V0 m c GatherIdeal.a1) (GatherIdeal.V0 m c GatherIdeal.a2), ?_, ?_⟩
  · exact (θ_run (Cert.KernelIdeal.defs (F := Ideal)) _ _).mono (fun _ h c =>
      ⟨(h.1 c (Proc.devRef .tc Cert.KernelIdeal.main_v12) (by decide)).trans (GatherIdeal.V3_feat m c),
        (h.1 c (Proc.devRef .tc Cert.KernelIdeal.main_v14) (by decide)).trans (GatherIdeal.V3_coord m c),
        (h.1 c GatherIdeal.a0 (by decide)).trans (GatherIdeal.V3_a0 m c), (h.1 c GatherIdeal.a1 (by decide)).trans (GatherIdeal.V3_a1 m c),
        (h.1 c GatherIdeal.a2 (by decide)).trans (GatherIdeal.V3_a2 m c)⟩) (run_ideal m g hpre)
  · refine (θ_run (Cert.ReferenceIdeal.defs (F := Ideal)) _ _).mono (fun r h c => ?_) (RefGather.run_main (F := Ideal) m' g')
    obtain ⟨e0, e1, e2⟩ := hagree c
    have e0' : launchContents m' c RefGather.b0 = GatherIdeal.V0 m c GatherIdeal.a0 := e0
    have e1' : launchContents m' c RefGather.b1 = GatherIdeal.V0 m c GatherIdeal.a1 := e1
    have e2' : launchContents m' c RefGather.b2 = GatherIdeal.V0 m c GatherIdeal.a2 := e2
    have f1 := RefGather.after_feats (F := Ideal) (launchContents m' c)
    have f2 := RefGather.after_points (F := Ideal) (launchContents m' c)
    rw [e0', e1', e2'] at f1
    rw [e0', e2'] at f2
    exact ⟨(h c Cert.ReferenceIdeal.main_v5).trans (f1.trans (feat_eq _ _ _ (hix c))),
      (h c Cert.ReferenceIdeal.main_v1).trans (f2.trans (coord_eq _ _ _ (hix c))),
      (h c Cert.ReferenceIdeal.main_arg0).trans (RefGather.after_args _).1, (h c Cert.ReferenceIdeal.main_arg1).trans (RefGather.after_args _).2.1,
        (h c Cert.ReferenceIdeal.main_arg2).trans (RefGather.after_args _).2.2⟩

/-- The sampling program, read at the machine's own words, runs, keeps its arguments and leaves every counter at zero. -/
theorem frame_sampling : Cert.quiescent_Sampling (hSampling := Cert.Sampling.Gen.facts) := fun m g _ =>
  letI : Cert.Sampling.Facts := Cert.Sampling.Gen.facts
  (θ_run (Cert.Sampling.defs (F := Bits)) _ _).mono (fun _ h => ⟨fun c => (h.1 c).2, h.2⟩) (Cert.Sampling.Run.run (F := Bits) m g)

/-- The idealized sampling program runs, keeps its arguments and leaves every counter at zero. -/
theorem frame_sampling_ideal : Cert.quiescent_SamplingIdeal (hSamplingIdeal := Cert.SamplingIdeal.Gen.facts) := fun m g _ =>
  letI : Cert.SamplingIdeal.Facts := Cert.SamplingIdeal.Gen.facts
  (θ_run (Cert.SamplingIdeal.defs (F := Ideal)) _ _).mono (fun _ h => ⟨fun c => (h.1 c).2, h.2⟩) (Cert.SamplingIdeal.Run.run (F := Ideal) m g)

/-- The sampling's reference runs, keeps its arguments and leaves every counter at zero. -/
theorem frame_sampling_reference :
    Cert.quiescent_SamplingReferenceIdeal (hSamplingReferenceIdeal := Cert.SamplingReferenceIdeal.Gen.facts) := fun m g _ =>
  letI : Cert.SamplingReferenceIdeal.Facts := Cert.SamplingReferenceIdeal.Gen.facts
  (θ_run (Cert.SamplingReferenceIdeal.defs (F := Ideal)) _ _).mono (fun _ h => ⟨fun c => (h.1 c).2, h.2⟩)
    (Cert.SamplingReferenceIdeal.Run.run (F := Ideal) m g)

/-- From memories agreeing on the clouds and on the rows asked for the idealized sampling program and its reference end with equal results. -/
theorem algebraic_sampling : Cert.algebraic_SamplingIdeal_SamplingReferenceIdeal (hSamplingIdeal := Cert.SamplingIdeal.Gen.facts)
    (hSamplingReferenceIdeal := Cert.SamplingReferenceIdeal.Gen.facts) := by
  letI : Cert.SamplingIdeal.Facts := Cert.SamplingIdeal.Gen.facts
  letI : Cert.SamplingReferenceIdeal.Facts := Cert.SamplingReferenceIdeal.Gen.facts
  intro m g m' g' _ hagree
  refine ⟨fun c => Cert.SamplingIdeal.Run.result m c, ?_, ?_⟩
  · exact (θ_run (Cert.SamplingIdeal.defs (F := Ideal)) _ _).mono (fun _ h => h.1) (Cert.SamplingIdeal.Run.run (F := Ideal) m g)
  · refine (θ_run (Cert.SamplingReferenceIdeal.defs (F := Ideal)) _ _).mono (fun r h c => ⟨(h.1 c).1.trans ?_, (h.1 c).2⟩)
      (Cert.SamplingReferenceIdeal.Run.run (F := Ideal) m' g')
    have e0 : Cert.SamplingReferenceIdeal.Run.cloud m' c = m ((c.tc : Thread Cert.SamplingIdeal.nD Cert.SamplingIdeal.τ).loc Cert.SamplingIdeal.main_arg0) :=
      (hagree c).1
    have e1 : Cert.SamplingReferenceIdeal.Run.choice m' c = m ((c.tc : Thread Cert.SamplingIdeal.nD Cert.SamplingIdeal.τ).loc Cert.SamplingIdeal.main_arg1) :=
      (hagree c).2
    show _ = Cert.SamplingIdeal.Run.chosen (Cert.SamplingIdeal.samples (Cert.SamplingIdeal.Run.points m c) (Cert.SamplingIdeal.Run.numbers m c)) _
    rw [Cert.SamplingIdeal.Run.points_eq, Cert.SamplingIdeal.Run.numbers_eq, e0, e1]
    exact (Cert.SamplingIdeal.result_eq _ _).symm

/-- The transformer program, read at the machine's own words, runs, keeps its arguments and leaves every counter at zero. -/
theorem frame_transformer : Cert.quiescent_Transformer (hTransformer := Cert.Transformer.Gen.facts) := fun m g _ =>
  letI : Cert.Transformer.Facts := Cert.Transformer.Gen.facts
  (θ_run (Cert.Transformer.defs (F := Bits)) _ _).mono (fun _ h => ⟨fun c => (h.1 c).2, h.2⟩) (Cert.Transformer.Run.run (F := Bits) m g)

/-- The idealized transformer program runs, keeps its arguments and leaves every counter at zero. -/
theorem frame_transformer_ideal : Cert.quiescent_TransformerIdeal (hTransformerIdeal := Cert.TransformerIdeal.Gen.facts) := fun m g _ =>
  letI : Cert.TransformerIdeal.Facts := Cert.TransformerIdeal.Gen.facts
  (θ_run (Cert.TransformerIdeal.defs (F := Ideal)) _ _).mono (fun _ h => ⟨fun c => (h.1 c).2, h.2⟩) (Cert.TransformerIdeal.Run.run (F := Ideal) m g)

/-- The transformer's reference runs, keeps its arguments and leaves every counter, of which it declares none, at zero. -/
theorem frame_transformer_reference :
    Cert.quiescent_TransformerReferenceIdeal (hTransformerReferenceIdeal := Cert.TransformerReferenceIdeal.Gen.facts) := fun m g _ =>
  letI : Cert.TransformerReferenceIdeal.Facts := Cert.TransformerReferenceIdeal.Gen.facts
  (θ_run (Cert.TransformerReferenceIdeal.defs (F := Ideal)) _ _).mono (fun r h => ⟨fun c => (h c).2, sem_eq_zero_of_no_sems (by decide) r.2⟩)
    (Cert.TransformerReferenceIdeal.Run.run m g)

/-- The same two frames, in the wording of the claim with the precondition. -/
theorem frame_transformer_ideal_finite : Cert.quiescent_TransformerIdeal_pre_logits_finite (hTransformerIdeal := Cert.TransformerIdeal.Gen.facts)
    (hPre_logits_finite := Cert.Pre_logits_finite.Gen.facts) := fun m g _ => frame_transformer_ideal m g trivial
theorem frame_transformer_reference_finite :
    Cert.quiescent_TransformerReferenceIdeal_pre_logits_finite (hTransformerReferenceIdeal := Cert.TransformerReferenceIdeal.Gen.facts)
      (hPre_logits_finite := Cert.Pre_logits_finite.Gen.facts) := fun m g _ => frame_transformer_reference m g trivial

/-- From memories agreeing on the arguments, with finite weights of the queries and of the keys, the idealized transformer program and its
    reference end with equal features. -/
theorem algebraic_transformer : Cert.algebraic_TransformerIdeal_TransformerReferenceIdeal_pre_logits_finite
    (hTransformerIdeal := Cert.TransformerIdeal.Gen.facts) (hTransformerReferenceIdeal := Cert.TransformerReferenceIdeal.Gen.facts)
    (hPre_logits_finite := Cert.Pre_logits_finite.Gen.facts) := by
  letI : Cert.TransformerIdeal.Facts := Cert.TransformerIdeal.Gen.facts
  letI : Cert.TransformerReferenceIdeal.Facts := Cert.TransformerReferenceIdeal.Gen.facts
  intro m g m' g' hpre hagree
  refine ⟨fun c => Cert.TransformerIdeal.Run.featuresAt m c, ?_, ?_⟩
  · refine (θ_run (Cert.TransformerIdeal.defs (F := Ideal)) _ _).mono (fun _ h c => ⟨(h.1 c).1.trans ?_, (h.1 c).2⟩)
      (Cert.TransformerIdeal.Run.run (F := Ideal) m g)
    obtain ⟨h2, h3⟩ := Cert.TransformerIdeal.Run.finite_weights _ _ _ _ _ _ _ _ _ (hpre c)
    exact Cert.TransformerIdeal.Run.result_eq m c h2 h3
  · refine (θ_run (Cert.TransformerReferenceIdeal.defs (F := Ideal)) _ _).mono (fun r h c => ⟨(h c).1.trans ?_, (h c).2⟩)
      (Cert.TransformerReferenceIdeal.Run.run m' g')
    obtain ⟨e0, e1, e2, e3, e4, e5, e6, e7, e8⟩ := hagree c
    rw [e0, e1, e2, e3, e4, e5, e6, e7, e8]

theorem claim : Cert.Claim :=
  ⟨Cert.Kernel.Gen.facts, Cert.KernelIdeal.Gen.facts, Cert.ReferenceIdeal.Gen.facts, Cert.Sampling.Gen.facts,
    Cert.SamplingIdeal.Gen.facts, Cert.SamplingReferenceIdeal.Gen.facts, Cert.Transformer.Gen.facts, Cert.TransformerIdeal.Gen.facts,
    Cert.TransformerReferenceIdeal.Gen.facts, Cert.Pre_idx_in_range.Gen.facts, Cert.Pre_logits_finite.Gen.facts,
    frame_kernel, frame_ideal, frame_reference, frame_reference_in_range, frame_sampling, frame_sampling_ideal, frame_sampling_reference,
    frame_transformer, frame_transformer_ideal, frame_transformer_ideal_finite, frame_transformer_reference, frame_transformer_reference_finite,
    trivial, algebraic, trivial, algebraic_sampling, trivial, algebraic_transformer⟩

end Cert.Proof

end
